-- ==== Defs.lean ====
def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_pre_cob [hPre_pre_cob : Cert.Pre_pre_cob.Facts] (m : (ℓ : Loc Cert.CrossIdeal.nD Cert.CrossIdeal.τ Cert.CrossIdeal.sig) → Buf (Elt Ideal) ℓ) : Prop :=
  ∀ c : Dev Cert.CrossIdeal.nD,
    (Cert.Pre_pre_cob.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4))).1 = (fun _ => 1#1)
    ∧ (Cert.Pre_pre_cob.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4))).2.1 = (fun _ => 1#1)
    ∧ (Cert.Pre_pre_cob.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4))).2.2.1 = (fun _ => 1#1)
    ∧ (Cert.Pre_pre_cob.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4))).2.2.2.1 = (fun _ => 1#1)
    ∧ (Cert.Pre_pre_cob.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4))).2.2.2.2 = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_pre_cob [hPre_pre_cob : Cert.Pre_pre_cob.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_pre_cob.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4))).1 = (fun _ => 1#1)
    ∧ (Cert.Pre_pre_cob.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4))).2.1 = (fun _ => 1#1)
    ∧ (Cert.Pre_pre_cob.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4))).2.2.1 = (fun _ => 1#1)
    ∧ (Cert.Pre_pre_cob.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4))).2.2.2.1 = (fun _ => 1#1)
    ∧ (Cert.Pre_pre_cob.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4))).2.2.2.2 = (fun _ => 1#1)

def Pre_CqProj (m : (ℓ : Loc Cert.CqProj.nD Cert.CqProj.τ Cert.CqProj.sig) → Buf (Elt Bits) ℓ) : Prop :=
  True

def Pre_CqProjIdeal (m : (ℓ : Loc Cert.CqProjIdeal.nD Cert.CqProjIdeal.τ Cert.CqProjIdeal.sig) → Buf (Elt Ideal) ℓ) : Prop :=
  True

def Pre_CqProjIdeal_pre_cqb [hPre_pre_cqb : Cert.Pre_pre_cqb.Facts] (m : (ℓ : Loc Cert.CqProjIdeal.nD Cert.CqProjIdeal.τ Cert.CqProjIdeal.sig) → Buf (Elt Ideal) ℓ) : Prop :=
  ∀ c : Dev Cert.CqProjIdeal.nD,
    (Cert.Pre_pre_cqb.fn (F := Ideal) (m ((c.tc : Thread Cert.CqProjIdeal.nD Cert.CqProjIdeal.τ).loc Cert.CqProjIdeal.main_arg0)) (m ((c.tc : Thread Cert.CqProjIdeal.nD Cert.CqProjIdeal.τ).loc Cert.CqProjIdeal.main_arg1)) (m ((c.tc : Thread Cert.CqProjIdeal.nD Cert.CqProjIdeal.τ).loc Cert.CqProjIdeal.main_arg2)) (m ((c.tc : Thread Cert.CqProjIdeal.nD Cert.CqProjIdeal.τ).loc Cert.CqProjIdeal.main_arg3)) (m ((c.tc : Thread Cert.CqProjIdeal.nD Cert.CqProjIdeal.τ).loc Cert.CqProjIdeal.main_arg4))).1 = (fun _ => 1#1)
    ∧ (Cert.Pre_pre_cqb.fn (F := Ideal) (m ((c.tc : Thread Cert.CqProjIdeal.nD Cert.CqProjIdeal.τ).loc Cert.CqProjIdeal.main_arg0)) (m ((c.tc : Thread Cert.CqProjIdeal.nD Cert.CqProjIdeal.τ).loc Cert.CqProjIdeal.main_arg1)) (m ((c.tc : Thread Cert.CqProjIdeal.nD Cert.CqProjIdeal.τ).loc Cert.CqProjIdeal.main_arg2)) (m ((c.tc : Thread Cert.CqProjIdeal.nD Cert.CqProjIdeal.τ).loc Cert.CqProjIdeal.main_arg3)) (m ((c.tc : Thread Cert.CqProjIdeal.nD Cert.CqProjIdeal.τ).loc Cert.CqProjIdeal.main_arg4))).2.1 = (fun _ => 1#1)
    ∧ (Cert.Pre_pre_cqb.fn (F := Ideal) (m ((c.tc : Thread Cert.CqProjIdeal.nD Cert.CqProjIdeal.τ).loc Cert.CqProjIdeal.main_arg0)) (m ((c.tc : Thread Cert.CqProjIdeal.nD Cert.CqProjIdeal.τ).loc Cert.CqProjIdeal.main_arg1)) (m ((c.tc : Thread Cert.CqProjIdeal.nD Cert.CqProjIdeal.τ).loc Cert.CqProjIdeal.main_arg2)) (m ((c.tc : Thread Cert.CqProjIdeal.nD Cert.CqProjIdeal.τ).loc Cert.CqProjIdeal.main_arg3)) (m ((c.tc : Thread Cert.CqProjIdeal.nD Cert.CqProjIdeal.τ).loc Cert.CqProjIdeal.main_arg4))).2.2.1 = (fun _ => 1#1)
    ∧ (Cert.Pre_pre_cqb.fn (F := Ideal) (m ((c.tc : Thread Cert.CqProjIdeal.nD Cert.CqProjIdeal.τ).loc Cert.CqProjIdeal.main_arg0)) (m ((c.tc : Thread Cert.CqProjIdeal.nD Cert.CqProjIdeal.τ).loc Cert.CqProjIdeal.main_arg1)) (m ((c.tc : Thread Cert.CqProjIdeal.nD Cert.CqProjIdeal.τ).loc Cert.CqProjIdeal.main_arg2)) (m ((c.tc : Thread Cert.CqProjIdeal.nD Cert.CqProjIdeal.τ).loc Cert.CqProjIdeal.main_arg3)) (m ((c.tc : Thread Cert.CqProjIdeal.nD Cert.CqProjIdeal.τ).loc Cert.CqProjIdeal.main_arg4))).2.2.2 = (fun _ => 1#1)

def Pre_CqProjRefIdeal (m : (ℓ : Loc Cert.CqProjRefIdeal.nD Cert.CqProjRefIdeal.τ Cert.CqProjRefIdeal.sig) → Buf (Elt Ideal) ℓ) : Prop :=
  True

def Pre_CqProjRefIdeal_pre_cqb [hPre_pre_cqb : Cert.Pre_pre_cqb.Facts] (m : (ℓ : Loc Cert.CqProjRefIdeal.nD Cert.CqProjRefIdeal.τ Cert.CqProjRefIdeal.sig) → Buf (Elt Ideal) ℓ) : Prop :=
  ∀ c : Dev Cert.CqProjRefIdeal.nD,
    (Cert.Pre_pre_cqb.fn (F := Ideal) (m ((c.tc : Thread Cert.CqProjRefIdeal.nD Cert.CqProjRefIdeal.τ).loc Cert.CqProjRefIdeal.main_arg0)) (m ((c.tc : Thread Cert.CqProjRefIdeal.nD Cert.CqProjRefIdeal.τ).loc Cert.CqProjRefIdeal.main_arg1)) (m ((c.tc : Thread Cert.CqProjRefIdeal.nD Cert.CqProjRefIdeal.τ).loc Cert.CqProjRefIdeal.main_arg2)) (m ((c.tc : Thread Cert.CqProjRefIdeal.nD Cert.CqProjRefIdeal.τ).loc Cert.CqProjRefIdeal.main_arg3)) (m ((c.tc : Thread Cert.CqProjRefIdeal.nD Cert.CqProjRefIdeal.τ).loc Cert.CqProjRefIdeal.main_arg4))).1 = (fun _ => 1#1)
    ∧ (Cert.Pre_pre_cqb.fn (F := Ideal) (m ((c.tc : Thread Cert.CqProjRefIdeal.nD Cert.CqProjRefIdeal.τ).loc Cert.CqProjRefIdeal.main_arg0)) (m ((c.tc : Thread Cert.CqProjRefIdeal.nD Cert.CqProjRefIdeal.τ).loc Cert.CqProjRefIdeal.main_arg1)) (m ((c.tc : Thread Cert.CqProjRefIdeal.nD Cert.CqProjRefIdeal.τ).loc Cert.CqProjRefIdeal.main_arg2)) (m ((c.tc : Thread Cert.CqProjRefIdeal.nD Cert.CqProjRefIdeal.τ).loc Cert.CqProjRefIdeal.main_arg3)) (m ((c.tc : Thread Cert.CqProjRefIdeal.nD Cert.CqProjRefIdeal.τ).loc Cert.CqProjRefIdeal.main_arg4))).2.1 = (fun _ => 1#1)
    ∧ (Cert.Pre_pre_cqb.fn (F := Ideal) (m ((c.tc : Thread Cert.CqProjRefIdeal.nD Cert.CqProjRefIdeal.τ).loc Cert.CqProjRefIdeal.main_arg0)) (m ((c.tc : Thread Cert.CqProjRefIdeal.nD Cert.CqProjRefIdeal.τ).loc Cert.CqProjRefIdeal.main_arg1)) (m ((c.tc : Thread Cert.CqProjRefIdeal.nD Cert.CqProjRefIdeal.τ).loc Cert.CqProjRefIdeal.main_arg2)) (m ((c.tc : Thread Cert.CqProjRefIdeal.nD Cert.CqProjRefIdeal.τ).loc Cert.CqProjRefIdeal.main_arg3)) (m ((c.tc : Thread Cert.CqProjRefIdeal.nD Cert.CqProjRefIdeal.τ).loc Cert.CqProjRefIdeal.main_arg4))).2.2.1 = (fun _ => 1#1)
    ∧ (Cert.Pre_pre_cqb.fn (F := Ideal) (m ((c.tc : Thread Cert.CqProjRefIdeal.nD Cert.CqProjRefIdeal.τ).loc Cert.CqProjRefIdeal.main_arg0)) (m ((c.tc : Thread Cert.CqProjRefIdeal.nD Cert.CqProjRefIdeal.τ).loc Cert.CqProjRefIdeal.main_arg1)) (m ((c.tc : Thread Cert.CqProjRefIdeal.nD Cert.CqProjRefIdeal.τ).loc Cert.CqProjRefIdeal.main_arg2)) (m ((c.tc : Thread Cert.CqProjRefIdeal.nD Cert.CqProjRefIdeal.τ).loc Cert.CqProjRefIdeal.main_arg3)) (m ((c.tc : Thread Cert.CqProjRefIdeal.nD Cert.CqProjRefIdeal.τ).loc Cert.CqProjRefIdeal.main_arg4))).2.2.2 = (fun _ => 1#1)

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpIdeal_pre_mub [hPre_pre_mub : Cert.Pre_pre_mub.Facts] (m : (ℓ : Loc Cert.MlpUpIdeal.nD Cert.MlpUpIdeal.τ Cert.MlpUpIdeal.sig) → Buf (Elt Ideal) ℓ) : Prop :=
  ∀ c : Dev Cert.MlpUpIdeal.nD,
    (Cert.Pre_pre_mub.fn (F := Ideal) (m ((c.tc : Thread Cert.MlpUpIdeal.nD Cert.MlpUpIdeal.τ).loc Cert.MlpUpIdeal.main_arg0)) (m ((c.tc : Thread Cert.MlpUpIdeal.nD Cert.MlpUpIdeal.τ).loc Cert.MlpUpIdeal.main_arg1)) (m ((c.tc : Thread Cert.MlpUpIdeal.nD Cert.MlpUpIdeal.τ).loc Cert.MlpUpIdeal.main_arg2)) (m ((c.tc : Thread Cert.MlpUpIdeal.nD Cert.MlpUpIdeal.τ).loc Cert.MlpUpIdeal.main_arg3)) (m ((c.tc : Thread Cert.MlpUpIdeal.nD Cert.MlpUpIdeal.τ).loc Cert.MlpUpIdeal.main_arg4))).1 = (fun _ => 1#1)
    ∧ (Cert.Pre_pre_mub.fn (F := Ideal) (m ((c.tc : Thread Cert.MlpUpIdeal.nD Cert.MlpUpIdeal.τ).loc Cert.MlpUpIdeal.main_arg0)) (m ((c.tc : Thread Cert.MlpUpIdeal.nD Cert.MlpUpIdeal.τ).loc Cert.MlpUpIdeal.main_arg1)) (m ((c.tc : Thread Cert.MlpUpIdeal.nD Cert.MlpUpIdeal.τ).loc Cert.MlpUpIdeal.main_arg2)) (m ((c.tc : Thread Cert.MlpUpIdeal.nD Cert.MlpUpIdeal.τ).loc Cert.MlpUpIdeal.main_arg3)) (m ((c.tc : Thread Cert.MlpUpIdeal.nD Cert.MlpUpIdeal.τ).loc Cert.MlpUpIdeal.main_arg4))).2.1 = (fun _ => 1#1)
    ∧ (Cert.Pre_pre_mub.fn (F := Ideal) (m ((c.tc : Thread Cert.MlpUpIdeal.nD Cert.MlpUpIdeal.τ).loc Cert.MlpUpIdeal.main_arg0)) (m ((c.tc : Thread Cert.MlpUpIdeal.nD Cert.MlpUpIdeal.τ).loc Cert.MlpUpIdeal.main_arg1)) (m ((c.tc : Thread Cert.MlpUpIdeal.nD Cert.MlpUpIdeal.τ).loc Cert.MlpUpIdeal.main_arg2)) (m ((c.tc : Thread Cert.MlpUpIdeal.nD Cert.MlpUpIdeal.τ).loc Cert.MlpUpIdeal.main_arg3)) (m ((c.tc : Thread Cert.MlpUpIdeal.nD Cert.MlpUpIdeal.τ).loc Cert.MlpUpIdeal.main_arg4))).2.2.1 = (fun _ => 1#1)
    ∧ (Cert.Pre_pre_mub.fn (F := Ideal) (m ((c.tc : Thread Cert.MlpUpIdeal.nD Cert.MlpUpIdeal.τ).loc Cert.MlpUpIdeal.main_arg0)) (m ((c.tc : Thread Cert.MlpUpIdeal.nD Cert.MlpUpIdeal.τ).loc Cert.MlpUpIdeal.main_arg1)) (m ((c.tc : Thread Cert.MlpUpIdeal.nD Cert.MlpUpIdeal.τ).loc Cert.MlpUpIdeal.main_arg2)) (m ((c.tc : Thread Cert.MlpUpIdeal.nD Cert.MlpUpIdeal.τ).loc Cert.MlpUpIdeal.main_arg3)) (m ((c.tc : Thread Cert.MlpUpIdeal.nD Cert.MlpUpIdeal.τ).loc Cert.MlpUpIdeal.main_arg4))).2.2.2 = (fun _ => 1#1)

def Pre_MlpUpRefIdeal (m : (ℓ : Loc Cert.MlpUpRefIdeal.nD Cert.MlpUpRefIdeal.τ Cert.MlpUpRefIdeal.sig) → Buf (Elt Ideal) ℓ) : Prop :=
  True

def Pre_MlpUpRefIdeal_pre_mub [hPre_pre_mub : Cert.Pre_pre_mub.Facts] (m : (ℓ : Loc Cert.MlpUpRefIdeal.nD Cert.MlpUpRefIdeal.τ Cert.MlpUpRefIdeal.sig) → Buf (Elt Ideal) ℓ) : Prop :=
  ∀ c : Dev Cert.MlpUpRefIdeal.nD,
    (Cert.Pre_pre_mub.fn (F := Ideal) (m ((c.tc : Thread Cert.MlpUpRefIdeal.nD Cert.MlpUpRefIdeal.τ).loc Cert.MlpUpRefIdeal.main_arg0)) (m ((c.tc : Thread Cert.MlpUpRefIdeal.nD Cert.MlpUpRefIdeal.τ).loc Cert.MlpUpRefIdeal.main_arg1)) (m ((c.tc : Thread Cert.MlpUpRefIdeal.nD Cert.MlpUpRefIdeal.τ).loc Cert.MlpUpRefIdeal.main_arg2)) (m ((c.tc : Thread Cert.MlpUpRefIdeal.nD Cert.MlpUpRefIdeal.τ).loc Cert.MlpUpRefIdeal.main_arg3)) (m ((c.tc : Thread Cert.MlpUpRefIdeal.nD Cert.MlpUpRefIdeal.τ).loc Cert.MlpUpRefIdeal.main_arg4))).1 = (fun _ => 1#1)
    ∧ (Cert.Pre_pre_mub.fn (F := Ideal) (m ((c.tc : Thread Cert.MlpUpRefIdeal.nD Cert.MlpUpRefIdeal.τ).loc Cert.MlpUpRefIdeal.main_arg0)) (m ((c.tc : Thread Cert.MlpUpRefIdeal.nD Cert.MlpUpRefIdeal.τ).loc Cert.MlpUpRefIdeal.main_arg1)) (m ((c.tc : Thread Cert.MlpUpRefIdeal.nD Cert.MlpUpRefIdeal.τ).loc Cert.MlpUpRefIdeal.main_arg2)) (m ((c.tc : Thread Cert.MlpUpRefIdeal.nD Cert.MlpUpRefIdeal.τ).loc Cert.MlpUpRefIdeal.main_arg3)) (m ((c.tc : Thread Cert.MlpUpRefIdeal.nD Cert.MlpUpRefIdeal.τ).loc Cert.MlpUpRefIdeal.main_arg4))).2.1 = (fun _ => 1#1)
    ∧ (Cert.Pre_pre_mub.fn (F := Ideal) (m ((c.tc : Thread Cert.MlpUpRefIdeal.nD Cert.MlpUpRefIdeal.τ).loc Cert.MlpUpRefIdeal.main_arg0)) (m ((c.tc : Thread Cert.MlpUpRefIdeal.nD Cert.MlpUpRefIdeal.τ).loc Cert.MlpUpRefIdeal.main_arg1)) (m ((c.tc : Thread Cert.MlpUpRefIdeal.nD Cert.MlpUpRefIdeal.τ).loc Cert.MlpUpRefIdeal.main_arg2)) (m ((c.tc : Thread Cert.MlpUpRefIdeal.nD Cert.MlpUpRefIdeal.τ).loc Cert.MlpUpRefIdeal.main_arg3)) (m ((c.tc : Thread Cert.MlpUpRefIdeal.nD Cert.MlpUpRefIdeal.τ).loc Cert.MlpUpRefIdeal.main_arg4))).2.2.1 = (fun _ => 1#1)
    ∧ (Cert.Pre_pre_mub.fn (F := Ideal) (m ((c.tc : Thread Cert.MlpUpRefIdeal.nD Cert.MlpUpRefIdeal.τ).loc Cert.MlpUpRefIdeal.main_arg0)) (m ((c.tc : Thread Cert.MlpUpRefIdeal.nD Cert.MlpUpRefIdeal.τ).loc Cert.MlpUpRefIdeal.main_arg1)) (m ((c.tc : Thread Cert.MlpUpRefIdeal.nD Cert.MlpUpRefIdeal.τ).loc Cert.MlpUpRefIdeal.main_arg2)) (m ((c.tc : Thread Cert.MlpUpRefIdeal.nD Cert.MlpUpRefIdeal.τ).loc Cert.MlpUpRefIdeal.main_arg3)) (m ((c.tc : Thread Cert.MlpUpRefIdeal.nD Cert.MlpUpRefIdeal.τ).loc Cert.MlpUpRefIdeal.main_arg4))).2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_pre_ipb [hPre_pre_ipb : Cert.Pre_pre_ipb.Facts] (m : (ℓ : Loc Cert.InProjIdeal.nD Cert.InProjIdeal.τ Cert.InProjIdeal.sig) → Buf (Elt Ideal) ℓ) : Prop :=
  ∀ c : Dev Cert.InProjIdeal.nD,
    (Cert.Pre_pre_ipb.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).1 = (fun _ => 1#1)
    ∧ (Cert.Pre_pre_ipb.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.1 = (fun _ => 1#1)
    ∧ (Cert.Pre_pre_ipb.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.2.1 = (fun _ => 1#1)
    ∧ (Cert.Pre_pre_ipb.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.2.2 = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_pre_ipb [hPre_pre_ipb : Cert.Pre_pre_ipb.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_pre_ipb.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).1 = (fun _ => 1#1)
    ∧ (Cert.Pre_pre_ipb.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.1 = (fun _ => 1#1)
    ∧ (Cert.Pre_pre_ipb.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.2.1 = (fun _ => 1#1)
    ∧ (Cert.Pre_pre_ipb.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.2.2 = (fun _ => 1#1)

def Pre_CkvProj (m : (ℓ : Loc Cert.CkvProj.nD Cert.CkvProj.τ Cert.CkvProj.sig) → Buf (Elt Bits) ℓ) : Prop :=
  True

def Pre_CkvProjIdeal (m : (ℓ : Loc Cert.CkvProjIdeal.nD Cert.CkvProjIdeal.τ Cert.CkvProjIdeal.sig) → Buf (Elt Ideal) ℓ) : Prop :=
  True

def Pre_CkvProjRefIdeal (m : (ℓ : Loc Cert.CkvProjRefIdeal.nD Cert.CkvProjRefIdeal.τ Cert.CkvProjRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_pre_mdl [hPre_pre_mdl : Cert.Pre_pre_mdl.Facts] (m : (ℓ : Loc Cert.LossIdeal.nD Cert.LossIdeal.τ Cert.LossIdeal.sig) → Buf (Elt Ideal) ℓ) : Prop :=
  ∀ c : Dev Cert.LossIdeal.nD,
    (Cert.Pre_pre_mdl.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).1 = (fun _ => 1#1)
    ∧ (Cert.Pre_pre_mdl.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.1 = (fun _ => 1#1)
    ∧ (Cert.Pre_pre_mdl.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.1 = (fun _ => 1#1)
    ∧ (Cert.Pre_pre_mdl.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.1 = (fun _ => 1#1)
    ∧ (Cert.Pre_pre_mdl.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_pre_mdl [hPre_pre_mdl : Cert.Pre_pre_mdl.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_pre_mdl.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).1 = (fun _ => 1#1)
    ∧ (Cert.Pre_pre_mdl.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.1 = (fun _ => 1#1)
    ∧ (Cert.Pre_pre_mdl.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.1 = (fun _ => 1#1)
    ∧ (Cert.Pre_pre_mdl.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.1 = (fun _ => 1#1)
    ∧ (Cert.Pre_pre_mdl.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.2 = (fun _ => 1#1)

def Pre_ConvNorm (m : (ℓ : Loc Cert.ConvNorm.nD Cert.ConvNorm.τ Cert.ConvNorm.sig) → Buf (Elt Bits) ℓ) : Prop :=
  True

def Pre_ConvNormIdeal (m : (ℓ : Loc Cert.ConvNormIdeal.nD Cert.ConvNormIdeal.τ Cert.ConvNormIdeal.sig) → Buf (Elt Ideal) ℓ) : Prop :=
  True

def Pre_ConvNormIdeal_pre_cpb [hPre_pre_cpb : Cert.Pre_pre_cpb.Facts] (m : (ℓ : Loc Cert.ConvNormIdeal.nD Cert.ConvNormIdeal.τ Cert.ConvNormIdeal.sig) → Buf (Elt Ideal) ℓ) : Prop :=
  ∀ c : Dev Cert.ConvNormIdeal.nD,
    (Cert.Pre_pre_cpb.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4)) (m ((c.tc : Thread Cert.ConvNormIdeal.nD Cert.ConvNormIdeal.τ).loc Cert.ConvNormIdeal.main_arg5))).1 = (fun _ => 1#1)
    ∧ (Cert.Pre_pre_cpb.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4)) (m ((c.tc : Thread Cert.ConvNormIdeal.nD Cert.ConvNormIdeal.τ).loc Cert.ConvNormIdeal.main_arg5))).2.1 = (fun _ => 1#1)
    ∧ (Cert.Pre_pre_cpb.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4)) (m ((c.tc : Thread Cert.ConvNormIdeal.nD Cert.ConvNormIdeal.τ).loc Cert.ConvNormIdeal.main_arg5))).2.2.1 = (fun _ => 1#1)
    ∧ (Cert.Pre_pre_cpb.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4)) (m ((c.tc : Thread Cert.ConvNormIdeal.nD Cert.ConvNormIdeal.τ).loc Cert.ConvNormIdeal.main_arg5))).2.2.2.1 = (fun _ => 1#1)
    ∧ (Cert.Pre_pre_cpb.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4)) (m ((c.tc : Thread Cert.ConvNormIdeal.nD Cert.ConvNormIdeal.τ).loc Cert.ConvNormIdeal.main_arg5))).2.2.2.2.1 = (fun _ => 1#1)
    ∧ (Cert.Pre_pre_cpb.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4)) (m ((c.tc : Thread Cert.ConvNormIdeal.nD Cert.ConvNormIdeal.τ).loc Cert.ConvNormIdeal.main_arg5))).2.2.2.2.2 = (fun _ => 1#1)

def Pre_ConvNormRefIdeal (m : (ℓ : Loc Cert.ConvNormRefIdeal.nD Cert.ConvNormRefIdeal.τ Cert.ConvNormRefIdeal.sig) → Buf (Elt Ideal) ℓ) : Prop :=
  True

def Pre_ConvNormRefIdeal_pre_cpb [hPre_pre_cpb : Cert.Pre_pre_cpb.Facts] (m : (ℓ : Loc Cert.ConvNormRefIdeal.nD Cert.ConvNormRefIdeal.τ Cert.ConvNormRefIdeal.sig) → Buf (Elt Ideal) ℓ) : Prop :=
  ∀ c : Dev Cert.ConvNormRefIdeal.nD,
    (Cert.Pre_pre_cpb.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4)) (m ((c.tc : Thread Cert.ConvNormRefIdeal.nD Cert.ConvNormRefIdeal.τ).loc Cert.ConvNormRefIdeal.main_arg5))).1 = (fun _ => 1#1)
    ∧ (Cert.Pre_pre_cpb.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4)) (m ((c.tc : Thread Cert.ConvNormRefIdeal.nD Cert.ConvNormRefIdeal.τ).loc Cert.ConvNormRefIdeal.main_arg5))).2.1 = (fun _ => 1#1)
    ∧ (Cert.Pre_pre_cpb.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4)) (m ((c.tc : Thread Cert.ConvNormRefIdeal.nD Cert.ConvNormRefIdeal.τ).loc Cert.ConvNormRefIdeal.main_arg5))).2.2.1 = (fun _ => 1#1)
    ∧ (Cert.Pre_pre_cpb.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4)) (m ((c.tc : Thread Cert.ConvNormRefIdeal.nD Cert.ConvNormRefIdeal.τ).loc Cert.ConvNormRefIdeal.main_arg5))).2.2.2.1 = (fun _ => 1#1)
    ∧ (Cert.Pre_pre_cpb.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4)) (m ((c.tc : Thread Cert.ConvNormRefIdeal.nD Cert.ConvNormRefIdeal.τ).loc Cert.ConvNormRefIdeal.main_arg5))).2.2.2.2.1 = (fun _ => 1#1)
    ∧ (Cert.Pre_pre_cpb.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4)) (m ((c.tc : Thread Cert.ConvNormRefIdeal.nD Cert.ConvNormRefIdeal.τ).loc Cert.ConvNormRefIdeal.main_arg5))).2.2.2.2.2 = (fun _ => 1#1)

def Pre_CrossFwd (m : (ℓ : Loc Cert.CrossFwd.nD Cert.CrossFwd.τ Cert.CrossFwd.sig) → Buf (Elt Bits) ℓ) : Prop :=
  True

def Pre_CrossFwdIdeal (m : (ℓ : Loc Cert.CrossFwdIdeal.nD Cert.CrossFwdIdeal.τ Cert.CrossFwdIdeal.sig) → Buf (Elt Ideal) ℓ) : Prop :=
  True

def Pre_CrossFwdIdeal_pre_cqf [hPre_pre_cqf : Cert.Pre_pre_cqf.Facts] (m : (ℓ : Loc Cert.CrossFwdIdeal.nD Cert.CrossFwdIdeal.τ Cert.CrossFwdIdeal.sig) → Buf (Elt Ideal) ℓ) : Prop :=
  ∀ c : Dev Cert.CrossFwdIdeal.nD,
    (Cert.Pre_pre_cqf.fn (F := Ideal) (m ((c.tc : Thread Cert.CrossFwdIdeal.nD Cert.CrossFwdIdeal.τ).loc Cert.CrossFwdIdeal.main_arg0)) (m ((c.tc : Thread Cert.CrossFwdIdeal.nD Cert.CrossFwdIdeal.τ).loc Cert.CrossFwdIdeal.main_arg1)) (m ((c.tc : Thread Cert.CrossFwdIdeal.nD Cert.CrossFwdIdeal.τ).loc Cert.CrossFwdIdeal.main_arg2)) (m ((c.tc : Thread Cert.CrossFwdIdeal.nD Cert.CrossFwdIdeal.τ).loc Cert.CrossFwdIdeal.main_arg3))).1 = (fun _ => 1#1)
    ∧ (Cert.Pre_pre_cqf.fn (F := Ideal) (m ((c.tc : Thread Cert.CrossFwdIdeal.nD Cert.CrossFwdIdeal.τ).loc Cert.CrossFwdIdeal.main_arg0)) (m ((c.tc : Thread Cert.CrossFwdIdeal.nD Cert.CrossFwdIdeal.τ).loc Cert.CrossFwdIdeal.main_arg1)) (m ((c.tc : Thread Cert.CrossFwdIdeal.nD Cert.CrossFwdIdeal.τ).loc Cert.CrossFwdIdeal.main_arg2)) (m ((c.tc : Thread Cert.CrossFwdIdeal.nD Cert.CrossFwdIdeal.τ).loc Cert.CrossFwdIdeal.main_arg3))).2.1 = (fun _ => 1#1)
    ∧ (Cert.Pre_pre_cqf.fn (F := Ideal) (m ((c.tc : Thread Cert.CrossFwdIdeal.nD Cert.CrossFwdIdeal.τ).loc Cert.CrossFwdIdeal.main_arg0)) (m ((c.tc : Thread Cert.CrossFwdIdeal.nD Cert.CrossFwdIdeal.τ).loc Cert.CrossFwdIdeal.main_arg1)) (m ((c.tc : Thread Cert.CrossFwdIdeal.nD Cert.CrossFwdIdeal.τ).loc Cert.CrossFwdIdeal.main_arg2)) (m ((c.tc : Thread Cert.CrossFwdIdeal.nD Cert.CrossFwdIdeal.τ).loc Cert.CrossFwdIdeal.main_arg3))).2.2.1 = (fun _ => 1#1)
    ∧ (Cert.Pre_pre_cqf.fn (F := Ideal) (m ((c.tc : Thread Cert.CrossFwdIdeal.nD Cert.CrossFwdIdeal.τ).loc Cert.CrossFwdIdeal.main_arg0)) (m ((c.tc : Thread Cert.CrossFwdIdeal.nD Cert.CrossFwdIdeal.τ).loc Cert.CrossFwdIdeal.main_arg1)) (m ((c.tc : Thread Cert.CrossFwdIdeal.nD Cert.CrossFwdIdeal.τ).loc Cert.CrossFwdIdeal.main_arg2)) (m ((c.tc : Thread Cert.CrossFwdIdeal.nD Cert.CrossFwdIdeal.τ).loc Cert.CrossFwdIdeal.main_arg3))).2.2.2 = (fun _ => 1#1)

def Pre_CrossFwdRefIdeal (m : (ℓ : Loc Cert.CrossFwdRefIdeal.nD Cert.CrossFwdRefIdeal.τ Cert.CrossFwdRefIdeal.sig) → Buf (Elt Ideal) ℓ) : Prop :=
  True

def Pre_CrossFwdRefIdeal_pre_cqf [hPre_pre_cqf : Cert.Pre_pre_cqf.Facts] (m : (ℓ : Loc Cert.CrossFwdRefIdeal.nD Cert.CrossFwdRefIdeal.τ Cert.CrossFwdRefIdeal.sig) → Buf (Elt Ideal) ℓ) : Prop :=
  ∀ c : Dev Cert.CrossFwdRefIdeal.nD,
    (Cert.Pre_pre_cqf.fn (F := Ideal) (m ((c.tc : Thread Cert.CrossFwdRefIdeal.nD Cert.CrossFwdRefIdeal.τ).loc Cert.CrossFwdRefIdeal.main_arg0)) (m ((c.tc : Thread Cert.CrossFwdRefIdeal.nD Cert.CrossFwdRefIdeal.τ).loc Cert.CrossFwdRefIdeal.main_arg1)) (m ((c.tc : Thread Cert.CrossFwdRefIdeal.nD Cert.CrossFwdRefIdeal.τ).loc Cert.CrossFwdRefIdeal.main_arg2)) (m ((c.tc : Thread Cert.CrossFwdRefIdeal.nD Cert.CrossFwdRefIdeal.τ).loc Cert.CrossFwdRefIdeal.main_arg3))).1 = (fun _ => 1#1)
    ∧ (Cert.Pre_pre_cqf.fn (F := Ideal) (m ((c.tc : Thread Cert.CrossFwdRefIdeal.nD Cert.CrossFwdRefIdeal.τ).loc Cert.CrossFwdRefIdeal.main_arg0)) (m ((c.tc : Thread Cert.CrossFwdRefIdeal.nD Cert.CrossFwdRefIdeal.τ).loc Cert.CrossFwdRefIdeal.main_arg1)) (m ((c.tc : Thread Cert.CrossFwdRefIdeal.nD Cert.CrossFwdRefIdeal.τ).loc Cert.CrossFwdRefIdeal.main_arg2)) (m ((c.tc : Thread Cert.CrossFwdRefIdeal.nD Cert.CrossFwdRefIdeal.τ).loc Cert.CrossFwdRefIdeal.main_arg3))).2.1 = (fun _ => 1#1)
    ∧ (Cert.Pre_pre_cqf.fn (F := Ideal) (m ((c.tc : Thread Cert.CrossFwdRefIdeal.nD Cert.CrossFwdRefIdeal.τ).loc Cert.CrossFwdRefIdeal.main_arg0)) (m ((c.tc : Thread Cert.CrossFwdRefIdeal.nD Cert.CrossFwdRefIdeal.τ).loc Cert.CrossFwdRefIdeal.main_arg1)) (m ((c.tc : Thread Cert.CrossFwdRefIdeal.nD Cert.CrossFwdRefIdeal.τ).loc Cert.CrossFwdRefIdeal.main_arg2)) (m ((c.tc : Thread Cert.CrossFwdRefIdeal.nD Cert.CrossFwdRefIdeal.τ).loc Cert.CrossFwdRefIdeal.main_arg3))).2.2.1 = (fun _ => 1#1)
    ∧ (Cert.Pre_pre_cqf.fn (F := Ideal) (m ((c.tc : Thread Cert.CrossFwdRefIdeal.nD Cert.CrossFwdRefIdeal.τ).loc Cert.CrossFwdRefIdeal.main_arg0)) (m ((c.tc : Thread Cert.CrossFwdRefIdeal.nD Cert.CrossFwdRefIdeal.τ).loc Cert.CrossFwdRefIdeal.main_arg1)) (m ((c.tc : Thread Cert.CrossFwdRefIdeal.nD Cert.CrossFwdRefIdeal.τ).loc Cert.CrossFwdRefIdeal.main_arg2)) (m ((c.tc : Thread Cert.CrossFwdRefIdeal.nD Cert.CrossFwdRefIdeal.τ).loc Cert.CrossFwdRefIdeal.main_arg3))).2.2.2 = (fun _ => 1#1)

def Pre_AttnFwdA (m : (ℓ : Loc Cert.AttnFwdA.nD Cert.AttnFwdA.τ Cert.AttnFwdA.sig) → Buf (Elt Bits) ℓ) : Prop :=
  True

def Pre_AttnFwdAIdeal (m : (ℓ : Loc Cert.AttnFwdAIdeal.nD Cert.AttnFwdAIdeal.τ Cert.AttnFwdAIdeal.sig) → Buf (Elt Ideal) ℓ) : Prop :=
  True

def Pre_AttnFwdAIdeal_pre_af0 [hPre_pre_af0 : Cert.Pre_pre_af0.Facts] (m : (ℓ : Loc Cert.AttnFwdAIdeal.nD Cert.AttnFwdAIdeal.τ Cert.AttnFwdAIdeal.sig) → Buf (Elt Ideal) ℓ) : Prop :=
  ∀ c : Dev Cert.AttnFwdAIdeal.nD,
    (Cert.Pre_pre_af0.fn (F := Ideal) (m ((c.tc : Thread Cert.AttnFwdAIdeal.nD Cert.AttnFwdAIdeal.τ).loc Cert.AttnFwdAIdeal.main_arg0)) (m ((c.tc : Thread Cert.AttnFwdAIdeal.nD Cert.AttnFwdAIdeal.τ).loc Cert.AttnFwdAIdeal.main_arg1)) (m ((c.tc : Thread Cert.AttnFwdAIdeal.nD Cert.AttnFwdAIdeal.τ).loc Cert.AttnFwdAIdeal.main_arg2))).1 = (fun _ => 1#1)
    ∧ (Cert.Pre_pre_af0.fn (F := Ideal) (m ((c.tc : Thread Cert.AttnFwdAIdeal.nD Cert.AttnFwdAIdeal.τ).loc Cert.AttnFwdAIdeal.main_arg0)) (m ((c.tc : Thread Cert.AttnFwdAIdeal.nD Cert.AttnFwdAIdeal.τ).loc Cert.AttnFwdAIdeal.main_arg1)) (m ((c.tc : Thread Cert.AttnFwdAIdeal.nD Cert.AttnFwdAIdeal.τ).loc Cert.AttnFwdAIdeal.main_arg2))).2.1 = (fun _ => 1#1)
    ∧ (Cert.Pre_pre_af0.fn (F := Ideal) (m ((c.tc : Thread Cert.AttnFwdAIdeal.nD Cert.AttnFwdAIdeal.τ).loc Cert.AttnFwdAIdeal.main_arg0)) (m ((c.tc : Thread Cert.AttnFwdAIdeal.nD Cert.AttnFwdAIdeal.τ).loc Cert.AttnFwdAIdeal.main_arg1)) (m ((c.tc : Thread Cert.AttnFwdAIdeal.nD Cert.AttnFwdAIdeal.τ).loc Cert.AttnFwdAIdeal.main_arg2))).2.2 = (fun _ => 1#1)

def Pre_AttnFwdARefIdeal (m : (ℓ : Loc Cert.AttnFwdARefIdeal.nD Cert.AttnFwdARefIdeal.τ Cert.AttnFwdARefIdeal.sig) → Buf (Elt Ideal) ℓ) : Prop :=
  True

def Pre_AttnFwdARefIdeal_pre_af0 [hPre_pre_af0 : Cert.Pre_pre_af0.Facts] (m : (ℓ : Loc Cert.AttnFwdARefIdeal.nD Cert.AttnFwdARefIdeal.τ Cert.AttnFwdARefIdeal.sig) → Buf (Elt Ideal) ℓ) : Prop :=
  ∀ c : Dev Cert.AttnFwdARefIdeal.nD,
    (Cert.Pre_pre_af0.fn (F := Ideal) (m ((c.tc : Thread Cert.AttnFwdARefIdeal.nD Cert.AttnFwdARefIdeal.τ).loc Cert.AttnFwdARefIdeal.main_arg0)) (m ((c.tc : Thread Cert.AttnFwdARefIdeal.nD Cert.AttnFwdARefIdeal.τ).loc Cert.AttnFwdARefIdeal.main_arg1)) (m ((c.tc : Thread Cert.AttnFwdARefIdeal.nD Cert.AttnFwdARefIdeal.τ).loc Cert.AttnFwdARefIdeal.main_arg2))).1 = (fun _ => 1#1)
    ∧ (Cert.Pre_pre_af0.fn (F := Ideal) (m ((c.tc : Thread Cert.AttnFwdARefIdeal.nD Cert.AttnFwdARefIdeal.τ).loc Cert.AttnFwdARefIdeal.main_arg0)) (m ((c.tc : Thread Cert.AttnFwdARefIdeal.nD Cert.AttnFwdARefIdeal.τ).loc Cert.AttnFwdARefIdeal.main_arg1)) (m ((c.tc : Thread Cert.AttnFwdARefIdeal.nD Cert.AttnFwdARefIdeal.τ).loc Cert.AttnFwdARefIdeal.main_arg2))).2.1 = (fun _ => 1#1)
    ∧ (Cert.Pre_pre_af0.fn (F := Ideal) (m ((c.tc : Thread Cert.AttnFwdARefIdeal.nD Cert.AttnFwdARefIdeal.τ).loc Cert.AttnFwdARefIdeal.main_arg0)) (m ((c.tc : Thread Cert.AttnFwdARefIdeal.nD Cert.AttnFwdARefIdeal.τ).loc Cert.AttnFwdARefIdeal.main_arg1)) (m ((c.tc : Thread Cert.AttnFwdARefIdeal.nD Cert.AttnFwdARefIdeal.τ).loc Cert.AttnFwdARefIdeal.main_arg2))).2.2 = (fun _ => 1#1)

def Pre_AttnFwdB (m : (ℓ : Loc Cert.AttnFwdB.nD Cert.AttnFwdB.τ Cert.AttnFwdB.sig) → Buf (Elt Bits) ℓ) : Prop :=
  True

def Pre_AttnFwdBIdeal (m : (ℓ : Loc Cert.AttnFwdBIdeal.nD Cert.AttnFwdBIdeal.τ Cert.AttnFwdBIdeal.sig) → Buf (Elt Ideal) ℓ) : Prop :=
  True

def Pre_AttnFwdBIdeal_pre_af1 [hPre_pre_af1 : Cert.Pre_pre_af1.Facts] (m : (ℓ : Loc Cert.AttnFwdBIdeal.nD Cert.AttnFwdBIdeal.τ Cert.AttnFwdBIdeal.sig) → Buf (Elt Ideal) ℓ) : Prop :=
  ∀ c : Dev Cert.AttnFwdBIdeal.nD,
    (Cert.Pre_pre_af1.fn (F := Ideal) (m ((c.tc : Thread Cert.AttnFwdBIdeal.nD Cert.AttnFwdBIdeal.τ).loc Cert.AttnFwdBIdeal.main_arg0)) (m ((c.tc : Thread Cert.AttnFwdBIdeal.nD Cert.AttnFwdBIdeal.τ).loc Cert.AttnFwdBIdeal.main_arg1)) (m ((c.tc : Thread Cert.AttnFwdBIdeal.nD Cert.AttnFwdBIdeal.τ).loc Cert.AttnFwdBIdeal.main_arg2))).1 = (fun _ => 1#1)
    ∧ (Cert.Pre_pre_af1.fn (F := Ideal) (m ((c.tc : Thread Cert.AttnFwdBIdeal.nD Cert.AttnFwdBIdeal.τ).loc Cert.AttnFwdBIdeal.main_arg0)) (m ((c.tc : Thread Cert.AttnFwdBIdeal.nD Cert.AttnFwdBIdeal.τ).loc Cert.AttnFwdBIdeal.main_arg1)) (m ((c.tc : Thread Cert.AttnFwdBIdeal.nD Cert.AttnFwdBIdeal.τ).loc Cert.AttnFwdBIdeal.main_arg2))).2.1 = (fun _ => 1#1)
    ∧ (Cert.Pre_pre_af1.fn (F := Ideal) (m ((c.tc : Thread Cert.AttnFwdBIdeal.nD Cert.AttnFwdBIdeal.τ).loc Cert.AttnFwdBIdeal.main_arg0)) (m ((c.tc : Thread Cert.AttnFwdBIdeal.nD Cert.AttnFwdBIdeal.τ).loc Cert.AttnFwdBIdeal.main_arg1)) (m ((c.tc : Thread Cert.AttnFwdBIdeal.nD Cert.AttnFwdBIdeal.τ).loc Cert.AttnFwdBIdeal.main_arg2))).2.2 = (fun _ => 1#1)

def Pre_AttnFwdBRefIdeal (m : (ℓ : Loc Cert.AttnFwdBRefIdeal.nD Cert.AttnFwdBRefIdeal.τ Cert.AttnFwdBRefIdeal.sig) → Buf (Elt Ideal) ℓ) : Prop :=
  True

def Pre_AttnFwdBRefIdeal_pre_af1 [hPre_pre_af1 : Cert.Pre_pre_af1.Facts] (m : (ℓ : Loc Cert.AttnFwdBRefIdeal.nD Cert.AttnFwdBRefIdeal.τ Cert.AttnFwdBRefIdeal.sig) → Buf (Elt Ideal) ℓ) : Prop :=
  ∀ c : Dev Cert.AttnFwdBRefIdeal.nD,
    (Cert.Pre_pre_af1.fn (F := Ideal) (m ((c.tc : Thread Cert.AttnFwdBRefIdeal.nD Cert.AttnFwdBRefIdeal.τ).loc Cert.AttnFwdBRefIdeal.main_arg0)) (m ((c.tc : Thread Cert.AttnFwdBRefIdeal.nD Cert.AttnFwdBRefIdeal.τ).loc Cert.AttnFwdBRefIdeal.main_arg1)) (m ((c.tc : Thread Cert.AttnFwdBRefIdeal.nD Cert.AttnFwdBRefIdeal.τ).loc Cert.AttnFwdBRefIdeal.main_arg2))).1 = (fun _ => 1#1)
    ∧ (Cert.Pre_pre_af1.fn (F := Ideal) (m ((c.tc : Thread Cert.AttnFwdBRefIdeal.nD Cert.AttnFwdBRefIdeal.τ).loc Cert.AttnFwdBRefIdeal.main_arg0)) (m ((c.tc : Thread Cert.AttnFwdBRefIdeal.nD Cert.AttnFwdBRefIdeal.τ).loc Cert.AttnFwdBRefIdeal.main_arg1)) (m ((c.tc : Thread Cert.AttnFwdBRefIdeal.nD Cert.AttnFwdBRefIdeal.τ).loc Cert.AttnFwdBRefIdeal.main_arg2))).2.1 = (fun _ => 1#1)
    ∧ (Cert.Pre_pre_af1.fn (F := Ideal) (m ((c.tc : Thread Cert.AttnFwdBRefIdeal.nD Cert.AttnFwdBRefIdeal.τ).loc Cert.AttnFwdBRefIdeal.main_arg0)) (m ((c.tc : Thread Cert.AttnFwdBRefIdeal.nD Cert.AttnFwdBRefIdeal.τ).loc Cert.AttnFwdBRefIdeal.main_arg1)) (m ((c.tc : Thread Cert.AttnFwdBRefIdeal.nD Cert.AttnFwdBRefIdeal.τ).loc Cert.AttnFwdBRefIdeal.main_arg2))).2.2 = (fun _ => 1#1)

def Pre_AttnFwdC (m : (ℓ : Loc Cert.AttnFwdC.nD Cert.AttnFwdC.τ Cert.AttnFwdC.sig) → Buf (Elt Bits) ℓ) : Prop :=
  True

def Pre_AttnFwdCIdeal (m : (ℓ : Loc Cert.AttnFwdCIdeal.nD Cert.AttnFwdCIdeal.τ Cert.AttnFwdCIdeal.sig) → Buf (Elt Ideal) ℓ) : Prop :=
  True

def Pre_AttnFwdCIdeal_pre_af2 [hPre_pre_af2 : Cert.Pre_pre_af2.Facts] (m : (ℓ : Loc Cert.AttnFwdCIdeal.nD Cert.AttnFwdCIdeal.τ Cert.AttnFwdCIdeal.sig) → Buf (Elt Ideal) ℓ) : Prop :=
  ∀ c : Dev Cert.AttnFwdCIdeal.nD,
    (Cert.Pre_pre_af2.fn (F := Ideal) (m ((c.tc : Thread Cert.AttnFwdCIdeal.nD Cert.AttnFwdCIdeal.τ).loc Cert.AttnFwdCIdeal.main_arg0)) (m ((c.tc : Thread Cert.AttnFwdCIdeal.nD Cert.AttnFwdCIdeal.τ).loc Cert.AttnFwdCIdeal.main_arg1)) (m ((c.tc : Thread Cert.AttnFwdCIdeal.nD Cert.AttnFwdCIdeal.τ).loc Cert.AttnFwdCIdeal.main_arg2))).1 = (fun _ => 1#1)
    ∧ (Cert.Pre_pre_af2.fn (F := Ideal) (m ((c.tc : Thread Cert.AttnFwdCIdeal.nD Cert.AttnFwdCIdeal.τ).loc Cert.AttnFwdCIdeal.main_arg0)) (m ((c.tc : Thread Cert.AttnFwdCIdeal.nD Cert.AttnFwdCIdeal.τ).loc Cert.AttnFwdCIdeal.main_arg1)) (m ((c.tc : Thread Cert.AttnFwdCIdeal.nD Cert.AttnFwdCIdeal.τ).loc Cert.AttnFwdCIdeal.main_arg2))).2.1 = (fun _ => 1#1)
    ∧ (Cert.Pre_pre_af2.fn (F := Ideal) (m ((c.tc : Thread Cert.AttnFwdCIdeal.nD Cert.AttnFwdCIdeal.τ).loc Cert.AttnFwdCIdeal.main_arg0)) (m ((c.tc : Thread Cert.AttnFwdCIdeal.nD Cert.AttnFwdCIdeal.τ).loc Cert.AttnFwdCIdeal.main_arg1)) (m ((c.tc : Thread Cert.AttnFwdCIdeal.nD Cert.AttnFwdCIdeal.τ).loc Cert.AttnFwdCIdeal.main_arg2))).2.2 = (fun _ => 1#1)

def Pre_AttnFwdCRefIdeal (m : (ℓ : Loc Cert.AttnFwdCRefIdeal.nD Cert.AttnFwdCRefIdeal.τ Cert.AttnFwdCRefIdeal.sig) → Buf (Elt Ideal) ℓ) : Prop :=
  True

def Pre_AttnFwdCRefIdeal_pre_af2 [hPre_pre_af2 : Cert.Pre_pre_af2.Facts] (m : (ℓ : Loc Cert.AttnFwdCRefIdeal.nD Cert.AttnFwdCRefIdeal.τ Cert.AttnFwdCRefIdeal.sig) → Buf (Elt Ideal) ℓ) : Prop :=
  ∀ c : Dev Cert.AttnFwdCRefIdeal.nD,
    (Cert.Pre_pre_af2.fn (F := Ideal) (m ((c.tc : Thread Cert.AttnFwdCRefIdeal.nD Cert.AttnFwdCRefIdeal.τ).loc Cert.AttnFwdCRefIdeal.main_arg0)) (m ((c.tc : Thread Cert.AttnFwdCRefIdeal.nD Cert.AttnFwdCRefIdeal.τ).loc Cert.AttnFwdCRefIdeal.main_arg1)) (m ((c.tc : Thread Cert.AttnFwdCRefIdeal.nD Cert.AttnFwdCRefIdeal.τ).loc Cert.AttnFwdCRefIdeal.main_arg2))).1 = (fun _ => 1#1)
    ∧ (Cert.Pre_pre_af2.fn (F := Ideal) (m ((c.tc : Thread Cert.AttnFwdCRefIdeal.nD Cert.AttnFwdCRefIdeal.τ).loc Cert.AttnFwdCRefIdeal.main_arg0)) (m ((c.tc : Thread Cert.AttnFwdCRefIdeal.nD Cert.AttnFwdCRefIdeal.τ).loc Cert.AttnFwdCRefIdeal.main_arg1)) (m ((c.tc : Thread Cert.AttnFwdCRefIdeal.nD Cert.AttnFwdCRefIdeal.τ).loc Cert.AttnFwdCRefIdeal.main_arg2))).2.1 = (fun _ => 1#1)
    ∧ (Cert.Pre_pre_af2.fn (F := Ideal) (m ((c.tc : Thread Cert.AttnFwdCRefIdeal.nD Cert.AttnFwdCRefIdeal.τ).loc Cert.AttnFwdCRefIdeal.main_arg0)) (m ((c.tc : Thread Cert.AttnFwdCRefIdeal.nD Cert.AttnFwdCRefIdeal.τ).loc Cert.AttnFwdCRefIdeal.main_arg1)) (m ((c.tc : Thread Cert.AttnFwdCRefIdeal.nD Cert.AttnFwdCRefIdeal.τ).loc Cert.AttnFwdCRefIdeal.main_arg2))).2.2 = (fun _ => 1#1)

def Pre_MlpUpFwd (m : (ℓ : Loc Cert.MlpUpFwd.nD Cert.MlpUpFwd.τ Cert.MlpUpFwd.sig) → Buf (Elt Bits) ℓ) : Prop :=
  True

def Pre_MlpUpFwdIdeal (m : (ℓ : Loc Cert.MlpUpFwdIdeal.nD Cert.MlpUpFwdIdeal.τ Cert.MlpUpFwdIdeal.sig) → Buf (Elt Ideal) ℓ) : Prop :=
  True

def Pre_MlpUpFwdRefIdeal (m : (ℓ : Loc Cert.MlpUpFwdRefIdeal.nD Cert.MlpUpFwdRefIdeal.τ Cert.MlpUpFwdRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_ResidualNorm (m : (ℓ : Loc Cert.ResidualNorm.nD Cert.ResidualNorm.τ Cert.ResidualNorm.sig) → Buf (Elt Bits) ℓ) : Prop :=
  True

def Pre_ResidualNormIdeal (m : (ℓ : Loc Cert.ResidualNormIdeal.nD Cert.ResidualNormIdeal.τ Cert.ResidualNormIdeal.sig) → Buf (Elt Ideal) ℓ) : Prop :=
  True

def Pre_ResidualNormRefIdeal (m : (ℓ : Loc Cert.ResidualNormRefIdeal.nD Cert.ResidualNormRefIdeal.τ Cert.ResidualNormRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossIdeal_pre_pre_cob [hCrossIdeal : Cert.CrossIdeal.Facts] [hPre_pre_cob : Cert.Pre_pre_cob.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_pre_cob m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4))
      ∧ r.2.sem = fun _ => 0)

def quiescent_CrossRefIdeal_pre_pre_cob [hCrossRefIdeal : Cert.CrossRefIdeal.Facts] [hPre_pre_cob : Cert.Pre_pre_cob.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_pre_cob m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4))
      ∧ r.2.sem = fun _ => 0)

def quiescent_CqProj [hCqProj : Cert.CqProj.Facts] : Prop :=
  ∀ (m : (ℓ : Loc Cert.CqProj.nD Cert.CqProj.τ Cert.CqProj.sig) → Buf (Elt Bits) ℓ) (g : Dev Cert.CqProj.nD → PrngReg), Pre_CqProj m →
    θ_run (Cert.CqProj.defs (F := Bits)) (onTc (τ := Cert.CqProj.τ) (Cert.CqProj.main (F := Bits))) ⟨m, fun _ => 0, g⟩ (fun r => (∀ c : Dev Cert.CqProj.nD,
      r.2.mem ((c.tc : Thread Cert.CqProj.nD Cert.CqProj.τ).loc Cert.CqProj.main_arg0) = m ((c.tc : Thread Cert.CqProj.nD Cert.CqProj.τ).loc Cert.CqProj.main_arg0)
      ∧ r.2.mem ((c.tc : Thread Cert.CqProj.nD Cert.CqProj.τ).loc Cert.CqProj.main_arg1) = m ((c.tc : Thread Cert.CqProj.nD Cert.CqProj.τ).loc Cert.CqProj.main_arg1)
      ∧ r.2.mem ((c.tc : Thread Cert.CqProj.nD Cert.CqProj.τ).loc Cert.CqProj.main_arg2) = m ((c.tc : Thread Cert.CqProj.nD Cert.CqProj.τ).loc Cert.CqProj.main_arg2)
      ∧ r.2.mem ((c.tc : Thread Cert.CqProj.nD Cert.CqProj.τ).loc Cert.CqProj.main_arg3) = m ((c.tc : Thread Cert.CqProj.nD Cert.CqProj.τ).loc Cert.CqProj.main_arg3)
      ∧ r.2.mem ((c.tc : Thread Cert.CqProj.nD Cert.CqProj.τ).loc Cert.CqProj.main_arg4) = m ((c.tc : Thread Cert.CqProj.nD Cert.CqProj.τ).loc Cert.CqProj.main_arg4))
      ∧ r.2.sem = fun _ => 0)

def quiescent_CqProjIdeal [hCqProjIdeal : Cert.CqProjIdeal.Facts] : Prop :=
  ∀ (m : (ℓ : Loc Cert.CqProjIdeal.nD Cert.CqProjIdeal.τ Cert.CqProjIdeal.sig) → Buf (Elt Ideal) ℓ) (g : Dev Cert.CqProjIdeal.nD → PrngReg), Pre_CqProjIdeal m →
    θ_run (Cert.CqProjIdeal.defs (F := Ideal)) (onTc (τ := Cert.CqProjIdeal.τ) (Cert.CqProjIdeal.main (F := Ideal))) ⟨m, fun _ => 0, g⟩ (fun r => (∀ c : Dev Cert.CqProjIdeal.nD,
      r.2.mem ((c.tc : Thread Cert.CqProjIdeal.nD Cert.CqProjIdeal.τ).loc Cert.CqProjIdeal.main_arg0) = m ((c.tc : Thread Cert.CqProjIdeal.nD Cert.CqProjIdeal.τ).loc Cert.CqProjIdeal.main_arg0)
      ∧ r.2.mem ((c.tc : Thread Cert.CqProjIdeal.nD Cert.CqProjIdeal.τ).loc Cert.CqProjIdeal.main_arg1) = m ((c.tc : Thread Cert.CqProjIdeal.nD Cert.CqProjIdeal.τ).loc Cert.CqProjIdeal.main_arg1)
      ∧ r.2.mem ((c.tc : Thread Cert.CqProjIdeal.nD Cert.CqProjIdeal.τ).loc Cert.CqProjIdeal.main_arg2) = m ((c.tc : Thread Cert.CqProjIdeal.nD Cert.CqProjIdeal.τ).loc Cert.CqProjIdeal.main_arg2)
      ∧ r.2.mem ((c.tc : Thread Cert.CqProjIdeal.nD Cert.CqProjIdeal.τ).loc Cert.CqProjIdeal.main_arg3) = m ((c.tc : Thread Cert.CqProjIdeal.nD Cert.CqProjIdeal.τ).loc Cert.CqProjIdeal.main_arg3)
      ∧ r.2.mem ((c.tc : Thread Cert.CqProjIdeal.nD Cert.CqProjIdeal.τ).loc Cert.CqProjIdeal.main_arg4) = m ((c.tc : Thread Cert.CqProjIdeal.nD Cert.CqProjIdeal.τ).loc Cert.CqProjIdeal.main_arg4))
      ∧ r.2.sem = fun _ => 0)

def quiescent_CqProjIdeal_pre_pre_cqb [hCqProjIdeal : Cert.CqProjIdeal.Facts] [hPre_pre_cqb : Cert.Pre_pre_cqb.Facts] : Prop :=
  ∀ (m : (ℓ : Loc Cert.CqProjIdeal.nD Cert.CqProjIdeal.τ Cert.CqProjIdeal.sig) → Buf (Elt Ideal) ℓ) (g : Dev Cert.CqProjIdeal.nD → PrngReg), Pre_CqProjIdeal_pre_cqb m →
    θ_run (Cert.CqProjIdeal.defs (F := Ideal)) (onTc (τ := Cert.CqProjIdeal.τ) (Cert.CqProjIdeal.main (F := Ideal))) ⟨m, fun _ => 0, g⟩ (fun r => (∀ c : Dev Cert.CqProjIdeal.nD,
      r.2.mem ((c.tc : Thread Cert.CqProjIdeal.nD Cert.CqProjIdeal.τ).loc Cert.CqProjIdeal.main_arg0) = m ((c.tc : Thread Cert.CqProjIdeal.nD Cert.CqProjIdeal.τ).loc Cert.CqProjIdeal.main_arg0)
      ∧ r.2.mem ((c.tc : Thread Cert.CqProjIdeal.nD Cert.CqProjIdeal.τ).loc Cert.CqProjIdeal.main_arg1) = m ((c.tc : Thread Cert.CqProjIdeal.nD Cert.CqProjIdeal.τ).loc Cert.CqProjIdeal.main_arg1)
      ∧ r.2.mem ((c.tc : Thread Cert.CqProjIdeal.nD Cert.CqProjIdeal.τ).loc Cert.CqProjIdeal.main_arg2) = m ((c.tc : Thread Cert.CqProjIdeal.nD Cert.CqProjIdeal.τ).loc Cert.CqProjIdeal.main_arg2)
      ∧ r.2.mem ((c.tc : Thread Cert.CqProjIdeal.nD Cert.CqProjIdeal.τ).loc Cert.CqProjIdeal.main_arg3) = m ((c.tc : Thread Cert.CqProjIdeal.nD Cert.CqProjIdeal.τ).loc Cert.CqProjIdeal.main_arg3)
      ∧ r.2.mem ((c.tc : Thread Cert.CqProjIdeal.nD Cert.CqProjIdeal.τ).loc Cert.CqProjIdeal.main_arg4) = m ((c.tc : Thread Cert.CqProjIdeal.nD Cert.CqProjIdeal.τ).loc Cert.CqProjIdeal.main_arg4))
      ∧ r.2.sem = fun _ => 0)

def quiescent_CqProjRefIdeal [hCqProjRefIdeal : Cert.CqProjRefIdeal.Facts] : Prop :=
  ∀ (m : (ℓ : Loc Cert.CqProjRefIdeal.nD Cert.CqProjRefIdeal.τ Cert.CqProjRefIdeal.sig) → Buf (Elt Ideal) ℓ) (g : Dev Cert.CqProjRefIdeal.nD → PrngReg), Pre_CqProjRefIdeal m →
    θ_run (Cert.CqProjRefIdeal.defs (F := Ideal)) (onTc (τ := Cert.CqProjRefIdeal.τ) (Cert.CqProjRefIdeal.main (F := Ideal))) ⟨m, fun _ => 0, g⟩ (fun r => (∀ c : Dev Cert.CqProjRefIdeal.nD,
      r.2.mem ((c.tc : Thread Cert.CqProjRefIdeal.nD Cert.CqProjRefIdeal.τ).loc Cert.CqProjRefIdeal.main_arg0) = m ((c.tc : Thread Cert.CqProjRefIdeal.nD Cert.CqProjRefIdeal.τ).loc Cert.CqProjRefIdeal.main_arg0)
      ∧ r.2.mem ((c.tc : Thread Cert.CqProjRefIdeal.nD Cert.CqProjRefIdeal.τ).loc Cert.CqProjRefIdeal.main_arg1) = m ((c.tc : Thread Cert.CqProjRefIdeal.nD Cert.CqProjRefIdeal.τ).loc Cert.CqProjRefIdeal.main_arg1)
      ∧ r.2.mem ((c.tc : Thread Cert.CqProjRefIdeal.nD Cert.CqProjRefIdeal.τ).loc Cert.CqProjRefIdeal.main_arg2) = m ((c.tc : Thread Cert.CqProjRefIdeal.nD Cert.CqProjRefIdeal.τ).loc Cert.CqProjRefIdeal.main_arg2)
      ∧ r.2.mem ((c.tc : Thread Cert.CqProjRefIdeal.nD Cert.CqProjRefIdeal.τ).loc Cert.CqProjRefIdeal.main_arg3) = m ((c.tc : Thread Cert.CqProjRefIdeal.nD Cert.CqProjRefIdeal.τ).loc Cert.CqProjRefIdeal.main_arg3)
      ∧ r.2.mem ((c.tc : Thread Cert.CqProjRefIdeal.nD Cert.CqProjRefIdeal.τ).loc Cert.CqProjRefIdeal.main_arg4) = m ((c.tc : Thread Cert.CqProjRefIdeal.nD Cert.CqProjRefIdeal.τ).loc Cert.CqProjRefIdeal.main_arg4))
      ∧ r.2.sem = fun _ => 0)

def quiescent_CqProjRefIdeal_pre_pre_cqb [hCqProjRefIdeal : Cert.CqProjRefIdeal.Facts] [hPre_pre_cqb : Cert.Pre_pre_cqb.Facts] : Prop :=
  ∀ (m : (ℓ : Loc Cert.CqProjRefIdeal.nD Cert.CqProjRefIdeal.τ Cert.CqProjRefIdeal.sig) → Buf (Elt Ideal) ℓ) (g : Dev Cert.CqProjRefIdeal.nD → PrngReg), Pre_CqProjRefIdeal_pre_cqb m →
    θ_run (Cert.CqProjRefIdeal.defs (F := Ideal)) (onTc (τ := Cert.CqProjRefIdeal.τ) (Cert.CqProjRefIdeal.main (F := Ideal))) ⟨m, fun _ => 0, g⟩ (fun r => (∀ c : Dev Cert.CqProjRefIdeal.nD,
      r.2.mem ((c.tc : Thread Cert.CqProjRefIdeal.nD Cert.CqProjRefIdeal.τ).loc Cert.CqProjRefIdeal.main_arg0) = m ((c.tc : Thread Cert.CqProjRefIdeal.nD Cert.CqProjRefIdeal.τ).loc Cert.CqProjRefIdeal.main_arg0)
      ∧ r.2.mem ((c.tc : Thread Cert.CqProjRefIdeal.nD Cert.CqProjRefIdeal.τ).loc Cert.CqProjRefIdeal.main_arg1) = m ((c.tc : Thread Cert.CqProjRefIdeal.nD Cert.CqProjRefIdeal.τ).loc Cert.CqProjRefIdeal.main_arg1)
      ∧ r.2.mem ((c.tc : Thread Cert.CqProjRefIdeal.nD Cert.CqProjRefIdeal.τ).loc Cert.CqProjRefIdeal.main_arg2) = m ((c.tc : Thread Cert.CqProjRefIdeal.nD Cert.CqProjRefIdeal.τ).loc Cert.CqProjRefIdeal.main_arg2)
      ∧ r.2.mem ((c.tc : Thread Cert.CqProjRefIdeal.nD Cert.CqProjRefIdeal.τ).loc Cert.CqProjRefIdeal.main_arg3) = m ((c.tc : Thread Cert.CqProjRefIdeal.nD Cert.CqProjRefIdeal.τ).loc Cert.CqProjRefIdeal.main_arg3)
      ∧ r.2.mem ((c.tc : Thread Cert.CqProjRefIdeal.nD Cert.CqProjRefIdeal.τ).loc Cert.CqProjRefIdeal.main_arg4) = m ((c.tc : Thread Cert.CqProjRefIdeal.nD Cert.CqProjRefIdeal.τ).loc Cert.CqProjRefIdeal.main_arg4))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1)
      ∧ r.2.mem ((c.tc : Thread Cert.MlpUp.nD Cert.MlpUp.τ).loc Cert.MlpUp.main_arg2) = m ((c.tc : Thread Cert.MlpUp.nD Cert.MlpUp.τ).loc Cert.MlpUp.main_arg2)
      ∧ r.2.mem ((c.tc : Thread Cert.MlpUp.nD Cert.MlpUp.τ).loc Cert.MlpUp.main_arg3) = m ((c.tc : Thread Cert.MlpUp.nD Cert.MlpUp.τ).loc Cert.MlpUp.main_arg3)
      ∧ r.2.mem ((c.tc : Thread Cert.MlpUp.nD Cert.MlpUp.τ).loc Cert.MlpUp.main_arg4) = m ((c.tc : Thread Cert.MlpUp.nD Cert.MlpUp.τ).loc Cert.MlpUp.main_arg4))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2)
      ∧ r.2.mem ((c.tc : Thread Cert.MlpUpIdeal.nD Cert.MlpUpIdeal.τ).loc Cert.MlpUpIdeal.main_arg3) = m ((c.tc : Thread Cert.MlpUpIdeal.nD Cert.MlpUpIdeal.τ).loc Cert.MlpUpIdeal.main_arg3)
      ∧ r.2.mem ((c.tc : Thread Cert.MlpUpIdeal.nD Cert.MlpUpIdeal.τ).loc Cert.MlpUpIdeal.main_arg4) = m ((c.tc : Thread Cert.MlpUpIdeal.nD Cert.MlpUpIdeal.τ).loc Cert.MlpUpIdeal.main_arg4))
      ∧ r.2.sem = fun _ => 0)

def quiescent_MlpUpIdeal_pre_pre_mub [hMlpUpIdeal : Cert.MlpUpIdeal.Facts] [hPre_pre_mub : Cert.Pre_pre_mub.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal_pre_mub m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2)
      ∧ r.2.mem ((c.tc : Thread Cert.MlpUpIdeal.nD Cert.MlpUpIdeal.τ).loc Cert.MlpUpIdeal.main_arg3) = m ((c.tc : Thread Cert.MlpUpIdeal.nD Cert.MlpUpIdeal.τ).loc Cert.MlpUpIdeal.main_arg3)
      ∧ r.2.mem ((c.tc : Thread Cert.MlpUpIdeal.nD Cert.MlpUpIdeal.τ).loc Cert.MlpUpIdeal.main_arg4) = m ((c.tc : Thread Cert.MlpUpIdeal.nD Cert.MlpUpIdeal.τ).loc Cert.MlpUpIdeal.main_arg4))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1)
      ∧ r.2.mem ((c.tc : Thread Cert.MlpUpRefIdeal.nD Cert.MlpUpRefIdeal.τ).loc Cert.MlpUpRefIdeal.main_arg2) = m ((c.tc : Thread Cert.MlpUpRefIdeal.nD Cert.MlpUpRefIdeal.τ).loc Cert.MlpUpRefIdeal.main_arg2)
      ∧ r.2.mem ((c.tc : Thread Cert.MlpUpRefIdeal.nD Cert.MlpUpRefIdeal.τ).loc Cert.MlpUpRefIdeal.main_arg3) = m ((c.tc : Thread Cert.MlpUpRefIdeal.nD Cert.MlpUpRefIdeal.τ).loc Cert.MlpUpRefIdeal.main_arg3)
      ∧ r.2.mem ((c.tc : Thread Cert.MlpUpRefIdeal.nD Cert.MlpUpRefIdeal.τ).loc Cert.MlpUpRefIdeal.main_arg4) = m ((c.tc : Thread Cert.MlpUpRefIdeal.nD Cert.MlpUpRefIdeal.τ).loc Cert.MlpUpRefIdeal.main_arg4))
      ∧ r.2.sem = fun _ => 0)

def quiescent_MlpUpRefIdeal_pre_pre_mub [hMlpUpRefIdeal : Cert.MlpUpRefIdeal.Facts] [hPre_pre_mub : Cert.Pre_pre_mub.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal_pre_mub m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1)
      ∧ r.2.mem ((c.tc : Thread Cert.MlpUpRefIdeal.nD Cert.MlpUpRefIdeal.τ).loc Cert.MlpUpRefIdeal.main_arg2) = m ((c.tc : Thread Cert.MlpUpRefIdeal.nD Cert.MlpUpRefIdeal.τ).loc Cert.MlpUpRefIdeal.main_arg2)
      ∧ r.2.mem ((c.tc : Thread Cert.MlpUpRefIdeal.nD Cert.MlpUpRefIdeal.τ).loc Cert.MlpUpRefIdeal.main_arg3) = m ((c.tc : Thread Cert.MlpUpRefIdeal.nD Cert.MlpUpRefIdeal.τ).loc Cert.MlpUpRefIdeal.main_arg3)
      ∧ r.2.mem ((c.tc : Thread Cert.MlpUpRefIdeal.nD Cert.MlpUpRefIdeal.τ).loc Cert.MlpUpRefIdeal.main_arg4) = m ((c.tc : Thread Cert.MlpUpRefIdeal.nD Cert.MlpUpRefIdeal.τ).loc Cert.MlpUpRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_pre_ipb [hInProjIdeal : Cert.InProjIdeal.Facts] [hPre_pre_ipb : Cert.Pre_pre_ipb.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_pre_ipb m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_InProjRefIdeal_pre_pre_ipb [hInProjRefIdeal : Cert.InProjRefIdeal.Facts] [hPre_pre_ipb : Cert.Pre_pre_ipb.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_pre_ipb m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_CkvProj [hCkvProj : Cert.CkvProj.Facts] : Prop :=
  ∀ (m : (ℓ : Loc Cert.CkvProj.nD Cert.CkvProj.τ Cert.CkvProj.sig) → Buf (Elt Bits) ℓ) (g : Dev Cert.CkvProj.nD → PrngReg), Pre_CkvProj m →
    θ_run (Cert.CkvProj.defs (F := Bits)) (onTc (τ := Cert.CkvProj.τ) (Cert.CkvProj.main (F := Bits))) ⟨m, fun _ => 0, g⟩ (fun r => (∀ c : Dev Cert.CkvProj.nD,
      r.2.mem ((c.tc : Thread Cert.CkvProj.nD Cert.CkvProj.τ).loc Cert.CkvProj.main_arg0) = m ((c.tc : Thread Cert.CkvProj.nD Cert.CkvProj.τ).loc Cert.CkvProj.main_arg0)
      ∧ r.2.mem ((c.tc : Thread Cert.CkvProj.nD Cert.CkvProj.τ).loc Cert.CkvProj.main_arg1) = m ((c.tc : Thread Cert.CkvProj.nD Cert.CkvProj.τ).loc Cert.CkvProj.main_arg1)
      ∧ r.2.mem ((c.tc : Thread Cert.CkvProj.nD Cert.CkvProj.τ).loc Cert.CkvProj.main_arg2) = m ((c.tc : Thread Cert.CkvProj.nD Cert.CkvProj.τ).loc Cert.CkvProj.main_arg2)
      ∧ r.2.mem ((c.tc : Thread Cert.CkvProj.nD Cert.CkvProj.τ).loc Cert.CkvProj.main_arg3) = m ((c.tc : Thread Cert.CkvProj.nD Cert.CkvProj.τ).loc Cert.CkvProj.main_arg3))
      ∧ r.2.sem = fun _ => 0)

def quiescent_CkvProjIdeal [hCkvProjIdeal : Cert.CkvProjIdeal.Facts] : Prop :=
  ∀ (m : (ℓ : Loc Cert.CkvProjIdeal.nD Cert.CkvProjIdeal.τ Cert.CkvProjIdeal.sig) → Buf (Elt Ideal) ℓ) (g : Dev Cert.CkvProjIdeal.nD → PrngReg), Pre_CkvProjIdeal m →
    θ_run (Cert.CkvProjIdeal.defs (F := Ideal)) (onTc (τ := Cert.CkvProjIdeal.τ) (Cert.CkvProjIdeal.main (F := Ideal))) ⟨m, fun _ => 0, g⟩ (fun r => (∀ c : Dev Cert.CkvProjIdeal.nD,
      r.2.mem ((c.tc : Thread Cert.CkvProjIdeal.nD Cert.CkvProjIdeal.τ).loc Cert.CkvProjIdeal.main_arg0) = m ((c.tc : Thread Cert.CkvProjIdeal.nD Cert.CkvProjIdeal.τ).loc Cert.CkvProjIdeal.main_arg0)
      ∧ r.2.mem ((c.tc : Thread Cert.CkvProjIdeal.nD Cert.CkvProjIdeal.τ).loc Cert.CkvProjIdeal.main_arg1) = m ((c.tc : Thread Cert.CkvProjIdeal.nD Cert.CkvProjIdeal.τ).loc Cert.CkvProjIdeal.main_arg1)
      ∧ r.2.mem ((c.tc : Thread Cert.CkvProjIdeal.nD Cert.CkvProjIdeal.τ).loc Cert.CkvProjIdeal.main_arg2) = m ((c.tc : Thread Cert.CkvProjIdeal.nD Cert.CkvProjIdeal.τ).loc Cert.CkvProjIdeal.main_arg2)
      ∧ r.2.mem ((c.tc : Thread Cert.CkvProjIdeal.nD Cert.CkvProjIdeal.τ).loc Cert.CkvProjIdeal.main_arg3) = m ((c.tc : Thread Cert.CkvProjIdeal.nD Cert.CkvProjIdeal.τ).loc Cert.CkvProjIdeal.main_arg3))
      ∧ r.2.sem = fun _ => 0)

def quiescent_CkvProjRefIdeal [hCkvProjRefIdeal : Cert.CkvProjRefIdeal.Facts] : Prop :=
  ∀ (m : (ℓ : Loc Cert.CkvProjRefIdeal.nD Cert.CkvProjRefIdeal.τ Cert.CkvProjRefIdeal.sig) → Buf (Elt Ideal) ℓ) (g : Dev Cert.CkvProjRefIdeal.nD → PrngReg), Pre_CkvProjRefIdeal m →
    θ_run (Cert.CkvProjRefIdeal.defs (F := Ideal)) (onTc (τ := Cert.CkvProjRefIdeal.τ) (Cert.CkvProjRefIdeal.main (F := Ideal))) ⟨m, fun _ => 0, g⟩ (fun r => (∀ c : Dev Cert.CkvProjRefIdeal.nD,
      r.2.mem ((c.tc : Thread Cert.CkvProjRefIdeal.nD Cert.CkvProjRefIdeal.τ).loc Cert.CkvProjRefIdeal.main_arg0) = m ((c.tc : Thread Cert.CkvProjRefIdeal.nD Cert.CkvProjRefIdeal.τ).loc Cert.CkvProjRefIdeal.main_arg0)
      ∧ r.2.mem ((c.tc : Thread Cert.CkvProjRefIdeal.nD Cert.CkvProjRefIdeal.τ).loc Cert.CkvProjRefIdeal.main_arg1) = m ((c.tc : Thread Cert.CkvProjRefIdeal.nD Cert.CkvProjRefIdeal.τ).loc Cert.CkvProjRefIdeal.main_arg1)
      ∧ r.2.mem ((c.tc : Thread Cert.CkvProjRefIdeal.nD Cert.CkvProjRefIdeal.τ).loc Cert.CkvProjRefIdeal.main_arg2) = m ((c.tc : Thread Cert.CkvProjRefIdeal.nD Cert.CkvProjRefIdeal.τ).loc Cert.CkvProjRefIdeal.main_arg2)
      ∧ r.2.mem ((c.tc : Thread Cert.CkvProjRefIdeal.nD Cert.CkvProjRefIdeal.τ).loc Cert.CkvProjRefIdeal.main_arg3) = m ((c.tc : Thread Cert.CkvProjRefIdeal.nD Cert.CkvProjRefIdeal.τ).loc Cert.CkvProjRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_pre_mdl [hLossIdeal : Cert.LossIdeal.Facts] [hPre_pre_mdl : Cert.Pre_pre_mdl.Facts] : Prop :=
  ∀ (m : (ℓ : Loc Cert.LossIdeal.nD Cert.LossIdeal.τ Cert.LossIdeal.sig) → Buf (Elt Ideal) ℓ) (g : Dev Cert.LossIdeal.nD → PrngReg), Pre_LossIdeal_pre_mdl m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_pre_mdl [hLossRefIdeal : Cert.LossRefIdeal.Facts] [hPre_pre_mdl : Cert.Pre_pre_mdl.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_pre_mdl m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_ConvNorm [hConvNorm : Cert.ConvNorm.Facts] : Prop :=
  ∀ (m : (ℓ : Loc Cert.ConvNorm.nD Cert.ConvNorm.τ Cert.ConvNorm.sig) → Buf (Elt Bits) ℓ) (g : Dev Cert.ConvNorm.nD → PrngReg), Pre_ConvNorm m →
    θ_run (Cert.ConvNorm.defs (F := Bits)) (onTc (τ := Cert.ConvNorm.τ) (Cert.ConvNorm.main (F := Bits))) ⟨m, fun _ => 0, g⟩ (fun r => (∀ c : Dev Cert.ConvNorm.nD,
      r.2.mem ((c.tc : Thread Cert.ConvNorm.nD Cert.ConvNorm.τ).loc Cert.ConvNorm.main_arg0) = m ((c.tc : Thread Cert.ConvNorm.nD Cert.ConvNorm.τ).loc Cert.ConvNorm.main_arg0)
      ∧ r.2.mem ((c.tc : Thread Cert.ConvNorm.nD Cert.ConvNorm.τ).loc Cert.ConvNorm.main_arg1) = m ((c.tc : Thread Cert.ConvNorm.nD Cert.ConvNorm.τ).loc Cert.ConvNorm.main_arg1)
      ∧ r.2.mem ((c.tc : Thread Cert.ConvNorm.nD Cert.ConvNorm.τ).loc Cert.ConvNorm.main_arg2) = m ((c.tc : Thread Cert.ConvNorm.nD Cert.ConvNorm.τ).loc Cert.ConvNorm.main_arg2)
      ∧ r.2.mem ((c.tc : Thread Cert.ConvNorm.nD Cert.ConvNorm.τ).loc Cert.ConvNorm.main_arg3) = m ((c.tc : Thread Cert.ConvNorm.nD Cert.ConvNorm.τ).loc Cert.ConvNorm.main_arg3)
      ∧ r.2.mem ((c.tc : Thread Cert.ConvNorm.nD Cert.ConvNorm.τ).loc Cert.ConvNorm.main_arg4) = m ((c.tc : Thread Cert.ConvNorm.nD Cert.ConvNorm.τ).loc Cert.ConvNorm.main_arg4)
      ∧ r.2.mem ((c.tc : Thread Cert.ConvNorm.nD Cert.ConvNorm.τ).loc Cert.ConvNorm.main_arg5) = m ((c.tc : Thread Cert.ConvNorm.nD Cert.ConvNorm.τ).loc Cert.ConvNorm.main_arg5))
      ∧ r.2.sem = fun _ => 0)

def quiescent_ConvNormIdeal [hConvNormIdeal : Cert.ConvNormIdeal.Facts] : Prop :=
  ∀ (m : (ℓ : Loc Cert.ConvNormIdeal.nD Cert.ConvNormIdeal.τ Cert.ConvNormIdeal.sig) → Buf (Elt Ideal) ℓ) (g : Dev Cert.ConvNormIdeal.nD → PrngReg), Pre_ConvNormIdeal m →
    θ_run (Cert.ConvNormIdeal.defs (F := Ideal)) (onTc (τ := Cert.ConvNormIdeal.τ) (Cert.ConvNormIdeal.main (F := Ideal))) ⟨m, fun _ => 0, g⟩ (fun r => (∀ c : Dev Cert.ConvNormIdeal.nD,
      r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
      ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
      ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2)
      ∧ r.2.mem ((c.tc : Thread Cert.ConvNormIdeal.nD Cert.ConvNormIdeal.τ).loc Cert.ConvNormIdeal.main_arg3) = m ((c.tc : Thread Cert.ConvNormIdeal.nD Cert.ConvNormIdeal.τ).loc Cert.ConvNormIdeal.main_arg3)
      ∧ r.2.mem ((c.tc : Thread Cert.ConvNormIdeal.nD Cert.ConvNormIdeal.τ).loc Cert.ConvNormIdeal.main_arg4) = m ((c.tc : Thread Cert.ConvNormIdeal.nD Cert.ConvNormIdeal.τ).loc Cert.ConvNormIdeal.main_arg4)
      ∧ r.2.mem ((c.tc : Thread Cert.ConvNormIdeal.nD Cert.ConvNormIdeal.τ).loc Cert.ConvNormIdeal.main_arg5) = m ((c.tc : Thread Cert.ConvNormIdeal.nD Cert.ConvNormIdeal.τ).loc Cert.ConvNormIdeal.main_arg5))
      ∧ r.2.sem = fun _ => 0)

def quiescent_ConvNormIdeal_pre_pre_cpb [hConvNormIdeal : Cert.ConvNormIdeal.Facts] [hPre_pre_cpb : Cert.Pre_pre_cpb.Facts] : Prop :=
  ∀ (m : (ℓ : Loc Cert.ConvNormIdeal.nD Cert.ConvNormIdeal.τ Cert.ConvNormIdeal.sig) → Buf (Elt Ideal) ℓ) (g : Dev Cert.ConvNormIdeal.nD → PrngReg), Pre_ConvNormIdeal_pre_cpb m →
    θ_run (Cert.ConvNormIdeal.defs (F := Ideal)) (onTc (τ := Cert.ConvNormIdeal.τ) (Cert.ConvNormIdeal.main (F := Ideal))) ⟨m, fun _ => 0, g⟩ (fun r => (∀ c : Dev Cert.ConvNormIdeal.nD,
      r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
      ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
      ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2)
      ∧ r.2.mem ((c.tc : Thread Cert.ConvNormIdeal.nD Cert.ConvNormIdeal.τ).loc Cert.ConvNormIdeal.main_arg3) = m ((c.tc : Thread Cert.ConvNormIdeal.nD Cert.ConvNormIdeal.τ).loc Cert.ConvNormIdeal.main_arg3)
      ∧ r.2.mem ((c.tc : Thread Cert.ConvNormIdeal.nD Cert.ConvNormIdeal.τ).loc Cert.ConvNormIdeal.main_arg4) = m ((c.tc : Thread Cert.ConvNormIdeal.nD Cert.ConvNormIdeal.τ).loc Cert.ConvNormIdeal.main_arg4)
      ∧ r.2.mem ((c.tc : Thread Cert.ConvNormIdeal.nD Cert.ConvNormIdeal.τ).loc Cert.ConvNormIdeal.main_arg5) = m ((c.tc : Thread Cert.ConvNormIdeal.nD Cert.ConvNormIdeal.τ).loc Cert.ConvNormIdeal.main_arg5))
      ∧ r.2.sem = fun _ => 0)

def quiescent_ConvNormRefIdeal [hConvNormRefIdeal : Cert.ConvNormRefIdeal.Facts] : Prop :=
  ∀ (m : (ℓ : Loc Cert.ConvNormRefIdeal.nD Cert.ConvNormRefIdeal.τ Cert.ConvNormRefIdeal.sig) → Buf (Elt Ideal) ℓ) (g : Dev Cert.ConvNormRefIdeal.nD → PrngReg), Pre_ConvNormRefIdeal m →
    θ_run (Cert.ConvNormRefIdeal.defs (F := Ideal)) (onTc (τ := Cert.ConvNormRefIdeal.τ) (Cert.ConvNormRefIdeal.main (F := Ideal))) ⟨m, fun _ => 0, g⟩ (fun r => (∀ c : Dev Cert.ConvNormRefIdeal.nD,
      r.2.mem ((c.tc : Thread Cert.ConvNormRefIdeal.nD Cert.ConvNormRefIdeal.τ).loc Cert.ConvNormRefIdeal.main_arg0) = m ((c.tc : Thread Cert.ConvNormRefIdeal.nD Cert.ConvNormRefIdeal.τ).loc Cert.ConvNormRefIdeal.main_arg0)
      ∧ r.2.mem ((c.tc : Thread Cert.ConvNormRefIdeal.nD Cert.ConvNormRefIdeal.τ).loc Cert.ConvNormRefIdeal.main_arg1) = m ((c.tc : Thread Cert.ConvNormRefIdeal.nD Cert.ConvNormRefIdeal.τ).loc Cert.ConvNormRefIdeal.main_arg1)
      ∧ r.2.mem ((c.tc : Thread Cert.ConvNormRefIdeal.nD Cert.ConvNormRefIdeal.τ).loc Cert.ConvNormRefIdeal.main_arg2) = m ((c.tc : Thread Cert.ConvNormRefIdeal.nD Cert.ConvNormRefIdeal.τ).loc Cert.ConvNormRefIdeal.main_arg2)
      ∧ r.2.mem ((c.tc : Thread Cert.ConvNormRefIdeal.nD Cert.ConvNormRefIdeal.τ).loc Cert.ConvNormRefIdeal.main_arg3) = m ((c.tc : Thread Cert.ConvNormRefIdeal.nD Cert.ConvNormRefIdeal.τ).loc Cert.ConvNormRefIdeal.main_arg3)
      ∧ r.2.mem ((c.tc : Thread Cert.ConvNormRefIdeal.nD Cert.ConvNormRefIdeal.τ).loc Cert.ConvNormRefIdeal.main_arg4) = m ((c.tc : Thread Cert.ConvNormRefIdeal.nD Cert.ConvNormRefIdeal.τ).loc Cert.ConvNormRefIdeal.main_arg4)
      ∧ r.2.mem ((c.tc : Thread Cert.ConvNormRefIdeal.nD Cert.ConvNormRefIdeal.τ).loc Cert.ConvNormRefIdeal.main_arg5) = m ((c.tc : Thread Cert.ConvNormRefIdeal.nD Cert.ConvNormRefIdeal.τ).loc Cert.ConvNormRefIdeal.main_arg5))
      ∧ r.2.sem = fun _ => 0)

def quiescent_ConvNormRefIdeal_pre_pre_cpb [hConvNormRefIdeal : Cert.ConvNormRefIdeal.Facts] [hPre_pre_cpb : Cert.Pre_pre_cpb.Facts] : Prop :=
  ∀ (m : (ℓ : Loc Cert.ConvNormRefIdeal.nD Cert.ConvNormRefIdeal.τ Cert.ConvNormRefIdeal.sig) → Buf (Elt Ideal) ℓ) (g : Dev Cert.ConvNormRefIdeal.nD → PrngReg), Pre_ConvNormRefIdeal_pre_cpb m →
    θ_run (Cert.ConvNormRefIdeal.defs (F := Ideal)) (onTc (τ := Cert.ConvNormRefIdeal.τ) (Cert.ConvNormRefIdeal.main (F := Ideal))) ⟨m, fun _ => 0, g⟩ (fun r => (∀ c : Dev Cert.ConvNormRefIdeal.nD,
      r.2.mem ((c.tc : Thread Cert.ConvNormRefIdeal.nD Cert.ConvNormRefIdeal.τ).loc Cert.ConvNormRefIdeal.main_arg0) = m ((c.tc : Thread Cert.ConvNormRefIdeal.nD Cert.ConvNormRefIdeal.τ).loc Cert.ConvNormRefIdeal.main_arg0)
      ∧ r.2.mem ((c.tc : Thread Cert.ConvNormRefIdeal.nD Cert.ConvNormRefIdeal.τ).loc Cert.ConvNormRefIdeal.main_arg1) = m ((c.tc : Thread Cert.ConvNormRefIdeal.nD Cert.ConvNormRefIdeal.τ).loc Cert.ConvNormRefIdeal.main_arg1)
      ∧ r.2.mem ((c.tc : Thread Cert.ConvNormRefIdeal.nD Cert.ConvNormRefIdeal.τ).loc Cert.ConvNormRefIdeal.main_arg2) = m ((c.tc : Thread Cert.ConvNormRefIdeal.nD Cert.ConvNormRefIdeal.τ).loc Cert.ConvNormRefIdeal.main_arg2)
      ∧ r.2.mem ((c.tc : Thread Cert.ConvNormRefIdeal.nD Cert.ConvNormRefIdeal.τ).loc Cert.ConvNormRefIdeal.main_arg3) = m ((c.tc : Thread Cert.ConvNormRefIdeal.nD Cert.ConvNormRefIdeal.τ).loc Cert.ConvNormRefIdeal.main_arg3)
      ∧ r.2.mem ((c.tc : Thread Cert.ConvNormRefIdeal.nD Cert.ConvNormRefIdeal.τ).loc Cert.ConvNormRefIdeal.main_arg4) = m ((c.tc : Thread Cert.ConvNormRefIdeal.nD Cert.ConvNormRefIdeal.τ).loc Cert.ConvNormRefIdeal.main_arg4)
      ∧ r.2.mem ((c.tc : Thread Cert.ConvNormRefIdeal.nD Cert.ConvNormRefIdeal.τ).loc Cert.ConvNormRefIdeal.main_arg5) = m ((c.tc : Thread Cert.ConvNormRefIdeal.nD Cert.ConvNormRefIdeal.τ).loc Cert.ConvNormRefIdeal.main_arg5))
      ∧ r.2.sem = fun _ => 0)

def quiescent_CrossFwd [hCrossFwd : Cert.CrossFwd.Facts] : Prop :=
  ∀ (m : (ℓ : Loc Cert.CrossFwd.nD Cert.CrossFwd.τ Cert.CrossFwd.sig) → Buf (Elt Bits) ℓ) (g : Dev Cert.CrossFwd.nD → PrngReg), Pre_CrossFwd m →
    θ_run (Cert.CrossFwd.defs (F := Bits)) (onTc (τ := Cert.CrossFwd.τ) (Cert.CrossFwd.main (F := Bits))) ⟨m, fun _ => 0, g⟩ (fun r => (∀ c : Dev Cert.CrossFwd.nD,
      r.2.mem ((c.tc : Thread Cert.CrossFwd.nD Cert.CrossFwd.τ).loc Cert.CrossFwd.main_arg0) = m ((c.tc : Thread Cert.CrossFwd.nD Cert.CrossFwd.τ).loc Cert.CrossFwd.main_arg0)
      ∧ r.2.mem ((c.tc : Thread Cert.CrossFwd.nD Cert.CrossFwd.τ).loc Cert.CrossFwd.main_arg1) = m ((c.tc : Thread Cert.CrossFwd.nD Cert.CrossFwd.τ).loc Cert.CrossFwd.main_arg1)
      ∧ r.2.mem ((c.tc : Thread Cert.CrossFwd.nD Cert.CrossFwd.τ).loc Cert.CrossFwd.main_arg2) = m ((c.tc : Thread Cert.CrossFwd.nD Cert.CrossFwd.τ).loc Cert.CrossFwd.main_arg2)
      ∧ r.2.mem ((c.tc : Thread Cert.CrossFwd.nD Cert.CrossFwd.τ).loc Cert.CrossFwd.main_arg3) = m ((c.tc : Thread Cert.CrossFwd.nD Cert.CrossFwd.τ).loc Cert.CrossFwd.main_arg3))
      ∧ r.2.sem = fun _ => 0)

def quiescent_CrossFwdIdeal [hCrossFwdIdeal : Cert.CrossFwdIdeal.Facts] : Prop :=
  ∀ (m : (ℓ : Loc Cert.CrossFwdIdeal.nD Cert.CrossFwdIdeal.τ Cert.CrossFwdIdeal.sig) → Buf (Elt Ideal) ℓ) (g : Dev Cert.CrossFwdIdeal.nD → PrngReg), Pre_CrossFwdIdeal m →
    θ_run (Cert.CrossFwdIdeal.defs (F := Ideal)) (onTc (τ := Cert.CrossFwdIdeal.τ) (Cert.CrossFwdIdeal.main (F := Ideal))) ⟨m, fun _ => 0, g⟩ (fun r => (∀ c : Dev Cert.CrossFwdIdeal.nD,
      r.2.mem ((c.tc : Thread Cert.CrossFwdIdeal.nD Cert.CrossFwdIdeal.τ).loc Cert.CrossFwdIdeal.main_arg0) = m ((c.tc : Thread Cert.CrossFwdIdeal.nD Cert.CrossFwdIdeal.τ).loc Cert.CrossFwdIdeal.main_arg0)
      ∧ r.2.mem ((c.tc : Thread Cert.CrossFwdIdeal.nD Cert.CrossFwdIdeal.τ).loc Cert.CrossFwdIdeal.main_arg1) = m ((c.tc : Thread Cert.CrossFwdIdeal.nD Cert.CrossFwdIdeal.τ).loc Cert.CrossFwdIdeal.main_arg1)
      ∧ r.2.mem ((c.tc : Thread Cert.CrossFwdIdeal.nD Cert.CrossFwdIdeal.τ).loc Cert.CrossFwdIdeal.main_arg2) = m ((c.tc : Thread Cert.CrossFwdIdeal.nD Cert.CrossFwdIdeal.τ).loc Cert.CrossFwdIdeal.main_arg2)
      ∧ r.2.mem ((c.tc : Thread Cert.CrossFwdIdeal.nD Cert.CrossFwdIdeal.τ).loc Cert.CrossFwdIdeal.main_arg3) = m ((c.tc : Thread Cert.CrossFwdIdeal.nD Cert.CrossFwdIdeal.τ).loc Cert.CrossFwdIdeal.main_arg3))
      ∧ r.2.sem = fun _ => 0)

def quiescent_CrossFwdIdeal_pre_pre_cqf [hCrossFwdIdeal : Cert.CrossFwdIdeal.Facts] [hPre_pre_cqf : Cert.Pre_pre_cqf.Facts] : Prop :=
  ∀ (m : (ℓ : Loc Cert.CrossFwdIdeal.nD Cert.CrossFwdIdeal.τ Cert.CrossFwdIdeal.sig) → Buf (Elt Ideal) ℓ) (g : Dev Cert.CrossFwdIdeal.nD → PrngReg), Pre_CrossFwdIdeal_pre_cqf m →
    θ_run (Cert.CrossFwdIdeal.defs (F := Ideal)) (onTc (τ := Cert.CrossFwdIdeal.τ) (Cert.CrossFwdIdeal.main (F := Ideal))) ⟨m, fun _ => 0, g⟩ (fun r => (∀ c : Dev Cert.CrossFwdIdeal.nD,
      r.2.mem ((c.tc : Thread Cert.CrossFwdIdeal.nD Cert.CrossFwdIdeal.τ).loc Cert.CrossFwdIdeal.main_arg0) = m ((c.tc : Thread Cert.CrossFwdIdeal.nD Cert.CrossFwdIdeal.τ).loc Cert.CrossFwdIdeal.main_arg0)
      ∧ r.2.mem ((c.tc : Thread Cert.CrossFwdIdeal.nD Cert.CrossFwdIdeal.τ).loc Cert.CrossFwdIdeal.main_arg1) = m ((c.tc : Thread Cert.CrossFwdIdeal.nD Cert.CrossFwdIdeal.τ).loc Cert.CrossFwdIdeal.main_arg1)
      ∧ r.2.mem ((c.tc : Thread Cert.CrossFwdIdeal.nD Cert.CrossFwdIdeal.τ).loc Cert.CrossFwdIdeal.main_arg2) = m ((c.tc : Thread Cert.CrossFwdIdeal.nD Cert.CrossFwdIdeal.τ).loc Cert.CrossFwdIdeal.main_arg2)
      ∧ r.2.mem ((c.tc : Thread Cert.CrossFwdIdeal.nD Cert.CrossFwdIdeal.τ).loc Cert.CrossFwdIdeal.main_arg3) = m ((c.tc : Thread Cert.CrossFwdIdeal.nD Cert.CrossFwdIdeal.τ).loc Cert.CrossFwdIdeal.main_arg3))
      ∧ r.2.sem = fun _ => 0)

def quiescent_CrossFwdRefIdeal [hCrossFwdRefIdeal : Cert.CrossFwdRefIdeal.Facts] : Prop :=
  ∀ (m : (ℓ : Loc Cert.CrossFwdRefIdeal.nD Cert.CrossFwdRefIdeal.τ Cert.CrossFwdRefIdeal.sig) → Buf (Elt Ideal) ℓ) (g : Dev Cert.CrossFwdRefIdeal.nD → PrngReg), Pre_CrossFwdRefIdeal m →
    θ_run (Cert.CrossFwdRefIdeal.defs (F := Ideal)) (onTc (τ := Cert.CrossFwdRefIdeal.τ) (Cert.CrossFwdRefIdeal.main (F := Ideal))) ⟨m, fun _ => 0, g⟩ (fun r => (∀ c : Dev Cert.CrossFwdRefIdeal.nD,
      r.2.mem ((c.tc : Thread Cert.CrossFwdRefIdeal.nD Cert.CrossFwdRefIdeal.τ).loc Cert.CrossFwdRefIdeal.main_arg0) = m ((c.tc : Thread Cert.CrossFwdRefIdeal.nD Cert.CrossFwdRefIdeal.τ).loc Cert.CrossFwdRefIdeal.main_arg0)
      ∧ r.2.mem ((c.tc : Thread Cert.CrossFwdRefIdeal.nD Cert.CrossFwdRefIdeal.τ).loc Cert.CrossFwdRefIdeal.main_arg1) = m ((c.tc : Thread Cert.CrossFwdRefIdeal.nD Cert.CrossFwdRefIdeal.τ).loc Cert.CrossFwdRefIdeal.main_arg1)
      ∧ r.2.mem ((c.tc : Thread Cert.CrossFwdRefIdeal.nD Cert.CrossFwdRefIdeal.τ).loc Cert.CrossFwdRefIdeal.main_arg2) = m ((c.tc : Thread Cert.CrossFwdRefIdeal.nD Cert.CrossFwdRefIdeal.τ).loc Cert.CrossFwdRefIdeal.main_arg2)
      ∧ r.2.mem ((c.tc : Thread Cert.CrossFwdRefIdeal.nD Cert.CrossFwdRefIdeal.τ).loc Cert.CrossFwdRefIdeal.main_arg3) = m ((c.tc : Thread Cert.CrossFwdRefIdeal.nD Cert.CrossFwdRefIdeal.τ).loc Cert.CrossFwdRefIdeal.main_arg3))
      ∧ r.2.sem = fun _ => 0)

def quiescent_CrossFwdRefIdeal_pre_pre_cqf [hCrossFwdRefIdeal : Cert.CrossFwdRefIdeal.Facts] [hPre_pre_cqf : Cert.Pre_pre_cqf.Facts] : Prop :=
  ∀ (m : (ℓ : Loc Cert.CrossFwdRefIdeal.nD Cert.CrossFwdRefIdeal.τ Cert.CrossFwdRefIdeal.sig) → Buf (Elt Ideal) ℓ) (g : Dev Cert.CrossFwdRefIdeal.nD → PrngReg), Pre_CrossFwdRefIdeal_pre_cqf m →
    θ_run (Cert.CrossFwdRefIdeal.defs (F := Ideal)) (onTc (τ := Cert.CrossFwdRefIdeal.τ) (Cert.CrossFwdRefIdeal.main (F := Ideal))) ⟨m, fun _ => 0, g⟩ (fun r => (∀ c : Dev Cert.CrossFwdRefIdeal.nD,
      r.2.mem ((c.tc : Thread Cert.CrossFwdRefIdeal.nD Cert.CrossFwdRefIdeal.τ).loc Cert.CrossFwdRefIdeal.main_arg0) = m ((c.tc : Thread Cert.CrossFwdRefIdeal.nD Cert.CrossFwdRefIdeal.τ).loc Cert.CrossFwdRefIdeal.main_arg0)
      ∧ r.2.mem ((c.tc : Thread Cert.CrossFwdRefIdeal.nD Cert.CrossFwdRefIdeal.τ).loc Cert.CrossFwdRefIdeal.main_arg1) = m ((c.tc : Thread Cert.CrossFwdRefIdeal.nD Cert.CrossFwdRefIdeal.τ).loc Cert.CrossFwdRefIdeal.main_arg1)
      ∧ r.2.mem ((c.tc : Thread Cert.CrossFwdRefIdeal.nD Cert.CrossFwdRefIdeal.τ).loc Cert.CrossFwdRefIdeal.main_arg2) = m ((c.tc : Thread Cert.CrossFwdRefIdeal.nD Cert.CrossFwdRefIdeal.τ).loc Cert.CrossFwdRefIdeal.main_arg2)
      ∧ r.2.mem ((c.tc : Thread Cert.CrossFwdRefIdeal.nD Cert.CrossFwdRefIdeal.τ).loc Cert.CrossFwdRefIdeal.main_arg3) = m ((c.tc : Thread Cert.CrossFwdRefIdeal.nD Cert.CrossFwdRefIdeal.τ).loc Cert.CrossFwdRefIdeal.main_arg3))
      ∧ r.2.sem = fun _ => 0)

def quiescent_AttnFwdA [hAttnFwdA : Cert.AttnFwdA.Facts] : Prop :=
  ∀ (m : (ℓ : Loc Cert.AttnFwdA.nD Cert.AttnFwdA.τ Cert.AttnFwdA.sig) → Buf (Elt Bits) ℓ) (g : Dev Cert.AttnFwdA.nD → PrngReg), Pre_AttnFwdA m →
    θ_run (Cert.AttnFwdA.defs (F := Bits)) (onTc (τ := Cert.AttnFwdA.τ) (Cert.AttnFwdA.main (F := Bits))) ⟨m, fun _ => 0, g⟩ (fun r => (∀ c : Dev Cert.AttnFwdA.nD,
      r.2.mem ((c.tc : Thread Cert.AttnFwdA.nD Cert.AttnFwdA.τ).loc Cert.AttnFwdA.main_arg0) = m ((c.tc : Thread Cert.AttnFwdA.nD Cert.AttnFwdA.τ).loc Cert.AttnFwdA.main_arg0)
      ∧ r.2.mem ((c.tc : Thread Cert.AttnFwdA.nD Cert.AttnFwdA.τ).loc Cert.AttnFwdA.main_arg1) = m ((c.tc : Thread Cert.AttnFwdA.nD Cert.AttnFwdA.τ).loc Cert.AttnFwdA.main_arg1)
      ∧ r.2.mem ((c.tc : Thread Cert.AttnFwdA.nD Cert.AttnFwdA.τ).loc Cert.AttnFwdA.main_arg2) = m ((c.tc : Thread Cert.AttnFwdA.nD Cert.AttnFwdA.τ).loc Cert.AttnFwdA.main_arg2))
      ∧ r.2.sem = fun _ => 0)

def quiescent_AttnFwdAIdeal [hAttnFwdAIdeal : Cert.AttnFwdAIdeal.Facts] : Prop :=
  ∀ (m : (ℓ : Loc Cert.AttnFwdAIdeal.nD Cert.AttnFwdAIdeal.τ Cert.AttnFwdAIdeal.sig) → Buf (Elt Ideal) ℓ) (g : Dev Cert.AttnFwdAIdeal.nD → PrngReg), Pre_AttnFwdAIdeal m →
    θ_run (Cert.AttnFwdAIdeal.defs (F := Ideal)) (onTc (τ := Cert.AttnFwdAIdeal.τ) (Cert.AttnFwdAIdeal.main (F := Ideal))) ⟨m, fun _ => 0, g⟩ (fun r => (∀ c : Dev Cert.AttnFwdAIdeal.nD,
      r.2.mem ((c.tc : Thread Cert.AttnFwdAIdeal.nD Cert.AttnFwdAIdeal.τ).loc Cert.AttnFwdAIdeal.main_arg0) = m ((c.tc : Thread Cert.AttnFwdAIdeal.nD Cert.AttnFwdAIdeal.τ).loc Cert.AttnFwdAIdeal.main_arg0)
      ∧ r.2.mem ((c.tc : Thread Cert.AttnFwdAIdeal.nD Cert.AttnFwdAIdeal.τ).loc Cert.AttnFwdAIdeal.main_arg1) = m ((c.tc : Thread Cert.AttnFwdAIdeal.nD Cert.AttnFwdAIdeal.τ).loc Cert.AttnFwdAIdeal.main_arg1)
      ∧ r.2.mem ((c.tc : Thread Cert.AttnFwdAIdeal.nD Cert.AttnFwdAIdeal.τ).loc Cert.AttnFwdAIdeal.main_arg2) = m ((c.tc : Thread Cert.AttnFwdAIdeal.nD Cert.AttnFwdAIdeal.τ).loc Cert.AttnFwdAIdeal.main_arg2))
      ∧ r.2.sem = fun _ => 0)

def quiescent_AttnFwdAIdeal_pre_pre_af0 [hAttnFwdAIdeal : Cert.AttnFwdAIdeal.Facts] [hPre_pre_af0 : Cert.Pre_pre_af0.Facts] : Prop :=
  ∀ (m : (ℓ : Loc Cert.AttnFwdAIdeal.nD Cert.AttnFwdAIdeal.τ Cert.AttnFwdAIdeal.sig) → Buf (Elt Ideal) ℓ) (g : Dev Cert.AttnFwdAIdeal.nD → PrngReg), Pre_AttnFwdAIdeal_pre_af0 m →
    θ_run (Cert.AttnFwdAIdeal.defs (F := Ideal)) (onTc (τ := Cert.AttnFwdAIdeal.τ) (Cert.AttnFwdAIdeal.main (F := Ideal))) ⟨m, fun _ => 0, g⟩ (fun r => (∀ c : Dev Cert.AttnFwdAIdeal.nD,
      r.2.mem ((c.tc : Thread Cert.AttnFwdAIdeal.nD Cert.AttnFwdAIdeal.τ).loc Cert.AttnFwdAIdeal.main_arg0) = m ((c.tc : Thread Cert.AttnFwdAIdeal.nD Cert.AttnFwdAIdeal.τ).loc Cert.AttnFwdAIdeal.main_arg0)
      ∧ r.2.mem ((c.tc : Thread Cert.AttnFwdAIdeal.nD Cert.AttnFwdAIdeal.τ).loc Cert.AttnFwdAIdeal.main_arg1) = m ((c.tc : Thread Cert.AttnFwdAIdeal.nD Cert.AttnFwdAIdeal.τ).loc Cert.AttnFwdAIdeal.main_arg1)
      ∧ r.2.mem ((c.tc : Thread Cert.AttnFwdAIdeal.nD Cert.AttnFwdAIdeal.τ).loc Cert.AttnFwdAIdeal.main_arg2) = m ((c.tc : Thread Cert.AttnFwdAIdeal.nD Cert.AttnFwdAIdeal.τ).loc Cert.AttnFwdAIdeal.main_arg2))
      ∧ r.2.sem = fun _ => 0)

def quiescent_AttnFwdARefIdeal [hAttnFwdARefIdeal : Cert.AttnFwdARefIdeal.Facts] : Prop :=
  ∀ (m : (ℓ : Loc Cert.AttnFwdARefIdeal.nD Cert.AttnFwdARefIdeal.τ Cert.AttnFwdARefIdeal.sig) → Buf (Elt Ideal) ℓ) (g : Dev Cert.AttnFwdARefIdeal.nD → PrngReg), Pre_AttnFwdARefIdeal m →
    θ_run (Cert.AttnFwdARefIdeal.defs (F := Ideal)) (onTc (τ := Cert.AttnFwdARefIdeal.τ) (Cert.AttnFwdARefIdeal.main (F := Ideal))) ⟨m, fun _ => 0, g⟩ (fun r => (∀ c : Dev Cert.AttnFwdARefIdeal.nD,
      r.2.mem ((c.tc : Thread Cert.AttnFwdARefIdeal.nD Cert.AttnFwdARefIdeal.τ).loc Cert.AttnFwdARefIdeal.main_arg0) = m ((c.tc : Thread Cert.AttnFwdARefIdeal.nD Cert.AttnFwdARefIdeal.τ).loc Cert.AttnFwdARefIdeal.main_arg0)
      ∧ r.2.mem ((c.tc : Thread Cert.AttnFwdARefIdeal.nD Cert.AttnFwdARefIdeal.τ).loc Cert.AttnFwdARefIdeal.main_arg1) = m ((c.tc : Thread Cert.AttnFwdARefIdeal.nD Cert.AttnFwdARefIdeal.τ).loc Cert.AttnFwdARefIdeal.main_arg1)
      ∧ r.2.mem ((c.tc : Thread Cert.AttnFwdARefIdeal.nD Cert.AttnFwdARefIdeal.τ).loc Cert.AttnFwdARefIdeal.main_arg2) = m ((c.tc : Thread Cert.AttnFwdARefIdeal.nD Cert.AttnFwdARefIdeal.τ).loc Cert.AttnFwdARefIdeal.main_arg2))
      ∧ r.2.sem = fun _ => 0)

def quiescent_AttnFwdARefIdeal_pre_pre_af0 [hAttnFwdARefIdeal : Cert.AttnFwdARefIdeal.Facts] [hPre_pre_af0 : Cert.Pre_pre_af0.Facts] : Prop :=
  ∀ (m : (ℓ : Loc Cert.AttnFwdARefIdeal.nD Cert.AttnFwdARefIdeal.τ Cert.AttnFwdARefIdeal.sig) → Buf (Elt Ideal) ℓ) (g : Dev Cert.AttnFwdARefIdeal.nD → PrngReg), Pre_AttnFwdARefIdeal_pre_af0 m →
    θ_run (Cert.AttnFwdARefIdeal.defs (F := Ideal)) (onTc (τ := Cert.AttnFwdARefIdeal.τ) (Cert.AttnFwdARefIdeal.main (F := Ideal))) ⟨m, fun _ => 0, g⟩ (fun r => (∀ c : Dev Cert.AttnFwdARefIdeal.nD,
      r.2.mem ((c.tc : Thread Cert.AttnFwdARefIdeal.nD Cert.AttnFwdARefIdeal.τ).loc Cert.AttnFwdARefIdeal.main_arg0) = m ((c.tc : Thread Cert.AttnFwdARefIdeal.nD Cert.AttnFwdARefIdeal.τ).loc Cert.AttnFwdARefIdeal.main_arg0)
      ∧ r.2.mem ((c.tc : Thread Cert.AttnFwdARefIdeal.nD Cert.AttnFwdARefIdeal.τ).loc Cert.AttnFwdARefIdeal.main_arg1) = m ((c.tc : Thread Cert.AttnFwdARefIdeal.nD Cert.AttnFwdARefIdeal.τ).loc Cert.AttnFwdARefIdeal.main_arg1)
      ∧ r.2.mem ((c.tc : Thread Cert.AttnFwdARefIdeal.nD Cert.AttnFwdARefIdeal.τ).loc Cert.AttnFwdARefIdeal.main_arg2) = m ((c.tc : Thread Cert.AttnFwdARefIdeal.nD Cert.AttnFwdARefIdeal.τ).loc Cert.AttnFwdARefIdeal.main_arg2))
      ∧ r.2.sem = fun _ => 0)

def quiescent_AttnFwdB [hAttnFwdB : Cert.AttnFwdB.Facts] : Prop :=
  ∀ (m : (ℓ : Loc Cert.AttnFwdB.nD Cert.AttnFwdB.τ Cert.AttnFwdB.sig) → Buf (Elt Bits) ℓ) (g : Dev Cert.AttnFwdB.nD → PrngReg), Pre_AttnFwdB m →
    θ_run (Cert.AttnFwdB.defs (F := Bits)) (onTc (τ := Cert.AttnFwdB.τ) (Cert.AttnFwdB.main (F := Bits))) ⟨m, fun _ => 0, g⟩ (fun r => (∀ c : Dev Cert.AttnFwdB.nD,
      r.2.mem ((c.tc : Thread Cert.AttnFwdB.nD Cert.AttnFwdB.τ).loc Cert.AttnFwdB.main_arg0) = m ((c.tc : Thread Cert.AttnFwdB.nD Cert.AttnFwdB.τ).loc Cert.AttnFwdB.main_arg0)
      ∧ r.2.mem ((c.tc : Thread Cert.AttnFwdB.nD Cert.AttnFwdB.τ).loc Cert.AttnFwdB.main_arg1) = m ((c.tc : Thread Cert.AttnFwdB.nD Cert.AttnFwdB.τ).loc Cert.AttnFwdB.main_arg1)
      ∧ r.2.mem ((c.tc : Thread Cert.AttnFwdB.nD Cert.AttnFwdB.τ).loc Cert.AttnFwdB.main_arg2) = m ((c.tc : Thread Cert.AttnFwdB.nD Cert.AttnFwdB.τ).loc Cert.AttnFwdB.main_arg2))
      ∧ r.2.sem = fun _ => 0)

def quiescent_AttnFwdBIdeal [hAttnFwdBIdeal : Cert.AttnFwdBIdeal.Facts] : Prop :=
  ∀ (m : (ℓ : Loc Cert.AttnFwdBIdeal.nD Cert.AttnFwdBIdeal.τ Cert.AttnFwdBIdeal.sig) → Buf (Elt Ideal) ℓ) (g : Dev Cert.AttnFwdBIdeal.nD → PrngReg), Pre_AttnFwdBIdeal m →
    θ_run (Cert.AttnFwdBIdeal.defs (F := Ideal)) (onTc (τ := Cert.AttnFwdBIdeal.τ) (Cert.AttnFwdBIdeal.main (F := Ideal))) ⟨m, fun _ => 0, g⟩ (fun r => (∀ c : Dev Cert.AttnFwdBIdeal.nD,
      r.2.mem ((c.tc : Thread Cert.AttnFwdBIdeal.nD Cert.AttnFwdBIdeal.τ).loc Cert.AttnFwdBIdeal.main_arg0) = m ((c.tc : Thread Cert.AttnFwdBIdeal.nD Cert.AttnFwdBIdeal.τ).loc Cert.AttnFwdBIdeal.main_arg0)
      ∧ r.2.mem ((c.tc : Thread Cert.AttnFwdBIdeal.nD Cert.AttnFwdBIdeal.τ).loc Cert.AttnFwdBIdeal.main_arg1) = m ((c.tc : Thread Cert.AttnFwdBIdeal.nD Cert.AttnFwdBIdeal.τ).loc Cert.AttnFwdBIdeal.main_arg1)
      ∧ r.2.mem ((c.tc : Thread Cert.AttnFwdBIdeal.nD Cert.AttnFwdBIdeal.τ).loc Cert.AttnFwdBIdeal.main_arg2) = m ((c.tc : Thread Cert.AttnFwdBIdeal.nD Cert.AttnFwdBIdeal.τ).loc Cert.AttnFwdBIdeal.main_arg2))
      ∧ r.2.sem = fun _ => 0)

def quiescent_AttnFwdBIdeal_pre_pre_af1 [hAttnFwdBIdeal : Cert.AttnFwdBIdeal.Facts] [hPre_pre_af1 : Cert.Pre_pre_af1.Facts] : Prop :=
  ∀ (m : (ℓ : Loc Cert.AttnFwdBIdeal.nD Cert.AttnFwdBIdeal.τ Cert.AttnFwdBIdeal.sig) → Buf (Elt Ideal) ℓ) (g : Dev Cert.AttnFwdBIdeal.nD → PrngReg), Pre_AttnFwdBIdeal_pre_af1 m →
    θ_run (Cert.AttnFwdBIdeal.defs (F := Ideal)) (onTc (τ := Cert.AttnFwdBIdeal.τ) (Cert.AttnFwdBIdeal.main (F := Ideal))) ⟨m, fun _ => 0, g⟩ (fun r => (∀ c : Dev Cert.AttnFwdBIdeal.nD,
      r.2.mem ((c.tc : Thread Cert.AttnFwdBIdeal.nD Cert.AttnFwdBIdeal.τ).loc Cert.AttnFwdBIdeal.main_arg0) = m ((c.tc : Thread Cert.AttnFwdBIdeal.nD Cert.AttnFwdBIdeal.τ).loc Cert.AttnFwdBIdeal.main_arg0)
      ∧ r.2.mem ((c.tc : Thread Cert.AttnFwdBIdeal.nD Cert.AttnFwdBIdeal.τ).loc Cert.AttnFwdBIdeal.main_arg1) = m ((c.tc : Thread Cert.AttnFwdBIdeal.nD Cert.AttnFwdBIdeal.τ).loc Cert.AttnFwdBIdeal.main_arg1)
      ∧ r.2.mem ((c.tc : Thread Cert.AttnFwdBIdeal.nD Cert.AttnFwdBIdeal.τ).loc Cert.AttnFwdBIdeal.main_arg2) = m ((c.tc : Thread Cert.AttnFwdBIdeal.nD Cert.AttnFwdBIdeal.τ).loc Cert.AttnFwdBIdeal.main_arg2))
      ∧ r.2.sem = fun _ => 0)

def quiescent_AttnFwdBRefIdeal [hAttnFwdBRefIdeal : Cert.AttnFwdBRefIdeal.Facts] : Prop :=
  ∀ (m : (ℓ : Loc Cert.AttnFwdBRefIdeal.nD Cert.AttnFwdBRefIdeal.τ Cert.AttnFwdBRefIdeal.sig) → Buf (Elt Ideal) ℓ) (g : Dev Cert.AttnFwdBRefIdeal.nD → PrngReg), Pre_AttnFwdBRefIdeal m →
    θ_run (Cert.AttnFwdBRefIdeal.defs (F := Ideal)) (onTc (τ := Cert.AttnFwdBRefIdeal.τ) (Cert.AttnFwdBRefIdeal.main (F := Ideal))) ⟨m, fun _ => 0, g⟩ (fun r => (∀ c : Dev Cert.AttnFwdBRefIdeal.nD,
      r.2.mem ((c.tc : Thread Cert.AttnFwdBRefIdeal.nD Cert.AttnFwdBRefIdeal.τ).loc Cert.AttnFwdBRefIdeal.main_arg0) = m ((c.tc : Thread Cert.AttnFwdBRefIdeal.nD Cert.AttnFwdBRefIdeal.τ).loc Cert.AttnFwdBRefIdeal.main_arg0)
      ∧ r.2.mem ((c.tc : Thread Cert.AttnFwdBRefIdeal.nD Cert.AttnFwdBRefIdeal.τ).loc Cert.AttnFwdBRefIdeal.main_arg1) = m ((c.tc : Thread Cert.AttnFwdBRefIdeal.nD Cert.AttnFwdBRefIdeal.τ).loc Cert.AttnFwdBRefIdeal.main_arg1)
      ∧ r.2.mem ((c.tc : Thread Cert.AttnFwdBRefIdeal.nD Cert.AttnFwdBRefIdeal.τ).loc Cert.AttnFwdBRefIdeal.main_arg2) = m ((c.tc : Thread Cert.AttnFwdBRefIdeal.nD Cert.AttnFwdBRefIdeal.τ).loc Cert.AttnFwdBRefIdeal.main_arg2))
      ∧ r.2.sem = fun _ => 0)

def quiescent_AttnFwdBRefIdeal_pre_pre_af1 [hAttnFwdBRefIdeal : Cert.AttnFwdBRefIdeal.Facts] [hPre_pre_af1 : Cert.Pre_pre_af1.Facts] : Prop :=
  ∀ (m : (ℓ : Loc Cert.AttnFwdBRefIdeal.nD Cert.AttnFwdBRefIdeal.τ Cert.AttnFwdBRefIdeal.sig) → Buf (Elt Ideal) ℓ) (g : Dev Cert.AttnFwdBRefIdeal.nD → PrngReg), Pre_AttnFwdBRefIdeal_pre_af1 m →
    θ_run (Cert.AttnFwdBRefIdeal.defs (F := Ideal)) (onTc (τ := Cert.AttnFwdBRefIdeal.τ) (Cert.AttnFwdBRefIdeal.main (F := Ideal))) ⟨m, fun _ => 0, g⟩ (fun r => (∀ c : Dev Cert.AttnFwdBRefIdeal.nD,
      r.2.mem ((c.tc : Thread Cert.AttnFwdBRefIdeal.nD Cert.AttnFwdBRefIdeal.τ).loc Cert.AttnFwdBRefIdeal.main_arg0) = m ((c.tc : Thread Cert.AttnFwdBRefIdeal.nD Cert.AttnFwdBRefIdeal.τ).loc Cert.AttnFwdBRefIdeal.main_arg0)
      ∧ r.2.mem ((c.tc : Thread Cert.AttnFwdBRefIdeal.nD Cert.AttnFwdBRefIdeal.τ).loc Cert.AttnFwdBRefIdeal.main_arg1) = m ((c.tc : Thread Cert.AttnFwdBRefIdeal.nD Cert.AttnFwdBRefIdeal.τ).loc Cert.AttnFwdBRefIdeal.main_arg1)
      ∧ r.2.mem ((c.tc : Thread Cert.AttnFwdBRefIdeal.nD Cert.AttnFwdBRefIdeal.τ).loc Cert.AttnFwdBRefIdeal.main_arg2) = m ((c.tc : Thread Cert.AttnFwdBRefIdeal.nD Cert.AttnFwdBRefIdeal.τ).loc Cert.AttnFwdBRefIdeal.main_arg2))
      ∧ r.2.sem = fun _ => 0)

def quiescent_AttnFwdC [hAttnFwdC : Cert.AttnFwdC.Facts] : Prop :=
  ∀ (m : (ℓ : Loc Cert.AttnFwdC.nD Cert.AttnFwdC.τ Cert.AttnFwdC.sig) → Buf (Elt Bits) ℓ) (g : Dev Cert.AttnFwdC.nD → PrngReg), Pre_AttnFwdC m →
    θ_run (Cert.AttnFwdC.defs (F := Bits)) (onTc (τ := Cert.AttnFwdC.τ) (Cert.AttnFwdC.main (F := Bits))) ⟨m, fun _ => 0, g⟩ (fun r => (∀ c : Dev Cert.AttnFwdC.nD,
      r.2.mem ((c.tc : Thread Cert.AttnFwdC.nD Cert.AttnFwdC.τ).loc Cert.AttnFwdC.main_arg0) = m ((c.tc : Thread Cert.AttnFwdC.nD Cert.AttnFwdC.τ).loc Cert.AttnFwdC.main_arg0)
      ∧ r.2.mem ((c.tc : Thread Cert.AttnFwdC.nD Cert.AttnFwdC.τ).loc Cert.AttnFwdC.main_arg1) = m ((c.tc : Thread Cert.AttnFwdC.nD Cert.AttnFwdC.τ).loc Cert.AttnFwdC.main_arg1)
      ∧ r.2.mem ((c.tc : Thread Cert.AttnFwdC.nD Cert.AttnFwdC.τ).loc Cert.AttnFwdC.main_arg2) = m ((c.tc : Thread Cert.AttnFwdC.nD Cert.AttnFwdC.τ).loc Cert.AttnFwdC.main_arg2))
      ∧ r.2.sem = fun _ => 0)

def quiescent_AttnFwdCIdeal [hAttnFwdCIdeal : Cert.AttnFwdCIdeal.Facts] : Prop :=
  ∀ (m : (ℓ : Loc Cert.AttnFwdCIdeal.nD Cert.AttnFwdCIdeal.τ Cert.AttnFwdCIdeal.sig) → Buf (Elt Ideal) ℓ) (g : Dev Cert.AttnFwdCIdeal.nD → PrngReg), Pre_AttnFwdCIdeal m →
    θ_run (Cert.AttnFwdCIdeal.defs (F := Ideal)) (onTc (τ := Cert.AttnFwdCIdeal.τ) (Cert.AttnFwdCIdeal.main (F := Ideal))) ⟨m, fun _ => 0, g⟩ (fun r => (∀ c : Dev Cert.AttnFwdCIdeal.nD,
      r.2.mem ((c.tc : Thread Cert.AttnFwdCIdeal.nD Cert.AttnFwdCIdeal.τ).loc Cert.AttnFwdCIdeal.main_arg0) = m ((c.tc : Thread Cert.AttnFwdCIdeal.nD Cert.AttnFwdCIdeal.τ).loc Cert.AttnFwdCIdeal.main_arg0)
      ∧ r.2.mem ((c.tc : Thread Cert.AttnFwdCIdeal.nD Cert.AttnFwdCIdeal.τ).loc Cert.AttnFwdCIdeal.main_arg1) = m ((c.tc : Thread Cert.AttnFwdCIdeal.nD Cert.AttnFwdCIdeal.τ).loc Cert.AttnFwdCIdeal.main_arg1)
      ∧ r.2.mem ((c.tc : Thread Cert.AttnFwdCIdeal.nD Cert.AttnFwdCIdeal.τ).loc Cert.AttnFwdCIdeal.main_arg2) = m ((c.tc : Thread Cert.AttnFwdCIdeal.nD Cert.AttnFwdCIdeal.τ).loc Cert.AttnFwdCIdeal.main_arg2))
      ∧ r.2.sem = fun _ => 0)

def quiescent_AttnFwdCIdeal_pre_pre_af2 [hAttnFwdCIdeal : Cert.AttnFwdCIdeal.Facts] [hPre_pre_af2 : Cert.Pre_pre_af2.Facts] : Prop :=
  ∀ (m : (ℓ : Loc Cert.AttnFwdCIdeal.nD Cert.AttnFwdCIdeal.τ Cert.AttnFwdCIdeal.sig) → Buf (Elt Ideal) ℓ) (g : Dev Cert.AttnFwdCIdeal.nD → PrngReg), Pre_AttnFwdCIdeal_pre_af2 m →
    θ_run (Cert.AttnFwdCIdeal.defs (F := Ideal)) (onTc (τ := Cert.AttnFwdCIdeal.τ) (Cert.AttnFwdCIdeal.main (F := Ideal))) ⟨m, fun _ => 0, g⟩ (fun r => (∀ c : Dev Cert.AttnFwdCIdeal.nD,
      r.2.mem ((c.tc : Thread Cert.AttnFwdCIdeal.nD Cert.AttnFwdCIdeal.τ).loc Cert.AttnFwdCIdeal.main_arg0) = m ((c.tc : Thread Cert.AttnFwdCIdeal.nD Cert.AttnFwdCIdeal.τ).loc Cert.AttnFwdCIdeal.main_arg0)
      ∧ r.2.mem ((c.tc : Thread Cert.AttnFwdCIdeal.nD Cert.AttnFwdCIdeal.τ).loc Cert.AttnFwdCIdeal.main_arg1) = m ((c.tc : Thread Cert.AttnFwdCIdeal.nD Cert.AttnFwdCIdeal.τ).loc Cert.AttnFwdCIdeal.main_arg1)
      ∧ r.2.mem ((c.tc : Thread Cert.AttnFwdCIdeal.nD Cert.AttnFwdCIdeal.τ).loc Cert.AttnFwdCIdeal.main_arg2) = m ((c.tc : Thread Cert.AttnFwdCIdeal.nD Cert.AttnFwdCIdeal.τ).loc Cert.AttnFwdCIdeal.main_arg2))
      ∧ r.2.sem = fun _ => 0)

def quiescent_AttnFwdCRefIdeal [hAttnFwdCRefIdeal : Cert.AttnFwdCRefIdeal.Facts] : Prop :=
  ∀ (m : (ℓ : Loc Cert.AttnFwdCRefIdeal.nD Cert.AttnFwdCRefIdeal.τ Cert.AttnFwdCRefIdeal.sig) → Buf (Elt Ideal) ℓ) (g : Dev Cert.AttnFwdCRefIdeal.nD → PrngReg), Pre_AttnFwdCRefIdeal m →
    θ_run (Cert.AttnFwdCRefIdeal.defs (F := Ideal)) (onTc (τ := Cert.AttnFwdCRefIdeal.τ) (Cert.AttnFwdCRefIdeal.main (F := Ideal))) ⟨m, fun _ => 0, g⟩ (fun r => (∀ c : Dev Cert.AttnFwdCRefIdeal.nD,
      r.2.mem ((c.tc : Thread Cert.AttnFwdCRefIdeal.nD Cert.AttnFwdCRefIdeal.τ).loc Cert.AttnFwdCRefIdeal.main_arg0) = m ((c.tc : Thread Cert.AttnFwdCRefIdeal.nD Cert.AttnFwdCRefIdeal.τ).loc Cert.AttnFwdCRefIdeal.main_arg0)
      ∧ r.2.mem ((c.tc : Thread Cert.AttnFwdCRefIdeal.nD Cert.AttnFwdCRefIdeal.τ).loc Cert.AttnFwdCRefIdeal.main_arg1) = m ((c.tc : Thread Cert.AttnFwdCRefIdeal.nD Cert.AttnFwdCRefIdeal.τ).loc Cert.AttnFwdCRefIdeal.main_arg1)
      ∧ r.2.mem ((c.tc : Thread Cert.AttnFwdCRefIdeal.nD Cert.AttnFwdCRefIdeal.τ).loc Cert.AttnFwdCRefIdeal.main_arg2) = m ((c.tc : Thread Cert.AttnFwdCRefIdeal.nD Cert.AttnFwdCRefIdeal.τ).loc Cert.AttnFwdCRefIdeal.main_arg2))
      ∧ r.2.sem = fun _ => 0)

def quiescent_AttnFwdCRefIdeal_pre_pre_af2 [hAttnFwdCRefIdeal : Cert.AttnFwdCRefIdeal.Facts] [hPre_pre_af2 : Cert.Pre_pre_af2.Facts] : Prop :=
  ∀ (m : (ℓ : Loc Cert.AttnFwdCRefIdeal.nD Cert.AttnFwdCRefIdeal.τ Cert.AttnFwdCRefIdeal.sig) → Buf (Elt Ideal) ℓ) (g : Dev Cert.AttnFwdCRefIdeal.nD → PrngReg), Pre_AttnFwdCRefIdeal_pre_af2 m →
    θ_run (Cert.AttnFwdCRefIdeal.defs (F := Ideal)) (onTc (τ := Cert.AttnFwdCRefIdeal.τ) (Cert.AttnFwdCRefIdeal.main (F := Ideal))) ⟨m, fun _ => 0, g⟩ (fun r => (∀ c : Dev Cert.AttnFwdCRefIdeal.nD,
      r.2.mem ((c.tc : Thread Cert.AttnFwdCRefIdeal.nD Cert.AttnFwdCRefIdeal.τ).loc Cert.AttnFwdCRefIdeal.main_arg0) = m ((c.tc : Thread Cert.AttnFwdCRefIdeal.nD Cert.AttnFwdCRefIdeal.τ).loc Cert.AttnFwdCRefIdeal.main_arg0)
      ∧ r.2.mem ((c.tc : Thread Cert.AttnFwdCRefIdeal.nD Cert.AttnFwdCRefIdeal.τ).loc Cert.AttnFwdCRefIdeal.main_arg1) = m ((c.tc : Thread Cert.AttnFwdCRefIdeal.nD Cert.AttnFwdCRefIdeal.τ).loc Cert.AttnFwdCRefIdeal.main_arg1)
      ∧ r.2.mem ((c.tc : Thread Cert.AttnFwdCRefIdeal.nD Cert.AttnFwdCRefIdeal.τ).loc Cert.AttnFwdCRefIdeal.main_arg2) = m ((c.tc : Thread Cert.AttnFwdCRefIdeal.nD Cert.AttnFwdCRefIdeal.τ).loc Cert.AttnFwdCRefIdeal.main_arg2))
      ∧ r.2.sem = fun _ => 0)

def quiescent_MlpUpFwd [hMlpUpFwd : Cert.MlpUpFwd.Facts] : Prop :=
  ∀ (m : (ℓ : Loc Cert.MlpUpFwd.nD Cert.MlpUpFwd.τ Cert.MlpUpFwd.sig) → Buf (Elt Bits) ℓ) (g : Dev Cert.MlpUpFwd.nD → PrngReg), Pre_MlpUpFwd m →
    θ_run (Cert.MlpUpFwd.defs (F := Bits)) (onTc (τ := Cert.MlpUpFwd.τ) (Cert.MlpUpFwd.main (F := Bits))) ⟨m, fun _ => 0, g⟩ (fun r => (∀ c : Dev Cert.MlpUpFwd.nD,
      r.2.mem ((c.tc : Thread Cert.MlpUpFwd.nD Cert.MlpUpFwd.τ).loc Cert.MlpUpFwd.main_arg0) = m ((c.tc : Thread Cert.MlpUpFwd.nD Cert.MlpUpFwd.τ).loc Cert.MlpUpFwd.main_arg0)
      ∧ r.2.mem ((c.tc : Thread Cert.MlpUpFwd.nD Cert.MlpUpFwd.τ).loc Cert.MlpUpFwd.main_arg1) = m ((c.tc : Thread Cert.MlpUpFwd.nD Cert.MlpUpFwd.τ).loc Cert.MlpUpFwd.main_arg1))
      ∧ r.2.sem = fun _ => 0)

def quiescent_MlpUpFwdIdeal [hMlpUpFwdIdeal : Cert.MlpUpFwdIdeal.Facts] : Prop :=
  ∀ (m : (ℓ : Loc Cert.MlpUpFwdIdeal.nD Cert.MlpUpFwdIdeal.τ Cert.MlpUpFwdIdeal.sig) → Buf (Elt Ideal) ℓ) (g : Dev Cert.MlpUpFwdIdeal.nD → PrngReg), Pre_MlpUpFwdIdeal m →
    θ_run (Cert.MlpUpFwdIdeal.defs (F := Ideal)) (onTc (τ := Cert.MlpUpFwdIdeal.τ) (Cert.MlpUpFwdIdeal.main (F := Ideal))) ⟨m, fun _ => 0, g⟩ (fun r => (∀ c : Dev Cert.MlpUpFwdIdeal.nD,
      r.2.mem ((c.tc : Thread Cert.MlpUpFwdIdeal.nD Cert.MlpUpFwdIdeal.τ).loc Cert.MlpUpFwdIdeal.main_arg0) = m ((c.tc : Thread Cert.MlpUpFwdIdeal.nD Cert.MlpUpFwdIdeal.τ).loc Cert.MlpUpFwdIdeal.main_arg0)
      ∧ r.2.mem ((c.tc : Thread Cert.MlpUpFwdIdeal.nD Cert.MlpUpFwdIdeal.τ).loc Cert.MlpUpFwdIdeal.main_arg1) = m ((c.tc : Thread Cert.MlpUpFwdIdeal.nD Cert.MlpUpFwdIdeal.τ).loc Cert.MlpUpFwdIdeal.main_arg1))
      ∧ r.2.sem = fun _ => 0)

def quiescent_MlpUpFwdRefIdeal [hMlpUpFwdRefIdeal : Cert.MlpUpFwdRefIdeal.Facts] : Prop :=
  ∀ (m : (ℓ : Loc Cert.MlpUpFwdRefIdeal.nD Cert.MlpUpFwdRefIdeal.τ Cert.MlpUpFwdRefIdeal.sig) → Buf (Elt Ideal) ℓ) (g : Dev Cert.MlpUpFwdRefIdeal.nD → PrngReg), Pre_MlpUpFwdRefIdeal m →
    θ_run (Cert.MlpUpFwdRefIdeal.defs (F := Ideal)) (onTc (τ := Cert.MlpUpFwdRefIdeal.τ) (Cert.MlpUpFwdRefIdeal.main (F := Ideal))) ⟨m, fun _ => 0, g⟩ (fun r => (∀ c : Dev Cert.MlpUpFwdRefIdeal.nD,
      r.2.mem ((c.tc : Thread Cert.MlpUpFwdRefIdeal.nD Cert.MlpUpFwdRefIdeal.τ).loc Cert.MlpUpFwdRefIdeal.main_arg0) = m ((c.tc : Thread Cert.MlpUpFwdRefIdeal.nD Cert.MlpUpFwdRefIdeal.τ).loc Cert.MlpUpFwdRefIdeal.main_arg0)
      ∧ r.2.mem ((c.tc : Thread Cert.MlpUpFwdRefIdeal.nD Cert.MlpUpFwdRefIdeal.τ).loc Cert.MlpUpFwdRefIdeal.main_arg1) = m ((c.tc : Thread Cert.MlpUpFwdRefIdeal.nD Cert.MlpUpFwdRefIdeal.τ).loc Cert.MlpUpFwdRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_ResidualNorm [hResidualNorm : Cert.ResidualNorm.Facts] : Prop :=
  ∀ (m : (ℓ : Loc Cert.ResidualNorm.nD Cert.ResidualNorm.τ Cert.ResidualNorm.sig) → Buf (Elt Bits) ℓ) (g : Dev Cert.ResidualNorm.nD → PrngReg), Pre_ResidualNorm m →
    θ_run (Cert.ResidualNorm.defs (F := Bits)) (onTc (τ := Cert.ResidualNorm.τ) (Cert.ResidualNorm.main (F := Bits))) ⟨m, fun _ => 0, g⟩ (fun r => (∀ c : Dev Cert.ResidualNorm.nD,
      r.2.mem ((c.tc : Thread Cert.ResidualNorm.nD Cert.ResidualNorm.τ).loc Cert.ResidualNorm.main_arg0) = m ((c.tc : Thread Cert.ResidualNorm.nD Cert.ResidualNorm.τ).loc Cert.ResidualNorm.main_arg0)
      ∧ r.2.mem ((c.tc : Thread Cert.ResidualNorm.nD Cert.ResidualNorm.τ).loc Cert.ResidualNorm.main_arg1) = m ((c.tc : Thread Cert.ResidualNorm.nD Cert.ResidualNorm.τ).loc Cert.ResidualNorm.main_arg1)
      ∧ r.2.mem ((c.tc : Thread Cert.ResidualNorm.nD Cert.ResidualNorm.τ).loc Cert.ResidualNorm.main_arg2) = m ((c.tc : Thread Cert.ResidualNorm.nD Cert.ResidualNorm.τ).loc Cert.ResidualNorm.main_arg2)
      ∧ r.2.mem ((c.tc : Thread Cert.ResidualNorm.nD Cert.ResidualNorm.τ).loc Cert.ResidualNorm.main_arg3) = m ((c.tc : Thread Cert.ResidualNorm.nD Cert.ResidualNorm.τ).loc Cert.ResidualNorm.main_arg3))
      ∧ r.2.sem = fun _ => 0)

def quiescent_ResidualNormIdeal [hResidualNormIdeal : Cert.ResidualNormIdeal.Facts] : Prop :=
  ∀ (m : (ℓ : Loc Cert.ResidualNormIdeal.nD Cert.ResidualNormIdeal.τ Cert.ResidualNormIdeal.sig) → Buf (Elt Ideal) ℓ) (g : Dev Cert.ResidualNormIdeal.nD → PrngReg), Pre_ResidualNormIdeal m →
    θ_run (Cert.ResidualNormIdeal.defs (F := Ideal)) (onTc (τ := Cert.ResidualNormIdeal.τ) (Cert.ResidualNormIdeal.main (F := Ideal))) ⟨m, fun _ => 0, g⟩ (fun r => (∀ c : Dev Cert.ResidualNormIdeal.nD,
      r.2.mem ((c.tc : Thread Cert.ResidualNormIdeal.nD Cert.ResidualNormIdeal.τ).loc Cert.ResidualNormIdeal.main_arg0) = m ((c.tc : Thread Cert.ResidualNormIdeal.nD Cert.ResidualNormIdeal.τ).loc Cert.ResidualNormIdeal.main_arg0)
      ∧ r.2.mem ((c.tc : Thread Cert.ResidualNormIdeal.nD Cert.ResidualNormIdeal.τ).loc Cert.ResidualNormIdeal.main_arg1) = m ((c.tc : Thread Cert.ResidualNormIdeal.nD Cert.ResidualNormIdeal.τ).loc Cert.ResidualNormIdeal.main_arg1)
      ∧ r.2.mem ((c.tc : Thread Cert.ResidualNormIdeal.nD Cert.ResidualNormIdeal.τ).loc Cert.ResidualNormIdeal.main_arg2) = m ((c.tc : Thread Cert.ResidualNormIdeal.nD Cert.ResidualNormIdeal.τ).loc Cert.ResidualNormIdeal.main_arg2)
      ∧ r.2.mem ((c.tc : Thread Cert.ResidualNormIdeal.nD Cert.ResidualNormIdeal.τ).loc Cert.ResidualNormIdeal.main_arg3) = m ((c.tc : Thread Cert.ResidualNormIdeal.nD Cert.ResidualNormIdeal.τ).loc Cert.ResidualNormIdeal.main_arg3))
      ∧ r.2.sem = fun _ => 0)

def quiescent_ResidualNormRefIdeal [hResidualNormRefIdeal : Cert.ResidualNormRefIdeal.Facts] : Prop :=
  ∀ (m : (ℓ : Loc Cert.ResidualNormRefIdeal.nD Cert.ResidualNormRefIdeal.τ Cert.ResidualNormRefIdeal.sig) → Buf (Elt Ideal) ℓ) (g : Dev Cert.ResidualNormRefIdeal.nD → PrngReg), Pre_ResidualNormRefIdeal m →
    θ_run (Cert.ResidualNormRefIdeal.defs (F := Ideal)) (onTc (τ := Cert.ResidualNormRefIdeal.τ) (Cert.ResidualNormRefIdeal.main (F := Ideal))) ⟨m, fun _ => 0, g⟩ (fun r => (∀ c : Dev Cert.ResidualNormRefIdeal.nD,
      r.2.mem ((c.tc : Thread Cert.ResidualNormRefIdeal.nD Cert.ResidualNormRefIdeal.τ).loc Cert.ResidualNormRefIdeal.main_arg0) = m ((c.tc : Thread Cert.ResidualNormRefIdeal.nD Cert.ResidualNormRefIdeal.τ).loc Cert.ResidualNormRefIdeal.main_arg0)
      ∧ r.2.mem ((c.tc : Thread Cert.ResidualNormRefIdeal.nD Cert.ResidualNormRefIdeal.τ).loc Cert.ResidualNormRefIdeal.main_arg1) = m ((c.tc : Thread Cert.ResidualNormRefIdeal.nD Cert.ResidualNormRefIdeal.τ).loc Cert.ResidualNormRefIdeal.main_arg1)
      ∧ r.2.mem ((c.tc : Thread Cert.ResidualNormRefIdeal.nD Cert.ResidualNormRefIdeal.τ).loc Cert.ResidualNormRefIdeal.main_arg2) = m ((c.tc : Thread Cert.ResidualNormRefIdeal.nD Cert.ResidualNormRefIdeal.τ).loc Cert.ResidualNormRefIdeal.main_arg2)
      ∧ r.2.mem ((c.tc : Thread Cert.ResidualNormRefIdeal.nD Cert.ResidualNormRefIdeal.τ).loc Cert.ResidualNormRefIdeal.main_arg3) = m ((c.tc : Thread Cert.ResidualNormRefIdeal.nD Cert.ResidualNormRefIdeal.τ).loc Cert.ResidualNormRefIdeal.main_arg3))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v3)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v3) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v12) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2))

def preserves_Gate_GateIdeal : Prop :=
  True

def algebraic_GateIdeal_GateRefIdeal_on_gate_columns [hGateIdeal : Cert.GateIdeal.Facts] [hGateRefIdeal : Cert.GateRefIdeal.Facts] [hOn_gate_columns : Cert.On_gate_columns.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v5_0)) (v1 : (c : Dev Cert.GateIdeal.nD) → Buf (Elt Ideal) ((c.tc : Thread Cert.GateIdeal.nD Cert.GateIdeal.τ).loc Cert.GateIdeal.main_v5_1)) (v2 : (c : Dev Cert.GateIdeal.nD) → Buf (Elt Ideal) ((c.tc : Thread Cert.GateIdeal.nD Cert.GateIdeal.τ).loc Cert.GateIdeal.main_v5_2)) (v3 : (c : Dev Cert.GateIdeal.nD) → Buf (Elt Ideal) ((c.tc : Thread Cert.GateIdeal.nD Cert.GateIdeal.τ).loc Cert.GateIdeal.main_v5_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          (∀ i : (⟨2, ![8192, 1024]⟩ : Shape).Idx, (Cert.On_gate_columns.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))).1 i = 1#1 → r.2.mem ((c.tc : Thread Cert.GateIdeal.nD Cert.GateIdeal.τ).loc Cert.GateIdeal.main_v5_0) i = v0 c i)
          ∧ (∀ i : (⟨2, ![8192, 1024]⟩ : Shape).Idx, (Cert.On_gate_columns.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))).2.1 i = 1#1 → r.2.mem ((c.tc : Thread Cert.GateIdeal.nD Cert.GateIdeal.τ).loc Cert.GateIdeal.main_v5_1) i = v1 c i)
          ∧ (∀ i : (⟨2, ![8192, 8192]⟩ : Shape).Idx, (Cert.On_gate_columns.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))).2.2.1 i = 1#1 → r.2.mem ((c.tc : Thread Cert.GateIdeal.nD Cert.GateIdeal.τ).loc Cert.GateIdeal.main_v5_2) i = v2 c i)
          ∧ (∀ i : (⟨2, ![1, 2048]⟩ : Shape).Idx, (Cert.On_gate_columns.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))).2.2.2 i = 1#1 → r.2.mem ((c.tc : Thread Cert.GateIdeal.nD Cert.GateIdeal.τ).loc Cert.GateIdeal.main_v5_3) i = v3 c i)
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          (∀ i : (⟨2, ![8192, 1024]⟩ : Shape).Idx, (Cert.On_gate_columns.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))).1 i = 1#1 → r.2.mem ((c.tc : Thread Cert.GateRefIdeal.nD Cert.GateRefIdeal.τ).loc Cert.GateRefIdeal.main_v45) i = v0 c i)
          ∧ (∀ i : (⟨2, ![8192, 1024]⟩ : Shape).Idx, (Cert.On_gate_columns.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))).2.1 i = 1#1 → r.2.mem ((c.tc : Thread Cert.GateRefIdeal.nD Cert.GateRefIdeal.τ).loc Cert.GateRefIdeal.main_v46) i = v1 c i)
          ∧ (∀ i : (⟨2, ![8192, 8192]⟩ : Shape).Idx, (Cert.On_gate_columns.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))).2.2.1 i = 1#1 → r.2.mem ((c.tc : Thread Cert.GateRefIdeal.nD Cert.GateRefIdeal.τ).loc Cert.GateRefIdeal.main_v47) i = v2 c i)
          ∧ (∀ i : (⟨2, ![1, 2048]⟩ : Shape).Idx, (Cert.On_gate_columns.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))).2.2.2 i = 1#1 → r.2.mem ((c.tc : Thread Cert.GateRefIdeal.nD Cert.GateRefIdeal.τ).loc Cert.GateRefIdeal.main_v42) i = v3 c i)
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5))

def preserves_Cross_CrossIdeal : Prop :=
  True

def algebraic_CrossIdeal_CrossRefIdeal_pre_pre_cob [hCrossIdeal : Cert.CrossIdeal.Facts] [hCrossRefIdeal : Cert.CrossRefIdeal.Facts] [hPre_pre_cob : Cert.Pre_pre_cob.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_pre_cob m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)) →
    ∃ (v0 : (c : Dev Cert.CrossIdeal.nD) → Buf (Elt Ideal) ((c.tc : Thread Cert.CrossIdeal.nD Cert.CrossIdeal.τ).loc Cert.CrossIdeal.main_v5_0)) (v1 : (c : Dev Cert.CrossIdeal.nD) → Buf (Elt Ideal) ((c.tc : Thread Cert.CrossIdeal.nD Cert.CrossIdeal.τ).loc Cert.CrossIdeal.main_v5_1)) (v2 : (c : Dev Cert.CrossIdeal.nD) → Buf (Elt Ideal) ((c.tc : Thread Cert.CrossIdeal.nD Cert.CrossIdeal.τ).loc Cert.CrossIdeal.main_v5_2)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v5_0) = v0 c
          ∧ r.2.mem ((c.tc : Thread Cert.CrossIdeal.nD Cert.CrossIdeal.τ).loc Cert.CrossIdeal.main_v5_1) = v1 c
          ∧ r.2.mem ((c.tc : Thread Cert.CrossIdeal.nD Cert.CrossIdeal.τ).loc Cert.CrossIdeal.main_v5_2) = v2 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v65) = v0 c
          ∧ r.2.mem ((c.tc : Thread Cert.CrossRefIdeal.nD Cert.CrossRefIdeal.τ).loc Cert.CrossRefIdeal.main_v63) = v1 c
          ∧ r.2.mem ((c.tc : Thread Cert.CrossRefIdeal.nD Cert.CrossRefIdeal.τ).loc Cert.CrossRefIdeal.main_v62) = v2 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4))

def preserves_CqProj_CqProjIdeal : Prop :=
  True

def algebraic_CqProjIdeal_CqProjRefIdeal_pre_pre_cqb [hCqProjIdeal : Cert.CqProjIdeal.Facts] [hCqProjRefIdeal : Cert.CqProjRefIdeal.Facts] [hPre_pre_cqb : Cert.Pre_pre_cqb.Facts] : Prop :=
  ∀ (m : (ℓ : Loc Cert.CqProjIdeal.nD Cert.CqProjIdeal.τ Cert.CqProjIdeal.sig) → Buf (Elt Ideal) ℓ) (g : Dev Cert.CqProjIdeal.nD → PrngReg)
    (m' : (ℓ : Loc Cert.CqProjRefIdeal.nD Cert.CqProjRefIdeal.τ Cert.CqProjRefIdeal.sig) → Buf (Elt Ideal) ℓ) (g' : Dev Cert.CqProjRefIdeal.nD → PrngReg), Pre_CqProjIdeal_pre_cqb m →
    (∀ c : Dev Cert.CqProjIdeal.nD,
      m' ((c.tc : Thread Cert.CqProjRefIdeal.nD Cert.CqProjRefIdeal.τ).loc Cert.CqProjRefIdeal.main_arg0) = m ((c.tc : Thread Cert.CqProjIdeal.nD Cert.CqProjIdeal.τ).loc Cert.CqProjIdeal.main_arg0)
      ∧ m' ((c.tc : Thread Cert.CqProjRefIdeal.nD Cert.CqProjRefIdeal.τ).loc Cert.CqProjRefIdeal.main_arg1) = m ((c.tc : Thread Cert.CqProjIdeal.nD Cert.CqProjIdeal.τ).loc Cert.CqProjIdeal.main_arg1)
      ∧ m' ((c.tc : Thread Cert.CqProjRefIdeal.nD Cert.CqProjRefIdeal.τ).loc Cert.CqProjRefIdeal.main_arg2) = m ((c.tc : Thread Cert.CqProjIdeal.nD Cert.CqProjIdeal.τ).loc Cert.CqProjIdeal.main_arg2)
      ∧ m' ((c.tc : Thread Cert.CqProjRefIdeal.nD Cert.CqProjRefIdeal.τ).loc Cert.CqProjRefIdeal.main_arg3) = m ((c.tc : Thread Cert.CqProjIdeal.nD Cert.CqProjIdeal.τ).loc Cert.CqProjIdeal.main_arg3)
      ∧ m' ((c.tc : Thread Cert.CqProjRefIdeal.nD Cert.CqProjRefIdeal.τ).loc Cert.CqProjRefIdeal.main_arg4) = m ((c.tc : Thread Cert.CqProjIdeal.nD Cert.CqProjIdeal.τ).loc Cert.CqProjIdeal.main_arg4)) →
    ∃ (v0 : (c : Dev Cert.CqProjIdeal.nD) → Buf (Elt Ideal) ((c.tc : Thread Cert.CqProjIdeal.nD Cert.CqProjIdeal.τ).loc Cert.CqProjIdeal.main_v3_0)) (v1 : (c : Dev Cert.CqProjIdeal.nD) → Buf (Elt Ideal) ((c.tc : Thread Cert.CqProjIdeal.nD Cert.CqProjIdeal.τ).loc Cert.CqProjIdeal.main_v3_1)),
      θ_run (Cert.CqProjIdeal.defs (F := Ideal)) (onTc (τ := Cert.CqProjIdeal.τ) (Cert.CqProjIdeal.main (F := Ideal))) ⟨m, fun _ => 0, g⟩ (fun r => ∀ c : Dev Cert.CqProjIdeal.nD,
          r.2.mem ((c.tc : Thread Cert.CqProjIdeal.nD Cert.CqProjIdeal.τ).loc Cert.CqProjIdeal.main_v3_0) = v0 c
          ∧ r.2.mem ((c.tc : Thread Cert.CqProjIdeal.nD Cert.CqProjIdeal.τ).loc Cert.CqProjIdeal.main_v3_1) = v1 c
          ∧ r.2.mem ((c.tc : Thread Cert.CqProjIdeal.nD Cert.CqProjIdeal.τ).loc Cert.CqProjIdeal.main_arg0) = m ((c.tc : Thread Cert.CqProjIdeal.nD Cert.CqProjIdeal.τ).loc Cert.CqProjIdeal.main_arg0)
          ∧ r.2.mem ((c.tc : Thread Cert.CqProjIdeal.nD Cert.CqProjIdeal.τ).loc Cert.CqProjIdeal.main_arg1) = m ((c.tc : Thread Cert.CqProjIdeal.nD Cert.CqProjIdeal.τ).loc Cert.CqProjIdeal.main_arg1)
          ∧ r.2.mem ((c.tc : Thread Cert.CqProjIdeal.nD Cert.CqProjIdeal.τ).loc Cert.CqProjIdeal.main_arg2) = m ((c.tc : Thread Cert.CqProjIdeal.nD Cert.CqProjIdeal.τ).loc Cert.CqProjIdeal.main_arg2)
          ∧ r.2.mem ((c.tc : Thread Cert.CqProjIdeal.nD Cert.CqProjIdeal.τ).loc Cert.CqProjIdeal.main_arg3) = m ((c.tc : Thread Cert.CqProjIdeal.nD Cert.CqProjIdeal.τ).loc Cert.CqProjIdeal.main_arg3)
          ∧ r.2.mem ((c.tc : Thread Cert.CqProjIdeal.nD Cert.CqProjIdeal.τ).loc Cert.CqProjIdeal.main_arg4) = m ((c.tc : Thread Cert.CqProjIdeal.nD Cert.CqProjIdeal.τ).loc Cert.CqProjIdeal.main_arg4))
      ∧ θ_run (Cert.CqProjRefIdeal.defs (F := Ideal)) (onTc (τ := Cert.CqProjRefIdeal.τ) (Cert.CqProjRefIdeal.main (F := Ideal))) ⟨m', fun _ => 0, g'⟩ (fun r => ∀ c : Dev Cert.CqProjRefIdeal.nD,
          r.2.mem ((c.tc : Thread Cert.CqProjRefIdeal.nD Cert.CqProjRefIdeal.τ).loc Cert.CqProjRefIdeal.main_v37) = v0 c
          ∧ r.2.mem ((c.tc : Thread Cert.CqProjRefIdeal.nD Cert.CqProjRefIdeal.τ).loc Cert.CqProjRefIdeal.main_v19) = v1 c
          ∧ r.2.mem ((c.tc : Thread Cert.CqProjRefIdeal.nD Cert.CqProjRefIdeal.τ).loc Cert.CqProjRefIdeal.main_arg0) = m' ((c.tc : Thread Cert.CqProjRefIdeal.nD Cert.CqProjRefIdeal.τ).loc Cert.CqProjRefIdeal.main_arg0)
          ∧ r.2.mem ((c.tc : Thread Cert.CqProjRefIdeal.nD Cert.CqProjRefIdeal.τ).loc Cert.CqProjRefIdeal.main_arg1) = m' ((c.tc : Thread Cert.CqProjRefIdeal.nD Cert.CqProjRefIdeal.τ).loc Cert.CqProjRefIdeal.main_arg1)
          ∧ r.2.mem ((c.tc : Thread Cert.CqProjRefIdeal.nD Cert.CqProjRefIdeal.τ).loc Cert.CqProjRefIdeal.main_arg2) = m' ((c.tc : Thread Cert.CqProjRefIdeal.nD Cert.CqProjRefIdeal.τ).loc Cert.CqProjRefIdeal.main_arg2)
          ∧ r.2.mem ((c.tc : Thread Cert.CqProjRefIdeal.nD Cert.CqProjRefIdeal.τ).loc Cert.CqProjRefIdeal.main_arg3) = m' ((c.tc : Thread Cert.CqProjRefIdeal.nD Cert.CqProjRefIdeal.τ).loc Cert.CqProjRefIdeal.main_arg3)
          ∧ r.2.mem ((c.tc : Thread Cert.CqProjRefIdeal.nD Cert.CqProjRefIdeal.τ).loc Cert.CqProjRefIdeal.main_arg4) = m' ((c.tc : Thread Cert.CqProjRefIdeal.nD Cert.CqProjRefIdeal.τ).loc Cert.CqProjRefIdeal.main_arg4))

def preserves_MlpUp_MlpUpIdeal : Prop :=
  True

def algebraic_MlpUpIdeal_MlpUpRefIdeal_pre_pre_mub [hMlpUpIdeal : Cert.MlpUpIdeal.Facts] [hMlpUpRefIdeal : Cert.MlpUpRefIdeal.Facts] [hPre_pre_mub : Cert.Pre_pre_mub.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal_pre_mub m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)
      ∧ m' ((c.tc : Thread Cert.MlpUpRefIdeal.nD Cert.MlpUpRefIdeal.τ).loc Cert.MlpUpRefIdeal.main_arg2) = m ((c.tc : Thread Cert.MlpUpIdeal.nD Cert.MlpUpIdeal.τ).loc Cert.MlpUpIdeal.main_arg2)
      ∧ m' ((c.tc : Thread Cert.MlpUpRefIdeal.nD Cert.MlpUpRefIdeal.τ).loc Cert.MlpUpRefIdeal.main_arg3) = m ((c.tc : Thread Cert.MlpUpIdeal.nD Cert.MlpUpIdeal.τ).loc Cert.MlpUpIdeal.main_arg3)
      ∧ m' ((c.tc : Thread Cert.MlpUpRefIdeal.nD Cert.MlpUpRefIdeal.τ).loc Cert.MlpUpRefIdeal.main_arg4) = m ((c.tc : Thread Cert.MlpUpIdeal.nD Cert.MlpUpIdeal.τ).loc Cert.MlpUpIdeal.main_arg4)) →
    ∃ (v0 : (c : Dev Cert.MlpUpIdeal.nD) → Buf (Elt Ideal) ((c.tc : Thread Cert.MlpUpIdeal.nD Cert.MlpUpIdeal.τ).loc Cert.MlpUpIdeal.main_v5_0)) (v1 : (c : Dev Cert.MlpUpIdeal.nD) → Buf (Elt Ideal) ((c.tc : Thread Cert.MlpUpIdeal.nD Cert.MlpUpIdeal.τ).loc Cert.MlpUpIdeal.main_v5_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v5_0) = v0 c
          ∧ r.2.mem ((c.tc : Thread Cert.MlpUpIdeal.nD Cert.MlpUpIdeal.τ).loc Cert.MlpUpIdeal.main_v5_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
          ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2)
          ∧ r.2.mem ((c.tc : Thread Cert.MlpUpIdeal.nD Cert.MlpUpIdeal.τ).loc Cert.MlpUpIdeal.main_arg3) = m ((c.tc : Thread Cert.MlpUpIdeal.nD Cert.MlpUpIdeal.τ).loc Cert.MlpUpIdeal.main_arg3)
          ∧ r.2.mem ((c.tc : Thread Cert.MlpUpIdeal.nD Cert.MlpUpIdeal.τ).loc Cert.MlpUpIdeal.main_arg4) = m ((c.tc : Thread Cert.MlpUpIdeal.nD Cert.MlpUpIdeal.τ).loc Cert.MlpUpIdeal.main_arg4))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v37) = v0 c
          ∧ r.2.mem ((c.tc : Thread Cert.MlpUpRefIdeal.nD Cert.MlpUpRefIdeal.τ).loc Cert.MlpUpRefIdeal.main_v19) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1)
          ∧ r.2.mem ((c.tc : Thread Cert.MlpUpRefIdeal.nD Cert.MlpUpRefIdeal.τ).loc Cert.MlpUpRefIdeal.main_arg2) = m' ((c.tc : Thread Cert.MlpUpRefIdeal.nD Cert.MlpUpRefIdeal.τ).loc Cert.MlpUpRefIdeal.main_arg2)
          ∧ r.2.mem ((c.tc : Thread Cert.MlpUpRefIdeal.nD Cert.MlpUpRefIdeal.τ).loc Cert.MlpUpRefIdeal.main_arg3) = m' ((c.tc : Thread Cert.MlpUpRefIdeal.nD Cert.MlpUpRefIdeal.τ).loc Cert.MlpUpRefIdeal.main_arg3)
          ∧ r.2.mem ((c.tc : Thread Cert.MlpUpRefIdeal.nD Cert.MlpUpRefIdeal.τ).loc Cert.MlpUpRefIdeal.main_arg4) = m' ((c.tc : Thread Cert.MlpUpRefIdeal.nD Cert.MlpUpRefIdeal.τ).loc Cert.MlpUpRefIdeal.main_arg4))

def preserves_InProj_InProjIdeal : Prop :=
  True

def algebraic_InProjIdeal_InProjRefIdeal_pre_pre_ipb [hInProjIdeal : Cert.InProjIdeal.Facts] [hInProjRefIdeal : Cert.InProjRefIdeal.Facts] [hPre_pre_ipb : Cert.Pre_pre_ipb.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_pre_ipb m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v5_0)) (v1 : (c : Dev Cert.InProjIdeal.nD) → Buf (Elt Ideal) ((c.tc : Thread Cert.InProjIdeal.nD Cert.InProjIdeal.τ).loc Cert.InProjIdeal.main_v5_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5_0) = v0 c
          ∧ r.2.mem ((c.tc : Thread Cert.InProjIdeal.nD Cert.InProjIdeal.τ).loc Cert.InProjIdeal.main_v5_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v36) = v0 c
          ∧ r.2.mem ((c.tc : Thread Cert.InProjRefIdeal.nD Cert.InProjRefIdeal.τ).loc Cert.InProjRefIdeal.main_v19) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_CkvProj_CkvProjIdeal : Prop :=
  True

def algebraic_CkvProjIdeal_CkvProjRefIdeal [hCkvProjIdeal : Cert.CkvProjIdeal.Facts] [hCkvProjRefIdeal : Cert.CkvProjRefIdeal.Facts] : Prop :=
  ∀ (m : (ℓ : Loc Cert.CkvProjIdeal.nD Cert.CkvProjIdeal.τ Cert.CkvProjIdeal.sig) → Buf (Elt Ideal) ℓ) (g : Dev Cert.CkvProjIdeal.nD → PrngReg)
    (m' : (ℓ : Loc Cert.CkvProjRefIdeal.nD Cert.CkvProjRefIdeal.τ Cert.CkvProjRefIdeal.sig) → Buf (Elt Ideal) ℓ) (g' : Dev Cert.CkvProjRefIdeal.nD → PrngReg), Pre_CkvProjIdeal m →
    (∀ c : Dev Cert.CkvProjIdeal.nD,
      m' ((c.tc : Thread Cert.CkvProjRefIdeal.nD Cert.CkvProjRefIdeal.τ).loc Cert.CkvProjRefIdeal.main_arg0) = m ((c.tc : Thread Cert.CkvProjIdeal.nD Cert.CkvProjIdeal.τ).loc Cert.CkvProjIdeal.main_arg0)
      ∧ m' ((c.tc : Thread Cert.CkvProjRefIdeal.nD Cert.CkvProjRefIdeal.τ).loc Cert.CkvProjRefIdeal.main_arg1) = m ((c.tc : Thread Cert.CkvProjIdeal.nD Cert.CkvProjIdeal.τ).loc Cert.CkvProjIdeal.main_arg1)
      ∧ m' ((c.tc : Thread Cert.CkvProjRefIdeal.nD Cert.CkvProjRefIdeal.τ).loc Cert.CkvProjRefIdeal.main_arg2) = m ((c.tc : Thread Cert.CkvProjIdeal.nD Cert.CkvProjIdeal.τ).loc Cert.CkvProjIdeal.main_arg2)
      ∧ m' ((c.tc : Thread Cert.CkvProjRefIdeal.nD Cert.CkvProjRefIdeal.τ).loc Cert.CkvProjRefIdeal.main_arg3) = m ((c.tc : Thread Cert.CkvProjIdeal.nD Cert.CkvProjIdeal.τ).loc Cert.CkvProjIdeal.main_arg3)) →
    ∃ (v0 : (c : Dev Cert.CkvProjIdeal.nD) → Buf (Elt Ideal) ((c.tc : Thread Cert.CkvProjIdeal.nD Cert.CkvProjIdeal.τ).loc Cert.CkvProjIdeal.main_v3)),
      θ_run (Cert.CkvProjIdeal.defs (F := Ideal)) (onTc (τ := Cert.CkvProjIdeal.τ) (Cert.CkvProjIdeal.main (F := Ideal))) ⟨m, fun _ => 0, g⟩ (fun r => ∀ c : Dev Cert.CkvProjIdeal.nD,
          r.2.mem ((c.tc : Thread Cert.CkvProjIdeal.nD Cert.CkvProjIdeal.τ).loc Cert.CkvProjIdeal.main_v3) = v0 c
          ∧ r.2.mem ((c.tc : Thread Cert.CkvProjIdeal.nD Cert.CkvProjIdeal.τ).loc Cert.CkvProjIdeal.main_arg0) = m ((c.tc : Thread Cert.CkvProjIdeal.nD Cert.CkvProjIdeal.τ).loc Cert.CkvProjIdeal.main_arg0)
          ∧ r.2.mem ((c.tc : Thread Cert.CkvProjIdeal.nD Cert.CkvProjIdeal.τ).loc Cert.CkvProjIdeal.main_arg1) = m ((c.tc : Thread Cert.CkvProjIdeal.nD Cert.CkvProjIdeal.τ).loc Cert.CkvProjIdeal.main_arg1)
          ∧ r.2.mem ((c.tc : Thread Cert.CkvProjIdeal.nD Cert.CkvProjIdeal.τ).loc Cert.CkvProjIdeal.main_arg2) = m ((c.tc : Thread Cert.CkvProjIdeal.nD Cert.CkvProjIdeal.τ).loc Cert.CkvProjIdeal.main_arg2)
          ∧ r.2.mem ((c.tc : Thread Cert.CkvProjIdeal.nD Cert.CkvProjIdeal.τ).loc Cert.CkvProjIdeal.main_arg3) = m ((c.tc : Thread Cert.CkvProjIdeal.nD Cert.CkvProjIdeal.τ).loc Cert.CkvProjIdeal.main_arg3))
      ∧ θ_run (Cert.CkvProjRefIdeal.defs (F := Ideal)) (onTc (τ := Cert.CkvProjRefIdeal.τ) (Cert.CkvProjRefIdeal.main (F := Ideal))) ⟨m', fun _ => 0, g'⟩ (fun r => ∀ c : Dev Cert.CkvProjRefIdeal.nD,
          r.2.mem ((c.tc : Thread Cert.CkvProjRefIdeal.nD Cert.CkvProjRefIdeal.τ).loc Cert.CkvProjRefIdeal.main_v16) = v0 c
          ∧ r.2.mem ((c.tc : Thread Cert.CkvProjRefIdeal.nD Cert.CkvProjRefIdeal.τ).loc Cert.CkvProjRefIdeal.main_arg0) = m' ((c.tc : Thread Cert.CkvProjRefIdeal.nD Cert.CkvProjRefIdeal.τ).loc Cert.CkvProjRefIdeal.main_arg0)
          ∧ r.2.mem ((c.tc : Thread Cert.CkvProjRefIdeal.nD Cert.CkvProjRefIdeal.τ).loc Cert.CkvProjRefIdeal.main_arg1) = m' ((c.tc : Thread Cert.CkvProjRefIdeal.nD Cert.CkvProjRefIdeal.τ).loc Cert.CkvProjRefIdeal.main_arg1)
          ∧ r.2.mem ((c.tc : Thread Cert.CkvProjRefIdeal.nD Cert.CkvProjRefIdeal.τ).loc Cert.CkvProjRefIdeal.main_arg2) = m' ((c.tc : Thread Cert.CkvProjRefIdeal.nD Cert.CkvProjRefIdeal.τ).loc Cert.CkvProjRefIdeal.main_arg2)
          ∧ r.2.mem ((c.tc : Thread Cert.CkvProjRefIdeal.nD Cert.CkvProjRefIdeal.τ).loc Cert.CkvProjRefIdeal.main_arg3) = m' ((c.tc : Thread Cert.CkvProjRefIdeal.nD Cert.CkvProjRefIdeal.τ).loc Cert.CkvProjRefIdeal.main_arg3))

def preserves_Loss_LossIdeal : Prop :=
  True

def algebraic_LossIdeal_LossRefIdeal_pre_pre_mdl [hLossIdeal : Cert.LossIdeal.Facts] [hLossRefIdeal : Cert.LossRefIdeal.Facts] [hPre_pre_mdl : Cert.Pre_pre_mdl.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_pre_mdl m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v52) = v1 c
          ∧ r.2.mem ((c.tc : Thread Cert.LossRefIdeal.nD Cert.LossRefIdeal.τ).loc Cert.LossRefIdeal.main_v34) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_ConvNorm_ConvNormIdeal : Prop :=
  True

def algebraic_ConvNormIdeal_ConvNormRefIdeal_pre_pre_cpb [hConvNormIdeal : Cert.ConvNormIdeal.Facts] [hConvNormRefIdeal : Cert.ConvNormRefIdeal.Facts] [hPre_pre_cpb : Cert.Pre_pre_cpb.Facts] : Prop :=
  ∀ (m : (ℓ : Loc Cert.ConvNormIdeal.nD Cert.ConvNormIdeal.τ Cert.ConvNormIdeal.sig) → Buf (Elt Ideal) ℓ) (g : Dev Cert.ConvNormIdeal.nD → PrngReg)
    (m' : (ℓ : Loc Cert.ConvNormRefIdeal.nD Cert.ConvNormRefIdeal.τ Cert.ConvNormRefIdeal.sig) → Buf (Elt Ideal) ℓ) (g' : Dev Cert.ConvNormRefIdeal.nD → PrngReg), Pre_ConvNormIdeal_pre_cpb m →
    (∀ c : Dev Cert.ConvNormIdeal.nD,
      m' ((c.tc : Thread Cert.ConvNormRefIdeal.nD Cert.ConvNormRefIdeal.τ).loc Cert.ConvNormRefIdeal.main_arg0) = m ((c.tc : Thread Cert.ConvNormIdeal.nD Cert.ConvNormIdeal.τ).loc Cert.ConvNormIdeal.main_arg0)
      ∧ m' ((c.tc : Thread Cert.ConvNormRefIdeal.nD Cert.ConvNormRefIdeal.τ).loc Cert.ConvNormRefIdeal.main_arg1) = m ((c.tc : Thread Cert.ConvNormIdeal.nD Cert.ConvNormIdeal.τ).loc Cert.ConvNormIdeal.main_arg1)
      ∧ m' ((c.tc : Thread Cert.ConvNormRefIdeal.nD Cert.ConvNormRefIdeal.τ).loc Cert.ConvNormRefIdeal.main_arg2) = m ((c.tc : Thread Cert.ConvNormIdeal.nD Cert.ConvNormIdeal.τ).loc Cert.ConvNormIdeal.main_arg2)
      ∧ m' ((c.tc : Thread Cert.ConvNormRefIdeal.nD Cert.ConvNormRefIdeal.τ).loc Cert.ConvNormRefIdeal.main_arg3) = m ((c.tc : Thread Cert.ConvNormIdeal.nD Cert.ConvNormIdeal.τ).loc Cert.ConvNormIdeal.main_arg3)
      ∧ m' ((c.tc : Thread Cert.ConvNormRefIdeal.nD Cert.ConvNormRefIdeal.τ).loc Cert.ConvNormRefIdeal.main_arg4) = m ((c.tc : Thread Cert.ConvNormIdeal.nD Cert.ConvNormIdeal.τ).loc Cert.ConvNormIdeal.main_arg4)
      ∧ m' ((c.tc : Thread Cert.ConvNormRefIdeal.nD Cert.ConvNormRefIdeal.τ).loc Cert.ConvNormRefIdeal.main_arg5) = m ((c.tc : Thread Cert.ConvNormIdeal.nD Cert.ConvNormIdeal.τ).loc Cert.ConvNormIdeal.main_arg5)) →
    ∃ (v0 : (c : Dev Cert.ConvNormIdeal.nD) → Buf (Elt Ideal) ((c.tc : Thread Cert.ConvNormIdeal.nD Cert.ConvNormIdeal.τ).loc Cert.ConvNormIdeal.main_v4_0)) (v1 : (c : Dev Cert.ConvNormIdeal.nD) → Buf (Elt Ideal) ((c.tc : Thread Cert.ConvNormIdeal.nD Cert.ConvNormIdeal.τ).loc Cert.ConvNormIdeal.main_v4_1)) (v2 : (c : Dev Cert.ConvNormIdeal.nD) → Buf (Elt Ideal) ((c.tc : Thread Cert.ConvNormIdeal.nD Cert.ConvNormIdeal.τ).loc Cert.ConvNormIdeal.main_v4_2)) (v3 : (c : Dev Cert.ConvNormIdeal.nD) → Buf (Elt Ideal) ((c.tc : Thread Cert.ConvNormIdeal.nD Cert.ConvNormIdeal.τ).loc Cert.ConvNormIdeal.main_v4_3)),
      θ_run (Cert.ConvNormIdeal.defs (F := Ideal)) (onTc (τ := Cert.ConvNormIdeal.τ) (Cert.ConvNormIdeal.main (F := Ideal))) ⟨m, fun _ => 0, g⟩ (fun r => ∀ c : Dev Cert.ConvNormIdeal.nD,
          r.2.mem ((c.tc : Thread Cert.ConvNormIdeal.nD Cert.ConvNormIdeal.τ).loc Cert.ConvNormIdeal.main_v4_0) = v0 c
          ∧ r.2.mem ((c.tc : Thread Cert.ConvNormIdeal.nD Cert.ConvNormIdeal.τ).loc Cert.ConvNormIdeal.main_v4_1) = v1 c
          ∧ r.2.mem ((c.tc : Thread Cert.ConvNormIdeal.nD Cert.ConvNormIdeal.τ).loc Cert.ConvNormIdeal.main_v4_2) = v2 c
          ∧ r.2.mem ((c.tc : Thread Cert.ConvNormIdeal.nD Cert.ConvNormIdeal.τ).loc Cert.ConvNormIdeal.main_v4_3) = v3 c
          ∧ r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
          ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
          ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2)
          ∧ r.2.mem ((c.tc : Thread Cert.ConvNormIdeal.nD Cert.ConvNormIdeal.τ).loc Cert.ConvNormIdeal.main_arg3) = m ((c.tc : Thread Cert.ConvNormIdeal.nD Cert.ConvNormIdeal.τ).loc Cert.ConvNormIdeal.main_arg3)
          ∧ r.2.mem ((c.tc : Thread Cert.ConvNormIdeal.nD Cert.ConvNormIdeal.τ).loc Cert.ConvNormIdeal.main_arg4) = m ((c.tc : Thread Cert.ConvNormIdeal.nD Cert.ConvNormIdeal.τ).loc Cert.ConvNormIdeal.main_arg4)
          ∧ r.2.mem ((c.tc : Thread Cert.ConvNormIdeal.nD Cert.ConvNormIdeal.τ).loc Cert.ConvNormIdeal.main_arg5) = m ((c.tc : Thread Cert.ConvNormIdeal.nD Cert.ConvNormIdeal.τ).loc Cert.ConvNormIdeal.main_arg5))
      ∧ θ_run (Cert.ConvNormRefIdeal.defs (F := Ideal)) (onTc (τ := Cert.ConvNormRefIdeal.τ) (Cert.ConvNormRefIdeal.main (F := Ideal))) ⟨m', fun _ => 0, g'⟩ (fun r => ∀ c : Dev Cert.ConvNormRefIdeal.nD,
          r.2.mem ((c.tc : Thread Cert.ConvNormRefIdeal.nD Cert.ConvNormRefIdeal.τ).loc Cert.ConvNormRefIdeal.main_v67) = v0 c
          ∧ r.2.mem ((c.tc : Thread Cert.ConvNormRefIdeal.nD Cert.ConvNormRefIdeal.τ).loc Cert.ConvNormRefIdeal.main_v37) = v1 c
          ∧ r.2.mem ((c.tc : Thread Cert.ConvNormRefIdeal.nD Cert.ConvNormRefIdeal.τ).loc Cert.ConvNormRefIdeal.main_v34) = v2 c
          ∧ r.2.mem ((c.tc : Thread Cert.ConvNormRefIdeal.nD Cert.ConvNormRefIdeal.τ).loc Cert.ConvNormRefIdeal.main_v65) = v3 c
          ∧ r.2.mem ((c.tc : Thread Cert.ConvNormRefIdeal.nD Cert.ConvNormRefIdeal.τ).loc Cert.ConvNormRefIdeal.main_arg0) = m' ((c.tc : Thread Cert.ConvNormRefIdeal.nD Cert.ConvNormRefIdeal.τ).loc Cert.ConvNormRefIdeal.main_arg0)
          ∧ r.2.mem ((c.tc : Thread Cert.ConvNormRefIdeal.nD Cert.ConvNormRefIdeal.τ).loc Cert.ConvNormRefIdeal.main_arg1) = m' ((c.tc : Thread Cert.ConvNormRefIdeal.nD Cert.ConvNormRefIdeal.τ).loc Cert.ConvNormRefIdeal.main_arg1)
          ∧ r.2.mem ((c.tc : Thread Cert.ConvNormRefIdeal.nD Cert.ConvNormRefIdeal.τ).loc Cert.ConvNormRefIdeal.main_arg2) = m' ((c.tc : Thread Cert.ConvNormRefIdeal.nD Cert.ConvNormRefIdeal.τ).loc Cert.ConvNormRefIdeal.main_arg2)
          ∧ r.2.mem ((c.tc : Thread Cert.ConvNormRefIdeal.nD Cert.ConvNormRefIdeal.τ).loc Cert.ConvNormRefIdeal.main_arg3) = m' ((c.tc : Thread Cert.ConvNormRefIdeal.nD Cert.ConvNormRefIdeal.τ).loc Cert.ConvNormRefIdeal.main_arg3)
          ∧ r.2.mem ((c.tc : Thread Cert.ConvNormRefIdeal.nD Cert.ConvNormRefIdeal.τ).loc Cert.ConvNormRefIdeal.main_arg4) = m' ((c.tc : Thread Cert.ConvNormRefIdeal.nD Cert.ConvNormRefIdeal.τ).loc Cert.ConvNormRefIdeal.main_arg4)
          ∧ r.2.mem ((c.tc : Thread Cert.ConvNormRefIdeal.nD Cert.ConvNormRefIdeal.τ).loc Cert.ConvNormRefIdeal.main_arg5) = m' ((c.tc : Thread Cert.ConvNormRefIdeal.nD Cert.ConvNormRefIdeal.τ).loc Cert.ConvNormRefIdeal.main_arg5))

def preserves_CrossFwd_CrossFwdIdeal : Prop :=
  True

def algebraic_CrossFwdIdeal_CrossFwdRefIdeal_pre_pre_cqf [hCrossFwdIdeal : Cert.CrossFwdIdeal.Facts] [hCrossFwdRefIdeal : Cert.CrossFwdRefIdeal.Facts] [hPre_pre_cqf : Cert.Pre_pre_cqf.Facts] : Prop :=
  ∀ (m : (ℓ : Loc Cert.CrossFwdIdeal.nD Cert.CrossFwdIdeal.τ Cert.CrossFwdIdeal.sig) → Buf (Elt Ideal) ℓ) (g : Dev Cert.CrossFwdIdeal.nD → PrngReg)
    (m' : (ℓ : Loc Cert.CrossFwdRefIdeal.nD Cert.CrossFwdRefIdeal.τ Cert.CrossFwdRefIdeal.sig) → Buf (Elt Ideal) ℓ) (g' : Dev Cert.CrossFwdRefIdeal.nD → PrngReg), Pre_CrossFwdIdeal_pre_cqf m →
    (∀ c : Dev Cert.CrossFwdIdeal.nD,
      m' ((c.tc : Thread Cert.CrossFwdRefIdeal.nD Cert.CrossFwdRefIdeal.τ).loc Cert.CrossFwdRefIdeal.main_arg0) = m ((c.tc : Thread Cert.CrossFwdIdeal.nD Cert.CrossFwdIdeal.τ).loc Cert.CrossFwdIdeal.main_arg0)
      ∧ m' ((c.tc : Thread Cert.CrossFwdRefIdeal.nD Cert.CrossFwdRefIdeal.τ).loc Cert.CrossFwdRefIdeal.main_arg1) = m ((c.tc : Thread Cert.CrossFwdIdeal.nD Cert.CrossFwdIdeal.τ).loc Cert.CrossFwdIdeal.main_arg1)
      ∧ m' ((c.tc : Thread Cert.CrossFwdRefIdeal.nD Cert.CrossFwdRefIdeal.τ).loc Cert.CrossFwdRefIdeal.main_arg2) = m ((c.tc : Thread Cert.CrossFwdIdeal.nD Cert.CrossFwdIdeal.τ).loc Cert.CrossFwdIdeal.main_arg2)
      ∧ m' ((c.tc : Thread Cert.CrossFwdRefIdeal.nD Cert.CrossFwdRefIdeal.τ).loc Cert.CrossFwdRefIdeal.main_arg3) = m ((c.tc : Thread Cert.CrossFwdIdeal.nD Cert.CrossFwdIdeal.τ).loc Cert.CrossFwdIdeal.main_arg3)) →
    ∃ (v0 : (c : Dev Cert.CrossFwdIdeal.nD) → Buf (Elt Ideal) ((c.tc : Thread Cert.CrossFwdIdeal.nD Cert.CrossFwdIdeal.τ).loc Cert.CrossFwdIdeal.main_v4_0)) (v1 : (c : Dev Cert.CrossFwdIdeal.nD) → Buf (Elt Ideal) ((c.tc : Thread Cert.CrossFwdIdeal.nD Cert.CrossFwdIdeal.τ).loc Cert.CrossFwdIdeal.main_v4_1)),
      θ_run (Cert.CrossFwdIdeal.defs (F := Ideal)) (onTc (τ := Cert.CrossFwdIdeal.τ) (Cert.CrossFwdIdeal.main (F := Ideal))) ⟨m, fun _ => 0, g⟩ (fun r => ∀ c : Dev Cert.CrossFwdIdeal.nD,
          r.2.mem ((c.tc : Thread Cert.CrossFwdIdeal.nD Cert.CrossFwdIdeal.τ).loc Cert.CrossFwdIdeal.main_v4_0) = v0 c
          ∧ r.2.mem ((c.tc : Thread Cert.CrossFwdIdeal.nD Cert.CrossFwdIdeal.τ).loc Cert.CrossFwdIdeal.main_v4_1) = v1 c
          ∧ r.2.mem ((c.tc : Thread Cert.CrossFwdIdeal.nD Cert.CrossFwdIdeal.τ).loc Cert.CrossFwdIdeal.main_arg0) = m ((c.tc : Thread Cert.CrossFwdIdeal.nD Cert.CrossFwdIdeal.τ).loc Cert.CrossFwdIdeal.main_arg0)
          ∧ r.2.mem ((c.tc : Thread Cert.CrossFwdIdeal.nD Cert.CrossFwdIdeal.τ).loc Cert.CrossFwdIdeal.main_arg1) = m ((c.tc : Thread Cert.CrossFwdIdeal.nD Cert.CrossFwdIdeal.τ).loc Cert.CrossFwdIdeal.main_arg1)
          ∧ r.2.mem ((c.tc : Thread Cert.CrossFwdIdeal.nD Cert.CrossFwdIdeal.τ).loc Cert.CrossFwdIdeal.main_arg2) = m ((c.tc : Thread Cert.CrossFwdIdeal.nD Cert.CrossFwdIdeal.τ).loc Cert.CrossFwdIdeal.main_arg2)
          ∧ r.2.mem ((c.tc : Thread Cert.CrossFwdIdeal.nD Cert.CrossFwdIdeal.τ).loc Cert.CrossFwdIdeal.main_arg3) = m ((c.tc : Thread Cert.CrossFwdIdeal.nD Cert.CrossFwdIdeal.τ).loc Cert.CrossFwdIdeal.main_arg3))
      ∧ θ_run (Cert.CrossFwdRefIdeal.defs (F := Ideal)) (onTc (τ := Cert.CrossFwdRefIdeal.τ) (Cert.CrossFwdRefIdeal.main (F := Ideal))) ⟨m', fun _ => 0, g'⟩ (fun r => ∀ c : Dev Cert.CrossFwdRefIdeal.nD,
          r.2.mem ((c.tc : Thread Cert.CrossFwdRefIdeal.nD Cert.CrossFwdRefIdeal.τ).loc Cert.CrossFwdRefIdeal.main_v21) = v0 c
          ∧ r.2.mem ((c.tc : Thread Cert.CrossFwdRefIdeal.nD Cert.CrossFwdRefIdeal.τ).loc Cert.CrossFwdRefIdeal.main_v22) = v1 c
          ∧ r.2.mem ((c.tc : Thread Cert.CrossFwdRefIdeal.nD Cert.CrossFwdRefIdeal.τ).loc Cert.CrossFwdRefIdeal.main_arg0) = m' ((c.tc : Thread Cert.CrossFwdRefIdeal.nD Cert.CrossFwdRefIdeal.τ).loc Cert.CrossFwdRefIdeal.main_arg0)
          ∧ r.2.mem ((c.tc : Thread Cert.CrossFwdRefIdeal.nD Cert.CrossFwdRefIdeal.τ).loc Cert.CrossFwdRefIdeal.main_arg1) = m' ((c.tc : Thread Cert.CrossFwdRefIdeal.nD Cert.CrossFwdRefIdeal.τ).loc Cert.CrossFwdRefIdeal.main_arg1)
          ∧ r.2.mem ((c.tc : Thread Cert.CrossFwdRefIdeal.nD Cert.CrossFwdRefIdeal.τ).loc Cert.CrossFwdRefIdeal.main_arg2) = m' ((c.tc : Thread Cert.CrossFwdRefIdeal.nD Cert.CrossFwdRefIdeal.τ).loc Cert.CrossFwdRefIdeal.main_arg2)
          ∧ r.2.mem ((c.tc : Thread Cert.CrossFwdRefIdeal.nD Cert.CrossFwdRefIdeal.τ).loc Cert.CrossFwdRefIdeal.main_arg3) = m' ((c.tc : Thread Cert.CrossFwdRefIdeal.nD Cert.CrossFwdRefIdeal.τ).loc Cert.CrossFwdRefIdeal.main_arg3))

def preserves_AttnFwdA_AttnFwdAIdeal : Prop :=
  IdealRules.named_const.Statement Cert.AttnFwdAIdeal.κ "mask" .f32 0xF149F2CA#32 ⊥

def algebraic_AttnFwdAIdeal_AttnFwdARefIdeal_pre_pre_af0 [hAttnFwdAIdeal : Cert.AttnFwdAIdeal.Facts] [hAttnFwdARefIdeal : Cert.AttnFwdARefIdeal.Facts] [hPre_pre_af0 : Cert.Pre_pre_af0.Facts] : Prop :=
  ∀ (m : (ℓ : Loc Cert.AttnFwdAIdeal.nD Cert.AttnFwdAIdeal.τ Cert.AttnFwdAIdeal.sig) → Buf (Elt Ideal) ℓ) (g : Dev Cert.AttnFwdAIdeal.nD → PrngReg)
    (m' : (ℓ : Loc Cert.AttnFwdARefIdeal.nD Cert.AttnFwdARefIdeal.τ Cert.AttnFwdARefIdeal.sig) → Buf (Elt Ideal) ℓ) (g' : Dev Cert.AttnFwdARefIdeal.nD → PrngReg), Pre_AttnFwdAIdeal_pre_af0 m →
    (∀ c : Dev Cert.AttnFwdAIdeal.nD,
      m' ((c.tc : Thread Cert.AttnFwdARefIdeal.nD Cert.AttnFwdARefIdeal.τ).loc Cert.AttnFwdARefIdeal.main_arg0) = m ((c.tc : Thread Cert.AttnFwdAIdeal.nD Cert.AttnFwdAIdeal.τ).loc Cert.AttnFwdAIdeal.main_arg0)
      ∧ m' ((c.tc : Thread Cert.AttnFwdARefIdeal.nD Cert.AttnFwdARefIdeal.τ).loc Cert.AttnFwdARefIdeal.main_arg1) = m ((c.tc : Thread Cert.AttnFwdAIdeal.nD Cert.AttnFwdAIdeal.τ).loc Cert.AttnFwdAIdeal.main_arg1)
      ∧ m' ((c.tc : Thread Cert.AttnFwdARefIdeal.nD Cert.AttnFwdARefIdeal.τ).loc Cert.AttnFwdARefIdeal.main_arg2) = m ((c.tc : Thread Cert.AttnFwdAIdeal.nD Cert.AttnFwdAIdeal.τ).loc Cert.AttnFwdAIdeal.main_arg2)) →
    ∃ (v0 : (c : Dev Cert.AttnFwdAIdeal.nD) → Buf (Elt Ideal) ((c.tc : Thread Cert.AttnFwdAIdeal.nD Cert.AttnFwdAIdeal.τ).loc Cert.AttnFwdAIdeal.main_v4_0)) (v1 : (c : Dev Cert.AttnFwdAIdeal.nD) → Buf (Elt Ideal) ((c.tc : Thread Cert.AttnFwdAIdeal.nD Cert.AttnFwdAIdeal.τ).loc Cert.AttnFwdAIdeal.main_v4_1)),
      θ_run (Cert.AttnFwdAIdeal.defs (F := Ideal)) (onTc (τ := Cert.AttnFwdAIdeal.τ) (Cert.AttnFwdAIdeal.main (F := Ideal))) ⟨m, fun _ => 0, g⟩ (fun r => ∀ c : Dev Cert.AttnFwdAIdeal.nD,
          r.2.mem ((c.tc : Thread Cert.AttnFwdAIdeal.nD Cert.AttnFwdAIdeal.τ).loc Cert.AttnFwdAIdeal.main_v4_0) = v0 c
          ∧ r.2.mem ((c.tc : Thread Cert.AttnFwdAIdeal.nD Cert.AttnFwdAIdeal.τ).loc Cert.AttnFwdAIdeal.main_v4_1) = v1 c
          ∧ r.2.mem ((c.tc : Thread Cert.AttnFwdAIdeal.nD Cert.AttnFwdAIdeal.τ).loc Cert.AttnFwdAIdeal.main_arg0) = m ((c.tc : Thread Cert.AttnFwdAIdeal.nD Cert.AttnFwdAIdeal.τ).loc Cert.AttnFwdAIdeal.main_arg0)
          ∧ r.2.mem ((c.tc : Thread Cert.AttnFwdAIdeal.nD Cert.AttnFwdAIdeal.τ).loc Cert.AttnFwdAIdeal.main_arg1) = m ((c.tc : Thread Cert.AttnFwdAIdeal.nD Cert.AttnFwdAIdeal.τ).loc Cert.AttnFwdAIdeal.main_arg1)
          ∧ r.2.mem ((c.tc : Thread Cert.AttnFwdAIdeal.nD Cert.AttnFwdAIdeal.τ).loc Cert.AttnFwdAIdeal.main_arg2) = m ((c.tc : Thread Cert.AttnFwdAIdeal.nD Cert.AttnFwdAIdeal.τ).loc Cert.AttnFwdAIdeal.main_arg2))
      ∧ θ_run (Cert.AttnFwdARefIdeal.defs (F := Ideal)) (onTc (τ := Cert.AttnFwdARefIdeal.τ) (Cert.AttnFwdARefIdeal.main (F := Ideal))) ⟨m', fun _ => 0, g'⟩ (fun r => ∀ c : Dev Cert.AttnFwdARefIdeal.nD,
          r.2.mem ((c.tc : Thread Cert.AttnFwdARefIdeal.nD Cert.AttnFwdARefIdeal.τ).loc Cert.AttnFwdARefIdeal.main_v55) = v0 c
          ∧ r.2.mem ((c.tc : Thread Cert.AttnFwdARefIdeal.nD Cert.AttnFwdARefIdeal.τ).loc Cert.AttnFwdARefIdeal.main_v54) = v1 c
          ∧ r.2.mem ((c.tc : Thread Cert.AttnFwdARefIdeal.nD Cert.AttnFwdARefIdeal.τ).loc Cert.AttnFwdARefIdeal.main_arg0) = m' ((c.tc : Thread Cert.AttnFwdARefIdeal.nD Cert.AttnFwdARefIdeal.τ).loc Cert.AttnFwdARefIdeal.main_arg0)
          ∧ r.2.mem ((c.tc : Thread Cert.AttnFwdARefIdeal.nD Cert.AttnFwdARefIdeal.τ).loc Cert.AttnFwdARefIdeal.main_arg1) = m' ((c.tc : Thread Cert.AttnFwdARefIdeal.nD Cert.AttnFwdARefIdeal.τ).loc Cert.AttnFwdARefIdeal.main_arg1)
          ∧ r.2.mem ((c.tc : Thread Cert.AttnFwdARefIdeal.nD Cert.AttnFwdARefIdeal.τ).loc Cert.AttnFwdARefIdeal.main_arg2) = m' ((c.tc : Thread Cert.AttnFwdARefIdeal.nD Cert.AttnFwdARefIdeal.τ).loc Cert.AttnFwdARefIdeal.main_arg2))

def preserves_AttnFwdB_AttnFwdBIdeal : Prop :=
  IdealRules.named_const.Statement Cert.AttnFwdBIdeal.κ "mask" .f32 0xF149F2CA#32 ⊥

def algebraic_AttnFwdBIdeal_AttnFwdBRefIdeal_pre_pre_af1 [hAttnFwdBIdeal : Cert.AttnFwdBIdeal.Facts] [hAttnFwdBRefIdeal : Cert.AttnFwdBRefIdeal.Facts] [hPre_pre_af1 : Cert.Pre_pre_af1.Facts] : Prop :=
  ∀ (m : (ℓ : Loc Cert.AttnFwdBIdeal.nD Cert.AttnFwdBIdeal.τ Cert.AttnFwdBIdeal.sig) → Buf (Elt Ideal) ℓ) (g : Dev Cert.AttnFwdBIdeal.nD → PrngReg)
    (m' : (ℓ : Loc Cert.AttnFwdBRefIdeal.nD Cert.AttnFwdBRefIdeal.τ Cert.AttnFwdBRefIdeal.sig) → Buf (Elt Ideal) ℓ) (g' : Dev Cert.AttnFwdBRefIdeal.nD → PrngReg), Pre_AttnFwdBIdeal_pre_af1 m →
    (∀ c : Dev Cert.AttnFwdBIdeal.nD,
      m' ((c.tc : Thread Cert.AttnFwdBRefIdeal.nD Cert.AttnFwdBRefIdeal.τ).loc Cert.AttnFwdBRefIdeal.main_arg0) = m ((c.tc : Thread Cert.AttnFwdBIdeal.nD Cert.AttnFwdBIdeal.τ).loc Cert.AttnFwdBIdeal.main_arg0)
      ∧ m' ((c.tc : Thread Cert.AttnFwdBRefIdeal.nD Cert.AttnFwdBRefIdeal.τ).loc Cert.AttnFwdBRefIdeal.main_arg1) = m ((c.tc : Thread Cert.AttnFwdBIdeal.nD Cert.AttnFwdBIdeal.τ).loc Cert.AttnFwdBIdeal.main_arg1)
      ∧ m' ((c.tc : Thread Cert.AttnFwdBRefIdeal.nD Cert.AttnFwdBRefIdeal.τ).loc Cert.AttnFwdBRefIdeal.main_arg2) = m ((c.tc : Thread Cert.AttnFwdBIdeal.nD Cert.AttnFwdBIdeal.τ).loc Cert.AttnFwdBIdeal.main_arg2)) →
    ∃ (v0 : (c : Dev Cert.AttnFwdBIdeal.nD) → Buf (Elt Ideal) ((c.tc : Thread Cert.AttnFwdBIdeal.nD Cert.AttnFwdBIdeal.τ).loc Cert.AttnFwdBIdeal.main_v4_0)) (v1 : (c : Dev Cert.AttnFwdBIdeal.nD) → Buf (Elt Ideal) ((c.tc : Thread Cert.AttnFwdBIdeal.nD Cert.AttnFwdBIdeal.τ).loc Cert.AttnFwdBIdeal.main_v4_1)),
      θ_run (Cert.AttnFwdBIdeal.defs (F := Ideal)) (onTc (τ := Cert.AttnFwdBIdeal.τ) (Cert.AttnFwdBIdeal.main (F := Ideal))) ⟨m, fun _ => 0, g⟩ (fun r => ∀ c : Dev Cert.AttnFwdBIdeal.nD,
          r.2.mem ((c.tc : Thread Cert.AttnFwdBIdeal.nD Cert.AttnFwdBIdeal.τ).loc Cert.AttnFwdBIdeal.main_v4_0) = v0 c
          ∧ r.2.mem ((c.tc : Thread Cert.AttnFwdBIdeal.nD Cert.AttnFwdBIdeal.τ).loc Cert.AttnFwdBIdeal.main_v4_1) = v1 c
          ∧ r.2.mem ((c.tc : Thread Cert.AttnFwdBIdeal.nD Cert.AttnFwdBIdeal.τ).loc Cert.AttnFwdBIdeal.main_arg0) = m ((c.tc : Thread Cert.AttnFwdBIdeal.nD Cert.AttnFwdBIdeal.τ).loc Cert.AttnFwdBIdeal.main_arg0)
          ∧ r.2.mem ((c.tc : Thread Cert.AttnFwdBIdeal.nD Cert.AttnFwdBIdeal.τ).loc Cert.AttnFwdBIdeal.main_arg1) = m ((c.tc : Thread Cert.AttnFwdBIdeal.nD Cert.AttnFwdBIdeal.τ).loc Cert.AttnFwdBIdeal.main_arg1)
          ∧ r.2.mem ((c.tc : Thread Cert.AttnFwdBIdeal.nD Cert.AttnFwdBIdeal.τ).loc Cert.AttnFwdBIdeal.main_arg2) = m ((c.tc : Thread Cert.AttnFwdBIdeal.nD Cert.AttnFwdBIdeal.τ).loc Cert.AttnFwdBIdeal.main_arg2))
      ∧ θ_run (Cert.AttnFwdBRefIdeal.defs (F := Ideal)) (onTc (τ := Cert.AttnFwdBRefIdeal.τ) (Cert.AttnFwdBRefIdeal.main (F := Ideal))) ⟨m', fun _ => 0, g'⟩ (fun r => ∀ c : Dev Cert.AttnFwdBRefIdeal.nD,
          r.2.mem ((c.tc : Thread Cert.AttnFwdBRefIdeal.nD Cert.AttnFwdBRefIdeal.τ).loc Cert.AttnFwdBRefIdeal.main_v55) = v0 c
          ∧ r.2.mem ((c.tc : Thread Cert.AttnFwdBRefIdeal.nD Cert.AttnFwdBRefIdeal.τ).loc Cert.AttnFwdBRefIdeal.main_v54) = v1 c
          ∧ r.2.mem ((c.tc : Thread Cert.AttnFwdBRefIdeal.nD Cert.AttnFwdBRefIdeal.τ).loc Cert.AttnFwdBRefIdeal.main_arg0) = m' ((c.tc : Thread Cert.AttnFwdBRefIdeal.nD Cert.AttnFwdBRefIdeal.τ).loc Cert.AttnFwdBRefIdeal.main_arg0)
          ∧ r.2.mem ((c.tc : Thread Cert.AttnFwdBRefIdeal.nD Cert.AttnFwdBRefIdeal.τ).loc Cert.AttnFwdBRefIdeal.main_arg1) = m' ((c.tc : Thread Cert.AttnFwdBRefIdeal.nD Cert.AttnFwdBRefIdeal.τ).loc Cert.AttnFwdBRefIdeal.main_arg1)
          ∧ r.2.mem ((c.tc : Thread Cert.AttnFwdBRefIdeal.nD Cert.AttnFwdBRefIdeal.τ).loc Cert.AttnFwdBRefIdeal.main_arg2) = m' ((c.tc : Thread Cert.AttnFwdBRefIdeal.nD Cert.AttnFwdBRefIdeal.τ).loc Cert.AttnFwdBRefIdeal.main_arg2))

def preserves_AttnFwdC_AttnFwdCIdeal : Prop :=
  IdealRules.named_const.Statement Cert.AttnFwdCIdeal.κ "mask" .f32 0xF149F2CA#32 ⊥

def algebraic_AttnFwdCIdeal_AttnFwdCRefIdeal_pre_pre_af2 [hAttnFwdCIdeal : Cert.AttnFwdCIdeal.Facts] [hAttnFwdCRefIdeal : Cert.AttnFwdCRefIdeal.Facts] [hPre_pre_af2 : Cert.Pre_pre_af2.Facts] : Prop :=
  ∀ (m : (ℓ : Loc Cert.AttnFwdCIdeal.nD Cert.AttnFwdCIdeal.τ Cert.AttnFwdCIdeal.sig) → Buf (Elt Ideal) ℓ) (g : Dev Cert.AttnFwdCIdeal.nD → PrngReg)
    (m' : (ℓ : Loc Cert.AttnFwdCRefIdeal.nD Cert.AttnFwdCRefIdeal.τ Cert.AttnFwdCRefIdeal.sig) → Buf (Elt Ideal) ℓ) (g' : Dev Cert.AttnFwdCRefIdeal.nD → PrngReg), Pre_AttnFwdCIdeal_pre_af2 m →
    (∀ c : Dev Cert.AttnFwdCIdeal.nD,
      m' ((c.tc : Thread Cert.AttnFwdCRefIdeal.nD Cert.AttnFwdCRefIdeal.τ).loc Cert.AttnFwdCRefIdeal.main_arg0) = m ((c.tc : Thread Cert.AttnFwdCIdeal.nD Cert.AttnFwdCIdeal.τ).loc Cert.AttnFwdCIdeal.main_arg0)
      ∧ m' ((c.tc : Thread Cert.AttnFwdCRefIdeal.nD Cert.AttnFwdCRefIdeal.τ).loc Cert.AttnFwdCRefIdeal.main_arg1) = m ((c.tc : Thread Cert.AttnFwdCIdeal.nD Cert.AttnFwdCIdeal.τ).loc Cert.AttnFwdCIdeal.main_arg1)
      ∧ m' ((c.tc : Thread Cert.AttnFwdCRefIdeal.nD Cert.AttnFwdCRefIdeal.τ).loc Cert.AttnFwdCRefIdeal.main_arg2) = m ((c.tc : Thread Cert.AttnFwdCIdeal.nD Cert.AttnFwdCIdeal.τ).loc Cert.AttnFwdCIdeal.main_arg2)) →
    ∃ (v0 : (c : Dev Cert.AttnFwdCIdeal.nD) → Buf (Elt Ideal) ((c.tc : Thread Cert.AttnFwdCIdeal.nD Cert.AttnFwdCIdeal.τ).loc Cert.AttnFwdCIdeal.main_v4_0)) (v1 : (c : Dev Cert.AttnFwdCIdeal.nD) → Buf (Elt Ideal) ((c.tc : Thread Cert.AttnFwdCIdeal.nD Cert.AttnFwdCIdeal.τ).loc Cert.AttnFwdCIdeal.main_v4_1)),
      θ_run (Cert.AttnFwdCIdeal.defs (F := Ideal)) (onTc (τ := Cert.AttnFwdCIdeal.τ) (Cert.AttnFwdCIdeal.main (F := Ideal))) ⟨m, fun _ => 0, g⟩ (fun r => ∀ c : Dev Cert.AttnFwdCIdeal.nD,
          r.2.mem ((c.tc : Thread Cert.AttnFwdCIdeal.nD Cert.AttnFwdCIdeal.τ).loc Cert.AttnFwdCIdeal.main_v4_0) = v0 c
          ∧ r.2.mem ((c.tc : Thread Cert.AttnFwdCIdeal.nD Cert.AttnFwdCIdeal.τ).loc Cert.AttnFwdCIdeal.main_v4_1) = v1 c
          ∧ r.2.mem ((c.tc : Thread Cert.AttnFwdCIdeal.nD Cert.AttnFwdCIdeal.τ).loc Cert.AttnFwdCIdeal.main_arg0) = m ((c.tc : Thread Cert.AttnFwdCIdeal.nD Cert.AttnFwdCIdeal.τ).loc Cert.AttnFwdCIdeal.main_arg0)
          ∧ r.2.mem ((c.tc : Thread Cert.AttnFwdCIdeal.nD Cert.AttnFwdCIdeal.τ).loc Cert.AttnFwdCIdeal.main_arg1) = m ((c.tc : Thread Cert.AttnFwdCIdeal.nD Cert.AttnFwdCIdeal.τ).loc Cert.AttnFwdCIdeal.main_arg1)
          ∧ r.2.mem ((c.tc : Thread Cert.AttnFwdCIdeal.nD Cert.AttnFwdCIdeal.τ).loc Cert.AttnFwdCIdeal.main_arg2) = m ((c.tc : Thread Cert.AttnFwdCIdeal.nD Cert.AttnFwdCIdeal.τ).loc Cert.AttnFwdCIdeal.main_arg2))
      ∧ θ_run (Cert.AttnFwdCRefIdeal.defs (F := Ideal)) (onTc (τ := Cert.AttnFwdCRefIdeal.τ) (Cert.AttnFwdCRefIdeal.main (F := Ideal))) ⟨m', fun _ => 0, g'⟩ (fun r => ∀ c : Dev Cert.AttnFwdCRefIdeal.nD,
          r.2.mem ((c.tc : Thread Cert.AttnFwdCRefIdeal.nD Cert.AttnFwdCRefIdeal.τ).loc Cert.AttnFwdCRefIdeal.main_v55) = v0 c
          ∧ r.2.mem ((c.tc : Thread Cert.AttnFwdCRefIdeal.nD Cert.AttnFwdCRefIdeal.τ).loc Cert.AttnFwdCRefIdeal.main_v54) = v1 c
          ∧ r.2.mem ((c.tc : Thread Cert.AttnFwdCRefIdeal.nD Cert.AttnFwdCRefIdeal.τ).loc Cert.AttnFwdCRefIdeal.main_arg0) = m' ((c.tc : Thread Cert.AttnFwdCRefIdeal.nD Cert.AttnFwdCRefIdeal.τ).loc Cert.AttnFwdCRefIdeal.main_arg0)
          ∧ r.2.mem ((c.tc : Thread Cert.AttnFwdCRefIdeal.nD Cert.AttnFwdCRefIdeal.τ).loc Cert.AttnFwdCRefIdeal.main_arg1) = m' ((c.tc : Thread Cert.AttnFwdCRefIdeal.nD Cert.AttnFwdCRefIdeal.τ).loc Cert.AttnFwdCRefIdeal.main_arg1)
          ∧ r.2.mem ((c.tc : Thread Cert.AttnFwdCRefIdeal.nD Cert.AttnFwdCRefIdeal.τ).loc Cert.AttnFwdCRefIdeal.main_arg2) = m' ((c.tc : Thread Cert.AttnFwdCRefIdeal.nD Cert.AttnFwdCRefIdeal.τ).loc Cert.AttnFwdCRefIdeal.main_arg2))

def preserves_MlpUpFwd_MlpUpFwdIdeal : Prop :=
  True

def algebraic_MlpUpFwdIdeal_MlpUpFwdRefIdeal [hMlpUpFwdIdeal : Cert.MlpUpFwdIdeal.Facts] [hMlpUpFwdRefIdeal : Cert.MlpUpFwdRefIdeal.Facts] : Prop :=
  ∀ (m : (ℓ : Loc Cert.MlpUpFwdIdeal.nD Cert.MlpUpFwdIdeal.τ Cert.MlpUpFwdIdeal.sig) → Buf (Elt Ideal) ℓ) (g : Dev Cert.MlpUpFwdIdeal.nD → PrngReg)
    (m' : (ℓ : Loc Cert.MlpUpFwdRefIdeal.nD Cert.MlpUpFwdRefIdeal.τ Cert.MlpUpFwdRefIdeal.sig) → Buf (Elt Ideal) ℓ) (g' : Dev Cert.MlpUpFwdRefIdeal.nD → PrngReg), Pre_MlpUpFwdIdeal m →
    (∀ c : Dev Cert.MlpUpFwdIdeal.nD,
      m' ((c.tc : Thread Cert.MlpUpFwdRefIdeal.nD Cert.MlpUpFwdRefIdeal.τ).loc Cert.MlpUpFwdRefIdeal.main_arg0) = m ((c.tc : Thread Cert.MlpUpFwdIdeal.nD Cert.MlpUpFwdIdeal.τ).loc Cert.MlpUpFwdIdeal.main_arg0)
      ∧ m' ((c.tc : Thread Cert.MlpUpFwdRefIdeal.nD Cert.MlpUpFwdRefIdeal.τ).loc Cert.MlpUpFwdRefIdeal.main_arg1) = m ((c.tc : Thread Cert.MlpUpFwdIdeal.nD Cert.MlpUpFwdIdeal.τ).loc Cert.MlpUpFwdIdeal.main_arg1)) →
    ∃ (v0 : (c : Dev Cert.MlpUpFwdIdeal.nD) → Buf (Elt Ideal) ((c.tc : Thread Cert.MlpUpFwdIdeal.nD Cert.MlpUpFwdIdeal.τ).loc Cert.MlpUpFwdIdeal.main_v4_0)) (v1 : (c : Dev Cert.MlpUpFwdIdeal.nD) → Buf (Elt Ideal) ((c.tc : Thread Cert.MlpUpFwdIdeal.nD Cert.MlpUpFwdIdeal.τ).loc Cert.MlpUpFwdIdeal.main_v4_1)),
      θ_run (Cert.MlpUpFwdIdeal.defs (F := Ideal)) (onTc (τ := Cert.MlpUpFwdIdeal.τ) (Cert.MlpUpFwdIdeal.main (F := Ideal))) ⟨m, fun _ => 0, g⟩ (fun r => ∀ c : Dev Cert.MlpUpFwdIdeal.nD,
          r.2.mem ((c.tc : Thread Cert.MlpUpFwdIdeal.nD Cert.MlpUpFwdIdeal.τ).loc Cert.MlpUpFwdIdeal.main_v4_0) = v0 c
          ∧ r.2.mem ((c.tc : Thread Cert.MlpUpFwdIdeal.nD Cert.MlpUpFwdIdeal.τ).loc Cert.MlpUpFwdIdeal.main_v4_1) = v1 c
          ∧ r.2.mem ((c.tc : Thread Cert.MlpUpFwdIdeal.nD Cert.MlpUpFwdIdeal.τ).loc Cert.MlpUpFwdIdeal.main_arg0) = m ((c.tc : Thread Cert.MlpUpFwdIdeal.nD Cert.MlpUpFwdIdeal.τ).loc Cert.MlpUpFwdIdeal.main_arg0)
          ∧ r.2.mem ((c.tc : Thread Cert.MlpUpFwdIdeal.nD Cert.MlpUpFwdIdeal.τ).loc Cert.MlpUpFwdIdeal.main_arg1) = m ((c.tc : Thread Cert.MlpUpFwdIdeal.nD Cert.MlpUpFwdIdeal.τ).loc Cert.MlpUpFwdIdeal.main_arg1))
      ∧ θ_run (Cert.MlpUpFwdRefIdeal.defs (F := Ideal)) (onTc (τ := Cert.MlpUpFwdRefIdeal.τ) (Cert.MlpUpFwdRefIdeal.main (F := Ideal))) ⟨m', fun _ => 0, g'⟩ (fun r => ∀ c : Dev Cert.MlpUpFwdRefIdeal.nD,
          r.2.mem ((c.tc : Thread Cert.MlpUpFwdRefIdeal.nD Cert.MlpUpFwdRefIdeal.τ).loc Cert.MlpUpFwdRefIdeal.main_v1) = v0 c
          ∧ r.2.mem ((c.tc : Thread Cert.MlpUpFwdRefIdeal.nD Cert.MlpUpFwdRefIdeal.τ).loc Cert.MlpUpFwdRefIdeal.main_v4) = v1 c
          ∧ r.2.mem ((c.tc : Thread Cert.MlpUpFwdRefIdeal.nD Cert.MlpUpFwdRefIdeal.τ).loc Cert.MlpUpFwdRefIdeal.main_arg0) = m' ((c.tc : Thread Cert.MlpUpFwdRefIdeal.nD Cert.MlpUpFwdRefIdeal.τ).loc Cert.MlpUpFwdRefIdeal.main_arg0)
          ∧ r.2.mem ((c.tc : Thread Cert.MlpUpFwdRefIdeal.nD Cert.MlpUpFwdRefIdeal.τ).loc Cert.MlpUpFwdRefIdeal.main_arg1) = m' ((c.tc : Thread Cert.MlpUpFwdRefIdeal.nD Cert.MlpUpFwdRefIdeal.τ).loc Cert.MlpUpFwdRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v5_0)) (v1 : (c : Dev Cert.MixIdeal.nD) → Buf (Elt Ideal) ((c.tc : Thread Cert.MixIdeal.nD Cert.MixIdeal.τ).loc Cert.MixIdeal.main_v5_1)) (v2 : (c : Dev Cert.MixIdeal.nD) → Buf (Elt Ideal) ((c.tc : Thread Cert.MixIdeal.nD Cert.MixIdeal.τ).loc Cert.MixIdeal.main_v5_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5_0) = v0 c
          ∧ r.2.mem ((c.tc : Thread Cert.MixIdeal.nD Cert.MixIdeal.τ).loc Cert.MixIdeal.main_v5_1) = v1 c
          ∧ r.2.mem ((c.tc : Thread Cert.MixIdeal.nD Cert.MixIdeal.τ).loc Cert.MixIdeal.main_v5_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v26) = v0 c
          ∧ r.2.mem ((c.tc : Thread Cert.MixRefIdeal.nD Cert.MixRefIdeal.τ).loc Cert.MixRefIdeal.main_v27) = v1 c
          ∧ r.2.mem ((c.tc : Thread Cert.MixRefIdeal.nD Cert.MixRefIdeal.τ).loc Cert.MixRefIdeal.main_v28) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_ResidualNorm_ResidualNormIdeal : Prop :=
  True

def algebraic_ResidualNormIdeal_ResidualNormRefIdeal [hResidualNormIdeal : Cert.ResidualNormIdeal.Facts] [hResidualNormRefIdeal : Cert.ResidualNormRefIdeal.Facts] : Prop :=
  ∀ (m : (ℓ : Loc Cert.ResidualNormIdeal.nD Cert.ResidualNormIdeal.τ Cert.ResidualNormIdeal.sig) → Buf (Elt Ideal) ℓ) (g : Dev Cert.ResidualNormIdeal.nD → PrngReg)
    (m' : (ℓ : Loc Cert.ResidualNormRefIdeal.nD Cert.ResidualNormRefIdeal.τ Cert.ResidualNormRefIdeal.sig) → Buf (Elt Ideal) ℓ) (g' : Dev Cert.ResidualNormRefIdeal.nD → PrngReg), Pre_ResidualNormIdeal m →
    (∀ c : Dev Cert.ResidualNormIdeal.nD,
      m' ((c.tc : Thread Cert.ResidualNormRefIdeal.nD Cert.ResidualNormRefIdeal.τ).loc Cert.ResidualNormRefIdeal.main_arg0) = m ((c.tc : Thread Cert.ResidualNormIdeal.nD Cert.ResidualNormIdeal.τ).loc Cert.ResidualNormIdeal.main_arg0)
      ∧ m' ((c.tc : Thread Cert.ResidualNormRefIdeal.nD Cert.ResidualNormRefIdeal.τ).loc Cert.ResidualNormRefIdeal.main_arg1) = m ((c.tc : Thread Cert.ResidualNormIdeal.nD Cert.ResidualNormIdeal.τ).loc Cert.ResidualNormIdeal.main_arg1)
      ∧ m' ((c.tc : Thread Cert.ResidualNormRefIdeal.nD Cert.ResidualNormRefIdeal.τ).loc Cert.ResidualNormRefIdeal.main_arg2) = m ((c.tc : Thread Cert.ResidualNormIdeal.nD Cert.ResidualNormIdeal.τ).loc Cert.ResidualNormIdeal.main_arg2)
      ∧ m' ((c.tc : Thread Cert.ResidualNormRefIdeal.nD Cert.ResidualNormRefIdeal.τ).loc Cert.ResidualNormRefIdeal.main_arg3) = m ((c.tc : Thread Cert.ResidualNormIdeal.nD Cert.ResidualNormIdeal.τ).loc Cert.ResidualNormIdeal.main_arg3)) →
    ∃ (v0 : (c : Dev Cert.ResidualNormIdeal.nD) → Buf (Elt Ideal) ((c.tc : Thread Cert.ResidualNormIdeal.nD Cert.ResidualNormIdeal.τ).loc Cert.ResidualNormIdeal.main_v2_0)) (v1 : (c : Dev Cert.ResidualNormIdeal.nD) → Buf (Elt Ideal) ((c.tc : Thread Cert.ResidualNormIdeal.nD Cert.ResidualNormIdeal.τ).loc Cert.ResidualNormIdeal.main_v2_1)),
      θ_run (Cert.ResidualNormIdeal.defs (F := Ideal)) (onTc (τ := Cert.ResidualNormIdeal.τ) (Cert.ResidualNormIdeal.main (F := Ideal))) ⟨m, fun _ => 0, g⟩ (fun r => ∀ c : Dev Cert.ResidualNormIdeal.nD,
          r.2.mem ((c.tc : Thread Cert.ResidualNormIdeal.nD Cert.ResidualNormIdeal.τ).loc Cert.ResidualNormIdeal.main_v2_0) = v0 c
          ∧ r.2.mem ((c.tc : Thread Cert.ResidualNormIdeal.nD Cert.ResidualNormIdeal.τ).loc Cert.ResidualNormIdeal.main_v2_1) = v1 c
          ∧ r.2.mem ((c.tc : Thread Cert.ResidualNormIdeal.nD Cert.ResidualNormIdeal.τ).loc Cert.ResidualNormIdeal.main_arg0) = m ((c.tc : Thread Cert.ResidualNormIdeal.nD Cert.ResidualNormIdeal.τ).loc Cert.ResidualNormIdeal.main_arg0)
          ∧ r.2.mem ((c.tc : Thread Cert.ResidualNormIdeal.nD Cert.ResidualNormIdeal.τ).loc Cert.ResidualNormIdeal.main_arg1) = m ((c.tc : Thread Cert.ResidualNormIdeal.nD Cert.ResidualNormIdeal.τ).loc Cert.ResidualNormIdeal.main_arg1)
          ∧ r.2.mem ((c.tc : Thread Cert.ResidualNormIdeal.nD Cert.ResidualNormIdeal.τ).loc Cert.ResidualNormIdeal.main_arg2) = m ((c.tc : Thread Cert.ResidualNormIdeal.nD Cert.ResidualNormIdeal.τ).loc Cert.ResidualNormIdeal.main_arg2)
          ∧ r.2.mem ((c.tc : Thread Cert.ResidualNormIdeal.nD Cert.ResidualNormIdeal.τ).loc Cert.ResidualNormIdeal.main_arg3) = m ((c.tc : Thread Cert.ResidualNormIdeal.nD Cert.ResidualNormIdeal.τ).loc Cert.ResidualNormIdeal.main_arg3))
      ∧ θ_run (Cert.ResidualNormRefIdeal.defs (F := Ideal)) (onTc (τ := Cert.ResidualNormRefIdeal.τ) (Cert.ResidualNormRefIdeal.main (F := Ideal))) ⟨m', fun _ => 0, g'⟩ (fun r => ∀ c : Dev Cert.ResidualNormRefIdeal.nD,
          r.2.mem ((c.tc : Thread Cert.ResidualNormRefIdeal.nD Cert.ResidualNormRefIdeal.τ).loc Cert.ResidualNormRefIdeal.main_v1) = v0 c
          ∧ r.2.mem ((c.tc : Thread Cert.ResidualNormRefIdeal.nD Cert.ResidualNormRefIdeal.τ).loc Cert.ResidualNormRefIdeal.main_v14) = v1 c
          ∧ r.2.mem ((c.tc : Thread Cert.ResidualNormRefIdeal.nD Cert.ResidualNormRefIdeal.τ).loc Cert.ResidualNormRefIdeal.main_arg0) = m' ((c.tc : Thread Cert.ResidualNormRefIdeal.nD Cert.ResidualNormRefIdeal.τ).loc Cert.ResidualNormRefIdeal.main_arg0)
          ∧ r.2.mem ((c.tc : Thread Cert.ResidualNormRefIdeal.nD Cert.ResidualNormRefIdeal.τ).loc Cert.ResidualNormRefIdeal.main_arg1) = m' ((c.tc : Thread Cert.ResidualNormRefIdeal.nD Cert.ResidualNormRefIdeal.τ).loc Cert.ResidualNormRefIdeal.main_arg1)
          ∧ r.2.mem ((c.tc : Thread Cert.ResidualNormRefIdeal.nD Cert.ResidualNormRefIdeal.τ).loc Cert.ResidualNormRefIdeal.main_arg2) = m' ((c.tc : Thread Cert.ResidualNormRefIdeal.nD Cert.ResidualNormRefIdeal.τ).loc Cert.ResidualNormRefIdeal.main_arg2)
          ∧ r.2.mem ((c.tc : Thread Cert.ResidualNormRefIdeal.nD Cert.ResidualNormRefIdeal.τ).loc Cert.ResidualNormRefIdeal.main_arg3) = m' ((c.tc : Thread Cert.ResidualNormRefIdeal.nD Cert.ResidualNormRefIdeal.τ).loc Cert.ResidualNormRefIdeal.main_arg3))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v0)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v0) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v12) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def Claim : Prop :=
  ∃ (hMlpDown : Cert.MlpDown.Facts) (hMlpDownIdeal : Cert.MlpDownIdeal.Facts) (hMlpDownRefIdeal : Cert.MlpDownRefIdeal.Facts) (hGate : Cert.Gate.Facts) (hGateIdeal : Cert.GateIdeal.Facts) (hGateRefIdeal : Cert.GateRefIdeal.Facts) (hCross : Cert.Cross.Facts) (hCrossIdeal : Cert.CrossIdeal.Facts) (hCrossRefIdeal : Cert.CrossRefIdeal.Facts) (hCqProj : Cert.CqProj.Facts) (hCqProjIdeal : Cert.CqProjIdeal.Facts) (hCqProjRefIdeal : Cert.CqProjRefIdeal.Facts) (hMlpUp : Cert.MlpUp.Facts) (hMlpUpIdeal : Cert.MlpUpIdeal.Facts) (hMlpUpRefIdeal : Cert.MlpUpRefIdeal.Facts) (hInProj : Cert.InProj.Facts) (hInProjIdeal : Cert.InProjIdeal.Facts) (hInProjRefIdeal : Cert.InProjRefIdeal.Facts) (hCkvProj : Cert.CkvProj.Facts) (hCkvProjIdeal : Cert.CkvProjIdeal.Facts) (hCkvProjRefIdeal : Cert.CkvProjRefIdeal.Facts) (hLoss : Cert.Loss.Facts) (hLossIdeal : Cert.LossIdeal.Facts) (hLossRefIdeal : Cert.LossRefIdeal.Facts) (hConvNorm : Cert.ConvNorm.Facts) (hConvNormIdeal : Cert.ConvNormIdeal.Facts) (hConvNormRefIdeal : Cert.ConvNormRefIdeal.Facts) (hCrossFwd : Cert.CrossFwd.Facts) (hCrossFwdIdeal : Cert.CrossFwdIdeal.Facts) (hCrossFwdRefIdeal : Cert.CrossFwdRefIdeal.Facts) (hAttnFwdA : Cert.AttnFwdA.Facts) (hAttnFwdAIdeal : Cert.AttnFwdAIdeal.Facts) (hAttnFwdARefIdeal : Cert.AttnFwdARefIdeal.Facts) (hAttnFwdB : Cert.AttnFwdB.Facts) (hAttnFwdBIdeal : Cert.AttnFwdBIdeal.Facts) (hAttnFwdBRefIdeal : Cert.AttnFwdBRefIdeal.Facts) (hAttnFwdC : Cert.AttnFwdC.Facts) (hAttnFwdCIdeal : Cert.AttnFwdCIdeal.Facts) (hAttnFwdCRefIdeal : Cert.AttnFwdCRefIdeal.Facts) (hMlpUpFwd : Cert.MlpUpFwd.Facts) (hMlpUpFwdIdeal : Cert.MlpUpFwdIdeal.Facts) (hMlpUpFwdRefIdeal : Cert.MlpUpFwdRefIdeal.Facts) (hMix : Cert.Mix.Facts) (hMixIdeal : Cert.MixIdeal.Facts) (hMixRefIdeal : Cert.MixRefIdeal.Facts) (hResidualNorm : Cert.ResidualNorm.Facts) (hResidualNormIdeal : Cert.ResidualNormIdeal.Facts) (hResidualNormRefIdeal : Cert.ResidualNormRefIdeal.Facts) (hMemNorm : Cert.MemNorm.Facts) (hMemNormIdeal : Cert.MemNormIdeal.Facts) (hMemNormRefIdeal : Cert.MemNormRefIdeal.Facts) (hPre_pre_cob : Cert.Pre_pre_cob.Facts) (hPre_pre_cqb : Cert.Pre_pre_cqb.Facts) (hPre_pre_mub : Cert.Pre_pre_mub.Facts) (hPre_pre_ipb : Cert.Pre_pre_ipb.Facts) (hPre_pre_mdl : Cert.Pre_pre_mdl.Facts) (hPre_pre_cpb : Cert.Pre_pre_cpb.Facts) (hPre_pre_cqf : Cert.Pre_pre_cqf.Facts) (hPre_pre_af0 : Cert.Pre_pre_af0.Facts) (hPre_pre_af1 : Cert.Pre_pre_af1.Facts) (hPre_pre_af2 : Cert.Pre_pre_af2.Facts) (hOn_gate_columns : Cert.On_gate_columns.Facts),
    quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_Gate (hGate := hGate)
    ∧ quiescent_GateIdeal (hGateIdeal := hGateIdeal)
    ∧ quiescent_GateRefIdeal (hGateRefIdeal := hGateRefIdeal)
    ∧ quiescent_Cross (hCross := hCross)
    ∧ quiescent_CrossIdeal (hCrossIdeal := hCrossIdeal)
    ∧ quiescent_CrossIdeal_pre_pre_cob (hCrossIdeal := hCrossIdeal) (hPre_pre_cob := hPre_pre_cob)
    ∧ quiescent_CrossRefIdeal (hCrossRefIdeal := hCrossRefIdeal)
    ∧ quiescent_CrossRefIdeal_pre_pre_cob (hCrossRefIdeal := hCrossRefIdeal) (hPre_pre_cob := hPre_pre_cob)
    ∧ quiescent_CqProj (hCqProj := hCqProj)
    ∧ quiescent_CqProjIdeal (hCqProjIdeal := hCqProjIdeal)
    ∧ quiescent_CqProjIdeal_pre_pre_cqb (hCqProjIdeal := hCqProjIdeal) (hPre_pre_cqb := hPre_pre_cqb)
    ∧ quiescent_CqProjRefIdeal (hCqProjRefIdeal := hCqProjRefIdeal)
    ∧ quiescent_CqProjRefIdeal_pre_pre_cqb (hCqProjRefIdeal := hCqProjRefIdeal) (hPre_pre_cqb := hPre_pre_cqb)
    ∧ quiescent_MlpUp (hMlpUp := hMlpUp)
    ∧ quiescent_MlpUpIdeal (hMlpUpIdeal := hMlpUpIdeal)
    ∧ quiescent_MlpUpIdeal_pre_pre_mub (hMlpUpIdeal := hMlpUpIdeal) (hPre_pre_mub := hPre_pre_mub)
    ∧ quiescent_MlpUpRefIdeal (hMlpUpRefIdeal := hMlpUpRefIdeal)
    ∧ quiescent_MlpUpRefIdeal_pre_pre_mub (hMlpUpRefIdeal := hMlpUpRefIdeal) (hPre_pre_mub := hPre_pre_mub)
    ∧ quiescent_InProj (hInProj := hInProj)
    ∧ quiescent_InProjIdeal (hInProjIdeal := hInProjIdeal)
    ∧ quiescent_InProjIdeal_pre_pre_ipb (hInProjIdeal := hInProjIdeal) (hPre_pre_ipb := hPre_pre_ipb)
    ∧ quiescent_InProjRefIdeal (hInProjRefIdeal := hInProjRefIdeal)
    ∧ quiescent_InProjRefIdeal_pre_pre_ipb (hInProjRefIdeal := hInProjRefIdeal) (hPre_pre_ipb := hPre_pre_ipb)
    ∧ quiescent_CkvProj (hCkvProj := hCkvProj)
    ∧ quiescent_CkvProjIdeal (hCkvProjIdeal := hCkvProjIdeal)
    ∧ quiescent_CkvProjRefIdeal (hCkvProjRefIdeal := hCkvProjRefIdeal)
    ∧ quiescent_Loss (hLoss := hLoss)
    ∧ quiescent_LossIdeal (hLossIdeal := hLossIdeal)
    ∧ quiescent_LossIdeal_pre_pre_mdl (hLossIdeal := hLossIdeal) (hPre_pre_mdl := hPre_pre_mdl)
    ∧ quiescent_LossRefIdeal (hLossRefIdeal := hLossRefIdeal)
    ∧ quiescent_LossRefIdeal_pre_pre_mdl (hLossRefIdeal := hLossRefIdeal) (hPre_pre_mdl := hPre_pre_mdl)
    ∧ quiescent_ConvNorm (hConvNorm := hConvNorm)
    ∧ quiescent_ConvNormIdeal (hConvNormIdeal := hConvNormIdeal)
    ∧ quiescent_ConvNormIdeal_pre_pre_cpb (hConvNormIdeal := hConvNormIdeal) (hPre_pre_cpb := hPre_pre_cpb)
    ∧ quiescent_ConvNormRefIdeal (hConvNormRefIdeal := hConvNormRefIdeal)
    ∧ quiescent_ConvNormRefIdeal_pre_pre_cpb (hConvNormRefIdeal := hConvNormRefIdeal) (hPre_pre_cpb := hPre_pre_cpb)
    ∧ quiescent_CrossFwd (hCrossFwd := hCrossFwd)
    ∧ quiescent_CrossFwdIdeal (hCrossFwdIdeal := hCrossFwdIdeal)
    ∧ quiescent_CrossFwdIdeal_pre_pre_cqf (hCrossFwdIdeal := hCrossFwdIdeal) (hPre_pre_cqf := hPre_pre_cqf)
    ∧ quiescent_CrossFwdRefIdeal (hCrossFwdRefIdeal := hCrossFwdRefIdeal)
    ∧ quiescent_CrossFwdRefIdeal_pre_pre_cqf (hCrossFwdRefIdeal := hCrossFwdRefIdeal) (hPre_pre_cqf := hPre_pre_cqf)
    ∧ quiescent_AttnFwdA (hAttnFwdA := hAttnFwdA)
    ∧ quiescent_AttnFwdAIdeal (hAttnFwdAIdeal := hAttnFwdAIdeal)
    ∧ quiescent_AttnFwdAIdeal_pre_pre_af0 (hAttnFwdAIdeal := hAttnFwdAIdeal) (hPre_pre_af0 := hPre_pre_af0)
    ∧ quiescent_AttnFwdARefIdeal (hAttnFwdARefIdeal := hAttnFwdARefIdeal)
    ∧ quiescent_AttnFwdARefIdeal_pre_pre_af0 (hAttnFwdARefIdeal := hAttnFwdARefIdeal) (hPre_pre_af0 := hPre_pre_af0)
    ∧ quiescent_AttnFwdB (hAttnFwdB := hAttnFwdB)
    ∧ quiescent_AttnFwdBIdeal (hAttnFwdBIdeal := hAttnFwdBIdeal)
    ∧ quiescent_AttnFwdBIdeal_pre_pre_af1 (hAttnFwdBIdeal := hAttnFwdBIdeal) (hPre_pre_af1 := hPre_pre_af1)
    ∧ quiescent_AttnFwdBRefIdeal (hAttnFwdBRefIdeal := hAttnFwdBRefIdeal)
    ∧ quiescent_AttnFwdBRefIdeal_pre_pre_af1 (hAttnFwdBRefIdeal := hAttnFwdBRefIdeal) (hPre_pre_af1 := hPre_pre_af1)
    ∧ quiescent_AttnFwdC (hAttnFwdC := hAttnFwdC)
    ∧ quiescent_AttnFwdCIdeal (hAttnFwdCIdeal := hAttnFwdCIdeal)
    ∧ quiescent_AttnFwdCIdeal_pre_pre_af2 (hAttnFwdCIdeal := hAttnFwdCIdeal) (hPre_pre_af2 := hPre_pre_af2)
    ∧ quiescent_AttnFwdCRefIdeal (hAttnFwdCRefIdeal := hAttnFwdCRefIdeal)
    ∧ quiescent_AttnFwdCRefIdeal_pre_pre_af2 (hAttnFwdCRefIdeal := hAttnFwdCRefIdeal) (hPre_pre_af2 := hPre_pre_af2)
    ∧ quiescent_MlpUpFwd (hMlpUpFwd := hMlpUpFwd)
    ∧ quiescent_MlpUpFwdIdeal (hMlpUpFwdIdeal := hMlpUpFwdIdeal)
    ∧ quiescent_MlpUpFwdRefIdeal (hMlpUpFwdRefIdeal := hMlpUpFwdRefIdeal)
    ∧ quiescent_Mix (hMix := hMix)
    ∧ quiescent_MixIdeal (hMixIdeal := hMixIdeal)
    ∧ quiescent_MixRefIdeal (hMixRefIdeal := hMixRefIdeal)
    ∧ quiescent_ResidualNorm (hResidualNorm := hResidualNorm)
    ∧ quiescent_ResidualNormIdeal (hResidualNormIdeal := hResidualNormIdeal)
    ∧ quiescent_ResidualNormRefIdeal (hResidualNormRefIdeal := hResidualNormRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ preserves_MlpDown_MlpDownIdeal
    ∧ algebraic_MlpDownIdeal_MlpDownRefIdeal (hMlpDownIdeal := hMlpDownIdeal) (hMlpDownRefIdeal := hMlpDownRefIdeal)
    ∧ preserves_Gate_GateIdeal
    ∧ algebraic_GateIdeal_GateRefIdeal_on_gate_columns (hGateIdeal := hGateIdeal) (hGateRefIdeal := hGateRefIdeal) (hOn_gate_columns := hOn_gate_columns)
    ∧ preserves_Cross_CrossIdeal
    ∧ algebraic_CrossIdeal_CrossRefIdeal_pre_pre_cob (hCrossIdeal := hCrossIdeal) (hCrossRefIdeal := hCrossRefIdeal) (hPre_pre_cob := hPre_pre_cob)
    ∧ preserves_CqProj_CqProjIdeal
    ∧ algebraic_CqProjIdeal_CqProjRefIdeal_pre_pre_cqb (hCqProjIdeal := hCqProjIdeal) (hCqProjRefIdeal := hCqProjRefIdeal) (hPre_pre_cqb := hPre_pre_cqb)
    ∧ preserves_MlpUp_MlpUpIdeal
    ∧ algebraic_MlpUpIdeal_MlpUpRefIdeal_pre_pre_mub (hMlpUpIdeal := hMlpUpIdeal) (hMlpUpRefIdeal := hMlpUpRefIdeal) (hPre_pre_mub := hPre_pre_mub)
    ∧ preserves_InProj_InProjIdeal
    ∧ algebraic_InProjIdeal_InProjRefIdeal_pre_pre_ipb (hInProjIdeal := hInProjIdeal) (hInProjRefIdeal := hInProjRefIdeal) (hPre_pre_ipb := hPre_pre_ipb)
    ∧ preserves_CkvProj_CkvProjIdeal
    ∧ algebraic_CkvProjIdeal_CkvProjRefIdeal (hCkvProjIdeal := hCkvProjIdeal) (hCkvProjRefIdeal := hCkvProjRefIdeal)
    ∧ preserves_Loss_LossIdeal
    ∧ algebraic_LossIdeal_LossRefIdeal_pre_pre_mdl (hLossIdeal := hLossIdeal) (hLossRefIdeal := hLossRefIdeal) (hPre_pre_mdl := hPre_pre_mdl)
    ∧ preserves_ConvNorm_ConvNormIdeal
    ∧ algebraic_ConvNormIdeal_ConvNormRefIdeal_pre_pre_cpb (hConvNormIdeal := hConvNormIdeal) (hConvNormRefIdeal := hConvNormRefIdeal) (hPre_pre_cpb := hPre_pre_cpb)
    ∧ preserves_CrossFwd_CrossFwdIdeal
    ∧ algebraic_CrossFwdIdeal_CrossFwdRefIdeal_pre_pre_cqf (hCrossFwdIdeal := hCrossFwdIdeal) (hCrossFwdRefIdeal := hCrossFwdRefIdeal) (hPre_pre_cqf := hPre_pre_cqf)
    ∧ preserves_AttnFwdA_AttnFwdAIdeal
    ∧ algebraic_AttnFwdAIdeal_AttnFwdARefIdeal_pre_pre_af0 (hAttnFwdAIdeal := hAttnFwdAIdeal) (hAttnFwdARefIdeal := hAttnFwdARefIdeal) (hPre_pre_af0 := hPre_pre_af0)
    ∧ preserves_AttnFwdB_AttnFwdBIdeal
    ∧ algebraic_AttnFwdBIdeal_AttnFwdBRefIdeal_pre_pre_af1 (hAttnFwdBIdeal := hAttnFwdBIdeal) (hAttnFwdBRefIdeal := hAttnFwdBRefIdeal) (hPre_pre_af1 := hPre_pre_af1)
    ∧ preserves_AttnFwdC_AttnFwdCIdeal
    ∧ algebraic_AttnFwdCIdeal_AttnFwdCRefIdeal_pre_pre_af2 (hAttnFwdCIdeal := hAttnFwdCIdeal) (hAttnFwdCRefIdeal := hAttnFwdCRefIdeal) (hPre_pre_af2 := hPre_pre_af2)
    ∧ preserves_MlpUpFwd_MlpUpFwdIdeal
    ∧ algebraic_MlpUpFwdIdeal_MlpUpFwdRefIdeal (hMlpUpFwdIdeal := hMlpUpFwdIdeal) (hMlpUpFwdRefIdeal := hMlpUpFwdRefIdeal)
    ∧ preserves_Mix_MixIdeal
    ∧ algebraic_MixIdeal_MixRefIdeal (hMixIdeal := hMixIdeal) (hMixRefIdeal := hMixRefIdeal)
    ∧ preserves_ResidualNorm_ResidualNormIdeal
    ∧ algebraic_ResidualNormIdeal_ResidualNormRefIdeal (hResidualNormIdeal := hResidualNormIdeal) (hResidualNormRefIdeal := hResidualNormRefIdeal)
    ∧ preserves_MemNorm_MemNormIdeal
    ∧ algebraic_MemNormIdeal_MemNormRefIdeal (hMemNormIdeal := hMemNormIdeal) (hMemNormRefIdeal := hMemNormRefIdeal)
-- ==== On_gate_columns.lean ====
abbrev S8192x1024 : Shape := ⟨2, ![8192, 1024]⟩
abbrev S8192x8192 : Shape := ⟨2, ![8192, 8192]⟩
abbrev S1x2048 : Shape := ⟨2, ![1, 2048]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S8192x8192 : S_.BroadcastsInDim S8192x8192 (![] : Fin 0 → Fin S8192x8192.rank)
  bcast_S_S1x2048 : S_.BroadcastsInDim S1x2048 (![] : Fin 0 → Fin S1x2048.rank)

variable [Facts]

def fn {F : FTy → Type} [FloatOps F] (main_arg0 : FVec F S8192x1024 .f32) (main_arg1 : FVec F S8192x1024 .f32) (main_arg2 : FVec F S8192x8192 .f32) (main_arg3 : FVec F S1x2048 .f32) (main_arg4 : FVec F S1024x1024 .f32) (main_arg5 : FVec F S8192x1024 .f32) : IVec S8192x1024 1 × IVec S8192x1024 1 × IVec S8192x8192 1 × IVec S1x2048 1 :=
  let main_c : IVec S_ 1 := constantI S_ 1 1#1
  let main_v0 : IVec S8192x1024 1 := broadcastInDim S8192x1024 ![] bcast_S_S8192x1024 main_c
  let main_v1 : IVec S8192x8192 32 := iotaInDim S8192x8192 32 1
  let main_c_0 : IVec S_ 32 := constantI S_ 32 6144#32
  let main_v2 : IVec S8192x8192 32 := broadcastInDim S8192x8192 ![] bcast_S_S8192x8192 main_c_0
  let main_v3 : IVec S8192x8192 1 := cmpi .sge main_v1 main_v2
  let main_c_1 : IVec S_ 1 := constantI S_ 1 1#1
  let main_v4 : IVec S1x2048 1 := broadcastInDim S1x2048 ![] bcast_S_S1x2048 main_c_1
  (main_v0, main_v0, main_v3, main_v4)
-- ==== Pre_pre_af0.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .f32) (main_arg1 : FVec F S8192x512 .f32) (main_arg2 : FVec F S8192x512 .f32) : IVec S8192x512 1 × IVec S8192x512 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  (main_v2, main_v5, main_v8)
-- ==== Pre_pre_af1.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .f32) (main_arg1 : FVec F S8192x512 .f32) (main_arg2 : FVec F S8192x512 .f32) : IVec S8192x512 1 × IVec S8192x512 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  (main_v2, main_v5, main_v8)
-- ==== Pre_pre_af2.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .f32) (main_arg1 : FVec F S8192x512 .f32) (main_arg2 : FVec F S8192x512 .f32) : IVec S8192x512 1 × IVec S8192x512 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  (main_v2, main_v5, main_v8)
-- ==== Pre_pre_cob.lean ====
abbrev S8192x1024 : Shape := ⟨2, ![8192, 1024]⟩
abbrev S256x1024 : Shape := ⟨2, ![256, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S256x1024 : S_.BroadcastsInDim S256x1024 (![] : Fin 0 → Fin S256x1024.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S256x1024 .f32) (main_arg2 : FVec F S256x1024 .f32) (main_arg3 : FVec F S1024x1024 .f32) (main_arg4 : FVec F S8192x1024 .f32) : IVec S8192x1024 1 × IVec S256x1024 1 × IVec S256x1024 1 × IVec S1024x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S256x1024 .f32 := Host.absf main_arg1
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  let main_v6 : FVec F S256x1024 .f32 := Host.absf main_arg2
  let main_cst_1 : FVec F S_ .f32 := constant S_ .f32 0x7F800000#32
  let main_v7 : FVec F S256x1024 .f32 := broadcastInDim S256x1024 ![] bcast_S_S256x1024 main_cst_1
  let main_v8 : IVec S256x1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_pre_cpb.lean ====
abbrev S8192x768 : Shape := ⟨2, ![8192, 768]⟩
abbrev S1x768 : Shape := ⟨2, ![1, 768]⟩
abbrev S768x1024 : Shape := ⟨2, ![768, 1024]⟩
abbrev S8192x1024 : Shape := ⟨2, ![8192, 1024]⟩
abbrev S_ : Shape := ⟨0, ![]⟩

class Facts : Prop where
  bcast_S_S8192x768 : S_.BroadcastsInDim S8192x768 (![] : Fin 0 → Fin S8192x768.rank)
  bcast_S_S1x768 : S_.BroadcastsInDim S1x768 (![] : Fin 0 → Fin S1x768.rank)
  bcast_S_S768x1024 : S_.BroadcastsInDim S768x1024 (![] : Fin 0 → Fin S768x1024.rank)
  bcast_S_S8192x1024 : S_.BroadcastsInDim S8192x1024 (![] : Fin 0 → Fin S8192x1024.rank)

variable [Facts]

def fn {F : FTy → Type} [FloatOps F] (main_arg0 : FVec F S8192x768 .f32) (main_arg1 : FVec F S1x768 .f32) (main_arg2 : FVec F S1x768 .f32) (main_arg3 : FVec F S1x768 .f32) (main_arg4 : FVec F S768x1024 .f32) (main_arg5 : FVec F S8192x1024 .f32) : IVec S8192x768 1 × IVec S1x768 1 × IVec S1x768 1 × IVec S1x768 1 × IVec S768x1024 1 × IVec S8192x1024 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_v3 : FVec F S1x768 .f32 := Host.absf main_arg1
  let main_cst_0 : FVec F S_ .f32 := constant S_ .f32 0x7F800000#32
  let main_v4 : FVec F S1x768 .f32 := broadcastInDim S1x768 ![] bcast_S_S1x768 main_cst_0
  let main_v5 : IVec S1x768 1 := cmpf .olt main_v3 main_v4
  let main_v6 : FVec F S1x768 .f32 := Host.absf main_arg2
  let main_cst_1 : FVec F S_ .f32 := constant S_ .f32 0x7F800000#32
  let main_v7 : FVec F S1x768 .f32 := broadcastInDim S1x768 ![] bcast_S_S1x768 main_cst_1
  let main_v8 : IVec S1x768 1 := cmpf .olt main_v6 main_v7
  let main_v9 : FVec F S1x768 .f32 := Host.absf main_arg3
  let main_cst_2 : FVec F S_ .f32 := constant S_ .f32 0x7F800000#32
  let main_v10 : FVec F S1x768 .f32 := broadcastInDim S1x768 ![] bcast_S_S1x768 main_cst_2
  let main_v11 : IVec S1x768 1 := cmpf .olt main_v9 main_v10
  let main_v12 : FVec F S768x1024 .f32 := Host.absf main_arg4
  let main_cst_3 : FVec F S_ .f32 := constant S_ .f32 0x7F800000#32
  let main_v13 : FVec F S768x1024 .f32 := broadcastInDim S768x1024 ![] bcast_S_S768x1024 main_cst_3
  let main_v14 : IVec S768x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_pre_cqb.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S1x1024 .f32) (main_arg2 : FVec F S1024x1024 .f32) (main_arg3 : FVec F S8192x1024 .f32) (main_arg4 : FVec F S8192x1024 .f32) : IVec S8192x1024 1 × IVec S1x1024 1 × IVec S1024x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S8192x1024 .f32 := Host.absf main_arg4
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_pre_cqf.lean ====
abbrev S8192x1024 : Shape := ⟨2, ![8192, 1024]⟩
abbrev S1024x1024 : Shape := ⟨2, ![1024, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn {F : FTy → Type} [FloatOps F] (main_arg0 : FVec F S8192x1024 .f32) (main_arg1 : FVec F S1024x1024 .f32) (main_arg2 : FVec F S256x1024 .f32) (main_arg3 : FVec F S256x1024 .f32) : IVec S8192x1024 1 × IVec S1024x1024 1 × IVec S256x1024 1 × IVec S256x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S256x1024 .f32 := Host.absf main_arg2
  let main_cst_1 : FVec F S_ .f32 := constant S_ .f32 0x7F800000#32
  let main_v7 : FVec F S256x1024 .f32 := broadcastInDim S256x1024 ![] bcast_S_S256x1024 main_cst_1
  let main_v8 : IVec S256x1024 1 := cmpf .olt main_v6 main_v7
  let main_v9 : FVec F S256x1024 .f32 := Host.absf main_arg3
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  (main_v2, main_v5, main_v8, main_v11)
-- ==== Pre_pre_ipb.lean ====
abbrev S8192x1024 : Shape := ⟨2, ![8192, 1024]⟩
abbrev S1x1024 : Shape := ⟨2, ![1, 1024]⟩
abbrev S1024x8192 : Shape := ⟨2, ![1024, 8192]⟩
abbrev S8192x8192 : Shape := ⟨2, ![8192, 8192]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x8192 : S_.BroadcastsInDim S1024x8192 (![] : Fin 0 → Fin S1024x8192.rank)
  bcast_S_S8192x8192 : S_.BroadcastsInDim S8192x8192 (![] : Fin 0 → Fin S8192x8192.rank)

variable [Facts]

def fn {F : FTy → Type} [FloatOps F] (main_arg0 : FVec F S8192x1024 .f32) (main_arg1 : FVec F S1x1024 .f32) (main_arg2 : FVec F S1024x8192 .f32) (main_arg3 : FVec F S8192x1024 .f32) (main_arg4 : FVec F S8192x8192 .f32) : IVec S8192x1024 1 × IVec S1x1024 1 × IVec S1024x8192 1 × IVec S8192x8192 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x8192 .f32 := Host.absf main_arg2
  let main_cst_1 : FVec F S_ .f32 := constant S_ .f32 0x7F800000#32
  let main_v7 : FVec F S1024x8192 .f32 := broadcastInDim S1024x8192 ![] bcast_S_S1024x8192 main_cst_1
  let main_v8 : IVec S1024x8192 1 := cmpf .olt main_v6 main_v7
  let main_v9 : FVec F S8192x8192 .f32 := Host.absf main_arg4
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  (main_v2, main_v5, main_v8, main_v11)
-- ==== Pre_pre_mdl.lean ====
abbrev S8192x1024 : Shape := ⟨2, ![8192, 1024]⟩
abbrev S8192x4096 : Shape := ⟨2, ![8192, 4096]⟩
abbrev S4096x1024 : Shape := ⟨2, ![4096, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S8192x4096 : S_.BroadcastsInDim S8192x4096 (![] : Fin 0 → Fin S8192x4096.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x4096 .f32) (main_arg2 : FVec F S4096x1024 .f32) (main_arg3 : FVec F S1x1024 .f32) (main_arg4 : FVec F S8192x1024 .f32) : IVec S8192x1024 1 × IVec S8192x4096 1 × IVec S4096x1024 1 × IVec S1x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x4096 .f32 := Host.absf main_arg1
  let main_cst_0 : FVec F S_ .f32 := constant S_ .f32 0x7F800000#32
  let main_v4 : FVec F S8192x4096 .f32 := broadcastInDim S8192x4096 ![] bcast_S_S8192x4096 main_cst_0
  let main_v5 : IVec S8192x4096 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_pre_mub.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x4096 : S_.BroadcastsInDim S1024x4096 (![] : Fin 0 → Fin S1024x4096.rank)
  bcast_S_S8192x4096 : S_.BroadcastsInDim S8192x4096 (![] : Fin 0 → Fin S8192x4096.rank)

variable [Facts]

def fn {F : FTy → Type} [FloatOps F] (main_arg0 : FVec F S8192x1024 .f32) (main_arg1 : FVec F S1x1024 .f32) (main_arg2 : FVec F S1024x4096 .f32) (main_arg3 : FVec F S8192x1024 .f32) (main_arg4 : FVec F S8192x4096 .f32) : IVec S8192x1024 1 × IVec S1x1024 1 × IVec S1024x4096 1 × IVec S8192x4096 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S8192x4096 .f32 := Host.absf main_arg4
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  (main_v2, main_v5, main_v8, main_v11)
-- ==== MlpDown.lean ====
abbrev S8192x4096 : Shape := ⟨2, ![8192, 4096]⟩
abbrev S4096x1024 : Shape := ⟨2, ![4096, 1024]⟩
abbrev S8192x1024 : Shape := ⟨2, ![8192, 1024]⟩
abbrev S512x1024 : Shape := ⟨2, ![512, 1024]⟩
abbrev S512x4096 : Shape := ⟨2, ![512, 4096]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .bf16⟩
  | .hbm, ⟨4, _⟩ => ⟨S4096x1024, .bf16⟩
  | .hbm, ⟨5, _⟩ => ⟨S8192x4096, .bf16⟩
  | .hbm, ⟨6, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== MlpDownRefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Gate.lean ====
abbrev S8192x1024 : Shape := ⟨2, ![8192, 1024]⟩
abbrev S8192x8192 : Shape := ⟨2, ![8192, 8192]⟩
abbrev S1x2048 : Shape := ⟨2, ![1, 2048]⟩
abbrev S1024x1024 : Shape := ⟨2, ![1024, 1024]⟩
abbrev S512x1024 : Shape := ⟨2, ![512, 1024]⟩
abbrev S512x2048 : Shape := ⟨2, ![512, 2048]⟩
abbrev S2048 : Shape := ⟨1, ![2048]⟩

abbrev nBuf : Space → Nat
  | .hbm => 15
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x8192, .f32⟩
  | .hbm, ⟨3, _⟩ => ⟨S1x2048, .f32⟩
  | .hbm, ⟨4, _⟩ => ⟨S1024x1024, .f32⟩
  | .hbm, ⟨5, _⟩ => ⟨S8192x1024, .f32⟩
  | .hbm, ⟨6, _⟩ => ⟨S8192x1024, .bf16⟩
  | .hbm, ⟨7, _⟩ => ⟨S1024x1024, .bf16⟩
  | .hbm, ⟨8, _⟩ => ⟨S8192x1024, .bf16⟩
  | .hbm, ⟨9, _⟩ => ⟨S8192x1024, .bf16⟩
  | .hbm, ⟨10, _⟩ => ⟨S8192x8192, .bf16⟩
  | .hbm, ⟨11, _⟩ => ⟨S8192x1024, .bf16⟩
  | .hbm, ⟨12, _⟩ => ⟨S8192x1024, .bf16⟩
  | .hbm, ⟨13, _⟩ => ⟨S8192x8192, .bf16⟩
  | .hbm, ⟨14, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | .local _ .vmem, ⟨16, _⟩ => ⟨S1x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_23 : BitVec 32 := 0#32
  let v49 : BitVec 1 := Scalar.cmpi .ne v48 c0_i32_23
  v49

def k0_cond2 (i : grid0.Coords) : BitVec 1 :=
  let arg0 : BitVec 32 := BitVec.ofNat 32 (i 0).val
  let c0_i32_24 : BitVec 32 := 0#32
  let v50 : BitVec 1 := Scalar.cmpi .ne arg0 c0_i32_24
  let v51 : BitVec 32 := Scalar.extui v50
  let c0_i32_25 : BitVec 32 := 0#32
  let v52 : BitVec 1 := Scalar.cmpi .ne v51 c0_i32_25
  v52

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== GateRefIdeal.lean ====
abbrev S8192x1024 : Shape := ⟨2, ![8192, 1024]⟩
abbrev S8192x8192 : Shape := ⟨2, ![8192, 8192]⟩
abbrev S1x2048 : Shape := ⟨2, ![1, 2048]⟩
abbrev S1024x1024 : Shape := ⟨2, ![1024, 1024]⟩
abbrev S8192x2048 : Shape := ⟨2, ![8192, 2048]⟩
abbrev S1x1024 : Shape := ⟨2, ![1, 1024]⟩
abbrev S_ : Shape := ⟨0, ![]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x8192, .f32⟩
  | .hbm, ⟨3, _⟩ => ⟨S1x2048, .f32⟩
  | .hbm, ⟨4, _⟩ => ⟨S1024x1024, .f32⟩
  | .hbm, ⟨5, _⟩ => ⟨S8192x1024, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S1x2048, .f32⟩
  | .hbm, ⟨57, _⟩ => ⟨S8192x2048, .f32⟩
  | .hbm, ⟨58, _⟩ => ⟨S_, .f32⟩
  | .hbm, ⟨59, _⟩ => ⟨S8192x8192, .f32⟩
  | .hbm, ⟨60, _⟩ => ⟨S8192x1024, .bf16⟩
  | .hbm, ⟨61, _⟩ => ⟨S8192x1024, .bf16⟩
  | .hbm, ⟨62, _⟩ => ⟨S8192x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Cross.lean ====
abbrev S8192x1024 : Shape := ⟨2, ![8192, 1024]⟩
abbrev S256x1024 : Shape := ⟨2, ![256, 1024]⟩
abbrev S1024x1024 : Shape := ⟨2, ![1024, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S256x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | .hbm, ⟨6, _⟩ => ⟨S1024x1024, .bf16⟩
  | .hbm, ⟨7, _⟩ => ⟨S8192x1024, .bf16⟩
  | .hbm, ⟨8, _⟩ => ⟨S256x1024, .bf16⟩
  | .hbm, ⟨9, _⟩ => ⟨S256x1024, .bf16⟩
  | .hbm, ⟨10, _⟩ => ⟨S8192x1024, .bf16⟩
  | .hbm, ⟨11, _⟩ => ⟨S256x1024, .f32⟩
  | .hbm, ⟨12, _⟩ => ⟨S256x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S256x1024, .bf16⟩
  | .local _ .vmem, ⟨6, _⟩ => ⟨S256x1024, .bf16⟩
  | .local _ .vmem, ⟨7, _⟩ => ⟨S512x1024, .bf16⟩
  | .local _ .vmem, ⟨8, _⟩ => ⟨S512x1024, .bf16⟩
  | .local _ .vmem, ⟨9, _⟩ => ⟨S256x1024, .f32⟩
  | .local _ .vmem, ⟨10, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v149 : BitVec 1 := Scalar.cmpi .eq arg0 c0_i32
  let v150 : BitVec 32 := Scalar.extui v149
  let c0_i32_51 : BitVec 32 := 0#32
  let v151 : BitVec 1 := Scalar.cmpi .ne v150 c0_i32_51
  v151

def k0_cond2 (i : grid0.Coords) : BitVec 1 :=
  let arg0 : BitVec 32 := BitVec.ofNat 32 (i 0).val
  let c0_i32_52 : BitVec 32 := 0#32
  let v152 : BitVec 1 := Scalar.cmpi .ne arg0 c0_i32_52
  let v153 : BitVec 32 := Scalar.extui v152
  let c0_i32_53 : BitVec 32 := 0#32
  let v154 : BitVec 1 := Scalar.cmpi .ne v153 c0_i32_53
  v154

def k0_cond3 (i : grid0.Coords) : BitVec 1 :=
  let arg0 : BitVec 32 := BitVec.ofNat 32 (i 0).val
  let c0_i32_54 : BitVec 32 := 0#32
  let v155 : BitVec 1 := Scalar.cmpi .eq arg0 c0_i32_54
  let v156 : BitVec 32 := Scalar.extui v155
  let c0_i32_55 : BitVec 32 := 0#32
  let v157 : BitVec 1 := Scalar.cmpi .ne v156 c0_i32_55
  v157

def k0_cond4 (i : grid0.Coords) : BitVec 1 :=
  let arg0 : BitVec 32 := BitVec.ofNat 32 (i 0).val
  let c0_i32_56 : BitVec 32 := 0#32
  let v158 : BitVec 1 := Scalar.cmpi .ne arg0 c0_i32_56
  let v159 : BitVec 32 := Scalar.extui v158
  let c0_i32_57 : BitVec 32 := 0#32
  let v160 : BitVec 1 := Scalar.cmpi .ne v159 c0_i32_57
  v160

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== CrossRefIdeal.lean ====
abbrev S8192x1024 : Shape := ⟨2, ![8192, 1024]⟩
abbrev S256x1024 : Shape := ⟨2, ![256, 1024]⟩
abbrev S1024x1024 : Shape := ⟨2, ![1024, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S256x1024, .f32⟩
  | .hbm, ⟨3, _⟩ => ⟨S1024x1024, .f32⟩
  | .hbm, ⟨4, _⟩ => ⟨S8192x1024, .f32⟩
  | .hbm, ⟨5, _⟩ => ⟨S8192x4x256, .f32⟩
  | .hbm, ⟨6, _⟩ => ⟨S256x4x256, .f32⟩
  | .hbm, ⟨7, _⟩ => ⟨S256x4x256, .f32⟩
  | .hbm, ⟨8, _⟩ => ⟨S4x8192x256, .f32⟩
  | .hbm, ⟨9, _⟩ => ⟨S_, .f32⟩
  | .hbm, ⟨10, _⟩ => ⟨S4x8192x256, .f32⟩
  | .hbm, ⟨11, _⟩ => ⟨S4x8192x256, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S4x8192x256, .f32⟩
  | .hbm, ⟨16, _⟩ => ⟨S4x8192x256, .i1⟩
  | .hbm, ⟨17, _⟩ => ⟨S4x8192x256, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .i1⟩
  | .hbm, ⟨26, _⟩ => ⟨S_, .f32⟩
  | .hbm, ⟨27, _⟩ => ⟨S4x8192, .f32⟩
  | .hbm, ⟨28, _⟩ => ⟨S4x8192, .i1⟩
  | .hbm, ⟨29, _⟩ => ⟨S_, .f32⟩
  | .hbm, ⟨30, _⟩ => ⟨S4x8192, .f32⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S4x8192, .f32⟩
  | .hbm, ⟨36, _⟩ => ⟨S4x8192, .f32⟩
  | .hbm, ⟨37, _⟩ => ⟨S4x8192x1, .f32⟩
  | .hbm, ⟨38, _⟩ => ⟨S4x8192x256, .f32⟩
  | .hbm, ⟨39, _⟩ => ⟨S4x8192x256, .f32⟩
  | .hbm, ⟨40, _⟩ => ⟨S4x8192x256, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S4x8192x256, .f32⟩
  | .hbm, ⟨45, _⟩ => ⟨S4x8192x256, .f32⟩
  | .hbm, ⟨46, _⟩ => ⟨S4x8192x1, .f32⟩
  | .hbm, ⟨47, _⟩ => ⟨S_, .f32⟩
  | .hbm, ⟨48, _⟩ => ⟨S4x8192x1, .f32⟩
  | .hbm, ⟨49, _⟩ => ⟨S4x8192x1, .f32⟩
  | .hbm, ⟨50, _⟩ => ⟨S4x256x8192, .f32⟩
  | .hbm, ⟨51, _⟩ => ⟨S8192x4x256, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x4x256, .f32⟩
  | .hbm, ⟨56, _⟩ => ⟨S4x256x8192, .f32⟩
  | .hbm, ⟨57, _⟩ => ⟨S4x8192x256, .f32⟩
  | .hbm, ⟨58, _⟩ => ⟨S4x256x256, .f32⟩
  | .hbm, ⟨59, _⟩ => ⟨S256x4x256, .f32⟩
  | .hbm, ⟨60, _⟩ => ⟨S4x8192x256, .f32⟩
  | .hbm, ⟨61, _⟩ => ⟨S4x8192x256, .f32⟩
  | .hbm, ⟨62, _⟩ => ⟨S4x8192x256, .f32⟩
  | .hbm, ⟨63, _⟩ => ⟨S_, .f32⟩
  | .hbm, ⟨64, _⟩ => ⟨S4x8192, .f32⟩
  | .hbm, ⟨65, _⟩ => ⟨S4x8192x1, .f32⟩
  | .hbm, ⟨66, _⟩ => ⟨S4x8192x1, .f32⟩
  | .hbm, ⟨67, _⟩ => ⟨S4x8192x256, .f32⟩
  | .hbm, ⟨68, _⟩ => ⟨S4x8192x256, .f32⟩
  | .hbm, ⟨69, _⟩ => ⟨S_, .f32⟩
  | .hbm, ⟨70, _⟩ => ⟨S4x8192, .f32⟩
  | .hbm, ⟨71, _⟩ => ⟨S4x8192x256, .f32⟩
  | .hbm, ⟨72, _⟩ => ⟨S4x8192x256, .f32⟩
  | .hbm, ⟨73, _⟩ => ⟨S4x8192x256, .f32⟩
  | .hbm, ⟨74, _⟩ => ⟨S_, .f32⟩
  | .hbm, ⟨75, _⟩ => ⟨S4x8192x256, .f32⟩
  | .hbm, ⟨76, _⟩ => ⟨S4x8192x256, .f32⟩
  | .hbm, ⟨77, _⟩ => ⟨S4x256x256, .f32⟩
  | .hbm, ⟨78, _⟩ => ⟨S256x4x256, .f32⟩
  | .hbm, ⟨79, _⟩ => ⟨S4x8192x256, .f32⟩
  | .hbm, ⟨80, _⟩ => ⟨S8192x4x256, .f32⟩
  | .hbm, ⟨81, _⟩ => ⟨S256x1024, .f32⟩
  | .hbm, ⟨82, _⟩ => ⟨S256x1024, .f32⟩
  | .hbm, ⟨83, _⟩ => ⟨S8192x1024, .f32⟩
  | .hbm, ⟨84, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== CqProj.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1024x1024, .bf16⟩
  | .hbm, ⟨7, _⟩ => ⟨S8192x1024, .bf16⟩
  | .hbm, ⟨8, _⟩ => ⟨S8192x1024, .bf16⟩
  | .hbm, ⟨9, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_17 : BitVec 32 := 0#32
  let v40 : BitVec 1 := Scalar.cmpi .ne v39 c0_i32_17
  v40

def k0_cond2 (i : grid0.Coords) : BitVec 1 :=
  let arg0 : BitVec 32 := BitVec.ofNat 32 (i 0).val
  let c0_i32_18 : BitVec 32 := 0#32
  let v41 : BitVec 1 := Scalar.cmpi .ne arg0 c0_i32_18
  let v42 : BitVec 32 := Scalar.extui v41
  let c0_i32_19 : BitVec 32 := 0#32
  let v43 : BitVec 1 := Scalar.cmpi .ne v42 c0_i32_19
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== CqProjRefIdeal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== MlpUp.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S1024x8x512 : Shape := ⟨3, ![1024, 8, 512]⟩
abbrev S8x1024x512 : Shape := ⟨3, ![8, 1024, 512]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 12
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x1024, .f32⟩
  | .hbm, ⟨4, _⟩ => ⟨S8192x4096, .f32⟩
  | .hbm, ⟨5, _⟩ => ⟨S1024x4096, .bf16⟩
  | .hbm, ⟨6, _⟩ => ⟨S1024x8x512, .bf16⟩
  | .hbm, ⟨7, _⟩ => ⟨S8x1024x512, .bf16⟩
  | .hbm, ⟨8, _⟩ => ⟨S8192x4096, .bf16⟩
  | .hbm, ⟨9, _⟩ => ⟨S8192x1024, .bf16⟩
  | .hbm, ⟨10, _⟩ => ⟨S8192x1024, .bf16⟩
  | .hbm, ⟨11, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v80 : BitVec 1 := Scalar.cmpi .eq arg0 c0_i32
  let v81 : BitVec 32 := Scalar.extui v80
  let c0_i32_46 : BitVec 32 := 0#32
  let v82 : BitVec 1 := Scalar.cmpi .ne v81 c0_i32_46
  v82

def k0_cond2 (i : grid0.Coords) : BitVec 1 :=
  let arg0 : BitVec 32 := BitVec.ofNat 32 (i 0).val
  let c0_i32_47 : BitVec 32 := 0#32
  let v83 : BitVec 1 := Scalar.cmpi .ne arg0 c0_i32_47
  let v84 : BitVec 32 := Scalar.extui v83
  let c0_i32_48 : BitVec 32 := 0#32
  let v85 : BitVec 1 := Scalar.cmpi .ne v84 c0_i32_48
  v85

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== MlpUpRefIdeal.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x1024, .f32⟩
  | .hbm, ⟨4, _⟩ => ⟨S8192x4096, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== InProj.lean ====
abbrev S8192x1024 : Shape := ⟨2, ![8192, 1024]⟩
abbrev S1x1024 : Shape := ⟨2, ![1, 1024]⟩
abbrev S1024x8192 : Shape := ⟨2, ![1024, 8192]⟩
abbrev S8192x8192 : Shape := ⟨2, ![8192, 8192]⟩
abbrev S1024x8x1024 : Shape := ⟨3, ![1024, 8, 1024]⟩
abbrev S8x1024x1024 : Shape := ⟨3, ![8, 1024, 1024]⟩
abbrev S512x8192 : Shape := ⟨2, ![512, 8192]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x8192, .f32⟩
  | .hbm, ⟨3, _⟩ => ⟨S8192x1024, .f32⟩
  | .hbm, ⟨4, _⟩ => ⟨S8192x8192, .f32⟩
  | .hbm, ⟨5, _⟩ => ⟨S1024x8192, .bf16⟩
  | .hbm, ⟨6, _⟩ => ⟨S1024x8x1024, .bf16⟩
  | .hbm, ⟨7, _⟩ => ⟨S8x1024x1024, .bf16⟩
  | .hbm, ⟨8, _⟩ => ⟨S8192x8192, .bf16⟩
  | .hbm, ⟨9, _⟩ => ⟨S8192x1024, .bf16⟩
  | .hbm, ⟨10, _⟩ => ⟨S8192x1024, .f32⟩
  | .hbm, ⟨11, _⟩ => ⟨S1x1024, .f32⟩
  | .local _ .vmem, ⟨0, _⟩ => ⟨S512x8192, .bf16⟩
  | .local _ .vmem, ⟨1, _⟩ => ⟨S512x8192, .bf16⟩
  | .local _ .vmem, ⟨2, _⟩ => ⟨S8x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v79 : BitVec 1 := Scalar.cmpi .eq arg0 c0_i32
  let v80 : BitVec 32 := Scalar.extui v79
  let c0_i32_46 : BitVec 32 := 0#32
  let v81 : BitVec 1 := Scalar.cmpi .ne v80 c0_i32_46
  v81

def k0_cond2 (i : grid0.Coords) : BitVec 1 :=
  let arg0 : BitVec 32 := BitVec.ofNat 32 (i 0).val
  let c0_i32_47 : BitVec 32 := 0#32
  let v82 : BitVec 1 := Scalar.cmpi .ne arg0 c0_i32_47
  let v83 : BitVec 32 := Scalar.extui v82
  let c0_i32_48 : BitVec 32 := 0#32
  let v84 : BitVec 1 := Scalar.cmpi .ne v83 c0_i32_48
  v84

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S8x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== InProjRefIdeal.lean ====
abbrev S8192x1024 : Shape := ⟨2, ![8192, 1024]⟩
abbrev S1x1024 : Shape := ⟨2, ![1, 1024]⟩
abbrev S1024x8192 : Shape := ⟨2, ![1024, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x8192, .f32⟩
  | .hbm, ⟨3, _⟩ => ⟨S8192x1024, .f32⟩
  | .hbm, ⟨4, _⟩ => ⟨S8192x8192, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x8192, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== CkvProj.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S1024x8x256 : Shape := ⟨3, ![1024, 8, 256]⟩
abbrev S8x1024x256 : Shape := ⟨3, ![8, 1024, 256]⟩
abbrev S256x256 : Shape := ⟨2, ![256, 256]⟩
abbrev S1x1024x256 : Shape := ⟨3, ![1, 1024, 256]⟩
abbrev S1024x256 : Shape := ⟨2, ![1024, 256]⟩
abbrev S256 : Shape := ⟨1, ![256]⟩
abbrev S256x1 : Shape := ⟨2, ![256, 1]⟩
abbrev S1024 : Shape := ⟨1, ![1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S256x2048, .f32⟩
  | .hbm, ⟨4, _⟩ => ⟨S1024x2048, .bf16⟩
  | .hbm, ⟨5, _⟩ => ⟨S1024x8x256, .bf16⟩
  | .hbm, ⟨6, _⟩ => ⟨S8x1024x256, .bf16⟩
  | .hbm, ⟨7, _⟩ => ⟨S1x1024, .f32⟩
  | .local _ .vmem, ⟨0, _⟩ => ⟨S256x256, .f32⟩
  | .local _ .vmem, ⟨1, _⟩ => ⟨S256x256, .f32⟩
  | .local _ .vmem, ⟨2, _⟩ => ⟨S1x1024x256, .bf16⟩
  | .local _ .vmem, ⟨3, _⟩ => ⟨S1x1024x256, .bf16⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_7 : BitVec 32 := 0#32
  let v13 : BitVec 1 := Scalar.cmpi .ne v12 c0_i32_7
  v13

def k0_cond4 (i : grid0.Coords) : BitVec 1 :=
  let arg0 : BitVec 32 := BitVec.ofNat 32 (i 0).val
  let c0_i32_16 : BitVec 32 := 0#32
  let v29 : BitVec 1 := Scalar.cmpi .eq arg0 c0_i32_16
  let v30 : BitVec 32 := Scalar.extui v29
  let c0_i32_17 : BitVec 32 := 0#32
  let v31 : BitVec 1 := Scalar.cmpi .ne v30 c0_i32_17
  v31

def k0_cond5 (i : grid0.Coords) : BitVec 1 :=
  let arg0 : BitVec 32 := BitVec.ofNat 32 (i 0).val
  let c0_i32_18 : BitVec 32 := 0#32
  let v32 : BitVec 1 := Scalar.cmpi .ne arg0 c0_i32_18
  let v33 : BitVec 32 := Scalar.extui v32
  let c0_i32_19 : BitVec 32 := 0#32
  let v34 : BitVec 1 := Scalar.cmpi .ne v33 c0_i32_19
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]
-- ==== CkvProjRefIdeal.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 25
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S256x2048, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x2048, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S1024, .f32⟩
  | .hbm, ⟨24, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Loss.lean ====
abbrev S8192x1024 : Shape := ⟨2, ![8192, 1024]⟩
abbrev S8192x4096 : Shape := ⟨2, ![8192, 4096]⟩
abbrev S4096x1024 : Shape := ⟨2, ![4096, 1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S1x1024, .f32⟩
  | .hbm, ⟨4, _⟩ => ⟨S8192x1024, .f32⟩
  | .hbm, ⟨5, _⟩ => ⟨S8192x4096, .bf16⟩
  | .hbm, ⟨6, _⟩ => ⟨S4096x1024, .bf16⟩
  | .hbm, ⟨7, _⟩ => ⟨S8192x1024, .bf16⟩
  | .hbm, ⟨8, _⟩ => ⟨S1x128, .f32⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S1x128, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_23 : BitVec 32 := 0#32
  let v60 : BitVec 1 := Scalar.cmpi .ne v59 c0_i32_23
  v60

def k0_cond2 (i : grid0.Coords) : BitVec 1 :=
  let arg0 : BitVec 32 := BitVec.ofNat 32 (i 0).val
  let c0_i32_24 : BitVec 32 := 0#32
  let v61 : BitVec 1 := Scalar.cmpi .ne arg0 c0_i32_24
  let v62 : BitVec 32 := Scalar.extui v61
  let c0_i32_25 : BitVec 32 := 0#32
  let v63 : BitVec 1 := Scalar.cmpi .ne v62 c0_i32_25
  v63

def k0_cond3 (i : grid0.Coords) : BitVec 1 :=
  let arg0 : BitVec 32 := BitVec.ofNat 32 (i 0).val
  let c0_i32_26 : BitVec 32 := 0#32
  let v64 : BitVec 1 := Scalar.cmpi .eq arg0 c0_i32_26
  let v65 : BitVec 32 := Scalar.extui v64
  let c0_i32_27 : BitVec 32 := 0#32
  let v66 : BitVec 1 := Scalar.cmpi .ne v65 c0_i32_27
  v66

def k0_cond4 (i : grid0.Coords) : BitVec 1 :=
  let arg0 : BitVec 32 := BitVec.ofNat 32 (i 0).val
  let c0_i32_28 : BitVec 32 := 0#32
  let v67 : BitVec 1 := Scalar.cmpi .ne arg0 c0_i32_28
  let v68 : BitVec 32 := Scalar.extui v67
  let c0_i32_29 : BitVec 32 := 0#32
  let v69 : BitVec 1 := Scalar.cmpi .ne v68 c0_i32_29
  v69

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== LossRefIdeal.lean ====
abbrev S8192x1024 : Shape := ⟨2, ![8192, 1024]⟩
abbrev S8192x4096 : Shape := ⟨2, ![8192, 4096]⟩
abbrev S4096x1024 : Shape := ⟨2, ![4096, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .bf16⟩
  | .hbm, ⟨73, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== ConvNorm.lean ====
abbrev S8192x768 : Shape := ⟨2, ![8192, 768]⟩
abbrev S1x768 : Shape := ⟨2, ![1, 768]⟩
abbrev S768x1024 : Shape := ⟨2, ![768, 1024]⟩
abbrev S8192x1024 : Shape := ⟨2, ![8192, 1024]⟩
abbrev S512x1024 : Shape := ⟨2, ![512, 1024]⟩
abbrev S512x768 : Shape := ⟨2, ![512, 768]⟩
abbrev S512 : Shape := ⟨1, ![512]⟩
abbrev S512x1 : Shape := ⟨2, ![512, 1]⟩
abbrev S768 : Shape := ⟨1, ![768]⟩

abbrev nBuf : Space → Nat
  | .hbm => 14
  | .vmem => 12
  | .smem => 0
  | _ => 0

abbrev bufTy : (tb : Table) → Fin (tcTables nBuf tb) → BufTy
  | .hbm, ⟨0, _⟩ => ⟨S8192x768, .f32⟩
  | .hbm, ⟨1, _⟩ => ⟨S1x768, .f32⟩
  | .hbm, ⟨2, _⟩ => ⟨S1x768, .f32⟩
  | .hbm, ⟨3, _⟩ => ⟨S1x768, .f32⟩
  | .hbm, ⟨4, _⟩ => ⟨S768x1024, .f32⟩
  | .hbm, ⟨5, _⟩ => ⟨S8192x1024, .f32⟩
  | .hbm, ⟨6, _⟩ => ⟨S8192x1024, .bf16⟩
  | .hbm, ⟨7, _⟩ => ⟨S768x1024, .bf16⟩
  | .hbm, ⟨8, _⟩ => ⟨S8192x768, .f32⟩
  | .hbm, ⟨9, _⟩ => ⟨S8192x768, .f32⟩
  | .hbm, ⟨10, _⟩ => ⟨S8192x768, .f32⟩
  | .hbm, ⟨11, _⟩ => ⟨S1x768, .f32⟩
  | .hbm, ⟨12, _⟩ => ⟨S1x768, .f32⟩
  | .hbm, ⟨13, _⟩ => ⟨S1x768, .f32⟩
  | .local _ .vmem, ⟨0, _⟩ => ⟨S512x1024, .bf16⟩
  | .local _ .vmem, ⟨1, _⟩ => ⟨S512x1024, .bf16⟩
  | .local _ .vmem, ⟨2, _⟩ => ⟨S768x1024, .bf16⟩
  | .local _ .vmem, ⟨3, _⟩ => ⟨S512x768, .f32⟩
  | .local _ .vmem, ⟨4, _⟩ => ⟨S512x768, .f32⟩
  | .local _ .vmem, ⟨5, _⟩ => ⟨S1x768, .f32⟩
  | .local _ .vmem, ⟨6, _⟩ => ⟨S1x768, .f32⟩
  | .local _ .vmem, ⟨7, _⟩ => ⟨S512x768, .f32⟩
  | .local _ .vmem, ⟨8, _⟩ => ⟨S512x768, .f32⟩
  | .local _ .vmem, ⟨9, _⟩ => ⟨S1x768, .f32⟩
  | .local _ .vmem, ⟨10, _⟩ => ⟨S1x768, .f32⟩
  | .local _ .vmem, ⟨11, _⟩ => ⟨S1x768, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v69 : BitVec 1 := Scalar.cmpi .eq arg0 c0_i32
  let v70 : BitVec 32 := Scalar.extui v69
  let c0_i32_28 : BitVec 32 := 0#32
  let v71 : BitVec 1 := Scalar.cmpi .ne v70 c0_i32_28
  v71

def k0_cond2 (i : grid0.Coords) : BitVec 1 :=
  let arg0 : BitVec 32 := BitVec.ofNat 32 (i 0).val
  let c0_i32_29 : BitVec 32 := 0#32
  let v72 : BitVec 1 := Scalar.cmpi .ne arg0 c0_i32_29
  let v73 : BitVec 32 := Scalar.extui v72
  let c0_i32_30 : BitVec 32 := 0#32
  let v74 : BitVec 1 := Scalar.cmpi .ne v73 c0_i32_30
  v74

def k0_cond3 (i : grid0.Coords) : BitVec 1 :=
  let arg0 : BitVec 32 := BitVec.ofNat 32 (i 0).val
  let c0_i32_31 : BitVec 32 := 0#32
  let v75 : BitVec 1 := Scalar.cmpi .eq arg0 c0_i32_31
  let v76 : BitVec 32 := Scalar.extui v75
  let c0_i32_32 : BitVec 32 := 0#32
  let v77 : BitVec 1 := Scalar.cmpi .ne v76 c0_i32_32
  v77

def k0_cond4 (i : grid0.Coords) : BitVec 1 :=
  let arg0 : BitVec 32 := BitVec.ofNat 32 (i 0).val
  let c0_i32_33 : BitVec 32 := 0#32
  let v78 : BitVec 1 := Scalar.cmpi .ne arg0 c0_i32_33
  let v79 : BitVec 32 := Scalar.extui v78
  let c0_i32_34 : BitVec 32 := 0#32
  let v80 : BitVec 1 := Scalar.cmpi .ne v79 c0_i32_34
  v80

def k0_cond5 (i : grid0.Coords) : BitVec 1 :=
  let arg0 : BitVec 32 := BitVec.ofNat 32 (i 0).val
  let c0_i32_35 : BitVec 32 := 0#32
  let v81 : BitVec 1 := Scalar.cmpi .eq arg0 c0_i32_35
  let v82 : BitVec 32 := Scalar.extui v81
  let c0_i32_36 : BitVec 32 := 0#32
  let v83 : BitVec 1 := Scalar.cmpi .ne v82 c0_i32_36
  v83

def k0_cond6 (i : grid0.Coords) : BitVec 1 :=
  let arg0 : BitVec 32 := BitVec.ofNat 32 (i 0).val
  let c0_i32_37 : BitVec 32 := 0#32
  let v84 : BitVec 1 := Scalar.cmpi .ne arg0 c0_i32_37
  let v85 : BitVec 32 := Scalar.extui v84
  let c0_i32_38 : BitVec 32 := 0#32
  let v86 : BitVec 1 := Scalar.cmpi .ne v85 c0_i32_38
  v86

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== ConvNormRefIdeal.lean ====
abbrev S8192x768 : Shape := ⟨2, ![8192, 768]⟩
abbrev S1x768 : Shape := ⟨2, ![1, 768]⟩
abbrev S768x1024 : Shape := ⟨2, ![768, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S768 : Shape := ⟨1, ![768]⟩
abbrev S1x8192x768 : Shape := ⟨3, ![1, 8192, 768]⟩

abbrev nBuf : Space → Nat
  | .hbm => 106
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S1x768, .f32⟩
  | .hbm, ⟨2, _⟩ => ⟨S1x768, .f32⟩
  | .hbm, ⟨3, _⟩ => ⟨S1x768, .f32⟩
  | .hbm, ⟨4, _⟩ => ⟨S768x1024, .f32⟩
  | .hbm, ⟨5, _⟩ => ⟨S8192x1024, .f32⟩
  | .hbm, ⟨6, _⟩ => ⟨S8192x768, .f32⟩
  | .hbm, ⟨7, _⟩ => ⟨S8192x768, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x768, .f32⟩
  | .hbm, ⟨15, _⟩ => ⟨S8192x768, .f32⟩
  | .hbm, ⟨16, _⟩ => ⟨S8192x768, .f32⟩
  | .hbm, ⟨17, _⟩ => ⟨S_, .f32⟩
  | .hbm, ⟨18, _⟩ => ⟨S8192x768, .f32⟩
  | .hbm, ⟨19, _⟩ => ⟨S8192x768, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x768, .f32⟩
  | .hbm, ⟨27, _⟩ => ⟨S8192x768, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x768, .f32⟩
  | .hbm, ⟨37, _⟩ => ⟨S8192x768, .f32⟩
  | .hbm, ⟨38, _⟩ => ⟨S8192x768, .f32⟩
  | .hbm, ⟨39, _⟩ => ⟨S8192x768, .f32⟩
  | .hbm, ⟨40, _⟩ => ⟨S8192x768, .f32⟩
  | .hbm, ⟨41, _⟩ => ⟨S8192x768, .f32⟩
  | .hbm, ⟨42, _⟩ => ⟨S8192x768, .f32⟩
  | .hbm, ⟨43, _⟩ => ⟨S8192x768, .f32⟩
  | .hbm, ⟨44, _⟩ => ⟨S_, .f32⟩
  | .hbm, ⟨45, _⟩ => ⟨S8192x768, .f32⟩
  | .hbm, ⟨46, _⟩ => ⟨S8192x768, .f32⟩
  | .hbm, ⟨47, _⟩ => ⟨S_, .f32⟩
  | .hbm, ⟨48, _⟩ => ⟨S8192x768, .f32⟩
  | .hbm, ⟨49, _⟩ => ⟨S8192x768, .f32⟩
  | .hbm, ⟨50, _⟩ => ⟨S_, .f32⟩
  | .hbm, ⟨51, _⟩ => ⟨S8192x768, .f32⟩
  | .hbm, ⟨52, _⟩ => ⟨S8192x768, .f32⟩
  | .hbm, ⟨53, _⟩ => ⟨S8192x768, .f32⟩
  | .hbm, ⟨54, _⟩ => ⟨S8192x768, .f32⟩
  | .hbm, ⟨55, _⟩ => ⟨S8192x1024, .f32⟩
  | .hbm, ⟨56, _⟩ => ⟨S8192x768, .f32⟩
  | .hbm, ⟨57, _⟩ => ⟨S8192x768, .f32⟩
  | .hbm, ⟨58, _⟩ => ⟨S8192x768, .f32⟩
  | .hbm, ⟨59, _⟩ => ⟨S8192x768, .f32⟩
  | .hbm, ⟨60, _⟩ => ⟨S8192x768, .f32⟩
  | .hbm, ⟨61, _⟩ => ⟨S_, .f32⟩
  | .hbm, ⟨62, _⟩ => ⟨S768, .f32⟩
  | .hbm, ⟨63, _⟩ => ⟨S1x768, .f32⟩
  | .hbm, ⟨64, _⟩ => ⟨S8192x768, .f32⟩
  | .hbm, ⟨65, _⟩ => ⟨S_, .f32⟩
  | .hbm, ⟨66, _⟩ => ⟨S768, .f32⟩
  | .hbm, ⟨67, _⟩ => ⟨S1x768, .f32⟩
  | .hbm, ⟨68, _⟩ => ⟨S8192x768, .f32⟩
  | .hbm, ⟨69, _⟩ => ⟨S8192x768, .f32⟩
  | .hbm, ⟨70, _⟩ => ⟨S8192x768, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x768, .f32⟩
  | .hbm, ⟨75, _⟩ => ⟨S8192x768, .f32⟩
  | .hbm, ⟨76, _⟩ => ⟨S8192x1, .f32⟩
  | .hbm, ⟨77, _⟩ => ⟨S8192x768, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x768, .f32⟩
  | .hbm, ⟨87, _⟩ => ⟨S8192x768, .f32⟩
  | .hbm, ⟨88, _⟩ => ⟨S8192x768, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x768, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x768, .f32⟩
  | .hbm, ⟨100, _⟩ => ⟨S8192x768, .f32⟩
  | .hbm, ⟨101, _⟩ => ⟨S_, .f32⟩
  | .hbm, ⟨102, _⟩ => ⟨S768, .f32⟩
  | .hbm, ⟨103, _⟩ => ⟨S1x768, .f32⟩
  | .hbm, ⟨104, _⟩ => ⟨S1x8192x768, .f32⟩
  | .hbm, ⟨105, _⟩ => ⟨S8192x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v29_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v29_1 : Ref sig .tc := ⟨.hbm, 53, rfl⟩
abbrev main_v29_0 : Ref sig .tc := ⟨.hbm, 54, rfl⟩
abbrev main_v30 : Ref sig .tc := ⟨.hbm, 55, rfl⟩
abbrev main_v31 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v32 : Ref sig .tc := ⟨.hbm, 60, rfl⟩
abbrev main_cst_6 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_7 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_9 : Ref sig .tc := ⟨.hbm, 78, rfl⟩
abbrev main_v47 : Ref sig .tc := ⟨.hbm, 79, rfl⟩
abbrev main_v48 : Ref sig .tc := ⟨.hbm, 80, rfl⟩
abbrev main_cst_10 : Ref sig .tc := ⟨.hbm, 81, rfl⟩
abbrev main_v49 : Ref sig .tc := ⟨.hbm, 82, rfl⟩
abbrev main_v50 : Ref sig .tc := ⟨.hbm, 83, rfl⟩
abbrev main_cst_11 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_12 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_13 : Ref sig .tc := ⟨.hbm, 94, rfl⟩
abbrev main_v59 : Ref sig .tc := ⟨.hbm, 95, rfl⟩
abbrev main_v60 : Ref sig .tc := ⟨.hbm, 96, rfl⟩
abbrev main_cst_14 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_15 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩

abbrev nD : Nat := 1
abbrev τ : Topo := Topo.v7x

variable {F : FTy → Type} [FloatOps F]
-- ==== CrossFwd.lean ====
abbrev S8192x1024 : Shape := ⟨2, ![8192, 1024]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S256x1024, .f32⟩
  | .hbm, ⟨3, _⟩ => ⟨S256x1024, .f32⟩
  | .hbm, ⟨4, _⟩ => ⟨S8192x1024, .bf16⟩
  | .hbm, ⟨5, _⟩ => ⟨S1024x1024, .bf16⟩
  | .hbm, ⟨6, _⟩ => ⟨S256x1024, .bf16⟩
  | .hbm, ⟨7, _⟩ => ⟨S256x1024, .bf16⟩
  | .hbm, ⟨8, _⟩ => ⟨S8192x1024, .bf16⟩
  | .hbm, ⟨9, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== CrossFwdRefIdeal.lean ====
abbrev S8192x1024 : Shape := ⟨2, ![8192, 1024]⟩
abbrev S1024x1024 : Shape := ⟨2, ![1024, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S256x1024, .f32⟩
  | .hbm, ⟨3, _⟩ => ⟨S256x1024, .f32⟩
  | .hbm, ⟨4, _⟩ => ⟨S8192x1024, .f32⟩
  | .hbm, ⟨5, _⟩ => ⟨S8192x4x256, .f32⟩
  | .hbm, ⟨6, _⟩ => ⟨S256x4x256, .f32⟩
  | .hbm, ⟨7, _⟩ => ⟨S256x4x256, .f32⟩
  | .hbm, ⟨8, _⟩ => ⟨S4x8192x256, .f32⟩
  | .hbm, ⟨9, _⟩ => ⟨S_, .f32⟩
  | .hbm, ⟨10, _⟩ => ⟨S4x8192x256, .f32⟩
  | .hbm, ⟨11, _⟩ => ⟨S4x8192x256, .f32⟩
  | .hbm, ⟨12, _⟩ => ⟨S_, .f32⟩
  | .hbm, ⟨13, _⟩ => ⟨S4x8192, .f32⟩
  | .hbm, ⟨14, _⟩ => ⟨S_, .f32⟩
  | .hbm, ⟨15, _⟩ => ⟨S4x8192, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .f32⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x256, .f32⟩
  | .hbm, ⟨25, _⟩ => ⟨S4x8192x256, .f32⟩
  | .hbm, ⟨26, _⟩ => ⟨S4x256x8192, .f32⟩
  | .hbm, ⟨27, _⟩ => ⟨S8192x4x256, .f32⟩
  | .hbm, ⟨28, _⟩ => ⟨S8192x1024, .f32⟩
  | .hbm, ⟨29, _⟩ => ⟨S8192x1024, .bf16⟩
  | .hbm, ⟨30, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== AttnFwdA.lean ====
abbrev S8192x512 : Shape := ⟨2, ![8192, 512]⟩
abbrev S8192x1536 : Shape := ⟨2, ![8192, 1536]⟩
abbrev S8192x1x1536 : Shape := ⟨3, ![8192, 1, 1536]⟩
abbrev S1x8192x1536 : Shape := ⟨3, ![1, 8192, 1536]⟩
abbrev S1x8192x512 : Shape := ⟨3, ![1, 8192, 512]⟩
abbrev S1x8192x128 : Shape := ⟨3, ![1, 8192, 128]⟩
abbrev S1x512x512 : Shape := ⟨3, ![1, 512, 512]⟩
abbrev S1x128x512 : Shape := ⟨3, ![1, 128, 512]⟩
abbrev S1x512x128 : Shape := ⟨3, ![1, 512, 128]⟩
abbrev S640x512 : Shape := ⟨2, ![640, 512]⟩
abbrev S16x128x256 : Shape := ⟨3, ![16, 128, 256]⟩
abbrev S16x128x128 : Shape := ⟨3, ![16, 128, 128]⟩
abbrev S128x512 : Shape := ⟨2, ![128, 512]⟩
abbrev S512x512 : Shape := ⟨2, ![512, 512]⟩
abbrev S128x256 : Shape := ⟨2, ![128, 256]⟩
abbrev S1x128x128 : Shape := ⟨3, ![1, 128, 128]⟩
abbrev S128x128 : Shape := ⟨2, ![128, 128]⟩
abbrev S256x128 : Shape := ⟨2, ![256, 128]⟩
abbrev S1x128x256 : Shape := ⟨3, ![1, 128, 256]⟩
abbrev S128 : Shape := ⟨1, ![128]⟩
abbrev S128x1 : Shape := ⟨2, ![128, 1]⟩

abbrev nBuf : Space → Nat
  | .hbm => 9
  | .vmem => 19
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x1536, .f32⟩
  | .hbm, ⟨4, _⟩ => ⟨S8192x1536, .bf16⟩
  | .hbm, ⟨5, _⟩ => ⟨S8192x1x1536, .bf16⟩
  | .hbm, ⟨6, _⟩ => ⟨S1x8192x1536, .bf16⟩
  | .hbm, ⟨7, _⟩ => ⟨S1x8192x512, .bf16⟩
  | .hbm, ⟨8, _⟩ => ⟨S1x8192x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x128, .f32⟩
  | .local _ .vmem, ⟨13, _⟩ => ⟨S1x512x128, .f32⟩
  | .local _ .vmem, ⟨14, _⟩ => ⟨S640x512, .bf16⟩
  | .local _ .vmem, ⟨15, _⟩ => ⟨S640x512, .bf16⟩
  | .local _ .vmem, ⟨16, _⟩ => ⟨S16x128x256, .f32⟩
  | .local _ .vmem, ⟨17, _⟩ => ⟨S16x128x256, .bf16⟩
  | .local _ .vmem, ⟨18, _⟩ => ⟨S16x128x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnFwdAIdeal.lean ====
variable {F : FTy → Type} [FloatOps F] [Named F]
def κ : String → Option EReal := fun
  | "mask" => some ⊥
  | _ => none
-- ==== AttnFwdARefIdeal.lean ====
abbrev S8192x512 : Shape := ⟨2, ![8192, 512]⟩
abbrev S8192x1x4x128 : Shape := ⟨4, ![8192, 1, 4, 128]⟩
abbrev S4x1x8192x128 : Shape := ⟨4, ![4, 1, 8192, 128]⟩
abbrev S4x1x64x128x128 : Shape := ⟨5, ![4, 1, 64, 128, 128]⟩
abbrev S_ : Shape := ⟨0, ![]⟩
abbrev S4x1x1x128x128 : Shape := ⟨5, ![4, 1, 1, 128, 128]⟩
abbrev S4x1x63x128x128 : Shape := ⟨5, ![4, 1, 63, 128, 128]⟩
abbrev S4x1x64x256x128 : Shape := ⟨5, ![4, 1, 64, 256, 128]⟩
abbrev S4x1x64x128x256 : Shape := ⟨5, ![4, 1, 64, 128, 256]⟩
abbrev S64x128x256 : Shape := ⟨3, ![64, 128, 256]⟩
abbrev S4x1x64x128 : Shape := ⟨4, ![4, 1, 64, 128]⟩
abbrev S4x1x64x128x1 : Shape := ⟨5, ![4, 1, 64, 128, 1]⟩
abbrev S1x64x128x4x128 : Shape := ⟨5, ![1, 64, 128, 4, 128]⟩
abbrev S1x8192x512 : Shape := ⟨3, ![1, 8192, 512]⟩
abbrev S1x64x128x4 : Shape := ⟨4, ![1, 64, 128, 4]⟩
abbrev S1x8192x4 : Shape := ⟨3, ![1, 8192, 4]⟩
abbrev S1x8192x124 : Shape := ⟨3, ![1, 8192, 124]⟩
abbrev S1x8192x128 : Shape := ⟨3, ![1, 8192, 128]⟩

abbrev nBuf : Space → Nat
  | .hbm => 72
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x1x4x128, .f32⟩
  | .hbm, ⟨4, _⟩ => ⟨S4x1x8192x128, .f32⟩
  | .hbm, ⟨5, _⟩ => ⟨S4x1x64x128x128, .f32⟩
  | .hbm, ⟨6, _⟩ => ⟨S8192x1x4x128, .f32⟩
  | .hbm, ⟨7, _⟩ => ⟨S4x1x8192x128, .f32⟩
  | .hbm, ⟨8, _⟩ => ⟨S4x1x64x128x128, .f32⟩
  | .hbm, ⟨9, _⟩ => ⟨S_, .f32⟩
  | .hbm, ⟨10, _⟩ => ⟨S4x1x1x128x128, .f32⟩
  | .hbm, ⟨11, _⟩ => ⟨S4x1x63x128x128, .f32⟩
  | .hbm, ⟨12, _⟩ => ⟨S4x1x64x128x128, .f32⟩
  | .hbm, ⟨13, _⟩ => ⟨S4x1x64x256x128, .f32⟩
  | .hbm, ⟨14, _⟩ => ⟨S8192x1x4x128, .f32⟩
  | .hbm, ⟨15, _⟩ => ⟨S4x1x8192x128, .f32⟩
  | .hbm, ⟨16, _⟩ => ⟨S4x1x64x128x128, .f32⟩
  | .hbm, ⟨17, _⟩ => ⟨S_, .f32⟩
  | .hbm, ⟨18, _⟩ => ⟨S4x1x1x128x128, .f32⟩
  | .hbm, ⟨19, _⟩ => ⟨S4x1x63x128x128, .f32⟩
  | .hbm, ⟨20, _⟩ => ⟨S4x1x64x128x128, .f32⟩
  | .hbm, ⟨21, _⟩ => ⟨S4x1x64x256x128, .f32⟩
  | .hbm, ⟨22, _⟩ => ⟨S4x1x64x128x256, .f32⟩
  | .hbm, ⟨23, _⟩ => ⟨S_, .f32⟩
  | .hbm, ⟨24, _⟩ => ⟨S4x1x64x128x256, .f32⟩
  | .hbm, ⟨25, _⟩ => ⟨S4x1x64x128x256, .f32⟩
  | .hbm, ⟨26, _⟩ => ⟨S64x128x256, .i32⟩
  | .hbm, ⟨27, _⟩ => ⟨S64x128x256, .i32⟩
  | .hbm, ⟨28, _⟩ => ⟨S64x128x256, .i32⟩
  | .hbm, ⟨29, _⟩ => ⟨S64x128x256, .i1⟩
  | .hbm, ⟨30, _⟩ => ⟨S_, .i32⟩
  | .hbm, ⟨31, _⟩ => ⟨S64x128x256, .i32⟩
  | .hbm, ⟨32, _⟩ => ⟨S64x128x256, .i32⟩
  | .hbm, ⟨33, _⟩ => ⟨S64x128x256, .i1⟩
  | .hbm, ⟨34, _⟩ => ⟨S64x128x256, .i1⟩
  | .hbm, ⟨35, _⟩ => ⟨S_, .i32⟩
  | .hbm, ⟨36, _⟩ => ⟨S64x128x256, .i32⟩
  | .hbm, ⟨37, _⟩ => ⟨S64x128x256, .i1⟩
  | .hbm, ⟨38, _⟩ => ⟨S_, .i32⟩
  | .hbm, ⟨39, _⟩ => ⟨S64x128x256, .i32⟩
  | .hbm, ⟨40, _⟩ => ⟨S64x128x256, .i1⟩
  | .hbm, ⟨41, _⟩ => ⟨S64x128x256, .i1⟩
  | .hbm, ⟨42, _⟩ => ⟨S64x128x256, .i1⟩
  | .hbm, ⟨43, _⟩ => ⟨S64x128x256, .i1⟩
  | .hbm, ⟨44, _⟩ => ⟨S_, .f32⟩
  | .hbm, ⟨45, _⟩ => ⟨S_, .f32⟩
  | .hbm, ⟨46, _⟩ => ⟨S4x1x64x128x256, .i1⟩
  | .hbm, ⟨47, _⟩ => ⟨S4x1x64x128x256, .f32⟩
  | .hbm, ⟨48, _⟩ => ⟨S4x1x64x128x256, .f32⟩
  | .hbm, ⟨49, _⟩ => ⟨S_, .f32⟩
  | .hbm, ⟨50, _⟩ => ⟨S4x1x64x128, .f32⟩
  | .hbm, ⟨51, _⟩ => ⟨S4x1x64x128x1, .f32⟩
  | .hbm, ⟨52, _⟩ => ⟨S4x1x64x128x256, .f32⟩
  | .hbm, ⟨53, _⟩ => ⟨S4x1x64x128x256, .f32⟩
  | .hbm, ⟨54, _⟩ => ⟨S4x1x64x128x256, .f32⟩
  | .hbm, ⟨55, _⟩ => ⟨S_, .f32⟩
  | .hbm, ⟨56, _⟩ => ⟨S4x1x64x128, .f32⟩
  | .hbm, ⟨57, _⟩ => ⟨S4x1x64x128, .f32⟩
  | .hbm, ⟨58, _⟩ => ⟨S4x1x64x128, .f32⟩
  | .hbm, ⟨59, _⟩ => ⟨S4x1x64x128x1, .f32⟩
  | .hbm, ⟨60, _⟩ => ⟨S4x1x64x128x256, .f32⟩
  | .hbm, ⟨61, _⟩ => ⟨S4x1x64x128x256, .f32⟩
  | .hbm, ⟨62, _⟩ => ⟨S4x1x64x128x256, .f32⟩
  | .hbm, ⟨63, _⟩ => ⟨S4x1x64x128x128, .f32⟩
  | .hbm, ⟨64, _⟩ => ⟨S1x64x128x4x128, .f32⟩
  | .hbm, ⟨65, _⟩ => ⟨S1x8192x512, .f32⟩
  | .hbm, ⟨66, _⟩ => ⟨S1x64x128x4, .f32⟩
  | .hbm, ⟨67, _⟩ => ⟨S1x8192x4, .f32⟩
  | .hbm, ⟨68, _⟩ => ⟨S_, .f32⟩
  | .hbm, ⟨69, _⟩ => ⟨S1x8192x124, .f32⟩
  | .hbm, ⟨70, _⟩ => ⟨S1x8192x128, .f32⟩
  | .hbm, ⟨71, _⟩ => ⟨S1x8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_2 : Ref sig .tc := ⟨.hbm, 35, rfl⟩
abbrev main_v28 : Ref sig .tc := ⟨.hbm, 36, rfl⟩
abbrev main_v29 : Ref sig .tc := ⟨.hbm, 37, rfl⟩
abbrev main_c_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]

def κ : String → Option EReal := fun
  | "mask" => some ⊥
  | _ => none
-- ==== AttnFwdB.lean ====
abbrev S8192x512 : Shape := ⟨2, ![8192, 512]⟩
abbrev S8192x1536 : Shape := ⟨2, ![8192, 1536]⟩
abbrev S2048x4x1536 : Shape := ⟨3, ![2048, 4, 1536]⟩
abbrev S4x2048x1536 : Shape := ⟨3, ![4, 2048, 1536]⟩
abbrev S4x2048x512 : Shape := ⟨3, ![4, 2048, 512]⟩
abbrev S4x2048x128 : Shape := ⟨3, ![4, 2048, 128]⟩
abbrev S1x512x512 : Shape := ⟨3, ![1, 512, 512]⟩
abbrev S1x128x512 : Shape := ⟨3, ![1, 128, 512]⟩
abbrev S1x512x128 : Shape := ⟨3, ![1, 512, 128]⟩
abbrev S640x512 : Shape := ⟨2, ![640, 512]⟩
abbrev S16x128x256 : Shape := ⟨3, ![16, 128, 256]⟩
abbrev S16x128x128 : Shape := ⟨3, ![16, 128, 128]⟩
abbrev S128x512 : Shape := ⟨2, ![128, 512]⟩
abbrev S512x512 : Shape := ⟨2, ![512, 512]⟩
abbrev S128x256 : Shape := ⟨2, ![128, 256]⟩
abbrev S1x128x128 : Shape := ⟨3, ![1, 128, 128]⟩
abbrev S128x128 : Shape := ⟨2, ![128, 128]⟩
abbrev S256x128 : Shape := ⟨2, ![256, 128]⟩
abbrev S1x128x256 : Shape := ⟨3, ![1, 128, 256]⟩
abbrev S128 : Shape := ⟨1, ![128]⟩
abbrev S128x1 : Shape := ⟨2, ![128, 1]⟩

abbrev nBuf : Space → Nat
  | .hbm => 9
  | .vmem => 19
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x1536, .f32⟩
  | .hbm, ⟨4, _⟩ => ⟨S8192x1536, .bf16⟩
  | .hbm, ⟨5, _⟩ => ⟨S2048x4x1536, .bf16⟩
  | .hbm, ⟨6, _⟩ => ⟨S4x2048x1536, .bf16⟩
  | .hbm, ⟨7, _⟩ => ⟨S4x2048x512, .bf16⟩
  | .hbm, ⟨8, _⟩ => ⟨S4x2048x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x128, .f32⟩
  | .local _ .vmem, ⟨13, _⟩ => ⟨S1x512x128, .f32⟩
  | .local _ .vmem, ⟨14, _⟩ => ⟨S640x512, .bf16⟩
  | .local _ .vmem, ⟨15, _⟩ => ⟨S640x512, .bf16⟩
  | .local _ .vmem, ⟨16, _⟩ => ⟨S16x128x256, .f32⟩
  | .local _ .vmem, ⟨17, _⟩ => ⟨S16x128x256, .bf16⟩
  | .local _ .vmem, ⟨18, _⟩ => ⟨S16x128x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnFwdBIdeal.lean ====
variable {F : FTy → Type} [FloatOps F] [Named F]
def κ : String → Option EReal := fun
  | "mask" => some ⊥
  | _ => none
-- ==== AttnFwdBRefIdeal.lean ====
abbrev S8192x512 : Shape := ⟨2, ![8192, 512]⟩
abbrev S2048x4x4x128 : Shape := ⟨4, ![2048, 4, 4, 128]⟩
abbrev S4x4x2048x128 : Shape := ⟨4, ![4, 4, 2048, 128]⟩
abbrev S4x4x16x128x128 : Shape := ⟨5, ![4, 4, 16, 128, 128]⟩
abbrev S_ : Shape := ⟨0, ![]⟩
abbrev S4x4x1x128x128 : Shape := ⟨5, ![4, 4, 1, 128, 128]⟩
abbrev S4x4x15x128x128 : Shape := ⟨5, ![4, 4, 15, 128, 128]⟩
abbrev S4x4x16x256x128 : Shape := ⟨5, ![4, 4, 16, 256, 128]⟩
abbrev S4x4x16x128x256 : Shape := ⟨5, ![4, 4, 16, 128, 256]⟩
abbrev S16x128x256 : Shape := ⟨3, ![16, 128, 256]⟩
abbrev S4x4x16x128 : Shape := ⟨4, ![4, 4, 16, 128]⟩
abbrev S4x4x16x128x1 : Shape := ⟨5, ![4, 4, 16, 128, 1]⟩
abbrev S4x16x128x4x128 : Shape := ⟨5, ![4, 16, 128, 4, 128]⟩
abbrev S4x2048x512 : Shape := ⟨3, ![4, 2048, 512]⟩
abbrev S4x16x128x4 : Shape := ⟨4, ![4, 16, 128, 4]⟩
abbrev S4x2048x4 : Shape := ⟨3, ![4, 2048, 4]⟩
abbrev S4x2048x124 : Shape := ⟨3, ![4, 2048, 124]⟩
abbrev S4x2048x128 : Shape := ⟨3, ![4, 2048, 128]⟩

abbrev nBuf : Space → Nat
  | .hbm => 72
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S2048x4x4x128, .f32⟩
  | .hbm, ⟨4, _⟩ => ⟨S4x4x2048x128, .f32⟩
  | .hbm, ⟨5, _⟩ => ⟨S4x4x16x128x128, .f32⟩
  | .hbm, ⟨6, _⟩ => ⟨S2048x4x4x128, .f32⟩
  | .hbm, ⟨7, _⟩ => ⟨S4x4x2048x128, .f32⟩
  | .hbm, ⟨8, _⟩ => ⟨S4x4x16x128x128, .f32⟩
  | .hbm, ⟨9, _⟩ => ⟨S_, .f32⟩
  | .hbm, ⟨10, _⟩ => ⟨S4x4x1x128x128, .f32⟩
  | .hbm, ⟨11, _⟩ => ⟨S4x4x15x128x128, .f32⟩
  | .hbm, ⟨12, _⟩ => ⟨S4x4x16x128x128, .f32⟩
  | .hbm, ⟨13, _⟩ => ⟨S4x4x16x256x128, .f32⟩
  | .hbm, ⟨14, _⟩ => ⟨S2048x4x4x128, .f32⟩
  | .hbm, ⟨15, _⟩ => ⟨S4x4x2048x128, .f32⟩
  | .hbm, ⟨16, _⟩ => ⟨S4x4x16x128x128, .f32⟩
  | .hbm, ⟨17, _⟩ => ⟨S_, .f32⟩
  | .hbm, ⟨18, _⟩ => ⟨S4x4x1x128x128, .f32⟩
  | .hbm, ⟨19, _⟩ => ⟨S4x4x15x128x128, .f32⟩
  | .hbm, ⟨20, _⟩ => ⟨S4x4x16x128x128, .f32⟩
  | .hbm, ⟨21, _⟩ => ⟨S4x4x16x256x128, .f32⟩
  | .hbm, ⟨22, _⟩ => ⟨S4x4x16x128x256, .f32⟩
  | .hbm, ⟨23, _⟩ => ⟨S_, .f32⟩
  | .hbm, ⟨24, _⟩ => ⟨S4x4x16x128x256, .f32⟩
  | .hbm, ⟨25, _⟩ => ⟨S4x4x16x128x256, .f32⟩
  | .hbm, ⟨26, _⟩ => ⟨S16x128x256, .i32⟩
  | .hbm, ⟨27, _⟩ => ⟨S16x128x256, .i32⟩
  | .hbm, ⟨28, _⟩ => ⟨S16x128x256, .i32⟩
  | .hbm, ⟨29, _⟩ => ⟨S16x128x256, .i1⟩
  | .hbm, ⟨30, _⟩ => ⟨S_, .i32⟩
  | .hbm, ⟨31, _⟩ => ⟨S16x128x256, .i32⟩
  | .hbm, ⟨32, _⟩ => ⟨S16x128x256, .i32⟩
  | .hbm, ⟨33, _⟩ => ⟨S16x128x256, .i1⟩
  | .hbm, ⟨34, _⟩ => ⟨S16x128x256, .i1⟩
  | .hbm, ⟨35, _⟩ => ⟨S_, .i32⟩
  | .hbm, ⟨36, _⟩ => ⟨S16x128x256, .i32⟩
  | .hbm, ⟨37, _⟩ => ⟨S16x128x256, .i1⟩
  | .hbm, ⟨38, _⟩ => ⟨S_, .i32⟩
  | .hbm, ⟨39, _⟩ => ⟨S16x128x256, .i32⟩
  | .hbm, ⟨40, _⟩ => ⟨S16x128x256, .i1⟩
  | .hbm, ⟨41, _⟩ => ⟨S16x128x256, .i1⟩
  | .hbm, ⟨42, _⟩ => ⟨S16x128x256, .i1⟩
  | .hbm, ⟨43, _⟩ => ⟨S16x128x256, .i1⟩
  | .hbm, ⟨44, _⟩ => ⟨S_, .f32⟩
  | .hbm, ⟨45, _⟩ => ⟨S_, .f32⟩
  | .hbm, ⟨46, _⟩ => ⟨S4x4x16x128x256, .i1⟩
  | .hbm, ⟨47, _⟩ => ⟨S4x4x16x128x256, .f32⟩
  | .hbm, ⟨48, _⟩ => ⟨S4x4x16x128x256, .f32⟩
  | .hbm, ⟨49, _⟩ => ⟨S_, .f32⟩
  | .hbm, ⟨50, _⟩ => ⟨S4x4x16x128, .f32⟩
  | .hbm, ⟨51, _⟩ => ⟨S4x4x16x128x1, .f32⟩
  | .hbm, ⟨52, _⟩ => ⟨S4x4x16x128x256, .f32⟩
  | .hbm, ⟨53, _⟩ => ⟨S4x4x16x128x256, .f32⟩
  | .hbm, ⟨54, _⟩ => ⟨S4x4x16x128x256, .f32⟩
  | .hbm, ⟨55, _⟩ => ⟨S_, .f32⟩
  | .hbm, ⟨56, _⟩ => ⟨S4x4x16x128, .f32⟩
  | .hbm, ⟨57, _⟩ => ⟨S4x4x16x128, .f32⟩
  | .hbm, ⟨58, _⟩ => ⟨S4x4x16x128, .f32⟩
  | .hbm, ⟨59, _⟩ => ⟨S4x4x16x128x1, .f32⟩
  | .hbm, ⟨60, _⟩ => ⟨S4x4x16x128x256, .f32⟩
  | .hbm, ⟨61, _⟩ => ⟨S4x4x16x128x256, .f32⟩
  | .hbm, ⟨62, _⟩ => ⟨S4x4x16x128x256, .f32⟩
  | .hbm, ⟨63, _⟩ => ⟨S4x4x16x128x128, .f32⟩
  | .hbm, ⟨64, _⟩ => ⟨S4x16x128x4x128, .f32⟩
  | .hbm, ⟨65, _⟩ => ⟨S4x2048x512, .f32⟩
  | .hbm, ⟨66, _⟩ => ⟨S4x16x128x4, .f32⟩
  | .hbm, ⟨67, _⟩ => ⟨S4x2048x4, .f32⟩
  | .hbm, ⟨68, _⟩ => ⟨S_, .f32⟩
  | .hbm, ⟨69, _⟩ => ⟨S4x2048x124, .f32⟩
  | .hbm, ⟨70, _⟩ => ⟨S4x2048x128, .f32⟩
  | .hbm, ⟨71, _⟩ => ⟨S4x2048x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_2 : Ref sig .tc := ⟨.hbm, 35, rfl⟩
abbrev main_v28 : Ref sig .tc := ⟨.hbm, 36, rfl⟩
abbrev main_v29 : Ref sig .tc := ⟨.hbm, 37, rfl⟩
abbrev main_c_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]

def κ : String → Option EReal := fun
  | "mask" => some ⊥
  | _ => none
-- ==== AttnFwdC.lean ====
abbrev S8192x512 : Shape := ⟨2, ![8192, 512]⟩
abbrev S8192x1536 : Shape := ⟨2, ![8192, 1536]⟩
abbrev S512x16x1536 : Shape := ⟨3, ![512, 16, 1536]⟩
abbrev S16x512x1536 : Shape := ⟨3, ![16, 512, 1536]⟩
abbrev S16x512x512 : Shape := ⟨3, ![16, 512, 512]⟩
abbrev S16x512x128 : Shape := ⟨3, ![16, 512, 128]⟩
abbrev S1x512x512 : Shape := ⟨3, ![1, 512, 512]⟩
abbrev S1x128x512 : Shape := ⟨3, ![1, 128, 512]⟩
abbrev S1x512x128 : Shape := ⟨3, ![1, 512, 128]⟩
abbrev S640x512 : Shape := ⟨2, ![640, 512]⟩
abbrev S16x128x256 : Shape := ⟨3, ![16, 128, 256]⟩
abbrev S16x128x128 : Shape := ⟨3, ![16, 128, 128]⟩
abbrev S128x512 : Shape := ⟨2, ![128, 512]⟩
abbrev S512x512 : Shape := ⟨2, ![512, 512]⟩
abbrev S128x256 : Shape := ⟨2, ![128, 256]⟩
abbrev S1x128x128 : Shape := ⟨3, ![1, 128, 128]⟩
abbrev S128x128 : Shape := ⟨2, ![128, 128]⟩
abbrev S256x128 : Shape := ⟨2, ![256, 128]⟩
abbrev S1x128x256 : Shape := ⟨3, ![1, 128, 256]⟩
abbrev S128 : Shape := ⟨1, ![128]⟩
abbrev S128x1 : Shape := ⟨2, ![128, 1]⟩

abbrev nBuf : Space → Nat
  | .hbm => 9
  | .vmem => 19
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x1536, .f32⟩
  | .hbm, ⟨4, _⟩ => ⟨S8192x1536, .bf16⟩
  | .hbm, ⟨5, _⟩ => ⟨S512x16x1536, .bf16⟩
  | .hbm, ⟨6, _⟩ => ⟨S16x512x1536, .bf16⟩
  | .hbm, ⟨7, _⟩ => ⟨S16x512x512, .bf16⟩
  | .hbm, ⟨8, _⟩ => ⟨S16x512x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x128, .f32⟩
  | .local _ .vmem, ⟨13, _⟩ => ⟨S1x512x128, .f32⟩
  | .local _ .vmem, ⟨14, _⟩ => ⟨S640x512, .bf16⟩
  | .local _ .vmem, ⟨15, _⟩ => ⟨S640x512, .bf16⟩
  | .local _ .vmem, ⟨16, _⟩ => ⟨S16x128x256, .f32⟩
  | .local _ .vmem, ⟨17, _⟩ => ⟨S16x128x256, .bf16⟩
  | .local _ .vmem, ⟨18, _⟩ => ⟨S16x128x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnFwdCIdeal.lean ====
variable {F : FTy → Type} [FloatOps F] [Named F]
def κ : String → Option EReal := fun
  | "mask" => some ⊥
  | _ => none
-- ==== AttnFwdCRefIdeal.lean ====
abbrev S8192x512 : Shape := ⟨2, ![8192, 512]⟩
abbrev S512x16x4x128 : Shape := ⟨4, ![512, 16, 4, 128]⟩
abbrev S4x16x512x128 : Shape := ⟨4, ![4, 16, 512, 128]⟩
abbrev S4x16x4x128x128 : Shape := ⟨5, ![4, 16, 4, 128, 128]⟩
abbrev S_ : Shape := ⟨0, ![]⟩
abbrev S4x16x1x128x128 : Shape := ⟨5, ![4, 16, 1, 128, 128]⟩
abbrev S4x16x3x128x128 : Shape := ⟨5, ![4, 16, 3, 128, 128]⟩
abbrev S4x16x4x256x128 : Shape := ⟨5, ![4, 16, 4, 256, 128]⟩
abbrev S4x16x4x128x256 : Shape := ⟨5, ![4, 16, 4, 128, 256]⟩
abbrev S4x128x256 : Shape := ⟨3, ![4, 128, 256]⟩
abbrev S4x16x4x128 : Shape := ⟨4, ![4, 16, 4, 128]⟩
abbrev S4x16x4x128x1 : Shape := ⟨5, ![4, 16, 4, 128, 1]⟩
abbrev S16x4x128x4x128 : Shape := ⟨5, ![16, 4, 128, 4, 128]⟩
abbrev S16x512x512 : Shape := ⟨3, ![16, 512, 512]⟩
abbrev S16x4x128x4 : Shape := ⟨4, ![16, 4, 128, 4]⟩
abbrev S16x512x4 : Shape := ⟨3, ![16, 512, 4]⟩
abbrev S16x512x124 : Shape := ⟨3, ![16, 512, 124]⟩
abbrev S16x512x128 : Shape := ⟨3, ![16, 512, 128]⟩

abbrev nBuf : Space → Nat
  | .hbm => 72
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S512x16x4x128, .f32⟩
  | .hbm, ⟨4, _⟩ => ⟨S4x16x512x128, .f32⟩
  | .hbm, ⟨5, _⟩ => ⟨S4x16x4x128x128, .f32⟩
  | .hbm, ⟨6, _⟩ => ⟨S512x16x4x128, .f32⟩
  | .hbm, ⟨7, _⟩ => ⟨S4x16x512x128, .f32⟩
  | .hbm, ⟨8, _⟩ => ⟨S4x16x4x128x128, .f32⟩
  | .hbm, ⟨9, _⟩ => ⟨S_, .f32⟩
  | .hbm, ⟨10, _⟩ => ⟨S4x16x1x128x128, .f32⟩
  | .hbm, ⟨11, _⟩ => ⟨S4x16x3x128x128, .f32⟩
  | .hbm, ⟨12, _⟩ => ⟨S4x16x4x128x128, .f32⟩
  | .hbm, ⟨13, _⟩ => ⟨S4x16x4x256x128, .f32⟩
  | .hbm, ⟨14, _⟩ => ⟨S512x16x4x128, .f32⟩
  | .hbm, ⟨15, _⟩ => ⟨S4x16x512x128, .f32⟩
  | .hbm, ⟨16, _⟩ => ⟨S4x16x4x128x128, .f32⟩
  | .hbm, ⟨17, _⟩ => ⟨S_, .f32⟩
  | .hbm, ⟨18, _⟩ => ⟨S4x16x1x128x128, .f32⟩
  | .hbm, ⟨19, _⟩ => ⟨S4x16x3x128x128, .f32⟩
  | .hbm, ⟨20, _⟩ => ⟨S4x16x4x128x128, .f32⟩
  | .hbm, ⟨21, _⟩ => ⟨S4x16x4x256x128, .f32⟩
  | .hbm, ⟨22, _⟩ => ⟨S4x16x4x128x256, .f32⟩
  | .hbm, ⟨23, _⟩ => ⟨S_, .f32⟩
  | .hbm, ⟨24, _⟩ => ⟨S4x16x4x128x256, .f32⟩
  | .hbm, ⟨25, _⟩ => ⟨S4x16x4x128x256, .f32⟩
  | .hbm, ⟨26, _⟩ => ⟨S4x128x256, .i32⟩
  | .hbm, ⟨27, _⟩ => ⟨S4x128x256, .i32⟩
  | .hbm, ⟨28, _⟩ => ⟨S4x128x256, .i32⟩
  | .hbm, ⟨29, _⟩ => ⟨S4x128x256, .i1⟩
  | .hbm, ⟨30, _⟩ => ⟨S_, .i32⟩
  | .hbm, ⟨31, _⟩ => ⟨S4x128x256, .i32⟩
  | .hbm, ⟨32, _⟩ => ⟨S4x128x256, .i32⟩
  | .hbm, ⟨33, _⟩ => ⟨S4x128x256, .i1⟩
  | .hbm, ⟨34, _⟩ => ⟨S4x128x256, .i1⟩
  | .hbm, ⟨35, _⟩ => ⟨S_, .i32⟩
  | .hbm, ⟨36, _⟩ => ⟨S4x128x256, .i32⟩
  | .hbm, ⟨37, _⟩ => ⟨S4x128x256, .i1⟩
  | .hbm, ⟨38, _⟩ => ⟨S_, .i32⟩
  | .hbm, ⟨39, _⟩ => ⟨S4x128x256, .i32⟩
  | .hbm, ⟨40, _⟩ => ⟨S4x128x256, .i1⟩
  | .hbm, ⟨41, _⟩ => ⟨S4x128x256, .i1⟩
  | .hbm, ⟨42, _⟩ => ⟨S4x128x256, .i1⟩
  | .hbm, ⟨43, _⟩ => ⟨S4x128x256, .i1⟩
  | .hbm, ⟨44, _⟩ => ⟨S_, .f32⟩
  | .hbm, ⟨45, _⟩ => ⟨S_, .f32⟩
  | .hbm, ⟨46, _⟩ => ⟨S4x16x4x128x256, .i1⟩
  | .hbm, ⟨47, _⟩ => ⟨S4x16x4x128x256, .f32⟩
  | .hbm, ⟨48, _⟩ => ⟨S4x16x4x128x256, .f32⟩
  | .hbm, ⟨49, _⟩ => ⟨S_, .f32⟩
  | .hbm, ⟨50, _⟩ => ⟨S4x16x4x128, .f32⟩
  | .hbm, ⟨51, _⟩ => ⟨S4x16x4x128x1, .f32⟩
  | .hbm, ⟨52, _⟩ => ⟨S4x16x4x128x256, .f32⟩
  | .hbm, ⟨53, _⟩ => ⟨S4x16x4x128x256, .f32⟩
  | .hbm, ⟨54, _⟩ => ⟨S4x16x4x128x256, .f32⟩
  | .hbm, ⟨55, _⟩ => ⟨S_, .f32⟩
  | .hbm, ⟨56, _⟩ => ⟨S4x16x4x128, .f32⟩
  | .hbm, ⟨57, _⟩ => ⟨S4x16x4x128, .f32⟩
  | .hbm, ⟨58, _⟩ => ⟨S4x16x4x128, .f32⟩
  | .hbm, ⟨59, _⟩ => ⟨S4x16x4x128x1, .f32⟩
  | .hbm, ⟨60, _⟩ => ⟨S4x16x4x128x256, .f32⟩
  | .hbm, ⟨61, _⟩ => ⟨S4x16x4x128x256, .f32⟩
  | .hbm, ⟨62, _⟩ => ⟨S4x16x4x128x256, .f32⟩
  | .hbm, ⟨63, _⟩ => ⟨S4x16x4x128x128, .f32⟩
  | .hbm, ⟨64, _⟩ => ⟨S16x4x128x4x128, .f32⟩
  | .hbm, ⟨65, _⟩ => ⟨S16x512x512, .f32⟩
  | .hbm, ⟨66, _⟩ => ⟨S16x4x128x4, .f32⟩
  | .hbm, ⟨67, _⟩ => ⟨S16x512x4, .f32⟩
  | .hbm, ⟨68, _⟩ => ⟨S_, .f32⟩
  | .hbm, ⟨69, _⟩ => ⟨S16x512x124, .f32⟩
  | .hbm, ⟨70, _⟩ => ⟨S16x512x128, .f32⟩
  | .hbm, ⟨71, _⟩ => ⟨S16x512x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_2 : Ref sig .tc := ⟨.hbm, 35, rfl⟩
abbrev main_v28 : Ref sig .tc := ⟨.hbm, 36, rfl⟩
abbrev main_v29 : Ref sig .tc := ⟨.hbm, 37, rfl⟩
abbrev main_c_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]

def κ : String → Option EReal := fun
  | "mask" => some ⊥
  | _ => none
-- ==== MlpUpFwd.lean ====
abbrev S8192x1024 : Shape := ⟨2, ![8192, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S8192x4096 : Shape := ⟨2, ![8192, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S1024x4096, .bf16⟩
  | .hbm, ⟨3, _⟩ => ⟨S1024x8x512, .bf16⟩
  | .hbm, ⟨4, _⟩ => ⟨S8x1024x512, .bf16⟩
  | .hbm, ⟨5, _⟩ => ⟨S8192x1024, .bf16⟩
  | .hbm, ⟨6, _⟩ => ⟨S8192x4096, .bf16⟩
  | .hbm, ⟨7, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S8x1024x512, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== MlpUpFwdRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .bf16⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Mix.lean ====
abbrev S8192x512 : Shape := ⟨2, ![8192, 512]⟩
abbrev S512x1024 : Shape := ⟨2, ![512, 1024]⟩
abbrev S8192x768 : Shape := ⟨2, ![8192, 768]⟩
abbrev S768x1024 : Shape := ⟨2, ![768, 1024]⟩
abbrev S8192x8192 : Shape := ⟨2, ![8192, 8192]⟩
abbrev S1x2048 : Shape := ⟨2, ![1, 2048]⟩
abbrev S8192x1024 : Shape := ⟨2, ![8192, 1024]⟩
abbrev S512x512 : Shape := ⟨2, ![512, 512]⟩
abbrev S512x768 : Shape := ⟨2, ![512, 768]⟩
abbrev S512x2048 : Shape := ⟨2, ![512, 2048]⟩

abbrev nBuf : Space → Nat
  | .hbm => 14
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x768, .f32⟩
  | .hbm, ⟨3, _⟩ => ⟨S768x1024, .f32⟩
  | .hbm, ⟨4, _⟩ => ⟨S8192x8192, .f32⟩
  | .hbm, ⟨5, _⟩ => ⟨S1x2048, .f32⟩
  | .hbm, ⟨6, _⟩ => ⟨S8192x512, .bf16⟩
  | .hbm, ⟨7, _⟩ => ⟨S512x1024, .bf16⟩
  | .hbm, ⟨8, _⟩ => ⟨S8192x768, .bf16⟩
  | .hbm, ⟨9, _⟩ => ⟨S768x1024, .bf16⟩
  | .hbm, ⟨10, _⟩ => ⟨S8192x8192, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x768, .bf16⟩
  | .local _ .vmem, ⟨4, _⟩ => ⟨S512x768, .bf16⟩
  | .local _ .vmem, ⟨5, _⟩ => ⟨S768x1024, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== MixRefIdeal.lean ====
abbrev S8192x512 : Shape := ⟨2, ![8192, 512]⟩
abbrev S512x1024 : Shape := ⟨2, ![512, 1024]⟩
abbrev S8192x768 : Shape := ⟨2, ![8192, 768]⟩
abbrev S768x1024 : Shape := ⟨2, ![768, 1024]⟩
abbrev S8192x8192 : Shape := ⟨2, ![8192, 8192]⟩
abbrev S1x2048 : Shape := ⟨2, ![1, 2048]⟩
abbrev S8192x2048 : Shape := ⟨2, ![8192, 2048]⟩
abbrev S8192x1024 : Shape := ⟨2, ![8192, 1024]⟩
abbrev S1x1024 : Shape := ⟨2, ![1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x768, .f32⟩
  | .hbm, ⟨3, _⟩ => ⟨S768x1024, .f32⟩
  | .hbm, ⟨4, _⟩ => ⟨S8192x8192, .f32⟩
  | .hbm, ⟨5, _⟩ => ⟨S1x2048, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | .hbm, ⟨37, _⟩ => ⟨S8192x1024, .bf16⟩
  | .hbm, ⟨38, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== ResidualNorm.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== ResidualNormRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== MemNorm.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.ReluValue.lean ====
/-
  The gradient of the squared relu, fused with the product with `w_down`: the array the call leaves is the
  reference's, element by element.
-/
module

public import proofs.«01_k».proof.Proof.Gen.MlpDownIdeal.Frame
public import proofs.«01_k».proof.Proof.Gen.MlpDownRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.MlpDownIdeal.Relu

open Idealize.ShloMosaic Idealize.ShloMosaic.TcCoe Idealize.SL.Sem
open Idealize.ShloMosaic.Pipeline (Dat)
open Cert.MlpDownIdeal Cert.MlpDownIdeal.Gen

variable (m : (ℓ : Loc nD τ sig) → Buf (Elt Ideal) ℓ)

/-- The reference's result: the cotangent's product with `w_down`, times twice the relu, where `h` is positive. -/
def REF (h : FVec Ideal S8192x4096 .f32) (w : FVec Ideal S4096x1024 .f32) (d : FVec Ideal S8192x1024 .f32) :
    FVec Ideal S8192x4096 .bf16 :=
  truncf .bf16 (select (cmpf .ogt h (broadcastInDim Cert.MlpDownRefIdeal.S8192x4096 ![] Cert.MlpDownRefIdeal.Gen.bcast_S_S8192x4096 (constant Cert.MlpDownRefIdeal.S_ .f32 0x00000000#32)))
    (mulf (Host.dotGeneral Cert.MlpDownRefIdeal.dot_S8192x1024_S4096x1024_S8192x4096_1_1_0_0_n_n none d w)
      (mulf (broadcastInDim Cert.MlpDownRefIdeal.S8192x4096 ![] Cert.MlpDownRefIdeal.Gen.bcast_S_S8192x4096 (constant Cert.MlpDownRefIdeal.S_ .f32 0x40000000#32))
        (maximumf h (broadcastInDim Cert.MlpDownRefIdeal.S8192x4096 ![] Cert.MlpDownRefIdeal.Gen.bcast_S_S8192x4096 (constant Cert.MlpDownRefIdeal.S_ .f32 0x00000000#32)))))
    (broadcastInDim Cert.MlpDownRefIdeal.S8192x4096 ![] Cert.MlpDownRefIdeal.Gen.bcast_S_S8192x4096 (constant Cert.MlpDownRefIdeal.S_ .f32 0x00000000#32)))
    Cert.MlpDownRefIdeal.Gen.bitsLt_bf16_f32

/-- The block of every operand at a grid point. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, win0_0.index t = ![t.val, 0] ∧ win0_1.index t = ![0, 0] ∧ win0_2.index t = ![t.val, 0]
    ∧ win0_3.index t = ![t.val, 0])

/-- `s · 2 · max h 0` is `s · (2 · max h 0)` where `h` is positive and zero elsewhere. -/
theorem gate (s two h : EReal) : s * two * max h 0 = if 0 < h then s * (two * max h 0) else 0 := by
  split
  · exact mul_assoc ..
  · rw [max_eq_right (not_lt.1 ‹_›), mul_zero]

/-- What a grid point stores at an index of its block is the reference's element there. -/
theorem point (c : Dev nD) (t : Fin cfg0.N) (y : S512x4096.Idx) :
    out0_3 (iblk m c 0 t) (iblk m c 1 t) (iblk m c 2 t) y
    = REF (m ((c : Thread nD τ).loc main_arg0)) (m ((c : Thread nD τ).loc main_arg1)) (m ((c : Thread nD τ).loc main_arg2))
        (((cfg0.win 3).blk t).view.emb y) := by
  unfold out0_3
  canon_tiles x h
  all_goals
    open_payloads
    pointwise [REF]
    refine (gate ..).trans ?_
    blk_point [iblk, V, idx t]

/-- The array after the run is the reference's result. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.MlpDownIdeal.Relu

end
-- ==== Proof.GateValue.lean ====
/-
  The gradient of the two gates, fused with the product with `w_out`: what each array of the call ends with, as a
  plain formula of the arguments, and the same formula of the reference's results.
-/
module

public import proofs.«01_k».proof.Proof.Gen.GateIdeal.Frame
public import proofs.«01_k».proof.Proof.Gen.GateRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.GateIdeal.Val

open Idealize.ShloMosaic Idealize.ShloMosaic.TcCoe Idealize.SL.Sem
open Idealize.ShloMosaic.Pipeline (Dat)
open Cert.GateIdeal Cert.GateIdeal.Gen

variable (m : (ℓ : Loc nD τ sig) → Buf (Elt Ideal) ℓ)

/-- The block of every operand at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 3] ∧ win0_5.index t = ![0, 0] ∧ win0_6.index t = ![t.val, 0]
    ∧ win0_7.index t = ![t.val, 0] ∧ win0_8.index t = ![t.val, 3] ∧ win0_9.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 3] ∧ win0_5.index t = ![0, 0] ∧ win0_6.index t = ![t.val, 0]
    ∧ win0_7.index t = ![t.val, 0] ∧ win0_8.index t = ![t.val, 3] ∧ win0_9.index t = ![0, 0])

/-- A gate: the logistic function of its argument. -/
def sg (x : EReal) : EReal := Ideal.div 1 (1 + Ideal.exp (-x))

/-- The merged branches' cotangent at row `n`, column `k`: row `n` of the cotangent against row `k` of `w_out`. -/
def dm (w : FVec Ideal S1024x1024 .f32) (d : FVec Ideal S8192x1024 .f32) (n : Fin 8192) (k : Fin 1024) : EReal :=
  ∑ l : Fin 1024, d (ix2 n l) * w (ix2 k l)

/-- The gate's column `6144 + j` at row `n`. -/
def gate (z : FVec Ideal S8192x8192 .f32) (b : FVec Ideal S1x2048 .f32) (n : Fin 8192) (j : Fin 2048) : EReal :=
  sg (z (ix2 n ⟨6144 + j, by omega⟩) + b (ix2 0 j))

/-- The cotangent of the gates' arguments: of the attention branch's gate in columns below 1024, of the convolution
    branch's above. -/
def dgate (ya yc : FVec Ideal S8192x1024 .f32) (z : FVec Ideal S8192x8192 .f32) (b : FVec Ideal S1x2048 .f32)
    (w : FVec Ideal S1024x1024 .f32) (d : FVec Ideal S8192x1024 .f32) (n : Fin 8192) (j : Fin 2048) : EReal :=
  if h : (j : ℕ) < 1024 then dm w d n ⟨j, h⟩ * ya (ix2 n ⟨j, h⟩) * gate z b n j * (1 - gate z b n j)
  else dm w d n ⟨j - 1024, by omega⟩ * yc (ix2 n ⟨j - 1024, by omega⟩) * gate z b n j * (1 - gate z b n j)

theorem zero_sub' (x : EReal) : 0 - x = -x := by rw [sub_eq_add_neg, zero_add]

/-- The kernel's gates over a block. -/
theorem pay7 (v9 v11 j0 j1) : k0_pay7 (F := Ideal) v9 v11 (ix2 j0 j1) = sg (v9 (ix2 j0 j1) + v11 (ix2 0 j1)) := by
  unfold sg
  rw [← zero_sub']
  pointwise [k0_pay7]

/-- The cotangent of the gates' arguments over a block. -/
theorem pay10 (v0 v2 v5 v7 v9 v11 j0 j1) : k0_pay10 (F := Ideal) v0 v2 v5 v7 v9 v11 (ix2 j0 j1)
    = if h : (j1 : ℕ) < 1024 then (∑ x, v0 (ix2 j0 x) * v2 (ix2 ⟨j1, h⟩ x)) * v5 (ix2 j0 ⟨j1, h⟩) * sg (v9 (ix2 j0 j1) + v11 (ix2 0 j1)) * (1 - sg (v9 (ix2 j0 j1) + v11 (ix2 0 j1)))
      else (∑ x, v0 (ix2 j0 x) * v2 (ix2 ⟨j1 - 1024, by omega⟩ x)) * v7 (ix2 j0 ⟨j1 - 1024, by omega⟩) * sg (v9 (ix2 j0 j1) + v11 (ix2 0 j1)) * (1 - sg (v9 (ix2 j0 j1) + v11 (ix2 0 j1))) := by
  pointwise [k0_pay10, k0_pay6, k0_pay8, k0_pay9, pay7]
  split
  · rfl
  · have e : (⟨1024 + ((j1 : ℕ) - 1024), by omega⟩ : Fin 2048) = j1 := Fin.ext (by show 1024 + ((j1 : ℕ) - 1024) = j1; omega)
    simp only [e]

/-- What a grid point leaves of the attention branch's cotangent. -/
theorem outs6 (c : Dev nD) (t : Fin cfg0.N) (y) : (outsAt0 m c t.val t.isLt).1 y
    = k0_pay2 (k0_pay11 (iblk m c 0 t) (iblk m c 1 t) (iblk m c 4 t) (iblk m c 5 t)) y := by
  have hN : t.val < 16 := lt_of_lt_of_eq t.isLt N_0
  by_cases h : t.val % 16 = 0
  · rw [outsAt0_A m c t h (by omega)]; frame_out
  · rw [outsAt0_B m c t h (by omega)]; frame_out

/-- … of the convolution branch's cotangent. -/
theorem outs7 (c : Dev nD) (t : Fin cfg0.N) (y) : (outsAt0 m c t.val t.isLt).2.1 y
    = k0_pay3 (k0_pay12 (iblk m c 0 t) (iblk m c 1 t) (iblk m c 4 t) (iblk m c 5 t)) y := by
  have hN : t.val < 16 := lt_of_lt_of_eq t.isLt N_0
  by_cases h : t.val % 16 = 0
  · rw [outsAt0_A m c t h (by omega)]; frame_out
  · rw [outsAt0_B m c t h (by omega)]; frame_out

/-- … of the gates' cotangent. -/
theorem outs8 (c : Dev nD) (t : Fin cfg0.N) (y) : (outsAt0 m c t.val t.isLt).2.2.1 y
    = k0_pay4 (k0_pay10 (iblk m c 0 t) (iblk m c 1 t) (iblk m c 2 t) (iblk m c 3 t) (iblk m c 4 t) (iblk m c 5 t)) y := by
  have hN : t.val < 16 := lt_of_lt_of_eq t.isLt N_0
  by_cases h : t.val % 16 = 0
  · rw [outsAt0_A m c t h (by omega)]; frame_out
  · rw [outsAt0_B m c t h (by omega)]; frame_out

/-- The arguments of a launch, by the reference's names. -/
abbrev ya (c : Dev nD) : FVec Ideal S8192x1024 .f32 := m ((c : Thread nD τ).loc main_arg0)
abbrev yc (c : Dev nD) : FVec Ideal S8192x1024 .f32 := m ((c : Thread nD τ).loc main_arg1)
abbrev z (c : Dev nD) : FVec Ideal S8192x8192 .f32 := m ((c : Thread nD τ).loc main_arg2)
abbrev bg (c : Dev nD) : FVec Ideal S1x2048 .f32 := m ((c : Thread nD τ).loc main_arg3)
abbrev wo (c : Dev nD) : FVec Ideal S1024x1024 .f32 := m ((c : Thread nD τ).loc main_arg4)
abbrev dx (c : Dev nD) : FVec Ideal S8192x1024 .f32 := m ((c : Thread nD τ).loc main_arg5)

/-- The attention branch's cotangent, whole: the merged cotangent times the branch's gate. -/
theorem final6 (c : Dev nD) : (dats m 0 c).arrAt 6 (cfgs 0).N
    = (fun i => dm (wo m c) (dx m c) (i 0) (i 1) * gate (z m c) (bg m c) (i 0) ⟨i 1, (i 1).isLt.trans (by decide)⟩ : FVec Ideal S8192x1024 .bf16) := by
  refine (dats m 0 c).arrAt_eq_of_covers 6 _ (by decide +kernel) fun t _ y => ?_
  blk_simp
  rw [after0_6, outs6]
  idx_vars y
  pointwise [k0_pay2, k0_pay11, k0_pay6, k0_pay8, pay7]
  unfold dm gate
  blk_point [iblk, V, idx t]

/-- The convolution branch's cotangent, whole. -/
theorem final7 (c : Dev nD) : (dats m 0 c).arrAt 7 (cfgs 0).N
    = (fun i => dm (wo m c) (dx m c) (i 0) (i 1) * gate (z m c) (bg m c) (i 0) ⟨1024 + i 1, by have := (i 1).isLt; simp at this ⊢; omega⟩ : FVec Ideal S8192x1024 .bf16) := by
  refine (dats m 0 c).arrAt_eq_of_covers 7 _ (by decide +kernel) fun t _ y => ?_
  blk_simp
  rw [after0_7, outs7]
  idx_vars y
  pointwise [k0_pay3, k0_pay12, k0_pay6, k0_pay9, pay7]
  unfold dm gate
  blk_point [iblk, V, idx t]

/-- The gates' cotangent over a grid point's rows is that of the whole arrays. -/
theorem point8 (c : Dev nD) (t : Fin cfg0.N) (y0 : Fin 512) (y1 : Fin 2048) (n : Fin 8192) (hn : (n : ℕ) = t.val * 512 + y0) :
    k0_pay10 (F := Ideal) (iblk m c 0 t) (iblk m c 1 t) (iblk m c 2 t) (iblk m c 3 t) (iblk m c 4 t) (iblk m c 5 t) (ix2 y0 y1)
    = dgate (ya m c) (yc m c) (z m c) (bg m c) (wo m c) (dx m c) n y1 := by
  rw [pay10]
  unfold dgate dm gate
  split
  · blk_point [iblk, V, idx t]
  · blk_point [iblk, V, idx t]

/-- `dz` in the gates' columns is the gates' cotangent; the other columns keep what the result's buffer held. -/
theorem final8 (c : Dev nD) : (dats m 0 c).arrAt 8 (cfgs 0).N
    = (fun i => if 3 ≤ (i 1 : ℕ) / 2048 then dgate (ya m c) (yc m c) (z m c) (bg m c) (wo m c) (dx m c) (i 0) ⟨(i 1 : ℕ) % 2048, Nat.mod_lt _ (by decide)⟩
      else V m c main_v5_2 i : FVec Ideal S8192x8192 .bf16) := by
  refine (dats m 0 c).arrAt_eq_of_coversWhere 8 _ (fun β => 3 ≤ β (1 : Fin _)) (by decide +kernel) (fun t hf y => ?_)
    (fun j => Iff.rfl)
  blk_simp
  rw [after0_8, outs8]
  idx_vars y
  pointwise [k0_pay4]
  rw [point8 m c t y0 y1 ⟨t.val * 512 + y0, by have := lt_of_lt_of_eq t.isLt N_0; omega⟩ rfl]
  have e0 : (((View.whole main_v5_2).slice (win0_8.rect t)).emb (ix2 y0 y1) 0 : ℕ) = t.val * 512 + y0 := by blk_simp [idx t]
  have e1 : (win0_8.index t 1 * 2048 + (y1 : ℕ)) % 2048 = y1 := by
    rw [Nat.mul_add_mod_self_right, Nat.mod_eq_of_lt y1.isLt]
  exact congrArg₂ (dgate (ya m c) (yc m c) (z m c) (bg m c) (wo m c) (dx m c)) (Fin.ext e0.symm) (Fin.ext e1.symm)

/-- A block's column sums of `v`. -/
theorem pay1 (v j0 j1) : k0_pay1 (F := Ideal) v (ix2 j0 j1) = ∑ x, v (ix2 x j1) := by pointwise [k0_pay1]

theorem pay5 (v a j0 j1) : k0_pay5 (F := Ideal) v a (ix2 j0 j1) = a (ix2 j0 j1) + ∑ x, v (ix2 x j1) := by pointwise [k0_pay5, pay1]

/-- The gates' bias gradient: the column sums of the gates' cotangent. -/
theorem final9 (c : Dev nD) : (dats m 0 c).arrAt 9 (cfgs 0).N
    = (fun i => ∑ n, dgate (ya m c) (yc m c) (z m c) (bg m c) (wo m c) (dx m c) n (i 1) : FVec Ideal S1x2048 .f32) := by
  refine (dats m 0 c).arrAt_eq_of_after_last 9 t0_15 (by decide +kernel) _ fun j => ?_
  blk_simp
  rw [after0_9, Pipeline.eq_sum_fin_of_reset_step_apply_last (fun n h => (outsAt0 m c n h).2.2.2) 16 (fun _ => 0)
    (fun p j => ∑ x : Fin 512, k0_pay10 (F := Ideal) (iblk m c 0 p) (iblk m c 1 p) (iblk m c 2 p) (iblk m c 3 p) (iblk m c 4 p) (iblk m c 5 p) (ix2 x (j 1)))
    (fun t h j => by
      have hN : t.val < 16 := lt_of_lt_of_eq t.isLt N_0
      rw [outsAt0_A m c t h (by omega)]; frame_out; idx_vars j; rw [pay1, zero_add])
    (fun t h j => by
      have hN : t.val < 16 := lt_of_lt_of_eq t.isLt N_0
      rw [outsAt0_B m c t h (by omega)]; frame_out; idx_vars j; rw [pay5])
    (le_of_eq N_0) t0_15 rfl j, zero_add]
  refine Fin.sum_mul_add_congr fun p x hl => ?_
  exact point8 m c p x (j 1) ⟨_, hl⟩ rfl

end Cert.GateIdeal.Val
-- ==== Proof.GateClaim.lean ====
/-
  The gates' gradients: the call and the derivative of the forward lines end with equal results.
-/
module

public import proofs.«01_k».proof.Proof.Gen.GateIdeal.Value
public import proofs.«01_k».proof.Proof.Gen.GateRefIdeal.Run
public import proofs.«01_k».proof.Defs
public import proofs.«01_k».proof.Proof.Gen.GateIdeal
public import proofs.«01_k».proof.Proof.Gen.GateRefIdeal
public import proofs.«01_k».proof.Proof.Gen.On_gate_columns
public import proofs.«01_k».proof.Proof.GateValue

@[expose] public section

noncomputable section

namespace Cert.GateIdeal.Val

open Idealize.ShloMosaic Idealize.ShloMosaic.TcCoe Idealize.SL.Sem
open Cert.GateIdeal Cert.GateIdeal.Gen

/-- The mask of `dz` selects only the gates' columns. -/
theorem mask2 (a b z g w d) (i : S8192x8192.Idx) (h : (Cert.On_gate_columns.fn (F := Ideal) a b z g w d).2.2.1 i = 1#1) :
    6144 ≤ (i 1 : ℕ) := by
  idx_vars i
  pointwise [Cert.On_gate_columns.fn] at h
  exact (WordCmp.cmpi_sge_ofNat_eq_one_iff (i1.isLt.trans (by decide)) (by decide)).mp h

/-- The gates' cotangent at column `j` of `dz`, read at any column. -/
def dz (m : (ℓ : Loc nD τ sig) → Buf (Elt Ideal) ℓ) (c : Dev nD) : FVec Ideal S8192x8192 .bf16 := fun i =>
  dgate (ya m c) (yc m c) (z m c) (bg m c) (wo m c) (dx m c) (i 0) ⟨(i 1 : ℕ) % 2048, Nat.mod_lt _ (by decide)⟩

theorem algebraic : Cert.algebraic_GateIdeal_GateRefIdeal_on_gate_columns := by
  intro m g m' g' _ hA
  refine ⟨fun c => (dats m 0 c).arrAt 6 (cfgs 0).N, fun c => (dats m 0 c).arrAt 7 (cfgs 0).N, dz m, fun c => (dats m 0 c).arrAt 9 (cfgs 0).N,
    (θ_run _ _ _).mono (fun r h c => ?_) (Cert.GateIdeal.Value.run_blocks (F := Ideal) m g),
    (θ_run _ _ _).mono (fun r h c => ?_) (Cert.GateRefIdeal.Value.run (F := Ideal) m' g')⟩
  · obtain ⟨h0, h1, h2, h3, hk⟩ := h c
    refine ⟨fun i _ => congrFun h0 i, fun i _ => congrFun h1 i, fun i hm => ?_, fun i _ => congrFun h3 i, hk⟩
    have := mask2 _ _ _ _ _ _ i hm
    rw [h2, final8]; exact if_pos (by omega)
  · obtain ⟨a0, a1, a2, a3, a4, a5⟩ := hA c
    obtain ⟨h0, h1, h2, h3, hk⟩ := h c
    have e0 : ya m c = m' (Thread.loc (c.tc : Thread Cert.GateRefIdeal.nD Cert.GateRefIdeal.τ) Cert.GateRefIdeal.main_arg0) := a0.symm
    have e1 : yc m c = m' (Thread.loc (c.tc : Thread Cert.GateRefIdeal.nD Cert.GateRefIdeal.τ) Cert.GateRefIdeal.main_arg1) := a1.symm
    have e2 : z m c = m' (Thread.loc (c.tc : Thread Cert.GateRefIdeal.nD Cert.GateRefIdeal.τ) Cert.GateRefIdeal.main_arg2) := a2.symm
    have e3 : bg m c = m' (Thread.loc (c.tc : Thread Cert.GateRefIdeal.nD Cert.GateRefIdeal.τ) Cert.GateRefIdeal.main_arg3) := a3.symm
    have e4 : wo m c = m' (Thread.loc (c.tc : Thread Cert.GateRefIdeal.nD Cert.GateRefIdeal.τ) Cert.GateRefIdeal.main_arg4) := a4.symm
    have e5 : dx m c = m' (Thread.loc (c.tc : Thread Cert.GateRefIdeal.nD Cert.GateRefIdeal.τ) Cert.GateRefIdeal.main_arg5) := a5.symm
    beta_reduce
    rw [final6, final7, final9]
    unfold dz
    simp only [e0, e1, e2, e3, e4, e5]
    clear e0 e1 e2 e3 e4 e5 a0 a1 a2 a3 a4 a5
    refine ⟨fun i _ => ?_, fun i _ => ?_, fun i hm => ?_, fun i _ => ?_, hk⟩
    · clear h1 h2 h3; rw [h0]; idx_vars i; pointwise [dm, gate, sg]
      exact mul_comm (G := EReal) _ _
    · clear h0 h2 h3; rw [h1]; idx_vars i; pointwise [dm, gate, sg]
      exact mul_comm (G := EReal) _ _
    · have hi := mask2 _ _ _ _ _ _ i hm
      clear h0 h1 h3 hA h hk; rw [h2]; idx_vars i
      have h6 : 6144 ≤ (i1 : ℕ) := hi
      have h8 : (i1 : ℕ) < 8192 := i1.isLt
      obtain ⟨j, hj⟩ : ∃ j : Fin 2048, (i1 : ℕ) = 6144 + j := ⟨⟨i1 - 6144, by omega⟩, (Nat.add_sub_cancel' h6).symm⟩
      obtain rfl : i1 = ⟨6144 + j, Nat.add_lt_add_left j.isLt 6144⟩ := Fin.ext hj
      have hj : (6144 + (j : ℕ)) % 2048 = j := by omega
      pointwise [dgate, dm, gate, sg]
      simp only [Nat.add_sub_cancel_left, hj]
      by_cases hl : (j : ℕ) < 1024
      · simp only [dif_pos hl]
        exact (mul_assoc (G := EReal) _ _ _).symm
      · have hk : 1024 + ((j : ℕ) - 1024) = j := by omega
        simp only [dif_neg hl, hk]
        exact (mul_assoc (G := EReal) _ _ _).symm
    · clear h1 h2 h0 hA h hk; rw [h3]; idx_vars i; pointwise [dgate, dm, gate, sg]
      by_cases hl : (i1 : ℕ) < 1024
      · simp only [dif_pos hl]
        exact show (_ : EReal) = _ from Finset.sum_congr rfl fun _ _ => (mul_assoc (G := EReal) _ _ _).symm
      · have hk : 1024 + ((i1 : ℕ) - 1024) = i1 := by omega
        simp only [dif_neg hl, hk]
        exact show (_ : EReal) = _ from Finset.sum_congr rfl fun _ _ => (mul_assoc (G := EReal) _ _ _).symm

end Cert.GateIdeal.Val
-- ==== Proof.SoftmaxRow.lean ====
/-
  One row of a softmax and its gradient, over the extended reals: the gradient as the calls write it equals the
  gradient as the derivative of the softmax writes it, where the row's scores and cotangents are real numbers.
-/
module

public import Idealize.ShloMosaic.PureOps.Ideal.Laws
public import Idealize.ShloMosaic.PureOps.Ideal

@[expose] public section

noncomputable section

namespace Cert.Row

open Idealize.ShloMosaic

/-- A value that is a real number. -/
def IsReal (x : EReal) : Prop := ∃ r : ℝ, x = r

theorem isReal_coe (r : ℝ) : IsReal r := ⟨r, rfl⟩

theorem isReal_of_abs_lt {x : EReal} (h : max x (-x) < ⊤) : IsReal x := by
  induction x with
  | bot => simp at h
  | top => simp at h
  | coe r => exact ⟨r, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.neg {x : EReal} (hx : IsReal x) : IsReal (-x) := by
  obtain ⟨a, rfl⟩ := hx
  exact ⟨-a, (EReal.coe_neg a).symm⟩

/-- The sum of real numbers is their real sum. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

theorem ofBits_neg_inf : Ideal.ofBits .f32 0xFF800000#32 = ⊥ := by simp [Ideal.ofBits, Ideal.ieee]

theorem ofBits_inf : Ideal.ofBits .f32 0x7F800000#32 = ⊤ := by simp [Ideal.ofBits, Ideal.ieee]

/-- The test `|x| < ∞` passes only on real numbers. -/
theorem isReal_of_test {x : Ideal .f32} (h : BitVec.ofBool (decide (FloatOps.absf x < Ideal.ofBits .f32 0x7F800000#32)) = 1#1) :
    IsReal x := by
  have h' : FloatOps.absf x < Ideal.ofBits .f32 0x7F800000#32 := by
    by_contra hn
    rw [decide_eq_false hn] at h
    exact absurd h (by decide)
  rw [Ideal.absf_def, ofBits_inf] at h'
  exact isReal_of_abs_lt h'

variable {n : ℕ}

/-- The row's largest score. -/
def mx (s : Fin n → EReal) : EReal := Finset.fold max (Ideal.ofBits .f32 0xFF800000#32) s Finset.univ

/-- The row's exponentials. -/
def ex (s : Fin n → EReal) (i : Fin n) : EReal := Ideal.exp (s i - mx s)

/-- Their sum. -/
def den (s : Fin n → EReal) : EReal := ∑ i, ex s i

/-- The softmax. -/
def pr (s : Fin n → EReal) (i : Fin n) : EReal := Ideal.div (ex s i) (den s)

/-- The scores' cotangent from the softmax and its cotangent, times the scores' factor. -/
def ds (c : EReal) (s dp : Fin n → EReal) (i : Fin n) : EReal := pr s i * (dp i - ∑ k, dp k * pr s k) * c

/-- The scores' cotangent as the derivative of exponential, sum and quotient. -/
def rds (c : EReal) (s dp : Fin n → EReal) (i : Fin n) : EReal :=
  (Ideal.div (dp i) (den s) + -(∑ k, dp k * Ideal.div 1 (den s * den s) * ex s k)) * ex s i * c

theorem mx_real (hn : 0 < n) {s : Fin n → EReal} (hs : ∀ i, IsReal (s i)) : IsReal (mx s) := by
  have e : mx s = Finset.univ.sup s := by
    unfold mx
    rw [ofBits_neg_inf]
    rfl
  obtain ⟨i, _, hi⟩ := Finset.exists_mem_eq_sup Finset.univ ⟨⟨0, hn⟩, Finset.mem_univ _⟩ s
  rw [e, hi]
  exact hs i

/-- On real scores the exponentials are positive real numbers. -/
theorem ex_real (hn : 0 < n) {s : Fin n → EReal} (hs : ∀ i, IsReal (s i)) : ∃ e : Fin n → ℝ, (∀ i, ex s i = e i) ∧ ∀ i, 0 < e i := by
  obtain ⟨M, hM⟩ := mx_real hn hs
  choose g hg using hs
  exact ⟨fun i => Real.exp (g i - M), fun i => by unfold ex; rw [hM, hg, ← EReal.coe_sub, Ideal.exp_coe], fun i => Real.exp_pos _⟩

theorem den_real (hn : 0 < n) {s : Fin n → EReal} (hs : ∀ i, IsReal (s i)) : ∃ d : ℝ, den s = d ∧ 0 < d := by
  obtain ⟨e, he, hp⟩ := ex_real hn hs
  refine ⟨∑ i, e i, ?_, Finset.sum_pos (fun i _ => hp i) ⟨⟨0, hn⟩, Finset.mem_univ _⟩⟩
  unfold den
  rw [coe_sum]
  exact Finset.sum_congr rfl fun i _ => he i

/-- The two ways to write the scores' cotangent agree on real scores and cotangents. -/
theorem ds_eq_rds (hn : 0 < n) {c : EReal} {s dp : Fin n → EReal} (hc : IsReal c) (hs : ∀ i, IsReal (s i)) (hd : ∀ i, IsReal (dp i))
    (i : Fin n) : ds c s dp i = rds c s dp i := by
  obtain ⟨e, he, hp⟩ := ex_real hn hs
  obtain ⟨d, hde, hdp⟩ := den_real hn hs
  obtain ⟨γ, rfl⟩ := hc
  choose δ hδ using hd
  have hne : d ≠ 0 := hdp.ne'
  have hpr : ∀ k, pr s k = ((e k * (1 / d) : ℝ) : EReal) := fun k => by
    unfold pr
    rw [hde, he, Ideal.div_coe hne, ← EReal.coe_mul]
  have h1 : ∑ k, dp k * pr s k = ((∑ k, δ k * (e k * (1 / d)) : ℝ) : EReal) := by
    rw [coe_sum]
    exact Finset.sum_congr rfl fun k _ => by rw [hpr, hδ, ← EReal.coe_mul]
  have h2 : ∑ k, dp k * Ideal.div 1 (den s * den s) * ex s k
      = ((∑ k, δ k * (1 * (1 / (d * d))) * e k : ℝ) : EReal) := by
    rw [coe_sum]
    exact Finset.sum_congr rfl fun k _ => by
      rw [hde, he, hδ, ← EReal.coe_one, ← EReal.coe_mul, Ideal.div_coe (mul_ne_zero hne hne), ← EReal.coe_mul, ← EReal.coe_mul, ← EReal.coe_mul]
  unfold ds rds
  rw [h1, h2, hpr, hδ, hde, he, Ideal.div_coe hne]
  simp only [← EReal.coe_sub, ← EReal.coe_mul, ← EReal.coe_neg, ← EReal.coe_add]
  congr 1
  have h3 : ∑ k, δ k * (e k * (1 / d)) = (∑ k, δ k * e k) * (1 / d) := by
    rw [Finset.sum_mul]
    exact Finset.sum_congr rfl fun k _ => by ring
  have h4 : ∑ k, δ k * (1 * (1 / (d * d))) * e k = (∑ k, δ k * e k) * (1 / (d * d)) := by
    rw [Finset.sum_mul]
    exact Finset.sum_congr rfl fun k _ => by ring
  rw [h3, h4]
  field_simp
  ring

end Cert.Row

end
-- ==== Proof.CrossValue.lean ====
/-
  The gradient of the cross attention, fused with the product with `w_co`: what each array of the call ends with, as
  a plain formula of the arguments.
-/
module

public import proofs.«01_k».proof.Proof.Gen.CrossIdeal.Frame
public import proofs.«01_k».proof.Proof.SoftmaxRow
public import Idealize.ShloMosaic.Lib.Pipeline.ValueKit
public import Idealize.ShloMosaic.Lib.Pointwise
public import Idealize.ShloMosaic.Lib.Claim

@[expose] public section

set_option maxRecDepth 16384

noncomputable section

namespace Cert.CrossIdeal.Val

open Idealize.ShloMosaic Idealize.ShloMosaic.TcCoe Idealize.SL.Sem
open Idealize.ShloMosaic.Pipeline (Dat)
open Cert.CrossIdeal Cert.CrossIdeal.Gen

variable (m : (ℓ : Loc nD τ sig) → Buf (Elt Ideal) ℓ)

/-- The block of every operand at a grid point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![0, 0]
    ∧ win0_7.index t = ![0, 0] :=
  (by decide +kernel : ∀ t : Fin grid0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![0, 0]
    ∧ win0_7.index t = ![0, 0])

/-- The scores' factor, 1/16. -/
abbrev fac : EReal := Ideal.ofBits .f32 0x3D800000#32

/-- Column `x` of head `h`. -/
def col (h : Fin 4) (x : Fin 256) : Fin 1024 := ⟨h * 256 + x, by omega⟩

section Rows
variable {R : ℕ}

/-- Head `h`'s scores of row `n`. -/
def sc (q : Fin R → Fin 1024 → EReal) (k : Fin 256 → Fin 1024 → EReal) (h : Fin 4) (n : Fin R) (i : Fin 256) : EReal :=
  (∑ x, q n (col h x) * k i (col h x)) * fac

/-- The heads' outputs' cotangent: the call's cotangent against the rows of `w_co`. -/
def dco (d : Fin R → Fin 1024 → EReal) (w : Fin 1024 → Fin 1024 → EReal) (n : Fin R) (i : Fin 1024) : EReal := ∑ l, d n l * w i l

/-- The softmax's cotangent of head `h`, row `n`. -/
def dp (d : Fin R → Fin 1024 → EReal) (w : Fin 1024 → Fin 1024 → EReal) (v : Fin 256 → Fin 1024 → EReal) (h : Fin 4) (n : Fin R)
    (i : Fin 256) : EReal := ∑ x, dco d w n (col h x) * v i (col h x)

/-- The scores' cotangent of head `h`, row `n`. -/
def ds (q : Fin R → Fin 1024 → EReal) (k v : Fin 256 → Fin 1024 → EReal) (w : Fin 1024 → Fin 1024 → EReal) (d : Fin R → Fin 1024 → EReal)
    (h : Fin 4) (n : Fin R) (i : Fin 256) : EReal := Row.ds fac (sc q k h n) (dp d w v h n) i

end Rows

/-- A block's rows, by row and column. -/
def rows {a b : ℕ} (x : FVec Ideal ⟨2, ![a, b]⟩ .bf16) (n : Fin a) (j : Fin b) : EReal := x (ix2 n j)

theorem pay10 (v0 v2 j0 j1) : k0_pay10 (F := Ideal) v0 v2 (ix2 j0 j1) = dco (rows v0) (rows v2) j0 j1 := by
  unfold dco rows
  pointwise [k0_pay10]

/-- Head 0 begins at column 0. -/
theorem col0 (x : Fin 256) : col 0 x = ⟨x, by omega⟩ := Fin.ext (by show 0 * 256 + (x : ℕ) = x; omega)

/-- The exponentials of the four heads. -/
theorem ex0 (v5 v7 j0 j1) : k0_pay11 (F := Ideal) v5 v7 (ix2 j0 j1) = Row.ex (sc (rows v5) (rows v7) 0 j0) j1 := by
  unfold Row.ex Row.mx sc rows
  simp only [col0]
  pointwise [k0_pay11, k0_pay7, k0_pay8]

theorem ex1 (v5 v7 j0 j1) : k0_pay13 (F := Ideal) v5 v7 (ix2 j0 j1) = Row.ex (sc (rows v5) (rows v7) 1 j0) j1 := by
  unfold Row.ex Row.mx sc rows
  pointwise [k0_pay13, k0_pay7, k0_pay8]
  rfl

theorem ex2 (v5 v7 j0 j1) : k0_pay17 (F := Ideal) (k0_pay15 v5) (k0_pay16 v7) (ix2 j0 j1) = Row.ex (sc (rows v5) (rows v7) 2 j0) j1 := by
  unfold Row.ex Row.mx sc rows
  pointwise [k0_pay17, k0_pay15, k0_pay16, k0_pay7, k0_pay8]
  rfl

theorem ex3 (v5 v7 j0 j1) : k0_pay19 (F := Ideal) v5 v7 (ix2 j0 j1) = Row.ex (sc (rows v5) (rows v7) 3 j0) j1 := by
  unfold Row.ex Row.mx sc rows
  pointwise [k0_pay19]
  rfl

/-- The softmax of the four heads. -/
theorem pr0 (q k j0 j1) : k0_pay21 (F := Ideal) (k0_pay11 q k) (k0_pay12 q k) (ix2 j0 j1) = Row.pr (sc (rows q) (rows k) 0 j0) j1 := by
  unfold Row.pr Row.den
  pointwise [k0_pay21, ex0, k0_pay12]

theorem pr1 (q k j0 j1) : k0_pay26 (F := Ideal) (k0_pay13 q k) (k0_pay14 q k) (ix2 j0 j1) = Row.pr (sc (rows q) (rows k) 1 j0) j1 := by
  unfold Row.pr Row.den
  pointwise [k0_pay26, ex1, k0_pay14]

theorem pr2 (q k j0 j1) : k0_pay32 (F := Ideal) (k0_pay17 (k0_pay15 q) (k0_pay16 k)) (k0_pay18 (k0_pay15 q) (k0_pay16 k)) (ix2 j0 j1)
    = Row.pr (sc (rows q) (rows k) 2 j0) j1 := by
  unfold Row.pr Row.den
  pointwise [k0_pay32, ex2, k0_pay18]

theorem pr3 (q k j0 j1) : k0_pay37 (F := Ideal) (k0_pay19 q k) (k0_pay20 q k) (ix2 j0 j1)
    = Row.pr (sc (rows q) (rows k) 3 j0) j1 := by
  unfold Row.pr Row.den
  pointwise [k0_pay37, ex3, k0_pay20]

/-- The scores' cotangents of the four heads. -/
theorem ds0 (q k v w d j0 j1) : k0_pay22 (F := Ideal) (k0_pay9 v) (k0_pay10 d w) (k0_pay11 q k) (k0_pay12 q k) (ix2 j0 j1)
    = ds (rows q) (rows k) (rows v) (rows w) (rows d) 0 j0 j1 := by
  unfold ds Row.ds dp
  simp only [col0]
  pointwise [k0_pay22, pr0, k0_pay9, pay10]
  rfl

theorem ds1 (q k v w d j0 j1) : k0_pay28 (F := Ideal) (k0_pay9 v) (k0_pay26 (k0_pay13 q k) (k0_pay14 q k)) (k0_pay27 (k0_pay10 d w)) (ix2 j0 j1)
    = ds (rows q) (rows k) (rows v) (rows w) (rows d) 1 j0 j1 := by
  unfold ds Row.ds dp
  pointwise [k0_pay28, pr1, k0_pay9, k0_pay27, pay10]
  rfl

theorem ds2 (q k v w d j0 j1) : k0_pay33 (F := Ideal) (k0_pay9 v) (k0_pay10 d w) (k0_pay17 (k0_pay15 q) (k0_pay16 k)) (k0_pay18 (k0_pay15 q) (k0_pay16 k)) (ix2 j0 j1)
    = ds (rows q) (rows k) (rows v) (rows w) (rows d) 2 j0 j1 := by
  unfold ds Row.ds dp
  pointwise [k0_pay33, pr2, k0_pay9, pay10]
  rfl

theorem ds3 (q k v w d j0 j1) : k0_pay1 (F := Ideal) (k0_pay37 (k0_pay19 q k) (k0_pay20 q k))
      (k0_pay38 (k0_pay9 v) (k0_pay10 d w)) (k0_pay39 (k0_pay9 v) (k0_pay10 d w) (k0_pay19 q k) (k0_pay20 q k)) (ix2 j0 j1)
    = ds (rows q) (rows k) (rows v) (rows w) (rows d) 3 j0 j1 := by
  unfold ds Row.ds dp
  pointwise [k0_pay1, pr3, k0_pay9, k0_pay38, k0_pay39, pay10]
  rfl

/-- The head of a column. -/
def hd (j : Fin 1024) : Fin 4 := ⟨(j : ℕ) / 256, by omega⟩

/-- A quantity read head by head is that of the column's head. -/
theorem by_head (G : Fin 4 → Fin 1024 → EReal) (j : Fin 1024) :
    (if h : (j : ℕ) < 256 then G 0 j else if h' : (j : ℕ) - 256 < 256 then G 1 ⟨256 + ((j : ℕ) - 256), by omega⟩
      else if h'' : (j : ℕ) - 256 - 256 < 256 then G 2 ⟨512 + ((j : ℕ) - 256 - 256), by omega⟩
      else G 3 ⟨768 + ((j : ℕ) - 256 - 256 - 256), by omega⟩) = G (hd j) j := by
  have hj := j.isLt
  split
  · exact congrArg₂ G (Fin.ext (by show 0 = (j : ℕ) / 256; omega)) rfl
  · split
    · exact congrArg₂ G (Fin.ext (by show 1 = (j : ℕ) / 256; omega)) (Fin.ext (by show 256 + ((j : ℕ) - 256) = j; omega))
    · split
      · exact congrArg₂ G (Fin.ext (by show 2 = (j : ℕ) / 256; omega)) (Fin.ext (by show 512 + ((j : ℕ) - 256 - 256) = j; omega))
      · exact congrArg₂ G (Fin.ext (by show 3 = (j : ℕ) / 256; omega)) (Fin.ext (by show 768 + ((j : ℕ) - 256 - 256 - 256) = j; omega))

/-- The queries' cotangent over a block. -/
def bq (q : Vec Ideal S512x1024 .bf16) (k v : Vec Ideal S256x1024 .bf16) (w : Vec Ideal S1024x1024 .bf16) (d : Vec Ideal S512x1024 .bf16) :=
  k0_pay4 (k0_pay8 k) (k0_pay23 (k0_pay8 k) (k0_pay9 v) (k0_pay10 d w) (k0_pay11 q k) (k0_pay12 q k))
    (k0_pay29 (k0_pay8 k) (k0_pay9 v) (k0_pay26 (k0_pay13 q k) (k0_pay14 q k)) (k0_pay27 (k0_pay10 d w)))
    (k0_pay34 (k0_pay8 k) (k0_pay9 v) (k0_pay10 d w) (k0_pay17 (k0_pay15 q) (k0_pay16 k)) (k0_pay18 (k0_pay15 q) (k0_pay16 k)))
    (k0_pay37 (k0_pay19 (k0_pay7 q) (k0_pay8 k)) (k0_pay20 (k0_pay7 q) (k0_pay8 k)))
    (k0_pay38 (k0_pay9 v) (k0_pay10 d w)) (k0_pay39 (k0_pay9 v) (k0_pay10 d w) (k0_pay19 (k0_pay7 q) (k0_pay8 k)) (k0_pay20 (k0_pay7 q) (k0_pay8 k)))

theorem bq_eq (q k v w d j0 j1) : bq q k v w d (ix2 j0 j1)
    = ∑ i, ds (rows q) (rows k) (rows v) (rows w) (rows d) (hd j1) j0 i * rows k i j1 := by
  unfold bq
  pointwise [k0_pay4, k0_pay23, k0_pay29, k0_pay34, k0_pay7, k0_pay8, ds0, ds1, ds2, ds3]
  exact by_head (fun h j => ∑ i, ds (rows q) (rows k) (rows v) (rows w) (rows d) h j0 i * rows k i j) j1

theorem outs5 (c : Dev nD) (t : Fin cfg0.N) (y) : (outsAt0 m c t.val t.isLt).1 y
    = bq (iblk m c 2 t) (iblk m c 3 t) (iblk m c 4 t) (iblk m c 1 t) (iblk m c 0 t) y := by
  have hN : t.val < 16 := lt_of_lt_of_eq t.isLt N_0
  by_cases h : t.val % 16 = 0
  · rw [outsAt0_A m c t h (by omega) h (by omega)]; frame_out; rfl
  · rw [outsAt0_B m c t h (by omega) h (by omega)]; frame_out; rfl

/-- A block's share of the keys' cotangent. -/
def bk (q : Vec Ideal S512x1024 .bf16) (k v : Vec Ideal S256x1024 .bf16) (w : Vec Ideal S1024x1024 .bf16) (d : Vec Ideal S512x1024 .bf16) :=
  k0_pay2 (k0_pay7 q) (k0_pay24 (k0_pay7 q) (k0_pay9 v) (k0_pay10 d w) (k0_pay11 q k) (k0_pay12 q k))
    (k0_pay30 (k0_pay7 q) (k0_pay9 v) (k0_pay26 (k0_pay13 q k) (k0_pay14 q k)) (k0_pay27 (k0_pay10 d w)))
    (k0_pay35 (k0_pay7 q) (k0_pay9 v) (k0_pay10 d w) (k0_pay17 (k0_pay15 q) (k0_pay16 k)) (k0_pay18 (k0_pay15 q) (k0_pay16 k)))
    (k0_pay37 (k0_pay19 (k0_pay7 q) (k0_pay8 k)) (k0_pay20 (k0_pay7 q) (k0_pay8 k)))
    (k0_pay38 (k0_pay9 v) (k0_pay10 d w)) (k0_pay39 (k0_pay9 v) (k0_pay10 d w) (k0_pay19 (k0_pay7 q) (k0_pay8 k)) (k0_pay20 (k0_pay7 q) (k0_pay8 k)))

theorem bk_eq (q k v w d j0 j1) : bk q k v w d (ix2 j0 j1)
    = ∑ n, ds (rows q) (rows k) (rows v) (rows w) (rows d) (hd j1) n j0 * rows q n j1 := by
  unfold bk
  pointwise [k0_pay2, k0_pay24, k0_pay30, k0_pay35, k0_pay7, k0_pay8, ds0, ds1, ds2, ds3]
  exact by_head (fun h j => ∑ n, ds (rows q) (rows k) (rows v) (rows w) (rows d) h n j0 * rows q n j) j1

theorem p7 (q) : k0_pay7 (F := Ideal) q = q := by
  funext i
  pointwise [k0_pay7]

theorem p8 (k) : k0_pay8 (F := Ideal) k = k := by
  funext i
  pointwise [k0_pay8]

/-- A block's share of the values' cotangent. -/
def bv (q : Vec Ideal S512x1024 .bf16) (k : Vec Ideal S256x1024 .bf16) (w : Vec Ideal S1024x1024 .bf16) (d : Vec Ideal S512x1024 .bf16) :=
  k0_pay3 (k0_pay10 d w) (k0_pay25 (k0_pay10 d w) (k0_pay11 q k) (k0_pay12 q k))
    (k0_pay31 (k0_pay10 d w) (k0_pay26 (k0_pay13 q k) (k0_pay14 q k)))
    (k0_pay36 (k0_pay10 d w) (k0_pay17 (k0_pay15 q) (k0_pay16 k)) (k0_pay18 (k0_pay15 q) (k0_pay16 k)))
    (k0_pay37 (k0_pay19 (k0_pay7 q) (k0_pay8 k)) (k0_pay20 (k0_pay7 q) (k0_pay8 k)))

theorem bv_eq (q k w d j0 j1) : bv q k w d (ix2 j0 j1)
    = ∑ n, Row.pr (sc (rows q) (rows k) (hd j1) n) j0 * dco (rows d) (rows w) n j1 := by
  unfold bv
  rw [p7, p8]
  pointwise [k0_pay3, k0_pay25, k0_pay31, k0_pay36, pay10, pr0, pr1, pr2, pr3]
  exact by_head (fun h j => ∑ n, Row.pr (sc (rows q) (rows k) h n) j0 * dco (rows d) (rows w) n j) j1

theorem pay5 (v6 v77 v98 v119 v124 v127 v129 a j0 j1) : k0_pay5 (F := Ideal) v6 v77 v98 v119 v124 v127 v129 a (ix2 j0 j1)
    = a (ix2 j0 j1) + k0_pay2 v6 v77 v98 v119 v124 v127 v129 (ix2 j0 j1) := by pointwise [k0_pay5]

theorem pay6 (v11 v80 v101 v122 v124 a j0 j1) : k0_pay6 (F := Ideal) v11 v80 v101 v122 v124 a (ix2 j0 j1)
    = a (ix2 j0 j1) + k0_pay3 v11 v80 v101 v122 v124 (ix2 j0 j1) := by pointwise [k0_pay6]

theorem outs6A (c : Dev nD) (t : Fin cfg0.N) (h : t.val % 16 = 0) (y) : (outsAt0 m c t.val t.isLt).2.1 y
    = bk (iblk m c 2 t) (iblk m c 3 t) (iblk m c 4 t) (iblk m c 1 t) (iblk m c 0 t) y := by
  have hN : t.val < 16 := lt_of_lt_of_eq t.isLt N_0
  rw [outsAt0_A m c t h (by omega) h (by omega)]; frame_out; rfl

theorem outs6B (c : Dev nD) (t : Fin cfg0.N) (h : ¬ t.val % 16 = 0) (y) : (outsAt0 m c t.val t.isLt).2.1 y
    = (outsAt0 m c (t.val - 1) (by omega)).2.1 y + bk (iblk m c 2 t) (iblk m c 3 t) (iblk m c 4 t) (iblk m c 1 t) (iblk m c 0 t) y := by
  have hN : t.val < 16 := lt_of_lt_of_eq t.isLt N_0
  rw [outsAt0_B m c t h (by omega) h (by omega)]; frame_out; idx_vars y; exact pay5 ..

theorem outs7A (c : Dev nD) (t : Fin cfg0.N) (h : t.val % 16 = 0) (y) : (outsAt0 m c t.val t.isLt).2.2 y
    = bv (iblk m c 2 t) (iblk m c 3 t) (iblk m c 1 t) (iblk m c 0 t) y := by
  have hN : t.val < 16 := lt_of_lt_of_eq t.isLt N_0
  rw [outsAt0_A m c t h (by omega) h (by omega)]; frame_out; rfl

theorem outs7B (c : Dev nD) (t : Fin cfg0.N) (h : ¬ t.val % 16 = 0) (y) : (outsAt0 m c t.val t.isLt).2.2 y
    = (outsAt0 m c (t.val - 1) (by omega)).2.2 y + bv (iblk m c 2 t) (iblk m c 3 t) (iblk m c 1 t) (iblk m c 0 t) y := by
  have hN : t.val < 16 := lt_of_lt_of_eq t.isLt N_0
  rw [outsAt0_B m c t h (by omega) h (by omega)]; frame_out; idx_vars y; exact pay6 ..

/-- The arguments of a launch, by the reference's names. -/
abbrev cq (c : Dev nD) : FVec Ideal S8192x1024 .f32 := m ((c : Thread nD τ).loc main_arg0)
abbrev ck (c : Dev nD) : FVec Ideal S256x1024 .f32 := m ((c : Thread nD τ).loc main_arg1)
abbrev cv (c : Dev nD) : FVec Ideal S256x1024 .f32 := m ((c : Thread nD τ).loc main_arg2)
abbrev wc (c : Dev nD) : FVec Ideal S1024x1024 .f32 := m ((c : Thread nD τ).loc main_arg3)
abbrev dx (c : Dev nD) : FVec Ideal S8192x1024 .f32 := m ((c : Thread nD τ).loc main_arg4)

/-- A grid point's blocks hold its rows of the arguments. -/
theorem blk_rows (c : Dev nD) (p : Fin cfg0.N) (x : Fin 512) (n : Fin 8192) (hn : (n : ℕ) = p.val * 512 + x) :
    rows (a := 512) (b := 1024) (iblk m c 2 p) x = rows (cq m c) n ∧ rows (a := 512) (b := 1024) (iblk m c 0 p) x = rows (dx m c) n := by
  constructor
  · funext j; unfold rows; blk_point [iblk, V, idx p]
  · funext j; unfold rows; blk_point [iblk, V, idx p]

theorem blk_whole (c : Dev nD) (p : Fin cfg0.N) : rows (a := 256) (b := 1024) (iblk m c 3 p) = rows (ck m c)
    ∧ rows (a := 256) (b := 1024) (iblk m c 4 p) = rows (cv m c) ∧ rows (a := 1024) (b := 1024) (iblk m c 1 p) = rows (wc m c) := by
  refine ⟨?_, ?_, ?_⟩
  · funext i j; unfold rows; blk_point [iblk, V, idx p]
  · funext i j; unfold rows; blk_point [iblk, V, idx p]
  · funext i j; unfold rows; blk_point [iblk, V, idx p]

/-- The scores' cotangent of the launch's arguments. -/
abbrev dsm (c : Dev nD) (h : Fin 4) (n : Fin 8192) (i : Fin 256) : EReal :=
  ds (rows (cq m c)) (rows (ck m c)) (rows (cv m c)) (rows (wc m c)) (rows (dx m c)) h n i

/-- A row's quantities depend on that row alone. -/
theorem ds_congr {R R' : ℕ} {q d : Fin R → Fin 1024 → EReal} {q' d' : Fin R' → Fin 1024 → EReal} {k v w} {n n'} (hq : q n = q' n')
    (hd : d n = d' n') (h i) : ds q k v w d h n i = ds q' k v w d' h n' i := by
  have e1 : sc q k h n = sc q' k h n' := by unfold sc; rw [hq]
  have e2 : dp d w v h n = dp d' w v h n' := by unfold dp dco; rw [hd]
  unfold ds
  rw [e1, e2]

theorem pr_congr {R R' : ℕ} {q : Fin R → Fin 1024 → EReal} {q' : Fin R' → Fin 1024 → EReal} {k} {n n'} (hq : q n = q' n') (h i) :
    Row.pr (sc q k h n) i = Row.pr (sc q' k h n') i := by
  have e1 : sc q k h n = sc q' k h n' := by unfold sc; rw [hq]
  rw [e1]

/-- The queries' cotangent, whole. -/
theorem final5 (c : Dev nD) : (dats m 0 c).arrAt 5 (cfgs 0).N
    = (fun i => ∑ x, dsm m c (hd (i 1)) (i 0) x * rows (ck m c) x (i 1) : FVec Ideal S8192x1024 .bf16) := by
  refine (dats m 0 c).arrAt_eq_of_covers 5 _ (by decide +kernel) fun t _ y => ?_
  blk_simp
  rw [after0_5, outs5]
  idx_vars y
  rw [bq_eq]
  obtain ⟨e3, e4, e1⟩ := blk_whole m c t
  have hn : t.val * 512 + (y0 : ℕ) < 8192 := by have := lt_of_lt_of_eq t.isLt N_0; omega
  obtain ⟨e2, e0⟩ := blk_rows m c t y0 ⟨t.val * 512 + y0, hn⟩ rfl
  rw [e3, e4, e1]
  have f0 : (((View.whole main_v5_0).slice (win0_5.rect t)).emb (ix2 y0 y1) 0) = (⟨t.val * 512 + y0, hn⟩ : Fin 8192) := Fin.ext (by blk_simp [idx t])
  have f1 : (((View.whole main_v5_0).slice (win0_5.rect t)).emb (ix2 y0 y1) 1) = (y1 : Fin 1024) := Fin.ext (by blk_simp [idx t])
  rw [f0, f1]
  exact (show (_ : EReal) = _ from Finset.sum_congr rfl fun x _ => congrArg (· * _) (ds_congr e2 e0 _ _))

/-- The keys' cotangent. -/
theorem final6 (c : Dev nD) : (dats m 0 c).arrAt 6 (cfgs 0).N
    = (fun i => ∑ n, dsm m c (hd (i 1)) n (i 0) * rows (cq m c) n (i 1) : FVec Ideal S256x1024 .f32) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0)
    (fun p j => bk (iblk m c 2 p) (iblk m c 3 p) (iblk m c 4 p) (iblk m c 1 p) (iblk m c 0 p) j)
    (fun t h j => by rw [outs6A m c t h, zero_add])
    (fun t h j => outs6B m c t h j)
    (le_of_eq N_0) t0_15 rfl j, zero_add]
  idx_vars j
  simp only [bk_eq]
  refine Fin.sum_mul_add_congr fun p x hl => ?_
  obtain ⟨e3, e4, e1⟩ := blk_whole m c p
  obtain ⟨e2, e0⟩ := blk_rows m c p x ⟨_, hl⟩ rfl
  rw [e3, e4, e1, e2]
  exact congrArg (· * _) (ds_congr e2 e0 _ _)

/-- The values' cotangent. -/
theorem final7 (c : Dev nD) : (dats m 0 c).arrAt 7 (cfgs 0).N
    = (fun i => ∑ n, Row.pr (sc (rows (cq m c)) (rows (ck m c)) (hd (i 1)) n) (i 0) * dco (rows (dx m c)) (rows (wc m c)) n (i 1) : FVec Ideal S256x1024 .f32) := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0)
    (fun p j => bv (iblk m c 2 p) (iblk m c 3 p) (iblk m c 1 p) (iblk m c 0 p) j)
    (fun t h j => by rw [outs7A m c t h, zero_add])
    (fun t h j => outs7B m c t h j)
    (le_of_eq N_0) t0_15 rfl j, zero_add]
  idx_vars j
  simp only [bv_eq]
  refine Fin.sum_mul_add_congr fun p x hl => ?_
  obtain ⟨e3, e4, e1⟩ := blk_whole m c p
  obtain ⟨e2, e0⟩ := blk_rows m c p x ⟨_, hl⟩ rfl
  rw [e3, e1, pr_congr e2]
  unfold dco
  rw [e0]

end Cert.CrossIdeal.Val
-- ==== Proof.CrossRef.lean ====
/-
  The derivative of the cross attention's forward lines: each result of the reference as a plain formula of the
  arguments.
-/
module

public import proofs.«01_k».proof.Proof.Gen.CrossRefIdeal.Run
public import proofs.«01_k».proof.Proof.CrossValue

@[expose] public section

set_option maxRecDepth 16384

noncomputable section

namespace Cert.CrossRefIdeal.Val

open Idealize.ShloMosaic Idealize.ShloMosaic.TcCoe Idealize.SL.Sem
open Cert.CrossRefIdeal Cert.CrossRefIdeal.Gen
open Cert.CrossIdeal.Val (sc dco dp col hd fac)

/-- An argument's rows, by row and column. -/
def rows {a b : ℕ} (x : FVec Ideal ⟨2, ![a, b]⟩ .f32) (n : Fin a) (j : Fin b) : EReal := x (ix2 n j)

variable (q : FVec Ideal S8192x1024 .f32) (k v : FVec Ideal S256x1024 .f32) (w : FVec Ideal S1024x1024 .f32) (d : FVec Ideal S8192x1024 .f32)

/-- The reference's scores. -/
def tS : FVec Ideal S4x8192x256 .f32 :=
  mulf (Host.dotGeneral dot_S8192x4x256_S256x4x256_S4x8192x256_2_2_0_0_1_1 none (shapeCast _ q shapeCasts_S8192x1024_S8192x4x256) (shapeCast _ k shapeCasts_S256x1024_S256x4x256)) (broadcastInDim S4x8192x256 ![] bcast_S_S4x8192x256 (constant S_ .f32 0x3D800000#32))

theorem tS_eq (h n i) : tS q k (ix3 h n i) = sc (rows q) (rows k) h n i := by
  unfold sc rows
  pointwise [tS]
  rfl

/-- The rows' largest scores. -/
def tM (s : FVec Ideal S4x8192x256 .f32) : FVec Ideal S4x8192 .f32 :=
  Host.reduce FloatOps.maximumf s (constant S_ .f32 0xFF800000#32) reducesTo_S4x8192x256_S4x8192_d2 h_S_

theorem tM_eq (s h n) : tM s (ix2 h n) = Row.mx (fun i => s (ix3 h n i)) := by
  unfold Row.mx
  pointwise [tM]

/-- … against the least float. -/
def tN (s : FVec Ideal S4x8192x256 .f32) : FVec Ideal S4x8192 .f32 :=
  maximumf (broadcastInDim S4x8192 ![] bcast_S_S4x8192 (constant S_ .f32 0xFF800000#32)) (tM s)

theorem maximumf_at (x y : FVec Ideal S4x8192 .f32) (i) : maximumf x y i = max (x i) (y i) := rfl

theorem least_at (i) : (broadcastInDim S4x8192 ![] bcast_S_S4x8192 (constant S_ .f32 0xFF800000#32) : FVec Ideal S4x8192 .f32) i = ⊥ :=
  Row.ofBits_neg_inf

theorem tN_eq (s h n) : tN s (ix2 h n) = Row.mx (fun i => s (ix3 h n i)) := by
  unfold tN
  rw [maximumf_at, least_at, tM_eq, max_bot_left]

/-- The reference's exponentials. -/
def tE (s : FVec Ideal S4x8192x256 .f32) : FVec Ideal S4x8192x256 .f32 :=
  Host.exp (subf s (broadcastInDim S4x8192x256 ![0, 1, 2] bcast_S4x8192x1_S4x8192x256_0_1_2 (broadcastInDim S4x8192x1 ![0, 1] bcast_S4x8192_S4x8192x1_0_1 (tN s))))

theorem tE_eq (s h n i) : tE s (ix3 h n i) = Row.ex (fun i => s (ix3 h n i)) i := by
  unfold Row.ex
  pointwise [tE, tN_eq]

/-- The sums of the exponentials. -/
def tD (e : FVec Ideal S4x8192x256 .f32) : FVec Ideal S4x8192x1 .f32 :=
  broadcastInDim S4x8192x1 ![0, 1] bcast_S4x8192_S4x8192x1_0_1 (Host.reduceAdd e (constant S_ .f32 0x00000000#32) reducesTo_S4x8192x256_S4x8192_d2 h_S_)

theorem tD_eq (e h n i) : tD e (ix3 h n i) = ∑ j, e (ix3 h n j) := by
  pointwise [tD]

/-- The softmax. -/
def tP (e : FVec Ideal S4x8192x256 .f32) : FVec Ideal S4x8192x256 .f32 :=
  Host.divf e (broadcastInDim S4x8192x256 ![0, 1, 2] bcast_S4x8192x1_S4x8192x256_0_1_2 (tD e))

theorem tP_eq (s h n i) : tP (tE s) (ix3 h n i) = Row.pr (fun i => s (ix3 h n i)) i := by
  unfold Row.pr Row.den
  pointwise [tP, tD_eq, tE_eq]

/-- The heads' outputs' cotangent, transposed. -/
def tO : FVec Ideal S4x256x8192 .f32 :=
  transpose S4x256x8192 [1, 2, 0] (shapeCast _ (Host.dotGeneral dot_S8192x1024_S1024x1024_S8192x1024_1_1_0_0_n_n none d w) shapeCasts_S8192x1024_S8192x4x256) transposes_S8192x4x256_S4x256x8192_1_2_0

theorem tO_eq (h x n) : tO w d (ix3 h x n) = dco (rows d) (rows w) n (col h x) := by
  unfold dco rows
  pointwise [tO]
  rfl

/-- The softmax's cotangent. -/
def tG : FVec Ideal S4x8192x256 .f32 :=
  Host.dotGeneral dot_S4x256x8192_S256x4x256_S4x8192x256_1_2_2_0_0_1 none (tO w d) (shapeCast _ v shapeCasts_S256x1024_S256x4x256)

theorem tG_eq (h n i) : tG v w d (ix3 h n i) = dp (rows d) (rows w) (rows v) h n i := by
  unfold dp
  pointwise [tG, tO_eq]
  rfl

/-- The scores' cotangent. -/
def tC (e g : FVec Ideal S4x8192x256 .f32) : FVec Ideal S4x8192x256 .f32 :=
  mulf (mulf (addf (Host.divf g (broadcastInDim S4x8192x256 ![0, 1, 2] bcast_S4x8192x1_S4x8192x256_0_1_2 (tD e)))
    (broadcastInDim S4x8192x256 ![0, 1] bcast_S4x8192_S4x8192x256_0_1 (Host.reduceAdd (Host.negf (shapeCast _ (Host.reduceAdd (mulf (mulf g
      (broadcastInDim S4x8192x256 ![0, 1, 2] bcast_S4x8192x1_S4x8192x256_0_1_2 (Host.divf (broadcastInDim S4x8192x1 ![] bcast_S_S4x8192x1 (constant S_ .f32 0x3F800000#32)) (mulf (tD e) (tD e))))) e)
      (constant S_ .f32 0x00000000#32) reducesTo_S4x8192x256_S4x8192_d2 h_S_) shapeCasts_S4x8192_S4x8192x1)) (constant S_ .f32 0x00000000#32) reducesTo_S4x8192x1_S4x8192_d2 h_S_))) e)
    (broadcastInDim S4x8192x256 ![] bcast_S_S4x8192x256 (constant S_ .f32 0x3D800000#32))

theorem tC_eq (s g h n i) : tC (tE s) g (ix3 h n i) = Row.rds fac (fun i => s (ix3 h n i)) (fun i => g (ix3 h n i)) i := by
  unfold Row.rds Row.den
  pointwise [tC, tD_eq, tE_eq]
  rw [Fin.sum_univ_one]

/-- The three results by these names. -/
def r0 (C : FVec Ideal S4x8192x256 .f32) : FVec Ideal S8192x1024 .bf16 :=
  truncf .bf16 (shapeCast S8192x1024 (transpose S8192x4x256 [1, 0, 2] (Host.dotGeneral dot_S4x8192x256_S256x4x256_S4x8192x256_2_0_1_2_0_1 none
    C (shapeCast S256x4x256 k shapeCasts_S256x1024_S256x4x256 : FVec Ideal S256x4x256 .f32)) transposes_S4x8192x256_S8192x4x256_1_0_2) shapeCasts_S8192x4x256_S8192x1024) bitsLt_bf16_f32

def r1 (C : FVec Ideal S4x8192x256 .f32) : FVec Ideal S256x1024 .f32 :=
  shapeCast S256x1024 (transpose S256x4x256 [1, 0, 2] (Host.dotGeneral dot_S4x8192x256_S8192x4x256_S4x256x256_1_0_2_2_0_1 none
    C (shapeCast S8192x4x256 q shapeCasts_S8192x1024_S8192x4x256 : FVec Ideal S8192x4x256 .f32)) transposes_S4x256x256_S256x4x256_1_0_2) shapeCasts_S256x4x256_S256x1024

def r2 (P : FVec Ideal S4x8192x256 .f32) : FVec Ideal S256x1024 .f32 :=
  shapeCast S256x1024 (transpose S256x4x256 [2, 0, 1] (Host.dotGeneral dot_S4x256x8192_S4x8192x256_S4x256x256_2_1_1_2_0_0 none
    (tO w d) P) transposes_S4x256x256_S256x4x256_2_0_1) shapeCasts_S256x4x256_S256x1024

theorem r0_eq (C) (j0 j1) : r0 k C (ix2 j0 j1) = ∑ i, C (ix3 (hd j1) j0 i) * rows k i j1 := by
  pointwise [r0]
  rfl

theorem r1_eq (C) (j0 j1) : r1 q C (ix2 j0 j1) = ∑ n, C (ix3 (hd j1) n j0) * rows q n j1 := by
  pointwise [r1]
  rfl

/-- A column's head and place within the head give the column back. -/
theorem col_hd (j : Fin 1024) (h : (j : ℕ) / 256 < 4) (h' : (j : ℕ) % 256 < 256) : col ⟨(j : ℕ) / 256, h⟩ ⟨(j : ℕ) % 256, h'⟩ = j :=
  Fin.ext (by show (j : ℕ) / 256 * 256 + (j : ℕ) % 256 = j; omega)

theorem r2_eq (P) (j0 j1) : r2 w d P (ix2 j0 j1) = ∑ n, P (ix3 (hd j1) n j0) * dco (rows d) (rows w) n j1 := by
  pointwise [r2, tO_eq]
  simp only [col_hd]
  exact Finset.sum_congr rfl fun n _ => mul_comm (G := EReal) _ _

variable (m : (ℓ : Loc nD τ sig) → Buf (Elt Ideal) ℓ) (c : Dev nD)

/-- The arguments of a run. -/
abbrev cq : FVec Ideal S8192x1024 .f32 := m ((c.tc : Thread nD τ).loc main_arg0)
abbrev ck : FVec Ideal S256x1024 .f32 := m ((c.tc : Thread nD τ).loc main_arg1)
abbrev cv : FVec Ideal S256x1024 .f32 := m ((c.tc : Thread nD τ).loc main_arg2)
abbrev wc : FVec Ideal S1024x1024 .f32 := m ((c.tc : Thread nD τ).loc main_arg3)
abbrev dx : FVec Ideal S8192x1024 .f32 := m ((c.tc : Thread nD τ).loc main_arg4)

theorem out0 : Value.res_main_v65 m c = r0 (ck m c) (tC (tE (tS (cq m c) (ck m c))) (tG (cv m c) (wc m c) (dx m c))) := rfl

theorem out1 : Value.res_main_v63 m c = r1 (cq m c) (tC (tE (tS (cq m c) (ck m c))) (tG (cv m c) (wc m c) (dx m c))) := rfl

/-- The third result, as a run states it. -/
theorem out2 : shapeCast _ (transpose S256x4x256 [2, 0, 1] (Host.dotGeneral dot_S4x256x8192_S4x8192x256_S4x256x256_2_1_1_2_0_0 none (transpose S4x256x8192 [1, 2, 0] (shapeCast _ (Host.dotGeneral dot_S8192x1024_S1024x1024_S8192x1024_1_1_0_0_n_n none (dx m c) (wc m c)) shapeCasts_S8192x1024_S8192x4x256) transposes_S8192x4x256_S4x256x8192_1_2_0) (Host.divf (Host.exp (subf (mulf (Host.dotGeneral dot_S8192x4x256_S256x4x256_S4x8192x256_2_2_0_0_1_1 none (shapeCast _ (cq m c) shapeCasts_S8192x1024_S8192x4x256) (shapeCast _ (ck m c) shapeCasts_S256x1024_S256x4x256)) (broadcastInDim S4x8192x256 ![] bcast_S_S4x8192x256 (constant S_ .f32 0x3D800000#32))) (broadcastInDim S4x8192x256 ![0, 1, 2] bcast_S4x8192x1_S4x8192x256_0_1_2 (broadcastInDim S4x8192x1 ![0, 1] bcast_S4x8192_S4x8192x1_0_1 (maximumf (broadcastInDim S4x8192 ![] bcast_S_S4x8192 (constant S_ .f32 0xFF800000#32)) (Host.reduce FloatOps.maximumf (mulf (Host.dotGeneral dot_S8192x4x256_S256x4x256_S4x8192x256_2_2_0_0_1_1 none (shapeCast _ (cq m c) shapeCasts_S8192x1024_S8192x4x256) (shapeCast _ (ck m c) shapeCasts_S256x1024_S256x4x256)) (broadcastInDim S4x8192x256 ![] bcast_S_S4x8192x256 (constant S_ .f32 0x3D800000#32))) (constant S_ .f32 0xFF800000#32) reducesTo_S4x8192x256_S4x8192_d2 h_S_)))))) (broadcastInDim S4x8192x256 ![0, 1, 2] bcast_S4x8192x1_S4x8192x256_0_1_2 (broadcastInDim S4x8192x1 ![0, 1] bcast_S4x8192_S4x8192x1_0_1 (Host.reduceAdd (Host.exp (subf (mulf (Host.dotGeneral dot_S8192x4x256_S256x4x256_S4x8192x256_2_2_0_0_1_1 none (shapeCast _ (cq m c) shapeCasts_S8192x1024_S8192x4x256) (shapeCast _ (ck m c) shapeCasts_S256x1024_S256x4x256)) (broadcastInDim S4x8192x256 ![] bcast_S_S4x8192x256 (constant S_ .f32 0x3D800000#32))) (broadcastInDim S4x8192x256 ![0, 1, 2] bcast_S4x8192x1_S4x8192x256_0_1_2 (broadcastInDim S4x8192x1 ![0, 1] bcast_S4x8192_S4x8192x1_0_1 (maximumf (broadcastInDim S4x8192 ![] bcast_S_S4x8192 (constant S_ .f32 0xFF800000#32)) (Host.reduce FloatOps.maximumf (mulf (Host.dotGeneral dot_S8192x4x256_S256x4x256_S4x8192x256_2_2_0_0_1_1 none (shapeCast _ (cq m c) shapeCasts_S8192x1024_S8192x4x256) (shapeCast _ (ck m c) shapeCasts_S256x1024_S256x4x256)) (broadcastInDim S4x8192x256 ![] bcast_S_S4x8192x256 (constant S_ .f32 0x3D800000#32))) (constant S_ .f32 0xFF800000#32) reducesTo_S4x8192x256_S4x8192_d2 h_S_)))))) (constant S_ .f32 0x00000000#32) reducesTo_S4x8192x256_S4x8192_d2 h_S_))))) transposes_S4x256x256_S256x4x256_2_0_1) shapeCasts_S256x4x256_S256x1024 = r2 (wc m c) (dx m c) (tP (tE (tS (cq m c) (ck m c)))) := rfl

end Cert.CrossRefIdeal.Val

end
-- ==== Proof.CrossClaim.lean ====
/-
  The cross attention's gradients: on arguments that are real numbers the call and the derivative of the forward
  lines end with equal results.
-/
module

public import proofs.«01_k».proof.Proof.Gen.CrossIdeal.Value
public import proofs.«01_k».proof.Proof.Gen.CrossRefIdeal.Run
public import proofs.«01_k».proof.Defs
public import proofs.«01_k».proof.Proof.Gen.CrossIdeal
public import proofs.«01_k».proof.Proof.Gen.CrossRefIdeal
public import proofs.«01_k».proof.Proof.Gen.Pre_pre_cob
public import proofs.«01_k».proof.Proof.CrossValue
public import proofs.«01_k».proof.Proof.CrossRef

@[expose] public section

set_option maxRecDepth 16384

noncomputable section

namespace Cert.CrossIdeal.Val

open Idealize.ShloMosaic Idealize.ShloMosaic.TcCoe Idealize.SL.Sem
open Cert.CrossIdeal Cert.CrossIdeal.Gen
open Cert.Row (IsReal)

/-- The scores' factor is a real number. -/
theorem fac_real : IsReal fac := by
  refine ⟨8388608 * (2 ^ 27 : ℝ)⁻¹, ?_⟩
  rw [EReal.coe_mul]
  simp [fac, Ideal.ofBits, Ideal.ieee]

theorem sc_real {R : ℕ} {q : Fin R → Fin 1024 → EReal} {k : Fin 256 → Fin 1024 → EReal} (hq : ∀ n j, IsReal (q n j)) (hk : ∀ n j, IsReal (k n j))
    (h n i) : IsReal (sc q k h n i) :=
  (IsReal.sum _ fun x => (hq _ _).mul (hk _ _)).mul fac_real

theorem dp_real {R : ℕ} {d : Fin R → Fin 1024 → EReal} {w : Fin 1024 → Fin 1024 → EReal} {v : Fin 256 → Fin 1024 → EReal} (hd : ∀ n j, IsReal (d n j))
    (hw : ∀ n j, IsReal (w n j)) (hv : ∀ n j, IsReal (v n j)) (h n i) : IsReal (dp d w v h n i) :=
  IsReal.sum _ fun x => (IsReal.sum _ fun l => (hd _ _).mul (hw _ _)).mul (hv _ _)

/-- The precondition: the queries, keys, values, weights and cotangents are real numbers. -/
theorem real_of_pre (a0 a1 a2 a3 a4) : ((Cert.Pre_pre_cob.fn (F := Ideal) a0 a1 a2 a3 a4).1 = (fun _ => 1#1) → ∀ n j, IsReal (rows a0 n j))
    ∧ ((Cert.Pre_pre_cob.fn (F := Ideal) a0 a1 a2 a3 a4).2.1 = (fun _ => 1#1) → ∀ n j, IsReal (rows a1 n j))
    ∧ ((Cert.Pre_pre_cob.fn (F := Ideal) a0 a1 a2 a3 a4).2.2.1 = (fun _ => 1#1) → ∀ n j, IsReal (rows a2 n j))
    ∧ ((Cert.Pre_pre_cob.fn (F := Ideal) a0 a1 a2 a3 a4).2.2.2.1 = (fun _ => 1#1) → ∀ n j, IsReal (rows a3 n j))
    ∧ ((Cert.Pre_pre_cob.fn (F := Ideal) a0 a1 a2 a3 a4).2.2.2.2 = (fun _ => 1#1) → ∀ n j, IsReal (rows a4 n j)) := by
  refine ⟨fun h n j => ?_, fun h n j => ?_, fun h n j => ?_, fun h n j => ?_, fun h n j => ?_⟩ <;>
  · have := congrFun h (ix2 n j)
    pointwise [Cert.Pre_pre_cob.fn] at this
    exact Row.isReal_of_test this

theorem algebraic : Cert.algebraic_CrossIdeal_CrossRefIdeal_pre_pre_cob := by
  intro m g m' g' hP hA
  refine ⟨fun c => (dats m 0 c).arrAt 5 (cfgs 0).N, fun c => (dats m 0 c).arrAt 6 (cfgs 0).N, fun c => (dats m 0 c).arrAt 7 (cfgs 0).N,
    Cert.CrossIdeal.Value.run_blocks (F := Ideal) m g,
    (θ_run _ _ _).mono (fun r h c => ?_) (Cert.CrossRefIdeal.Value.run (F := Ideal) m' g')⟩
  obtain ⟨a0, a1, a2, a3, a4⟩ := hA c
  obtain ⟨h0, h1, h2, hk⟩ := h c
  obtain ⟨p0, p1, p2, p3, p4⟩ := hP c
  have hr := real_of_pre (cq m c) (ck m c) (cv m c) (wc m c) (dx m c)
  have q0 := hr.1 p0
  have q1 := hr.2.1 p1
  have q2 := hr.2.2.1 p2
  have q3 := hr.2.2.2.1 p3
  have q4 := hr.2.2.2.2 p4
  have e0 : CrossRefIdeal.Val.cq m' c = cq m c := a0
  have e1 : CrossRefIdeal.Val.ck m' c = ck m c := a1
  have e2 : CrossRefIdeal.Val.cv m' c = cv m c := a2
  have e3 : CrossRefIdeal.Val.wc m' c = wc m c := a3
  have e4 : CrossRefIdeal.Val.dx m' c = dx m c := a4
  have hds : ∀ h n i, dsm m c h n i = CrossRefIdeal.Val.tC (CrossRefIdeal.Val.tE (CrossRefIdeal.Val.tS (cq m c) (ck m c))) (CrossRefIdeal.Val.tG (cv m c) (wc m c) (dx m c)) (ix3 h n i) := fun h n i => by
    rw [CrossRefIdeal.Val.tC_eq]
    simp only [CrossRefIdeal.Val.tS_eq, CrossRefIdeal.Val.tG_eq]
    exact Row.ds_eq_rds (by decide) fac_real (fun i => sc_real q0 q1 h n i) (fun i => dp_real q4 q3 q2 h n i) i
  refine ⟨?_, ?_, ?_, hk⟩
  · rw [h0, CrossRefIdeal.Val.out0, e0, e1, e2, e3, e4]
    beta_reduce
    rw [final5]
    funext i
    idx_vars i
    rw [CrossRefIdeal.Val.r0_eq]
    refine (show (_ : EReal) = _ from Finset.sum_congr rfl fun x _ => ?_)
    rw [hds]
    rfl
  · rw [h1, CrossRefIdeal.Val.out1, e0, e1, e2, e3, e4]
    beta_reduce
    rw [final6]
    funext i
    idx_vars i
    rw [CrossRefIdeal.Val.r1_eq]
    refine (show (_ : EReal) = _ from Finset.sum_congr rfl fun x _ => ?_)
    rw [hds]
    rfl
  · rw [h2]
    refine (CrossRefIdeal.Val.out2 m' c).trans ?_
    rw [e0, e1, e3, e4]
    beta_reduce
    rw [final7]
    funext i
    idx_vars i
    rw [CrossRefIdeal.Val.r2_eq]
    refine (show (_ : EReal) = _ from Finset.sum_congr rfl fun x _ => ?_)
    rw [CrossRefIdeal.Val.tP_eq]
    simp only [CrossRefIdeal.Val.tS_eq]
    rfl

end Cert.CrossIdeal.Val

end
-- ==== Proof.NormRow.lean ====
/-
  One row of a root-mean-square norm and its gradient, over the extended reals: the gradient as the calls write it
  equals the gradient as the derivative of the norm writes it, where the row, its weight and its cotangent are real
  numbers.
-/
module

public import proofs.«01_k».proof.Proof.SoftmaxRow
public import Idealize.ShloMosaic.Lib.Pointwise

@[expose] public section

noncomputable section

namespace Cert.Norm

open Idealize.ShloMosaic
open Cert.Row (IsReal coe_sum)

variable {K : ℕ}

/-- An array's rows, by row and column. -/
def rows {a b : ℕ} (x : Shape.Idx ⟨2, ![a, b]⟩ → EReal) (n : Fin a) (j : Fin b) : EReal := x (ix2 n j)

/-- The normed rows' cotangent at row `n`, column `k`: row `n` of the product's cotangent against row `k` of the weight. -/
def du {R J : ℕ} (d : Fin R → Fin J → EReal) (w : Fin K → Fin J → EReal) (n : Fin R) (k : Fin K) : EReal := ∑ l, d n l * w k l

/-- The row's length as a float, 1024. -/
abbrev len : EReal := Ideal.ofBits .f32 0x44800000#32
/-- The norm's small constant. -/
abbrev eps : EReal := Ideal.ofBits .f32 0x358637BD#32
/-- The factor of the reciprocal root's derivative, -1/2. -/
abbrev mhalf : EReal := Ideal.ofBits .f32 0xBF000000#32

/-- The row's mean square, the small constant added. -/
def var (x : Fin K → EReal) : EReal := Ideal.div (∑ k, x k * x k) len + eps

/-- Its reciprocal root. -/
def rs (x : Fin K → EReal) : EReal := Ideal.rsqrt (var x)

/-- The row's cotangent as the calls write it. -/
def dx (x g u : Fin K → EReal) (j : Fin K) : EReal :=
  rs x * (u j * g j - x j * rs x * Ideal.div (∑ k, u k * g k * (x k * rs x)) len)

/-- The cotangent of the row's squares, as the derivative of mean, root and product. -/
def sq (x g u : Fin K → EReal) : EReal :=
  Ideal.div ((∑ k, x k * (u k * g k)) * (mhalf * Ideal.div (rs x) (var x))) len

theorem len_eq : len = ((1024 : ℝ) : EReal) := by
  have : (1024 : ℝ) = 8388608 * (2 ^ 13 : ℝ)⁻¹ := by norm_num
  rw [this, EReal.coe_mul]
  simp [len, Ideal.ofBits, Ideal.ieee]

theorem mhalf_eq : mhalf = ((-(1 / 2) : ℝ) : EReal) := by
  have : (-(1 / 2) : ℝ) = -(8388608 * (2 ^ 24 : ℝ)⁻¹) := by norm_num
  rw [this, EReal.coe_neg, EReal.coe_mul]
  simp [mhalf, Ideal.ofBits, Ideal.ieee]

theorem eps_eq : ∃ e : ℝ, 0 < e ∧ eps = (e : EReal) := by
  refine ⟨8796093 * (2 ^ 43 : ℝ)⁻¹, by positivity, ?_⟩
  rw [EReal.coe_mul]
  simp [eps, Ideal.ofBits, Ideal.ieee]

/-- On a real row the mean square is a positive real number, and the reciprocal root its real one. -/
theorem var_real (x : Fin K → ℝ) : ∃ v : ℝ, 0 < v ∧ var (fun k => (x k : EReal)) = v ∧ rs (fun k => (x k : EReal)) = ((Real.sqrt v)⁻¹ : ℝ) := by
  obtain ⟨e, he, hE⟩ := eps_eq
  have hv : var (fun k => (x k : EReal)) = (((∑ k, x k * x k) * (1 / 1024) + e : ℝ) : EReal) := by
    unfold var
    rw [hE, len_eq, Ideal.div_coe (by norm_num), EReal.coe_add, EReal.coe_mul, coe_sum]
    simp only [EReal.coe_mul]
  have hp : 0 < (∑ k, x k * x k) * (1 / 1024) + e := by
    have := Finset.sum_nonneg fun k (_ : k ∈ Finset.univ) => mul_self_nonneg (x k)
    positivity
  refine ⟨_, hp, hv, ?_⟩
  unfold rs
  rw [hv, Ideal.rsqrt_coe, if_neg hp.not_gt, if_neg hp.ne']

/-- The two ways to write the row's cotangent agree on real numbers. -/
theorem dx_eq {x g u : Fin K → EReal} (hx : ∀ k, IsReal (x k)) (hg : ∀ k, IsReal (g k)) (hu : ∀ k, IsReal (u k)) (j : Fin K) :
    dx x g u j = u j * g j * rs x + (x j * sq x g u + x j * sq x g u) := by
  choose a ha using hx
  choose b hb using hg
  choose d hd using hu
  obtain rfl : x = fun k => (a k : EReal) := funext ha
  obtain rfl : g = fun k => (b k : EReal) := funext hb
  obtain rfl : u = fun k => (d k : EReal) := funext hd
  obtain ⟨v, hp, hv, hr⟩ := var_real a
  unfold dx sq
  rw [hv, hr, len_eq, mhalf_eq, Ideal.div_coe (by norm_num), Ideal.div_coe hp.ne', Ideal.div_coe (by norm_num)]
  simp only [← EReal.coe_mul]
  rw [← coe_sum, ← coe_sum]
  simp only [← EReal.coe_mul, ← EReal.coe_sub, ← EReal.coe_add]
  congr 1
  have h1 : ∑ k, d k * b k * (a k * (Real.sqrt v)⁻¹) = (∑ k, a k * (d k * b k)) * (Real.sqrt v)⁻¹ := by
    rw [Finset.sum_mul]
    exact Finset.sum_congr rfl fun k _ => by ring
  have hs : (Real.sqrt v) * (Real.sqrt v) = v := Real.mul_self_sqrt hp.le
  have hs0 : Real.sqrt v ≠ 0 := (Real.sqrt_pos.mpr hp).ne'
  rw [h1]
  generalize ∑ k, a k * (d k * b k) = S
  generalize Real.sqrt v = s at *
  subst hs
  field_simp
  ring

/-- The row's cotangent as the derivative of the forward lines sums it: the residual's, the scaled one and the squares'. -/
def rdx (res x g u : Fin K → EReal) (j : Fin K) : EReal :=
  res j + u j * g j * rs x + x j * (∑ _k : Fin 1, sq x g u) + (∑ _k : Fin 1, sq x g u) * x j

theorem rdx_eq {x g u : Fin K → EReal} (hx : ∀ k, IsReal (x k)) (hg : ∀ k, IsReal (g k)) (hu : ∀ k, IsReal (u k)) (res : Fin K → EReal)
    (j : Fin K) : res j + dx x g u j = rdx res x g u j := by
  rw [dx_eq hx hg hu]
  unfold rdx
  simp only [Fin.sum_univ_one]
  rw [mul_comm (sq x g u) (x j), add_assoc, add_assoc, ← add_assoc (u j * g j * rs x)]

/-- Products of real rows are real. -/
theorem du_real {R J : ℕ} {d : Fin R → Fin J → EReal} {w : Fin K → Fin J → EReal} (hd : ∀ n l, IsReal (d n l)) (hw : ∀ k l, IsReal (w k l))
    (n k) : IsReal (du d w n k) :=
  IsReal.sum _ fun l => (hd _ _).mul (hw _ _)

end Cert.Norm

end
-- ==== Proof.CqClaim.lean ====
/-
  The gradient of the norm in front of the cross attention, fused with the product with `w_cq`: what each array of
  the call ends with as a plain formula of the arguments, the same of the reference's results, and their equality on
  arguments that are real numbers.
-/
module

public import proofs.«01_k».proof.Proof.Gen.CqProjIdeal.Value
public import proofs.«01_k».proof.Proof.Gen.CqProjRefIdeal.Run
public import proofs.«01_k».proof.Defs
public import proofs.«01_k».proof.Proof.Gen.CqProjIdeal
public import proofs.«01_k».proof.Proof.Gen.CqProjRefIdeal
public import proofs.«01_k».proof.Proof.Gen.Pre_pre_cqb
public import proofs.«01_k».proof.Proof.NormRow
public import Idealize.ShloMosaic.Lib.Pipeline.ValueKit
public import Idealize.ShloMosaic.Lib.Pointwise
public import Idealize.ShloMosaic.Lib.Claim

@[expose] public section

set_option maxRecDepth 16384

noncomputable section

namespace Cert.CqProjIdeal.Val

open Idealize.ShloMosaic Idealize.ShloMosaic.TcCoe Idealize.SL.Sem
open Idealize.ShloMosaic.Pipeline (Dat)
open Cert.CqProjIdeal Cert.CqProjIdeal.Gen
open Cert.Row (IsReal)
open Cert.Norm (rows du)

variable (m : (ℓ : Loc nD τ sig) → Buf (Elt Ideal) ℓ)

/-- The block of every operand at a grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0])

theorem pay2 (v0 v2 j0 j1) : k0_pay2 (F := Ideal) v0 v2 (ix2 j0 j1) = du (rows v0) (rows v2) j0 j1 := by
  unfold du rows
  pointwise [k0_pay2]

theorem pay3 (v5 j0 j1) : k0_pay3 (F := Ideal) v5 (ix2 j0 j1) = Norm.rs (rows v5 j0) := by
  unfold Norm.rs Norm.var rows
  pointwise [k0_pay3]

theorem pay4 (v5 j0 j1) : k0_pay4 (F := Ideal) v5 (ix2 j0 j1) = rows v5 j0 j1 * Norm.rs (rows v5 j0) := by
  unfold rows
  pointwise [k0_pay4, pay3]
  rfl

/-- A block's share of the weight's gradient. -/
theorem pay5 (v0 v2 v5 j0 j1) : k0_pay5 (F := Ideal) v0 v2 v5 (ix2 j0 j1)
    = ∑ n, du (rows v0) (rows v2) n j1 * (rows v5 n j1 * Norm.rs (rows v5 n)) := by
  pointwise [k0_pay5, pay2, pay4]

/-- The row's cotangent. -/
theorem pay6 (v0 v2 v5 v6 v7 j0 j1) : k0_pay6 (F := Ideal) v0 v2 v5 v6 v7 (ix2 j0 j1)
    = rows v7 j0 j1 + Norm.dx (rows v5 j0) (rows v6 0) (du (rows v0) (rows v2) j0) j1 := by
  unfold Norm.dx
  pointwise [k0_pay6, pay2, pay3, pay4]
  rfl

theorem pay1 (a b j0 j1) : k0_pay1 (F := Ideal) a b (ix2 j0 j1) = b (ix2 j0 j1) + a (ix2 j0 j1) := by pointwise [k0_pay1]

theorem outs5 (c : Dev nD) (t : Fin cfg0.N) (y) : (outsAt0 m c t.val t.isLt).1 y
    = k0_pay6 (iblk m c 0 t) (iblk m c 1 t) (iblk m c 2 t) (iblk m c 3 t) (iblk m c 4 t) y := by
  have hN : t.val < 16 := lt_of_lt_of_eq t.isLt N_0
  by_cases h : t.val % 16 = 0
  · rw [outsAt0_A m c t h (by omega)]; frame_out
  · rw [outsAt0_B m c t h (by omega)]; frame_out

theorem outs6A (c : Dev nD) (t : Fin cfg0.N) (h : t.val % 16 = 0) (y) : (outsAt0 m c t.val t.isLt).2 y
    = k0_pay5 (iblk m c 0 t) (iblk m c 1 t) (iblk m c 2 t) y := by
  have hN : t.val < 16 := lt_of_lt_of_eq t.isLt N_0
  rw [outsAt0_A m c t h (by omega)]; frame_out

theorem outs6B (c : Dev nD) (t : Fin cfg0.N) (h : ¬ t.val % 16 = 0) (y) : (outsAt0 m c t.val t.isLt).2 y
    = (outsAt0 m c (t.val - 1) (by omega)).2 y + k0_pay5 (iblk m c 0 t) (iblk m c 1 t) (iblk m c 2 t) y := by
  have hN : t.val < 16 := lt_of_lt_of_eq t.isLt N_0
  rw [outsAt0_B m c t h (by omega)]; frame_out; idx_vars y; exact pay1 ..

/-- The arguments of a launch, by the reference's names. -/
abbrev x1 (c : Dev nD) : FVec Ideal S8192x1024 .f32 := m ((c : Thread nD τ).loc main_arg0)
abbrev g (c : Dev nD) : FVec Ideal S1x1024 .f32 := m ((c : Thread nD τ).loc main_arg1)
abbrev w (c : Dev nD) : FVec Ideal S1024x1024 .f32 := m ((c : Thread nD τ).loc main_arg2)
abbrev dx2 (c : Dev nD) : FVec Ideal S8192x1024 .f32 := m ((c : Thread nD τ).loc main_arg3)
abbrev dc (c : Dev nD) : FVec Ideal S8192x1024 .f32 := m ((c : Thread nD τ).loc main_arg4)

/-- A grid point's blocks hold its rows of the arguments. -/
theorem blk_rows (c : Dev nD) (p : Fin cfg0.N) (x : Fin 512) (n : Fin 8192) (hn : (n : ℕ) = p.val * 512 + x) :
    rows (a := 512) (b := 1024) (iblk m c 0 p) x = rows (dc m c) n ∧ rows (a := 512) (b := 1024) (iblk m c 2 p) x = rows (x1 m c) n
      ∧ rows (a := 512) (b := 1024) (iblk m c 4 p) x = rows (dx2 m c) n := by
  refine ⟨?_, ?_, ?_⟩ <;> (funext j; unfold rows; blk_point [iblk, V, idx p])

theorem blk_whole (c : Dev nD) (p : Fin cfg0.N) : rows (a := 1024) (b := 1024) (iblk m c 1 p) = rows (w m c)
    ∧ rows (a := 1) (b := 1024) (iblk m c 3 p) = rows (g m c) := by
  refine ⟨?_, ?_⟩ <;> (funext i j; unfold rows; blk_point [iblk, V, idx p])

/-- The normed rows' cotangent of the launch's arguments. -/
abbrev dum (c : Dev nD) : Fin 8192 → Fin 1024 → EReal := du (rows (dc m c)) (rows (w m c))

/-- The residual stream's cotangent, whole. -/
theorem final5 (c : Dev nD) : (dats m 0 c).arrAt 5 (cfgs 0).N
    = (fun i => rows (dx2 m c) (i 0) (i 1) + Norm.dx (rows (x1 m c) (i 0)) (rows (g m c) 0) (dum m c (i 0)) (i 1) : FVec Ideal S8192x1024 .bf16) := by
  refine (dats m 0 c).arrAt_eq_of_covers 5 _ (by decide +kernel) fun t _ y => ?_
  blk_simp
  rw [after0_5, outs5]
  idx_vars y
  rw [pay6]
  obtain ⟨e1, e3⟩ := blk_whole m c t
  have hn : t.val * 512 + (y0 : ℕ) < 8192 := by have := lt_of_lt_of_eq t.isLt N_0; omega
  obtain ⟨e0, e2, e4⟩ := blk_rows m c t y0 ⟨t.val * 512 + y0, hn⟩ rfl
  have f0 : (((View.whole main_v3_0).slice (win0_5.rect t)).emb (ix2 y0 y1) 0) = (⟨t.val * 512 + y0, hn⟩ : Fin 8192) := Fin.ext (by blk_simp [idx t])
  have f1 : (((View.whole main_v3_0).slice (win0_5.rect t)).emb (ix2 y0 y1) 1) = (y1 : Fin 1024) := Fin.ext (by blk_simp [idx t])
  have e : du (rows (a := 512) (b := 1024) (iblk m c 0 t)) (rows (w m c)) y0 = dum m c ⟨t.val * 512 + y0, hn⟩ := by
    unfold dum du; rw [e0]
  rw [f0, f1, e1, e3, e2, e4, e]

/-- The norm's weight's gradient. -/
theorem final6 (c : Dev nD) : (dats m 0 c).arrAt 6 (cfgs 0).N
    = (fun i => ∑ n, dum m c n (i 1) * (rows (x1 m c) n (i 1) * Norm.rs (rows (x1 m c) n)) : FVec Ideal S1x1024 .f32) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0)
    (fun p j => k0_pay5 (iblk m c 0 p) (iblk m c 1 p) (iblk m c 2 p) j)
    (fun t h j => by rw [outs6A m c t h, zero_add])
    (fun t h j => outs6B m c t h j)
    (le_of_eq N_0) t0_15 rfl j, zero_add]
  idx_vars j
  simp only [pay5]
  refine Fin.sum_mul_add_congr fun p x hl => ?_
  obtain ⟨e1, e3⟩ := blk_whole m c p
  obtain ⟨e0, e2, e4⟩ := blk_rows m c p x ⟨_, hl⟩ rfl
  have e : du (rows (a := 512) (b := 1024) (iblk m c 0 p)) (rows (w m c)) x = dum m c ⟨_, hl⟩ := by
    unfold dum du; rw [e0]
  rw [e1, e, e2]

end Cert.CqProjIdeal.Val

namespace Cert.CqProjRefIdeal.Val

open Idealize.ShloMosaic Idealize.ShloMosaic.TcCoe Idealize.SL.Sem
open Cert.CqProjRefIdeal Cert.CqProjRefIdeal.Gen
open Cert.Norm (rows du)

variable (m : (ℓ : Loc nD τ sig) → Buf (Elt Ideal) ℓ)

/-- The reference's arguments. -/
abbrev x1 (c : Dev nD) : FVec Ideal S8192x1024 .f32 := m ((c : Thread nD τ).loc main_arg0)
abbrev g (c : Dev nD) : FVec Ideal S1x1024 .f32 := m ((c : Thread nD τ).loc main_arg1)
abbrev w (c : Dev nD) : FVec Ideal S1024x1024 .f32 := m ((c : Thread nD τ).loc main_arg2)
abbrev dx2 (c : Dev nD) : FVec Ideal S8192x1024 .f32 := m ((c : Thread nD τ).loc main_arg3)
abbrev dc (c : Dev nD) : FVec Ideal S8192x1024 .f32 := m ((c : Thread nD τ).loc main_arg4)

/-- The reference's first result: the residual stream's cotangent. -/
theorem out0 (c : Dev nD) (j0 j1) : (Value.res_out0 m c : FVec Ideal S8192x1024 .bf16) (ix2 j0 j1)
    = Norm.rdx (rows (dx2 m c) j0) (rows (x1 m c) j0) (rows (g m c) 0) (du (rows (dc m c)) (rows (w m c)) j0) j1 := by
  unfold Norm.rdx Norm.sq Norm.rs Norm.var rows du
  pointwise [Value.res_out0, Value.res_main_v37]

/-- The reference's second result, with its operations. -/
def dg (x : FVec Ideal S8192x1024 .f32) (w : FVec Ideal S1024x1024 .f32) (d : FVec Ideal S8192x1024 .f32) : FVec Ideal S1x1024 .f32 :=
  shapeCast _ (Host.reduceAdd (mulf (mulf x (broadcastInDim S8192x1024 ![0, 1] bcast_S8192x1_S8192x1024_0_1 (Host.rsqrt (addf (Host.divf
    (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))))))
    (Host.dotGeneral dot_S8192x1024_S1024x1024_S8192x1024_1_1_0_0_n_n none d w)) (constant S_ .f32 0x00000000#32) reducesTo_S8192x1024_S1024_d0 h_S_)
    shapeCasts_S1024_S1x1024

theorem dg_eq (x w d j0 j1) : dg x w d (ix2 j0 j1) = ∑ n, rows x n j1 * Norm.rs (rows x n) * du (rows d) (rows w) n j1 := by
  unfold Norm.rs Norm.var rows du
  pointwise [dg]

end Cert.CqProjRefIdeal.Val

namespace Cert.CqProjIdeal.Val

open Idealize.ShloMosaic Idealize.ShloMosaic.TcCoe Idealize.SL.Sem
open Cert.CqProjIdeal Cert.CqProjIdeal.Gen
open Cert.Row (IsReal)
open Cert.Norm (rows du)

/-- The precondition: the rows, the norm's weight, the product's weight and its cotangent are real numbers. -/
theorem real_of_pre (a0 a1 a2 a3 a4) : ((Cert.Pre_pre_cqb.fn (F := Ideal) a0 a1 a2 a3 a4).1 = (fun _ => 1#1) → ∀ n j, IsReal (rows a0 n j))
    ∧ ((Cert.Pre_pre_cqb.fn (F := Ideal) a0 a1 a2 a3 a4).2.1 = (fun _ => 1#1) → ∀ n j, IsReal (rows a1 n j))
    ∧ ((Cert.Pre_pre_cqb.fn (F := Ideal) a0 a1 a2 a3 a4).2.2.1 = (fun _ => 1#1) → ∀ n j, IsReal (rows a2 n j))
    ∧ ((Cert.Pre_pre_cqb.fn (F := Ideal) a0 a1 a2 a3 a4).2.2.2 = (fun _ => 1#1) → ∀ n j, IsReal (rows a4 n j)) := by
  refine ⟨fun h n j => ?_, fun h n j => ?_, fun h n j => ?_, fun h n j => ?_⟩ <;>
  · have := congrFun h (ix2 n j)
    pointwise [Cert.Pre_pre_cqb.fn] at this
    exact Row.isReal_of_test this

/-- On arguments that are real numbers the call and the derivative of the forward lines end with equal results. -/
theorem algebraic : Cert.algebraic_CqProjIdeal_CqProjRefIdeal_pre_pre_cqb := by
  intro m ρ m' ρ' hP hA
  refine ⟨fun c => (dats m 0 c).arrAt 5 (cfgs 0).N, fun c => (dats m 0 c).arrAt 6 (cfgs 0).N,
    Cert.CqProjIdeal.Value.run_blocks (F := Ideal) m ρ,
    (θ_run _ _ _).mono (fun r h c => ?_) (Cert.CqProjRefIdeal.Value.run (F := Ideal) m' ρ')⟩
  obtain ⟨a0, a1, a2, a3, a4⟩ := hA c
  obtain ⟨h0, h1, hk⟩ := h c
  obtain ⟨p0, p1, p2, p4⟩ := hP c
  have hr := real_of_pre (x1 m c) (g m c) (w m c) (dx2 m c) (dc m c)
  have e0 : CqProjRefIdeal.Val.x1 m' c = x1 m c := a0
  have e1 : CqProjRefIdeal.Val.g m' c = g m c := a1
  have e2 : CqProjRefIdeal.Val.w m' c = w m c := a2
  have e3 : CqProjRefIdeal.Val.dx2 m' c = dx2 m c := a3
  have e4 : CqProjRefIdeal.Val.dc m' c = dc m c := a4
  refine ⟨?_, ?_, hk⟩
  · rw [h0]
    beta_reduce
    rw [final5]
    funext i
    idx_vars i
    refine (CqProjRefIdeal.Val.out0 m' c i0 i1).trans ?_
    rw [e0, e1, e2, e3, e4]
    exact (Norm.rdx_eq (hr.1 p0 i0) (hr.2.1 p1 0) (Norm.du_real (hr.2.2.2 p4) (hr.2.2.1 p2) i0) _ i1).symm
  · rw [h1]
    refine (show _ = CqProjRefIdeal.Val.dg (CqProjRefIdeal.Val.x1 m' c) (CqProjRefIdeal.Val.w m' c) (CqProjRefIdeal.Val.dc m' c) from rfl).trans ?_
    rw [e0, e2, e4]
    beta_reduce
    rw [final6]
    funext i
    idx_vars i
    rw [CqProjRefIdeal.Val.dg_eq]
    exact (show (_ : EReal) = _ from Finset.sum_congr rfl fun n _ => mul_comm (G := EReal) _ _)

end Cert.CqProjIdeal.Val

end
-- ==== Proof.MlpNormClaim.lean ====
/-
  The gradient of the norm in front of the MLP, fused with the product with `w_up`: what each array of
  the call ends with as a plain formula of the arguments, the same of the reference's results, and their equality on
  arguments that are real numbers.
-/
module

public import proofs.«01_k».proof.Proof.Gen.MlpUpIdeal.Value
public import proofs.«01_k».proof.Proof.Gen.MlpUpRefIdeal.Run
public import proofs.«01_k».proof.Defs
public import proofs.«01_k».proof.Proof.Gen.MlpUpIdeal
public import proofs.«01_k».proof.Proof.Gen.MlpUpRefIdeal
public import proofs.«01_k».proof.Proof.Gen.Pre_pre_mub
public import proofs.«01_k».proof.Proof.NormRow
public import Idealize.ShloMosaic.Lib.Pipeline.ValueKit
public import Idealize.ShloMosaic.Lib.Pointwise
public import Idealize.ShloMosaic.Lib.Claim

@[expose] public section

set_option maxRecDepth 16384

noncomputable section

namespace Cert.MlpUpIdeal.Val

open Idealize.ShloMosaic Idealize.ShloMosaic.TcCoe Idealize.SL.Sem
open Idealize.ShloMosaic.Pipeline (Dat)
open Cert.MlpUpIdeal Cert.MlpUpIdeal.Gen
open Cert.Row (IsReal)
open Cert.Norm (rows du)

variable (m : (ℓ : Loc nD τ sig) → Buf (Elt Ideal) ℓ)

/-- The block of every operand at a grid point. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0])

/-- The normed rows' cotangent over a block: eight products, one a chunk of the contracted columns. -/
def dub (d : Vec Ideal S512x4096 .bf16) (w : Vec Ideal S8x1024x512 .bf16) : FVec Ideal S512x1024 .f32 :=
  k0_pay8
    (k0_pay5
      (View.ld d (Rect.unit ![0, 0] ![512, 512] inb_S512x4096_S512x512_0_0)) (View.ld w (Rect.unit ![0, 0, 0] ![1, 1024, 512] inb_S8x1024x512_S1x1024x512_0_0_0))
      (View.ld d (Rect.unit ![0, 512] ![512, 512] inb_S512x4096_S512x512_0_512)) (View.ld w (Rect.unit ![1, 0, 0] ![1, 1024, 512] inb_S8x1024x512_S1x1024x512_1_0_0))
      (View.ld d (Rect.unit ![0, 1024] ![512, 512] inb_S512x4096_S512x512_0_1024)) (View.ld w (Rect.unit ![2, 0, 0] ![1, 1024, 512] inb_S8x1024x512_S1x1024x512_2_0_0))
      (View.ld d (Rect.unit ![0, 1536] ![512, 512] inb_S512x4096_S512x512_0_1536)) (View.ld w (Rect.unit ![3, 0, 0] ![1, 1024, 512] inb_S8x1024x512_S1x1024x512_3_0_0)))
    (k0_pay6 (View.ld d (Rect.unit ![0, 2048] ![512, 512] inb_S512x4096_S512x512_0_2048))) (k0_pay7 (View.ld w (Rect.unit ![4, 0, 0] ![1, 1024, 512] inb_S8x1024x512_S1x1024x512_4_0_0))) (constant S512x1024 .f32 0#32)
    (View.ld d (Rect.unit ![0, 2560] ![512, 512] inb_S512x4096_S512x512_0_2560)) (View.ld w (Rect.unit ![5, 0, 0] ![1, 1024, 512] inb_S8x1024x512_S1x1024x512_5_0_0))
    (View.ld d (Rect.unit ![0, 3072] ![512, 512] inb_S512x4096_S512x512_0_3072)) (View.ld w (Rect.unit ![6, 0, 0] ![1, 1024, 512] inb_S8x1024x512_S1x1024x512_6_0_0))
    (View.ld d (Rect.unit ![0, 3584] ![512, 512] inb_S512x4096_S512x512_0_3584)) (View.ld w (Rect.unit ![7, 0, 0] ![1, 1024, 512] inb_S8x1024x512_S1x1024x512_7_0_0))

/-- The chunked weight, whole again: row `k`, column `l`. -/
def wrows (w : Vec Ideal S8x1024x512 .bf16) (k : Fin 1024) (l : Fin 4096) : EReal := w (ix3 ⟨(l : ℕ) / 512, by omega⟩ k ⟨(l : ℕ) % 512, Nat.mod_lt _ (by decide)⟩)

theorem dub_eq (d w j0 j1) : dub d w (ix2 j0 j1) = du (rows d) (wrows w) j0 j1 := by
  have h : dub d w (ix2 j0 j1) = ∑ p : Fin 8, ∑ x : Fin 512, d (ix2 j0 ⟨p * 512 + x, by omega⟩) * w (ix3 p j1 x) := by
    rw [Fin.sum_univ_eight]
    unfold dub
    pointwise [k0_pay8, k0_pay5, k0_pay6, k0_pay7]
  rw [h]
  unfold du rows wrows
  refine Fin.sum_mul_add_congr fun p x hl => ?_
  have e1 : (⟨((⟨p * 512 + x, hl⟩ : Fin 4096) : ℕ) / 512, by omega⟩ : Fin 8) = p := Fin.ext (by show ((p : ℕ) * 512 + x) / 512 = p; omega)
  have e2 : (⟨((⟨p * 512 + x, hl⟩ : Fin 4096) : ℕ) % 512, Nat.mod_lt _ (by decide)⟩ : Fin 512) = x := Fin.ext (by show ((p : ℕ) * 512 + x) % 512 = x; omega)
  rw [e1, e2]

theorem pay10 (v5 j0 j1) : k0_pay10 (F := Ideal) v5 (ix2 j0 j1) = Norm.rs (rows v5 j0) := by
  unfold Norm.rs Norm.var rows
  pointwise [k0_pay10]

theorem pay1 (v5 j0 j1) : k0_pay1 (F := Ideal) v5 (k0_pay11 v5) (ix2 j0 j1) = rows v5 j0 j1 * Norm.rs (rows v5 j0) := by
  unfold rows
  pointwise [k0_pay1, k0_pay11, pay10]
  rfl

/-- A block's share of the weight's gradient. -/
theorem pay2 (d w x j0 j1) : k0_pay2 (F := Ideal) (dub d w) x (k0_pay11 x) (ix2 j0 j1)
    = ∑ n, du (rows d) (wrows w) n j1 * (rows x n j1 * Norm.rs (rows x n)) := by
  pointwise [k0_pay2, dub_eq, pay1]

/-- The row's cotangent. -/
theorem pay3 (d w x g r j0 j1) : k0_pay3 (F := Ideal) (dub d w) x g (k0_pay9 r) (k0_pay10 x) (k0_pay11 x) (ix2 j0 j1)
    = rows r j0 j1 + Norm.dx (rows x j0) (rows g 0) (du (rows d) (wrows w) j0) j1 := by
  unfold Norm.dx
  pointwise [k0_pay3, dub_eq, pay10, pay1, k0_pay9]
  rfl

theorem pay4 (a x r b j0 j1) : k0_pay4 (F := Ideal) a x r b (ix2 j0 j1) = b (ix2 j0 j1) + k0_pay2 a x r (ix2 j0 j1) := by pointwise [k0_pay4]

theorem outs5 (c : Dev nD) (t : Fin cfg0.N) (y) : (outsAt0 m c t.val t.isLt).1 y
    = k0_pay3 (dub (iblk m c 0 t) (iblk m c 1 t)) (iblk m c 2 t) (iblk m c 3 t) (k0_pay9 (iblk m c 4 t)) (k0_pay10 (iblk m c 2 t)) (k0_pay11 (iblk m c 2 t)) y := by
  have hN : t.val < 16 := lt_of_lt_of_eq t.isLt N_0
  by_cases h : t.val % 16 = 0
  · rw [outsAt0_A m c t h (by omega)]; frame_out; rfl
  · rw [outsAt0_B m c t h (by omega)]; frame_out; rfl

theorem outs6A (c : Dev nD) (t : Fin cfg0.N) (h : t.val % 16 = 0) (y) : (outsAt0 m c t.val t.isLt).2 y
    = k0_pay2 (dub (iblk m c 0 t) (iblk m c 1 t)) (iblk m c 2 t) (k0_pay11 (iblk m c 2 t)) y := by
  have hN : t.val < 16 := lt_of_lt_of_eq t.isLt N_0
  rw [outsAt0_A m c t h (by omega)]; frame_out; rfl

theorem outs6B (c : Dev nD) (t : Fin cfg0.N) (h : ¬ t.val % 16 = 0) (y) : (outsAt0 m c t.val t.isLt).2 y
    = (outsAt0 m c (t.val - 1) (by omega)).2 y + k0_pay2 (dub (iblk m c 0 t) (iblk m c 1 t)) (iblk m c 2 t) (k0_pay11 (iblk m c 2 t)) y := by
  have hN : t.val < 16 := lt_of_lt_of_eq t.isLt N_0
  rw [outsAt0_B m c t h (by omega)]; frame_out; idx_vars y; exact pay4 ..

/-- The arguments of a launch, by the reference's names. -/
abbrev x1 (c : Dev nD) : FVec Ideal S8192x1024 .f32 := m ((c : Thread nD τ).loc main_arg0)
abbrev g (c : Dev nD) : FVec Ideal S1x1024 .f32 := m ((c : Thread nD τ).loc main_arg1)
abbrev w (c : Dev nD) : FVec Ideal S1024x4096 .f32 := m ((c : Thread nD τ).loc main_arg2)
abbrev dx2 (c : Dev nD) : FVec Ideal S8192x1024 .f32 := m ((c : Thread nD τ).loc main_arg3)
abbrev dc (c : Dev nD) : FVec Ideal S8192x4096 .f32 := m ((c : Thread nD τ).loc main_arg4)

/-- A grid point's blocks hold its rows of the arguments. -/
theorem blk_rows (c : Dev nD) (p : Fin cfg0.N) (x : Fin 512) (n : Fin 8192) (hn : (n : ℕ) = p.val * 512 + x) :
    rows (a := 512) (b := 4096) (iblk m c 0 p) x = rows (dc m c) n ∧ rows (a := 512) (b := 1024) (iblk m c 2 p) x = rows (x1 m c) n
      ∧ rows (a := 512) (b := 1024) (iblk m c 4 p) x = rows (dx2 m c) n := by
  refine ⟨?_, ?_, ?_⟩ <;> (funext j; unfold rows; blk_point [iblk, V, idx p])

theorem blk_whole (c : Dev nD) (p : Fin cfg0.N) : wrows (iblk m c 1 p) = rows (w m c)
    ∧ rows (a := 1) (b := 1024) (iblk m c 3 p) = rows (g m c) := by
  refine ⟨?_, ?_⟩
  · funext i j
    unfold wrows rows
    blk_point [iblk, V, idx p]
  · funext i j
    unfold rows
    blk_point [iblk, V, idx p]

/-- The normed rows' cotangent of the launch's arguments. -/
abbrev dum (c : Dev nD) : Fin 8192 → Fin 1024 → EReal := du (rows (dc m c)) (rows (w m c))

/-- The residual stream's cotangent, whole. -/
theorem final5 (c : Dev nD) : (dats m 0 c).arrAt 5 (cfgs 0).N
    = (fun i => rows (dx2 m c) (i 0) (i 1) + Norm.dx (rows (x1 m c) (i 0)) (rows (g m c) 0) (dum m c (i 0)) (i 1) : FVec Ideal S8192x1024 .bf16) := by
  refine (dats m 0 c).arrAt_eq_of_covers 5 _ (by decide +kernel) fun t _ y => ?_
  blk_simp
  rw [after0_5, outs5]
  idx_vars y
  rw [pay3]
  obtain ⟨e1, e3⟩ := blk_whole m c t
  have hn : t.val * 512 + (y0 : ℕ) < 8192 := by have := lt_of_lt_of_eq t.isLt N_0; omega
  obtain ⟨e0, e2, e4⟩ := blk_rows m c t y0 ⟨t.val * 512 + y0, hn⟩ rfl
  have f0 : (((View.whole main_v5_0).slice (win0_5.rect t)).emb (ix2 y0 y1) 0) = (⟨t.val * 512 + y0, hn⟩ : Fin 8192) := Fin.ext (by blk_simp [idx t])
  have f1 : (((View.whole main_v5_0).slice (win0_5.rect t)).emb (ix2 y0 y1) 1) = (y1 : Fin 1024) := Fin.ext (by blk_simp [idx t])
  have e : du (rows (a := 512) (b := 4096) (iblk m c 0 t)) (rows (w m c)) y0 = dum m c ⟨t.val * 512 + y0, hn⟩ := by
    unfold dum du; rw [e0]
  rw [f0, f1, e1, e3, e2, e4, e]

/-- The norm's weight's gradient. -/
theorem final6 (c : Dev nD) : (dats m 0 c).arrAt 6 (cfgs 0).N
    = (fun i => ∑ n, dum m c n (i 1) * (rows (x1 m c) n (i 1) * Norm.rs (rows (x1 m c) n)) : FVec Ideal S1x1024 .f32) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0)
    (fun p j => k0_pay2 (dub (iblk m c 0 p) (iblk m c 1 p)) (iblk m c 2 p) (k0_pay11 (iblk m c 2 p)) j)
    (fun t h j => by rw [outs6A m c t h, zero_add])
    (fun t h j => outs6B m c t h j)
    (le_of_eq N_0) t0_15 rfl j, zero_add]
  idx_vars j
  simp only [pay2]
  refine Fin.sum_mul_add_congr fun p x hl => ?_
  obtain ⟨e1, e3⟩ := blk_whole m c p
  obtain ⟨e0, e2, e4⟩ := blk_rows m c p x ⟨_, hl⟩ rfl
  have e : du (rows (a := 512) (b := 4096) (iblk m c 0 p)) (rows (w m c)) x = dum m c ⟨_, hl⟩ := by
    unfold dum du; rw [e0]
  rw [e1, e, e2]

end Cert.MlpUpIdeal.Val

namespace Cert.MlpUpRefIdeal.Val

open Idealize.ShloMosaic Idealize.ShloMosaic.TcCoe Idealize.SL.Sem
open Cert.MlpUpRefIdeal Cert.MlpUpRefIdeal.Gen
open Cert.Norm (rows du)

variable (m : (ℓ : Loc nD τ sig) → Buf (Elt Ideal) ℓ)

/-- The reference's arguments. -/
abbrev x1 (c : Dev nD) : FVec Ideal S8192x1024 .f32 := m ((c : Thread nD τ).loc main_arg0)
abbrev g (c : Dev nD) : FVec Ideal S1x1024 .f32 := m ((c : Thread nD τ).loc main_arg1)
abbrev w (c : Dev nD) : FVec Ideal S1024x4096 .f32 := m ((c : Thread nD τ).loc main_arg2)
abbrev dx2 (c : Dev nD) : FVec Ideal S8192x1024 .f32 := m ((c : Thread nD τ).loc main_arg3)
abbrev dc (c : Dev nD) : FVec Ideal S8192x4096 .f32 := m ((c : Thread nD τ).loc main_arg4)

/-- The reference's first result: the residual stream's cotangent. -/
theorem out0 (c : Dev nD) (j0 j1) : (Value.res_out0 m c : FVec Ideal S8192x1024 .bf16) (ix2 j0 j1)
    = Norm.rdx (rows (dx2 m c) j0) (rows (x1 m c) j0) (rows (g m c) 0) (du (rows (dc m c)) (rows (w m c)) j0) j1 := by
  unfold Norm.rdx Norm.sq Norm.rs Norm.var rows du
  pointwise [Value.res_out0, Value.res_main_v37]

/-- The reference's second result, with its operations. -/
def dg (x : FVec Ideal S8192x1024 .f32) (w : FVec Ideal S1024x4096 .f32) (d : FVec Ideal S8192x4096 .f32) : FVec Ideal S1x1024 .f32 :=
  shapeCast _ (Host.reduceAdd (mulf (mulf x (broadcastInDim S8192x1024 ![0, 1] bcast_S8192x1_S8192x1024_0_1 (Host.rsqrt (addf (Host.divf
    (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))))))
    (Host.dotGeneral dot_S8192x4096_S1024x4096_S8192x1024_1_1_0_0_n_n none d w)) (constant S_ .f32 0x00000000#32) reducesTo_S8192x1024_S1024_d0 h_S_)
    shapeCasts_S1024_S1x1024

theorem dg_eq (x w d j0 j1) : dg x w d (ix2 j0 j1) = ∑ n, rows x n j1 * Norm.rs (rows x n) * du (rows d) (rows w) n j1 := by
  unfold Norm.rs Norm.var rows du
  pointwise [dg]

end Cert.MlpUpRefIdeal.Val

namespace Cert.MlpUpIdeal.Val

open Idealize.ShloMosaic Idealize.ShloMosaic.TcCoe Idealize.SL.Sem
open Cert.MlpUpIdeal Cert.MlpUpIdeal.Gen
open Cert.Row (IsReal)
open Cert.Norm (rows du)

/-- The precondition: the rows, the norm's weight, the product's weight and its cotangent are real numbers. -/
theorem real_of_pre (a0 a1 a2 a3 a4) : ((Cert.Pre_pre_mub.fn (F := Ideal) a0 a1 a2 a3 a4).1 = (fun _ => 1#1) → ∀ n j, IsReal (rows a0 n j))
    ∧ ((Cert.Pre_pre_mub.fn (F := Ideal) a0 a1 a2 a3 a4).2.1 = (fun _ => 1#1) → ∀ n j, IsReal (rows a1 n j))
    ∧ ((Cert.Pre_pre_mub.fn (F := Ideal) a0 a1 a2 a3 a4).2.2.1 = (fun _ => 1#1) → ∀ n j, IsReal (rows a2 n j))
    ∧ ((Cert.Pre_pre_mub.fn (F := Ideal) a0 a1 a2 a3 a4).2.2.2 = (fun _ => 1#1) → ∀ n j, IsReal (rows a4 n j)) := by
  refine ⟨fun h n j => ?_, fun h n j => ?_, fun h n j => ?_, fun h n j => ?_⟩ <;>
  · have := congrFun h (ix2 n j)
    pointwise [Cert.Pre_pre_mub.fn] at this
    exact Row.isReal_of_test this

/-- On arguments that are real numbers the call and the derivative of the forward lines end with equal results. -/
theorem algebraic : Cert.algebraic_MlpUpIdeal_MlpUpRefIdeal_pre_pre_mub := by
  intro m ρ m' ρ' hP hA
  refine ⟨fun c => (dats m 0 c).arrAt 5 (cfgs 0).N, fun c => (dats m 0 c).arrAt 6 (cfgs 0).N,
    Cert.MlpUpIdeal.Value.run_blocks (F := Ideal) m ρ,
    (θ_run _ _ _).mono (fun r h c => ?_) (Cert.MlpUpRefIdeal.Value.run (F := Ideal) m' ρ')⟩
  obtain ⟨a0, a1, a2, a3, a4⟩ := hA c
  obtain ⟨h0, h1, hk⟩ := h c
  obtain ⟨p0, p1, p2, p4⟩ := hP c
  have hr := real_of_pre (x1 m c) (g m c) (w m c) (dx2 m c) (dc m c)
  have e0 : MlpUpRefIdeal.Val.x1 m' c = x1 m c := a0
  have e1 : MlpUpRefIdeal.Val.g m' c = g m c := a1
  have e2 : MlpUpRefIdeal.Val.w m' c = w m c := a2
  have e3 : MlpUpRefIdeal.Val.dx2 m' c = dx2 m c := a3
  have e4 : MlpUpRefIdeal.Val.dc m' c = dc m c := a4
  refine ⟨?_, ?_, hk⟩
  · rw [h0]
    beta_reduce
    rw [final5]
    funext i
    idx_vars i
    refine (MlpUpRefIdeal.Val.out0 m' c i0 i1).trans ?_
    rw [e0, e1, e2, e3, e4]
    exact (Norm.rdx_eq (hr.1 p0 i0) (hr.2.1 p1 0) (Norm.du_real (hr.2.2.2 p4) (hr.2.2.1 p2) i0) _ i1).symm
  · rw [h1]
    refine (show _ = MlpUpRefIdeal.Val.dg (MlpUpRefIdeal.Val.x1 m' c) (MlpUpRefIdeal.Val.w m' c) (MlpUpRefIdeal.Val.dc m' c) from rfl).trans ?_
    rw [e0, e2, e4]
    beta_reduce
    rw [final6]
    funext i
    idx_vars i
    rw [MlpUpRefIdeal.Val.dg_eq]
    exact (show (_ : EReal) = _ from Finset.sum_congr rfl fun n _ => mul_comm (G := EReal) _ _)

end Cert.MlpUpIdeal.Val

end
-- ==== Proof.InClaim.lean ====
/-
  The gradient of the first norm, fused with the product with `w_in`: what each array of
  the call ends with as a plain formula of the arguments, the same of the reference's results, and their equality on
  arguments that are real numbers.
-/
module

public import proofs.«01_k».proof.Proof.Gen.InProjIdeal.Value
public import proofs.«01_k».proof.Proof.Gen.InProjRefIdeal.Run
public import proofs.«01_k».proof.Defs
public import proofs.«01_k».proof.Proof.Gen.InProjIdeal
public import proofs.«01_k».proof.Proof.Gen.InProjRefIdeal
public import proofs.«01_k».proof.Proof.Gen.Pre_pre_ipb
public import proofs.«01_k».proof.Proof.NormRow
public import Idealize.ShloMosaic.Lib.Pipeline.ValueKit
public import Idealize.ShloMosaic.Lib.Pointwise
public import Idealize.ShloMosaic.Lib.Claim

@[expose] public section

set_option maxRecDepth 16384

noncomputable section

namespace Cert.InProjIdeal.Val

open Idealize.ShloMosaic Idealize.ShloMosaic.TcCoe Idealize.SL.Sem
open Idealize.ShloMosaic.Pipeline (Dat)
open Cert.InProjIdeal Cert.InProjIdeal.Gen
open Cert.Row (IsReal)
open Cert.Norm (rows du)

variable (m : (ℓ : Loc nD τ sig) → Buf (Elt Ideal) ℓ)

/-- The block of every operand at a grid point. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0])

/-- The normed rows' cotangent over a block: eight products, one a chunk of the contracted columns. -/
def dub (d : Vec Ideal S512x8192 .bf16) (w : Vec Ideal S8x1024x1024 .bf16) : FVec Ideal S512x1024 .f32 :=
  k0_pay8
    (k0_pay5
      (View.ld d (Rect.unit ![0, 0] ![512, 1024] inb_S512x8192_S512x1024_0_0)) (View.ld w (Rect.unit ![0, 0, 0] ![1, 1024, 1024] inb_S8x1024x1024_S1x1024x1024_0_0_0))
      (View.ld d (Rect.unit ![0, 1024] ![512, 1024] inb_S512x8192_S512x1024_0_1024)) (View.ld w (Rect.unit ![1, 0, 0] ![1, 1024, 1024] inb_S8x1024x1024_S1x1024x1024_1_0_0))
      (View.ld d (Rect.unit ![0, 2048] ![512, 1024] inb_S512x8192_S512x1024_0_2048)) (View.ld w (Rect.unit ![2, 0, 0] ![1, 1024, 1024] inb_S8x1024x1024_S1x1024x1024_2_0_0))
      (View.ld d (Rect.unit ![0, 3072] ![512, 1024] inb_S512x8192_S512x1024_0_3072)) (View.ld w (Rect.unit ![3, 0, 0] ![1, 1024, 1024] inb_S8x1024x1024_S1x1024x1024_3_0_0)))
    (k0_pay6 (View.ld d (Rect.unit ![0, 4096] ![512, 1024] inb_S512x8192_S512x1024_0_4096))) (k0_pay7 (View.ld w (Rect.unit ![4, 0, 0] ![1, 1024, 1024] inb_S8x1024x1024_S1x1024x1024_4_0_0))) (constant S512x1024 .f32 0#32)
    (View.ld d (Rect.unit ![0, 5120] ![512, 1024] inb_S512x8192_S512x1024_0_5120)) (View.ld w (Rect.unit ![5, 0, 0] ![1, 1024, 1024] inb_S8x1024x1024_S1x1024x1024_5_0_0))
    (View.ld d (Rect.unit ![0, 6144] ![512, 1024] inb_S512x8192_S512x1024_0_6144)) (View.ld w (Rect.unit ![6, 0, 0] ![1, 1024, 1024] inb_S8x1024x1024_S1x1024x1024_6_0_0))
    (View.ld d (Rect.unit ![0, 7168] ![512, 1024] inb_S512x8192_S512x1024_0_7168)) (View.ld w (Rect.unit ![7, 0, 0] ![1, 1024, 1024] inb_S8x1024x1024_S1x1024x1024_7_0_0))

/-- The chunked weight, whole again: row `k`, column `l`. -/
def wrows (w : Vec Ideal S8x1024x1024 .bf16) (k : Fin 1024) (l : Fin 8192) : EReal := w (ix3 ⟨(l : ℕ) / 1024, by omega⟩ k ⟨(l : ℕ) % 1024, Nat.mod_lt _ (by decide)⟩)

theorem dub_eq (d w j0 j1) : dub d w (ix2 j0 j1) = du (rows d) (wrows w) j0 j1 := by
  have h : dub d w (ix2 j0 j1) = ∑ p : Fin 8, ∑ x : Fin 1024, d (ix2 j0 ⟨p * 1024 + x, by omega⟩) * w (ix3 p j1 x) := by
    rw [Fin.sum_univ_eight]
    unfold dub
    pointwise [k0_pay8, k0_pay5, k0_pay6, k0_pay7]
  rw [h]
  unfold du rows wrows
  refine Fin.sum_mul_add_congr fun p x hl => ?_
  have e1 : (⟨((⟨p * 1024 + x, hl⟩ : Fin 8192) : ℕ) / 1024, by omega⟩ : Fin 8) = p := Fin.ext (by show ((p : ℕ) * 1024 + x) / 1024 = p; omega)
  have e2 : (⟨((⟨p * 1024 + x, hl⟩ : Fin 8192) : ℕ) % 1024, Nat.mod_lt _ (by decide)⟩ : Fin 1024) = x := Fin.ext (by show ((p : ℕ) * 1024 + x) % 1024 = x; omega)
  rw [e1, e2]

theorem pay10 (v5 j0 j1) : k0_pay10 (F := Ideal) v5 (ix2 j0 j1) = Norm.rs (rows v5 j0) := by
  unfold Norm.rs Norm.var rows
  pointwise [k0_pay10]

theorem pay1 (v5 j0 j1) : k0_pay1 (F := Ideal) v5 (k0_pay11 v5) (ix2 j0 j1) = rows v5 j0 j1 * Norm.rs (rows v5 j0) := by
  unfold rows
  pointwise [k0_pay1, k0_pay11, pay10]
  rfl

/-- A block's share of the weight's gradient. -/
theorem pay2 (d w x j0 j1) : k0_pay2 (F := Ideal) (dub d w) x (k0_pay11 x) (ix2 j0 j1)
    = ∑ n, du (rows d) (wrows w) n j1 * (rows x n j1 * Norm.rs (rows x n)) := by
  pointwise [k0_pay2, dub_eq, pay1]

/-- The row's cotangent. -/
theorem pay3 (d w x g r j0 j1) : k0_pay3 (F := Ideal) (dub d w) x g (k0_pay9 r) (k0_pay10 x) (k0_pay11 x) (ix2 j0 j1)
    = rows r j0 j1 + Norm.dx (rows x j0) (rows g 0) (du (rows d) (wrows w) j0) j1 := by
  unfold Norm.dx
  pointwise [k0_pay3, dub_eq, pay10, pay1, k0_pay9]
  rfl

theorem pay4 (a x r b j0 j1) : k0_pay4 (F := Ideal) a x r b (ix2 j0 j1) = b (ix2 j0 j1) + k0_pay2 a x r (ix2 j0 j1) := by pointwise [k0_pay4]

theorem outs5 (c : Dev nD) (t : Fin cfg0.N) (y) : (outsAt0 m c t.val t.isLt).1 y
    = k0_pay3 (dub (iblk m c 0 t) (iblk m c 1 t)) (iblk m c 2 t) (iblk m c 3 t) (k0_pay9 (iblk m c 4 t)) (k0_pay10 (iblk m c 2 t)) (k0_pay11 (iblk m c 2 t)) y := by
  have hN : t.val < 16 := lt_of_lt_of_eq t.isLt N_0
  by_cases h : t.val % 16 = 0
  · rw [outsAt0_A m c t h (by omega)]; frame_out; rfl
  · rw [outsAt0_B m c t h (by omega)]; frame_out; rfl

theorem outs6A (c : Dev nD) (t : Fin cfg0.N) (h : t.val % 16 = 0) (y) : (outsAt0 m c t.val t.isLt).2 y
    = k0_pay2 (dub (iblk m c 0 t) (iblk m c 1 t)) (iblk m c 2 t) (k0_pay11 (iblk m c 2 t)) y := by
  have hN : t.val < 16 := lt_of_lt_of_eq t.isLt N_0
  rw [outsAt0_A m c t h (by omega)]; frame_out; rfl

theorem outs6B (c : Dev nD) (t : Fin cfg0.N) (h : ¬ t.val % 16 = 0) (y) : (outsAt0 m c t.val t.isLt).2 y
    = (outsAt0 m c (t.val - 1) (by omega)).2 y + k0_pay2 (dub (iblk m c 0 t) (iblk m c 1 t)) (iblk m c 2 t) (k0_pay11 (iblk m c 2 t)) y := by
  have hN : t.val < 16 := lt_of_lt_of_eq t.isLt N_0
  rw [outsAt0_B m c t h (by omega)]; frame_out; idx_vars y; exact pay4 ..

/-- The arguments of a launch, by the reference's names. -/
abbrev x1 (c : Dev nD) : FVec Ideal S8192x1024 .f32 := m ((c : Thread nD τ).loc main_arg0)
abbrev g (c : Dev nD) : FVec Ideal S1x1024 .f32 := m ((c : Thread nD τ).loc main_arg1)
abbrev w (c : Dev nD) : FVec Ideal S1024x8192 .f32 := m ((c : Thread nD τ).loc main_arg2)
abbrev dx2 (c : Dev nD) : FVec Ideal S8192x1024 .f32 := m ((c : Thread nD τ).loc main_arg3)
abbrev dc (c : Dev nD) : FVec Ideal S8192x8192 .f32 := m ((c : Thread nD τ).loc main_arg4)

/-- A grid point's blocks hold its rows of the arguments. -/
theorem blk_rows (c : Dev nD) (p : Fin cfg0.N) (x : Fin 512) (n : Fin 8192) (hn : (n : ℕ) = p.val * 512 + x) :
    rows (a := 512) (b := 8192) (iblk m c 0 p) x = rows (dc m c) n ∧ rows (a := 512) (b := 1024) (iblk m c 2 p) x = rows (x1 m c) n
      ∧ rows (a := 512) (b := 1024) (iblk m c 4 p) x = rows (dx2 m c) n := by
  refine ⟨?_, ?_, ?_⟩ <;> (funext j; unfold rows; blk_point [iblk, V, idx p])

theorem blk_whole (c : Dev nD) (p : Fin cfg0.N) : wrows (iblk m c 1 p) = rows (w m c)
    ∧ rows (a := 1) (b := 1024) (iblk m c 3 p) = rows (g m c) := by
  refine ⟨?_, ?_⟩
  · funext i j
    unfold wrows rows
    blk_point [iblk, V, idx p]
  · funext i j
    unfold rows
    blk_point [iblk, V, idx p]

/-- The normed rows' cotangent of the launch's arguments. -/
abbrev dum (c : Dev nD) : Fin 8192 → Fin 1024 → EReal := du (rows (dc m c)) (rows (w m c))

/-- The residual stream's cotangent, whole. -/
theorem final5 (c : Dev nD) : (dats m 0 c).arrAt 5 (cfgs 0).N
    = (fun i => rows (dx2 m c) (i 0) (i 1) + Norm.dx (rows (x1 m c) (i 0)) (rows (g m c) 0) (dum m c (i 0)) (i 1) : FVec Ideal S8192x1024 .f32) := by
  refine (dats m 0 c).arrAt_eq_of_covers 5 _ (by decide +kernel) fun t _ y => ?_
  blk_simp
  rw [after0_5, outs5]
  idx_vars y
  rw [pay3]
  obtain ⟨e1, e3⟩ := blk_whole m c t
  have hn : t.val * 512 + (y0 : ℕ) < 8192 := by have := lt_of_lt_of_eq t.isLt N_0; omega
  obtain ⟨e0, e2, e4⟩ := blk_rows m c t y0 ⟨t.val * 512 + y0, hn⟩ rfl
  have f0 : (((View.whole main_v5_0).slice (win0_5.rect t)).emb (ix2 y0 y1) 0) = (⟨t.val * 512 + y0, hn⟩ : Fin 8192) := Fin.ext (by blk_simp [idx t])
  have f1 : (((View.whole main_v5_0).slice (win0_5.rect t)).emb (ix2 y0 y1) 1) = (y1 : Fin 1024) := Fin.ext (by blk_simp [idx t])
  have e : du (rows (a := 512) (b := 8192) (iblk m c 0 t)) (rows (w m c)) y0 = dum m c ⟨t.val * 512 + y0, hn⟩ := by
    unfold dum du; rw [e0]
  rw [f0, f1, e1, e3, e2, e4, e]

/-- The norm's weight's gradient. -/
theorem final6 (c : Dev nD) : (dats m 0 c).arrAt 6 (cfgs 0).N
    = (fun i => ∑ n, dum m c n (i 1) * (rows (x1 m c) n (i 1) * Norm.rs (rows (x1 m c) n)) : FVec Ideal S1x1024 .f32) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0)
    (fun p j => k0_pay2 (dub (iblk m c 0 p) (iblk m c 1 p)) (iblk m c 2 p) (k0_pay11 (iblk m c 2 p)) j)
    (fun t h j => by rw [outs6A m c t h, zero_add])
    (fun t h j => outs6B m c t h j)
    (le_of_eq N_0) t0_15 rfl j, zero_add]
  idx_vars j
  simp only [pay2]
  refine Fin.sum_mul_add_congr fun p x hl => ?_
  obtain ⟨e1, e3⟩ := blk_whole m c p
  obtain ⟨e0, e2, e4⟩ := blk_rows m c p x ⟨_, hl⟩ rfl
  have e : du (rows (a := 512) (b := 8192) (iblk m c 0 p)) (rows (w m c)) x = dum m c ⟨_, hl⟩ := by
    unfold dum du; rw [e0]
  rw [e1, e, e2]

end Cert.InProjIdeal.Val

namespace Cert.InProjRefIdeal.Val

open Idealize.ShloMosaic Idealize.ShloMosaic.TcCoe Idealize.SL.Sem
open Cert.InProjRefIdeal Cert.InProjRefIdeal.Gen
open Cert.Norm (rows du)

variable (m : (ℓ : Loc nD τ sig) → Buf (Elt Ideal) ℓ)

/-- The reference's arguments. -/
abbrev x1 (c : Dev nD) : FVec Ideal S8192x1024 .f32 := m ((c : Thread nD τ).loc main_arg0)
abbrev g (c : Dev nD) : FVec Ideal S1x1024 .f32 := m ((c : Thread nD τ).loc main_arg1)
abbrev w (c : Dev nD) : FVec Ideal S1024x8192 .f32 := m ((c : Thread nD τ).loc main_arg2)
abbrev dx2 (c : Dev nD) : FVec Ideal S8192x1024 .f32 := m ((c : Thread nD τ).loc main_arg3)
abbrev dc (c : Dev nD) : FVec Ideal S8192x8192 .f32 := m ((c : Thread nD τ).loc main_arg4)

/-- The reference's first result: the residual stream's cotangent. -/
theorem out0 (c : Dev nD) (j0 j1) : (Value.res_out0 m c : FVec Ideal S8192x1024 .f32) (ix2 j0 j1)
    = Norm.rdx (rows (dx2 m c) j0) (rows (x1 m c) j0) (rows (g m c) 0) (du (rows (dc m c)) (rows (w m c)) j0) j1 := by
  unfold Norm.rdx Norm.sq Norm.rs Norm.var rows du
  pointwise [Value.res_out0, Value.res_main_v36]

/-- The reference's second result, with its operations. -/
def dg (x : FVec Ideal S8192x1024 .f32) (w : FVec Ideal S1024x8192 .f32) (d : FVec Ideal S8192x8192 .f32) : FVec Ideal S1x1024 .f32 :=
  shapeCast _ (Host.reduceAdd (mulf (mulf x (broadcastInDim S8192x1024 ![0, 1] bcast_S8192x1_S8192x1024_0_1 (Host.rsqrt (addf (Host.divf
    (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))))))
    (Host.dotGeneral dot_S8192x8192_S1024x8192_S8192x1024_1_1_0_0_n_n none d w)) (constant S_ .f32 0x00000000#32) reducesTo_S8192x1024_S1024_d0 h_S_)
    shapeCasts_S1024_S1x1024

theorem dg_eq (x w d j0 j1) : dg x w d (ix2 j0 j1) = ∑ n, rows x n j1 * Norm.rs (rows x n) * du (rows d) (rows w) n j1 := by
  unfold Norm.rs Norm.var rows du
  pointwise [dg]

end Cert.InProjRefIdeal.Val

namespace Cert.InProjIdeal.Val

open Idealize.ShloMosaic Idealize.ShloMosaic.TcCoe Idealize.SL.Sem
open Cert.InProjIdeal Cert.InProjIdeal.Gen
open Cert.Row (IsReal)
open Cert.Norm (rows du)

/-- The precondition: the rows, the norm's weight, the product's weight and its cotangent are real numbers. -/
theorem real_of_pre (a0 a1 a2 a3 a4) : ((Cert.Pre_pre_ipb.fn (F := Ideal) a0 a1 a2 a3 a4).1 = (fun _ => 1#1) → ∀ n j, IsReal (rows a0 n j))
    ∧ ((Cert.Pre_pre_ipb.fn (F := Ideal) a0 a1 a2 a3 a4).2.1 = (fun _ => 1#1) → ∀ n j, IsReal (rows a1 n j))
    ∧ ((Cert.Pre_pre_ipb.fn (F := Ideal) a0 a1 a2 a3 a4).2.2.1 = (fun _ => 1#1) → ∀ n j, IsReal (rows a2 n j))
    ∧ ((Cert.Pre_pre_ipb.fn (F := Ideal) a0 a1 a2 a3 a4).2.2.2 = (fun _ => 1#1) → ∀ n j, IsReal (rows a4 n j)) := by
  refine ⟨fun h n j => ?_, fun h n j => ?_, fun h n j => ?_, fun h n j => ?_⟩ <;>
  · have := congrFun h (ix2 n j)
    pointwise [Cert.Pre_pre_ipb.fn] at this
    exact Row.isReal_of_test this

/-- On arguments that are real numbers the call and the derivative of the forward lines end with equal results. -/
theorem algebraic : Cert.algebraic_InProjIdeal_InProjRefIdeal_pre_pre_ipb := by
  intro m ρ m' ρ' hP hA
  refine ⟨fun c => (dats m 0 c).arrAt 5 (cfgs 0).N, fun c => (dats m 0 c).arrAt 6 (cfgs 0).N,
    Cert.InProjIdeal.Value.run_blocks (F := Ideal) m ρ,
    (θ_run _ _ _).mono (fun r h c => ?_) (Cert.InProjRefIdeal.Value.run (F := Ideal) m' ρ')⟩
  obtain ⟨a0, a1, a2, a3, a4⟩ := hA c
  obtain ⟨h0, h1, hk⟩ := h c
  obtain ⟨p0, p1, p2, p4⟩ := hP c
  have hr := real_of_pre (x1 m c) (g m c) (w m c) (dx2 m c) (dc m c)
  have e0 : InProjRefIdeal.Val.x1 m' c = x1 m c := a0
  have e1 : InProjRefIdeal.Val.g m' c = g m c := a1
  have e2 : InProjRefIdeal.Val.w m' c = w m c := a2
  have e3 : InProjRefIdeal.Val.dx2 m' c = dx2 m c := a3
  have e4 : InProjRefIdeal.Val.dc m' c = dc m c := a4
  refine ⟨?_, ?_, hk⟩
  · rw [h0]
    beta_reduce
    rw [final5]
    funext i
    idx_vars i
    refine (InProjRefIdeal.Val.out0 m' c i0 i1).trans ?_
    rw [e0, e1, e2, e3, e4]
    exact (Norm.rdx_eq (hr.1 p0 i0) (hr.2.1 p1 0) (Norm.du_real (hr.2.2.2 p4) (hr.2.2.1 p2) i0) _ i1).symm
  · rw [h1]
    refine (show _ = InProjRefIdeal.Val.dg (InProjRefIdeal.Val.x1 m' c) (InProjRefIdeal.Val.w m' c) (InProjRefIdeal.Val.dc m' c) from rfl).trans ?_
    rw [e0, e2, e4]
    beta_reduce
    rw [final6]
    funext i
    idx_vars i
    rw [InProjRefIdeal.Val.dg_eq]
    exact (show (_ : EReal) = _ from Finset.sum_congr rfl fun n _ => mul_comm (G := EReal) _ _)

end Cert.InProjIdeal.Val

end
-- ==== Proof.CkvClaim.lean ====
/-
  The gradient of the memory's norm weight, fused with the product with `w_ckv`: what the call ends with as a plain
  formula of the arguments, the same of the reference's result, and their equality.
-/
module

public import proofs.«01_k».proof.Proof.Gen.CkvProjIdeal.Value
public import proofs.«01_k».proof.Proof.Gen.CkvProjRefIdeal.Run
public import proofs.«01_k».proof.Defs
public import proofs.«01_k».proof.Proof.Gen.CkvProjIdeal
public import proofs.«01_k».proof.Proof.Gen.CkvProjRefIdeal
public import proofs.«01_k».proof.Proof.NormRow
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.CkvProjIdeal.Val

open Idealize.ShloMosaic Idealize.ShloMosaic.TcCoe Idealize.SL.Sem
open Idealize.ShloMosaic.Pipeline (Dat)
open Cert.CkvProjIdeal Cert.CkvProjIdeal.Gen
open Cert.Norm (rows du)

variable (m : (ℓ : Loc nD τ sig) → Buf (Elt Ideal) ℓ)

/-- The block of every operand at a grid point. -/
theorem idx : ∀ t : Fin cfg0.N, win0_0.index t = ![0, t.val] ∧ win0_1.index t = ![t.val, 0, 0] ∧ win0_2.index t = ![0, 0]
    ∧ win0_3.index t = ![0, 0] ∧ win0_4.index t = ![0, 0] :=
  (by decide +kernel : ∀ t : Fin grid0.N, win0_0.index t = ![0, t.val] ∧ win0_1.index t = ![t.val, 0, 0] ∧ win0_2.index t = ![0, 0]
    ∧ win0_3.index t = ![0, 0] ∧ win0_4.index t = ![0, 0])

theorem pay1 (v0 v1 j0 j1) : k0_pay1 (F := Ideal) v0 v1 (ix2 j0 j1) = ∑ l, v0 (ix2 j0 l) * v1 (ix3 0 j1 l) := by
  pointwise [k0_pay1]

theorem pay3 (v0 v1 a j0 j1) : k0_pay3 (F := Ideal) v0 v1 a (ix2 j0 j1) = a (ix2 j0 j1) + k0_pay1 v0 v1 (ix2 j0 j1) := by
  pointwise [k0_pay3]

theorem pay2 (v0 v1 j0 j1) : k0_pay2 (F := Ideal) v0 v1 (ix2 j0 j1) = k0_pay1 v0 v1 (ix2 j0 j1) := by
  pointwise [k0_pay2]

/-- The weight's gradient from the normed rows' cotangent and the rows. -/
theorem pay4 (u x j0 j1) : k0_pay4 (F := Ideal) u x (ix2 j0 j1) = ∑ n, u (ix2 n j1) * (rows x n j1 * Norm.rs (rows x n)) := by
  unfold Norm.rs Norm.var rows
  pointwise [k0_pay4]

/-- A grid point's share of the normed rows' cotangent. -/
def bu (c : Dev nD) (p : Fin cfg0.N) : FVec Ideal S256x1024 .f32 := k0_pay1 (iblk m c 0 p) (iblk m c 1 p)

/-- The accumulated product: set at the first point, added to at every later one. -/
theorem accA (c : Dev nD) (t : Fin cfg0.N) (h : t.val % 8 = 0) (y) : (outsAt0 m c t.val t.isLt).2 y = bu m c t y := by
  have hN : t.val < 8 := lt_of_lt_of_eq t.isLt N_0
  rw [outsAt0_A m c t h (by omega) (by omega)]; frame_out; idx_vars y; exact pay2 ..

theorem accB (c : Dev nD) (t : Fin cfg0.N) (h : ¬ t.val % 8 = 0) (y) : (outsAt0 m c t.val t.isLt).2 y
    = (outsAt0 m c (t.val - 1) (by omega)).2 y + bu m c t y := by
  have hN : t.val < 8 := lt_of_lt_of_eq t.isLt N_0
  by_cases h7 : t.val % 8 = 7
  · rw [outsAt0_C m c t h (by omega) h7]; frame_out; rw [read_unread_whole]; idx_vars y; exact pay3 ..
  · rw [outsAt0_B m c t h (by omega) h7]; frame_out; rw [read_unread_whole]; idx_vars y; exact pay3 ..

/-- The last point's store: the weight's gradient of the accumulated product. -/
theorem outC (c : Dev nD) (t : Fin cfg0.N) (h : t.val % 8 = 7) (y) : (outsAt0 m c t.val t.isLt).1 y
    = k0_pay4 ((outsAt0 m c t.val t.isLt).2) (iblk m c 2 t) y := by
  have hN : t.val < 8 := lt_of_lt_of_eq t.isLt N_0
  have e : (outsAt0 m c t.val t.isLt).2 = k0_pay3 (iblk m c 0 t) (iblk m c 1 t) (outsAt0 m c (t.val - 1) (by omega)).2 := by
    funext j
    rw [outsAt0_C m c t (by omega) (by omega) h]; frame_out; rw [read_unread_whole]
  rw [e, outsAt0_C m c t (by omega) (by omega) h]; frame_out; rw [read_unread_whole]

/-- The arguments of a launch, by the reference's names. -/
abbrev mem (c : Dev nD) : FVec Ideal S256x1024 .f32 := m ((c : Thread nD τ).loc main_arg0)
abbrev w (c : Dev nD) : FVec Ideal S1024x2048 .f32 := m ((c : Thread nD τ).loc main_arg2)
abbrev dc (c : Dev nD) : FVec Ideal S256x2048 .f32 := m ((c : Thread nD τ).loc main_arg3)

/-- A grid point's share is the product over its columns. -/
theorem bu_eq (c : Dev nD) (p : Fin cfg0.N) (j0 : Fin 256) (j1 : Fin 1024) : bu m c p (ix2 j0 j1)
    = ∑ l : Fin 256, dc m c (ix2 j0 ⟨p.val * 256 + l, by have := lt_of_lt_of_eq p.isLt N_0; omega⟩)
        * w m c (ix2 j1 ⟨p.val * 256 + l, by have := lt_of_lt_of_eq p.isLt N_0; omega⟩) := by
  unfold bu
  rw [pay1]
  blk_point [iblk, V, idx p]

/-- The accumulated product after the last point is the whole one. -/
theorem acc_last (c : Dev nD) (j0 : Fin 256) (j1 : Fin 1024) : (outsAt0 m c t0_7.val t0_7.isLt).2 (ix2 j0 j1)
    = du (rows (dc m c)) (rows (w m c)) j0 j1 := by
  rw [Pipeline.eq_sum_fin_of_reset_step_apply_last (fun n h => (outsAt0 m c n h).2) 8 (fun _ => 0)
    (fun p j => bu m c p j)
    (fun t h j => by rw [accA m c t h, zero_add])
    (fun t h j => accB m c t h j)
    (le_of_eq N_0) t0_7 rfl (ix2 j0 j1), zero_add]
  simp only [bu_eq]
  unfold du rows
  exact Fin.sum_mul_add_congr fun p x hl => rfl

/-- The norm's weight's gradient. -/
theorem final4 (c : Dev nD) : (dats m 0 c).arrAt 4 (cfgs 0).N
    = (fun i => ∑ n, du (rows (dc m c)) (rows (w m c)) n (i 1) * (rows (mem m c) n (i 1) * Norm.rs (rows (mem m c) n)) : FVec Ideal S1x1024 .f32) := by
  refine (dats m 0 c).arrAt_eq_of_after_last 4 t0_7 (by decide +kernel) _ fun j => ?_
  blk_simp
  rw [after0_4, outC m c t0_7 rfl]
  idx_vars j
  have e : rows (a := 256) (b := 1024) (iblk m c 2 t0_7) = rows (mem m c) := by
    funext i j; unfold rows; blk_point [iblk, V, idx t0_7]
  rw [pay4, e]
  refine (show (_ : EReal) = _ from Finset.sum_congr rfl fun n _ => ?_)
  rw [acc_last]

end Cert.CkvProjIdeal.Val

namespace Cert.CkvProjRefIdeal.Val

open Idealize.ShloMosaic Idealize.ShloMosaic.TcCoe Idealize.SL.Sem
open Cert.CkvProjRefIdeal Cert.CkvProjRefIdeal.Gen
open Cert.Norm (rows du)

/-- The reference's result, with its operations. -/
def dg (x : FVec Ideal S256x1024 .f32) (w : FVec Ideal S1024x2048 .f32) (d : FVec Ideal S256x2048 .f32) : FVec Ideal S1x1024 .f32 :=
  shapeCast _ (Host.reduceAdd (mulf (mulf x (broadcastInDim S256x1024 ![0, 1] bcast_S256x1_S256x1024_0_1 (Host.rsqrt (addf (Host.divf
    (broadcastInDim S256x1 ![0] bcast_S256_S256x1_0 (Host.reduceAdd (mulf x x) (constant S_ .f32 0x00000000#32) reducesTo_S256x1024_S256_d1 h_S_))
    (broadcastInDim S256x1 ![] bcast_S_S256x1 (constant S_ .f32 0x44800000#32))) (broadcastInDim S256x1 ![] bcast_S_S256x1 (constant S_ .f32 0x358637BD#32))))))
    (Host.dotGeneral dot_S256x2048_S1024x2048_S256x1024_1_1_0_0_n_n none d w)) (constant S_ .f32 0x00000000#32) reducesTo_S256x1024_S1024_d0 h_S_)
    shapeCasts_S1024_S1x1024

theorem dg_eq (x w d j0 j1) : dg x w d (ix2 j0 j1) = ∑ n, rows x n j1 * Norm.rs (rows x n) * du (rows d) (rows w) n j1 := by
  unfold Norm.rs Norm.var rows du
  pointwise [dg]

end Cert.CkvProjRefIdeal.Val

namespace Cert.CkvProjIdeal.Val

open Idealize.ShloMosaic Idealize.ShloMosaic.TcCoe Idealize.SL.Sem
open Cert.CkvProjIdeal Cert.CkvProjIdeal.Gen

/-- The call and the derivative of the forward lines end with equal results. -/
theorem algebraic : Cert.algebraic_CkvProjIdeal_CkvProjRefIdeal := by
  intro m ρ m' ρ' hP hA
  refine ⟨fun c => (dats m 0 c).arrAt 4 (cfgs 0).N,
    Cert.CkvProjIdeal.Value.run_blocks (F := Ideal) m ρ,
    (θ_run _ _ _).mono (fun r h c => ?_) (Cert.CkvProjRefIdeal.Value.run (F := Ideal) m' ρ')⟩
  obtain ⟨a0, a1, a2, a3⟩ := hA c
  obtain ⟨h0, hk⟩ := h c
  refine ⟨?_, hk⟩
  rw [h0, a0, a2, a3]
  refine (show _ = CkvProjRefIdeal.Val.dg (mem m c) (w m c) (dc m c) from rfl).trans ?_
  beta_reduce
  rw [final4]
  funext i
  idx_vars i
  rw [CkvProjRefIdeal.Val.dg_eq]
  exact (show (_ : EReal) = _ from Finset.sum_congr rfl fun n _ => mul_comm (G := EReal) _ _)

end Cert.CkvProjIdeal.Val

end
-- ==== Proof.LossClaim.lean ====
/-
  The loss and the gradient of the last norm, fused with the product with `w_down`: what each array of the call ends
  with as a plain formula of the arguments, the same of the reference's results, and their equality on arguments that
  are real numbers.
-/
module

public import proofs.«01_k».proof.Proof.Gen.LossIdeal.Value
public import proofs.«01_k».proof.Proof.Gen.LossRefIdeal.Run
public import proofs.«01_k».proof.Defs
public import proofs.«01_k».proof.Proof.Gen.LossIdeal
public import proofs.«01_k».proof.Proof.Gen.LossRefIdeal
public import proofs.«01_k».proof.Proof.Gen.Pre_pre_mdl
public import proofs.«01_k».proof.Proof.NormRow
public import Idealize.ShloMosaic.Lib.Pipeline.ValueKit
public import Idealize.ShloMosaic.Lib.Pointwise
public import Idealize.ShloMosaic.Lib.Claim

@[expose] public section

set_option maxRecDepth 16384

noncomputable section

namespace Cert.Loss

open Idealize.ShloMosaic
open Cert.Row (IsReal coe_sum)
open Cert.Norm (rows)

/-- The residual stream after the hidden layer's product. -/
def stream {R K J : ℕ} (x : Fin R → Fin J → EReal) (h : Fin R → Fin K → EReal) (w : Fin K → Fin J → EReal) (n : Fin R) (j : Fin J) : EReal :=
  x n j + ∑ k, h n k * w k j

/-- A row's distance of the normed stream from its target. -/
def err {J : ℕ} (x g t : Fin J → EReal) (j : Fin J) : EReal := x j * Norm.rs x * g j - t j

/-- 1/1024, the mean's factor, as a float. -/
abbrev inv : EReal := Ideal.ofBits .f32 0x3A800000#32
/-- 1/2048, half of it, as a float. -/
abbrev halfInv : EReal := Ideal.ofBits .f32 0x3A000000#32
abbrev half : EReal := Ideal.ofBits .f32 0x3F000000#32
abbrev one : EReal := Ideal.ofBits .f32 0x3F800000#32
abbrev two : EReal := Ideal.ofBits .f32 0x40000000#32

theorem inv_eq : inv = ((1 / 1024 : ℝ) : EReal) := by
  have : (1 / 1024 : ℝ) = 8388608 * (2 ^ 33 : ℝ)⁻¹ := by norm_num
  rw [this, EReal.coe_mul]
  simp [inv, Ideal.ofBits, Ideal.ieee]

theorem halfInv_eq : halfInv = ((1 / 2048 : ℝ) : EReal) := by
  have : (1 / 2048 : ℝ) = 8388608 * (2 ^ 34 : ℝ)⁻¹ := by norm_num
  rw [this, EReal.coe_mul]
  simp [halfInv, Ideal.ofBits, Ideal.ieee]

theorem half_eq : half = ((1 / 2 : ℝ) : EReal) := by
  have : (1 / 2 : ℝ) = 8388608 * (2 ^ 24 : ℝ)⁻¹ := by norm_num
  rw [this, EReal.coe_mul]
  simp [half, Ideal.ofBits, Ideal.ieee]

theorem one_eq : one = ((1 : ℝ) : EReal) := by
  have : (1 : ℝ) = 8388608 * (2 ^ 23 : ℝ)⁻¹ := by norm_num
  rw [this, EReal.coe_mul]
  simp [one, Ideal.ofBits, Ideal.ieee]

theorem two_eq : two = ((2 : ℝ) : EReal) := by
  have : (2 : ℝ) = 8388608 * (2 ^ 22 : ℝ)⁻¹ := by norm_num
  rw [this, EReal.coe_mul]
  simp [two, Ideal.ofBits, Ideal.ieee]

/-- The normed stream's cotangent as the call writes it. -/
def dy {J : ℕ} (x g t : Fin J → EReal) (j : Fin J) : EReal := err x g t j * inv

/-- The normed stream's cotangent as the derivative of half the mean square writes it. -/
def rdy {J : ℕ} (x g t : Fin J → EReal) (j : Fin J) : EReal := Ideal.div (half * one) Norm.len * (two * err x g t j)

theorem dy_eq {J : ℕ} (x g t : Fin J → EReal) (j : Fin J) : dy x g t j = rdy x g t j := by
  have : Ideal.div (half * one) Norm.len * two = inv := by
    rw [half_eq, one_eq, two_eq, inv_eq, Norm.len_eq, Ideal.div_coe (by norm_num)]
    simp only [← EReal.coe_mul]
    congr 1; norm_num
  unfold dy rdy
  rw [← mul_assoc, this, mul_comm]

theorem stream_real {R K J : ℕ} {x : Fin R → Fin J → EReal} {h : Fin R → Fin K → EReal} {w : Fin K → Fin J → EReal} (hx : ∀ n j, IsReal (x n j))
    (hh : ∀ n k, IsReal (h n k)) (hw : ∀ k j, IsReal (w k j)) (n j) : IsReal (stream x h w n j) :=
  (hx _ _).add (IsReal.sum _ fun k => (hh _ _).mul (hw _ _))

theorem rs_real {J : ℕ} {x : Fin J → EReal} (hx : ∀ j, IsReal (x j)) : IsReal (Norm.rs x) := by
  choose a ha using hx
  obtain rfl : x = fun k => (a k : EReal) := funext ha
  obtain ⟨v, hp, hv, hr⟩ := Norm.var_real a
  exact ⟨_, hr⟩

theorem err_real {J : ℕ} {x g t : Fin J → EReal} (hx : ∀ j, IsReal (x j)) (hg : ∀ j, IsReal (g j)) (ht : ∀ j, IsReal (t j)) (j) :
    IsReal (err x g t j) := (((hx j).mul (rs_real hx)).mul (hg j)).sub (ht j)

theorem dy_real {J : ℕ} {x g t : Fin J → EReal} (hx : ∀ j, IsReal (x j)) (hg : ∀ j, IsReal (g j)) (ht : ∀ j, IsReal (t j)) (j) :
    IsReal (dy x g t j) := (err_real hx hg ht j).mul ⟨_, inv_eq⟩

/-- A block's share of the loss, row by row. -/
theorem block_eq {R J : ℕ} {e : Fin R → Fin J → EReal} (he : ∀ n j, IsReal (e n j)) :
    halfInv * ∑ n, ∑ j, e n j * e n j = ∑ n, halfInv * ∑ j, e n j * e n j := by
  choose a ha using he
  obtain rfl : e = fun n j => (a n j : EReal) := funext fun n => funext fun j => ha n j
  rw [halfInv_eq]
  simp only [← EReal.coe_mul, ← coe_sum, Finset.mul_sum]

/-- The loss: half the sum of the rows' mean squares is 1/2048 of the sum of squares. -/
theorem loss_eq {R J : ℕ} {e : Fin R → Fin J → EReal} (he : ∀ n j, IsReal (e n j)) :
    ∑ n, halfInv * ∑ j, e n j * e n j = half * ∑ n, Ideal.div (∑ j, e n j * e n j) Norm.len := by
  choose a ha using he
  obtain rfl : e = fun n j => (a n j : EReal) := funext fun n => funext fun j => ha n j
  simp only [halfInv_eq, half_eq, Norm.len_eq, Ideal.div_coe (show (1024 : ℝ) ≠ 0 by norm_num), ← EReal.coe_mul, ← coe_sum]
  congr 1
  rw [Finset.mul_sum]
  exact Finset.sum_congr rfl fun n _ => by ring

end Cert.Loss

namespace Cert.LossIdeal.Val

open Idealize.ShloMosaic Idealize.ShloMosaic.TcCoe Idealize.SL.Sem
open Idealize.ShloMosaic.Pipeline (Dat)
open Cert.LossIdeal Cert.LossIdeal.Gen
open Cert.Row (IsReal)
open Cert.Norm (rows)
open Cert.Loss (stream err dy)

variable (m : (ℓ : Loc nD τ sig) → Buf (Elt Ideal) ℓ)

/-- The block of every operand at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0]
    ∧ win0_7.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0]
    ∧ win0_7.index t = ![0, 0])

theorem pay8 (h w x j0 j1) : k0_pay8 (F := Ideal) h w x (ix2 j0 j1) = stream (rows x) (rows h) (rows w) j0 j1 := by
  unfold stream rows
  pointwise [k0_pay8]

theorem pay1 (v j0 j1) : k0_pay1 (F := Ideal) v (ix2 j0 j1) = Ideal.rsqrt (v (ix2 j0 j1)) := by pointwise [k0_pay1]

theorem pay12 (h w x j0 j1) : k0_pay12 (F := Ideal) h w x (ix2 j0 j1) = Norm.var (stream (rows x) (rows h) (rows w) j0) := by
  unfold Norm.var
  pointwise [k0_pay12, pay8]

theorem pay9 (h w x t g j0 j1) : k0_pay9 (F := Ideal) h w x t g (ix2 j0 j1)
    = err (stream (rows x) (rows h) (rows w) j0) (rows g 0) (rows t j0) j1 := by
  unfold err Norm.rs Norm.var rows
  pointwise [k0_pay9, pay8]
  rfl

theorem pay10 (h w x t g) : k0_pay10 (F := Ideal) h w x t g = Loss.halfInv * ∑ n : Fin 512, ∑ j : Fin 1024,
    err (stream (rows x) (rows h) (rows w) n) (rows g 0) (rows t n) j * err (stream (rows x) (rows h) (rows w) n) (rows g 0) (rows t n) j := by
  pointwise [k0_pay10, pay9]

theorem pay11 (h w x t g j0 j1) : k0_pay11 (F := Ideal) h w x t g (ix2 j0 j1)
    = dy (stream (rows x) (rows h) (rows w) j0) (rows g 0) (rows t j0) j1 := by
  unfold dy
  pointwise [k0_pay11, pay9]

theorem pay2 (v8 v36 j0 j1) : k0_pay2 (F := Ideal) v8 v36 (ix2 j0 j1) = v8 (ix2 j0 j1) * Ideal.rsqrt (v36 (ix2 j0 0)) := by
  pointwise [k0_pay2, pay1]

theorem pay3 (v8 v29 v36 j0 j1) : k0_pay3 (F := Ideal) v8 v29 v36 (ix2 j0 j1)
    = ∑ n, v29 (ix2 n j1) * (v8 (ix2 n j1) * Ideal.rsqrt (v36 (ix2 n 0))) := by
  pointwise [k0_pay3, pay2]

theorem pay5 (v7 v8 v29 v36 j0 j1) : k0_pay5 (F := Ideal) v7 v8 v29 v36 (ix2 j0 j1)
    = Ideal.rsqrt (v36 (ix2 j0 0)) * (v29 (ix2 j0 j1) * v7 (ix2 0 j1) - v8 (ix2 j0 j1) * Ideal.rsqrt (v36 (ix2 j0 0))
        * Ideal.div (∑ k, v29 (ix2 j0 k) * v7 (ix2 0 k) * (v8 (ix2 j0 k) * Ideal.rsqrt (v36 (ix2 j0 0)))) Norm.len) := by
  pointwise [k0_pay5, pay2, pay1]

/-- A block's share of the loss. -/
theorem pay4 (h w x t g j0 j1) : k0_pay4 (F := Ideal) (k0_pay10 h w x t g) (ix2 j0 j1) = k0_pay10 h w x t g := by
  pointwise [k0_pay4]

theorem pay6 (s a j0 j1) : k0_pay6 (F := Ideal) s a (ix2 j0 j1) = a (ix2 j0 j1) + s := by
  pointwise [k0_pay6, k0_pay4]

theorem pay7 (v8 v29 v36 a j0 j1) : k0_pay7 (F := Ideal) v8 v29 v36 a (ix2 j0 j1) = a (ix2 j0 j1) + k0_pay3 v8 v29 v36 (ix2 j0 j1) := by
  pointwise [k0_pay7]

/-- A block's share of the weight's gradient. -/
theorem share (h w x t g j0 j1) : k0_pay3 (F := Ideal) (k0_pay8 h w x) (k0_pay11 h w x t g) (k0_pay12 h w x) (ix2 j0 j1)
    = ∑ n, dy (stream (rows x) (rows h) (rows w) n) (rows g 0) (rows t n) j1
        * (stream (rows x) (rows h) (rows w) n j1 * Norm.rs (stream (rows x) (rows h) (rows w) n)) := by
  rw [pay3]
  exact (show (_ : EReal) = _ from Finset.sum_congr rfl fun n _ => by rw [pay8, pay11, pay12]; rfl)

/-- The row's cotangent. -/
theorem row (h w x t g j0 j1) : k0_pay5 (F := Ideal) g (k0_pay8 h w x) (k0_pay11 h w x t g) (k0_pay12 h w x) (ix2 j0 j1)
    = Norm.dx (stream (rows x) (rows h) (rows w) j0) (rows g 0) (dy (stream (rows x) (rows h) (rows w) j0) (rows g 0) (rows t j0)) j1 := by
  rw [pay5]
  simp only [pay8, pay11, pay12]
  rfl

/-- A grid point's share of the loss and of the weight's gradient. -/
def bl (c : Dev nD) (p : Fin cfg0.N) : EReal := k0_pay10 (F := Ideal) (iblk m c 0 p) (iblk m c 1 p) (iblk m c 2 p) (iblk m c 3 p) (iblk m c 4 p)
def bg (c : Dev nD) (p : Fin cfg0.N) : FVec Ideal S1x1024 .f32 := k0_pay3 (k0_pay8 (iblk m c 0 p) (iblk m c 1 p) (iblk m c 2 p))
  (k0_pay11 (iblk m c 0 p) (iblk m c 1 p) (iblk m c 2 p) (iblk m c 3 p) (iblk m c 4 p)) (k0_pay12 (iblk m c 0 p) (iblk m c 1 p) (iblk m c 2 p))

theorem outs5 (c : Dev nD) (t : Fin cfg0.N) (y) : (outsAt0 m c t.val t.isLt).1 y
    = k0_pay5 (iblk m c 4 t) (k0_pay8 (iblk m c 0 t) (iblk m c 1 t) (iblk m c 2 t))
        (k0_pay11 (iblk m c 0 t) (iblk m c 1 t) (iblk m c 2 t) (iblk m c 3 t) (iblk m c 4 t)) (k0_pay12 (iblk m c 0 t) (iblk m c 1 t) (iblk m c 2 t)) y := by
  have hN : t.val < 16 := lt_of_lt_of_eq t.isLt N_0
  by_cases h : t.val % 16 = 0
  · rw [outsAt0_A m c t h (by omega) h (by omega)]; frame_out
  · rw [outsAt0_B m c t h (by omega) h (by omega)]; frame_out

theorem outsA (c : Dev nD) (t : Fin cfg0.N) (h : t.val % 16 = 0) :
    (∀ y, (outsAt0 m c t.val t.isLt).2.1 y = bl m c t) ∧ ∀ y, (outsAt0 m c t.val t.isLt).2.2 y = bg m c t y := by
  have hN : t.val < 16 := lt_of_lt_of_eq t.isLt N_0
  rw [outsAt0_A m c t h (by omega) h (by omega)]
  refine ⟨fun y => ?_, fun y => ?_⟩
  · frame_out; idx_vars y; exact pay4 ..
  · frame_out; rfl

theorem outsB (c : Dev nD) (t : Fin cfg0.N) (h : ¬ t.val % 16 = 0) :
    (∀ y, (outsAt0 m c t.val t.isLt).2.1 y = (outsAt0 m c (t.val - 1) (by omega)).2.1 y + bl m c t)
      ∧ ∀ y, (outsAt0 m c t.val t.isLt).2.2 y = (outsAt0 m c (t.val - 1) (by omega)).2.2 y + bg m c t y := by
  have hN : t.val < 16 := lt_of_lt_of_eq t.isLt N_0
  rw [outsAt0_B m c t h (by omega) h (by omega)]
  refine ⟨fun y => ?_, fun y => ?_⟩
  · frame_out; idx_vars y; exact pay6 ..
  · frame_out; idx_vars y; exact pay7 ..

/-- The arguments of a launch, by the reference's names. -/
abbrev x2 (c : Dev nD) : FVec Ideal S8192x1024 .f32 := m ((c : Thread nD τ).loc main_arg0)
abbrev hid (c : Dev nD) : FVec Ideal S8192x4096 .f32 := m ((c : Thread nD τ).loc main_arg1)
abbrev w (c : Dev nD) : FVec Ideal S4096x1024 .f32 := m ((c : Thread nD τ).loc main_arg2)
abbrev g (c : Dev nD) : FVec Ideal S1x1024 .f32 := m ((c : Thread nD τ).loc main_arg3)
abbrev tgt (c : Dev nD) : FVec Ideal S8192x1024 .f32 := m ((c : Thread nD τ).loc main_arg4)

/-- The residual stream of the launch's arguments. -/
abbrev x3 (c : Dev nD) : Fin 8192 → Fin 1024 → EReal := stream (rows (x2 m c)) (rows (hid m c)) (rows (w m c))

/-- A grid point's blocks hold its rows of the arguments. -/
theorem blk_rows (c : Dev nD) (p : Fin cfg0.N) (x : Fin 512) (n : Fin 8192) (hn : (n : ℕ) = p.val * 512 + x) :
    rows (a := 512) (b := 4096) (iblk m c 0 p) x = rows (hid m c) n ∧ rows (a := 512) (b := 1024) (iblk m c 2 p) x = rows (x2 m c) n
      ∧ rows (a := 512) (b := 1024) (iblk m c 3 p) x = rows (tgt m c) n := by
  refine ⟨?_, ?_, ?_⟩ <;> (funext j; unfold rows; blk_point [iblk, V, idx p])

theorem blk_whole (c : Dev nD) (p : Fin cfg0.N) : rows (a := 4096) (b := 1024) (iblk m c 1 p) = rows (w m c)
    ∧ rows (a := 1) (b := 1024) (iblk m c 4 p) = rows (g m c) := by
  refine ⟨?_, ?_⟩ <;> (funext i j; unfold rows; blk_point [iblk, V, idx p])

theorem blk_stream (c : Dev nD) (p : Fin cfg0.N) (x : Fin 512) (n : Fin 8192) (hn : (n : ℕ) = p.val * 512 + x) :
    stream (rows (a := 512) (b := 1024) (iblk m c 2 p)) (rows (a := 512) (b := 4096) (iblk m c 0 p)) (rows (w m c)) x = x3 m c n := by
  obtain ⟨e0, e2, e3⟩ := blk_rows m c p x n hn
  unfold x3 stream
  rw [e0, e2]

/-- The residual stream's cotangent, whole. -/
theorem final5 (c : Dev nD) : (dats m 0 c).arrAt 5 (cfgs 0).N
    = (fun i => Norm.dx (x3 m c (i 0)) (rows (g m c) 0) (dy (x3 m c (i 0)) (rows (g m c) 0) (rows (tgt m c) (i 0))) (i 1) : FVec Ideal S8192x1024 .bf16) := by
  refine (dats m 0 c).arrAt_eq_of_covers 5 _ (by decide +kernel) fun t _ y => ?_
  blk_simp
  rw [after0_5, outs5]
  idx_vars y
  rw [row]
  obtain ⟨e1, e4⟩ := blk_whole m c t
  have hn : t.val * 512 + (y0 : ℕ) < 8192 := by have := lt_of_lt_of_eq t.isLt N_0; omega
  obtain ⟨e0, e2, e3⟩ := blk_rows m c t y0 ⟨t.val * 512 + y0, hn⟩ rfl
  have f0 : (((View.whole main_v2_0).slice (win0_5.rect t)).emb (ix2 y0 y1) 0) = (⟨t.val * 512 + y0, hn⟩ : Fin 8192) := Fin.ext (by blk_simp [idx t])
  have f1 : (((View.whole main_v2_0).slice (win0_5.rect t)).emb (ix2 y0 y1) 1) = (y1 : Fin 1024) := Fin.ext (by blk_simp [idx t])
  rw [f0, f1, e1, e4, e3, blk_stream m c t y0 ⟨t.val * 512 + y0, hn⟩ rfl]

/-- A grid point's share of the loss, row by row. -/
theorem bl_eq (c : Dev nD) (he : ∀ n j, IsReal (err (x3 m c n) (rows (g m c) 0) (rows (tgt m c) n) j)) (p : Fin cfg0.N) : bl m c p
    = ∑ x : Fin 512, Loss.halfInv * ∑ j,
        err (x3 m c ⟨p.val * 512 + x, by have := lt_of_lt_of_eq p.isLt N_0; omega⟩) (rows (g m c) 0) (rows (tgt m c) ⟨p.val * 512 + x, by have := lt_of_lt_of_eq p.isLt N_0; omega⟩) j
          * err (x3 m c ⟨p.val * 512 + x, by have := lt_of_lt_of_eq p.isLt N_0; omega⟩) (rows (g m c) 0) (rows (tgt m c) ⟨p.val * 512 + x, by have := lt_of_lt_of_eq p.isLt N_0; omega⟩) j := by
  unfold bl
  rw [pay10, ← Loss.block_eq fun x j => he _ j]
  obtain ⟨e1, e4⟩ := blk_whole m c p
  rw [e1, e4]
  refine congrArg _ (Finset.sum_congr rfl fun x _ => ?_)
  rw [blk_stream m c p x ⟨_, by have := lt_of_lt_of_eq p.isLt N_0; omega⟩ rfl, (blk_rows m c p x ⟨_, by have := lt_of_lt_of_eq p.isLt N_0; omega⟩ rfl).2.2]

/-- The loss, in every column. -/
theorem final6 (c : Dev nD) (he : ∀ n j, IsReal (err (x3 m c n) (rows (g m c) 0) (rows (tgt m c) n) j)) : (dats m 0 c).arrAt 6 (cfgs 0).N
    = (fun _ => ∑ n, Loss.halfInv * ∑ j, err (x3 m c n) (rows (g m c) 0) (rows (tgt m c) n) j * err (x3 m c n) (rows (g m c) 0) (rows (tgt m c) n) j :
        FVec Ideal S1x128 .f32) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0)
    (fun p j => bl m c p)
    (fun t h j => by rw [(outsA m c t h).1, zero_add])
    (fun t h j => (outsB m c t h).1 j)
    (le_of_eq N_0) t0_15 rfl j, zero_add]
  simp only [bl_eq m c he]
  exact Fin.sum_mul_add_congr fun p x hl => rfl

/-- The norm's weight's gradient. -/
theorem final7 (c : Dev nD) : (dats m 0 c).arrAt 7 (cfgs 0).N
    = (fun i => ∑ n, dy (x3 m c n) (rows (g m c) 0) (rows (tgt m c) n) (i 1) * (x3 m c n (i 1) * Norm.rs (x3 m c n)) : FVec Ideal S1x1024 .f32) := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0)
    (fun p j => bg m c p j)
    (fun t h j => by rw [(outsA m c t h).2, zero_add])
    (fun t h j => (outsB m c t h).2 j)
    (le_of_eq N_0) t0_15 rfl j, zero_add]
  idx_vars j
  simp only [bg, share]
  refine Fin.sum_mul_add_congr fun p x hl => ?_
  obtain ⟨e1, e4⟩ := blk_whole m c p
  rw [e1, e4, blk_stream m c p x ⟨_, hl⟩ rfl, (blk_rows m c p x ⟨_, hl⟩ rfl).2.2]

end Cert.LossIdeal.Val

namespace Cert.LossRefIdeal.Val

open Idealize.ShloMosaic Idealize.ShloMosaic.TcCoe Idealize.SL.Sem
open Cert.LossRefIdeal Cert.LossRefIdeal.Gen
open Cert.Norm (rows)
open Cert.Loss (stream err rdy)

variable (m : (ℓ : Loc nD τ sig) → Buf (Elt Ideal) ℓ)

/-- The reference's arguments. -/
abbrev x2 (c : Dev nD) : FVec Ideal S8192x1024 .f32 := m ((c : Thread nD τ).loc main_arg0)
abbrev hid (c : Dev nD) : FVec Ideal S8192x4096 .f32 := m ((c : Thread nD τ).loc main_arg1)
abbrev w (c : Dev nD) : FVec Ideal S4096x1024 .f32 := m ((c : Thread nD τ).loc main_arg2)
abbrev g (c : Dev nD) : FVec Ideal S1x1024 .f32 := m ((c : Thread nD τ).loc main_arg3)
abbrev tgt (c : Dev nD) : FVec Ideal S8192x1024 .f32 := m ((c : Thread nD τ).loc main_arg4)
abbrev x3 (c : Dev nD) : Fin 8192 → Fin 1024 → EReal := stream (rows (x2 m c)) (rows (hid m c)) (rows (w m c))

/-- The reference's residual stream, with its operations. -/
def sv (x : FVec Ideal S8192x1024 .f32) (h : FVec Ideal S8192x4096 .f32) (w : FVec Ideal S4096x1024 .f32) : FVec Ideal S8192x1024 .f32 :=
  addf x (Host.dotGeneral dot_S8192x4096_S4096x1024_S8192x1024_1_0_0_1_n_n none h w)

theorem sv_eq (x h w j0 j1) : sv x h w (ix2 j0 j1) = stream (rows x) (rows h) (rows w) j0 j1 := by
  unfold stream rows
  pointwise [sv]

/-- The reference's mean squares and their reciprocal roots, by row. -/
def vv (s : FVec Ideal S8192x1024 .f32) : FVec Ideal S8192x1 .f32 :=
  addf (Host.divf (broadcastInDim S8192x1 ![0] bcast_S8192_S8192x1_0 (Host.reduceAdd (mulf s s) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x358637BD#32))

theorem vv_eq (s j0 j1) : vv s (ix2 j0 j1) = Norm.var (rows s j0) := by
  unfold Norm.var rows
  pointwise [vv]

/-- The reference's normed stream. -/
def nv (s : FVec Ideal S8192x1024 .f32) : FVec Ideal S8192x1024 .f32 :=
  mulf s (broadcastInDim S8192x1024 ![0, 1] bcast_S8192x1_S8192x1024_0_1 (Host.rsqrt (vv s)))

theorem nv_eq (s j0 j1) : nv s (ix2 j0 j1) = rows s j0 j1 * Norm.rs (rows s j0) := by
  unfold Norm.rs
  rw [← vv_eq s j0 0]
  pointwise [nv]
  rfl

/-- Its distance from the target. -/
def ev (s : FVec Ideal S8192x1024 .f32) (g : FVec Ideal S1x1024 .f32) (t : FVec Ideal S8192x1024 .f32) : FVec Ideal S8192x1024 .f32 :=
  subf (mulf (nv s) (broadcastInDim S8192x1024 ![0, 1] bcast_S1x1024_S8192x1024_0_1 g)) t

theorem ev_eq (s g t j0 j1) : ev s g t (ix2 j0 j1) = err (rows s j0) (rows g 0) (rows t j0) j1 := by
  unfold err
  pointwise [ev, nv_eq]
  rfl

/-- The normed stream's cotangent. -/
def dv (s : FVec Ideal S8192x1024 .f32) (g : FVec Ideal S1x1024 .f32) (t : FVec Ideal S8192x1024 .f32) : FVec Ideal S8192x1024 .f32 :=
  mulf (broadcastInDim S8192x1024 ![0] bcast_S8192_S8192x1024_0 (Host.divf (broadcastInDim S8192 ![] bcast_S_S8192 (mulf (constant S_ .f32 0x3F000000#32)
    (constant S_ .f32 0x3F800000#32))) (broadcastInDim S8192 ![] bcast_S_S8192 (constant S_ .f32 0x44800000#32))))
    (mulf (broadcastInDim S8192x1024 ![] bcast_S_S8192x1024 (constant S_ .f32 0x40000000#32)) (ev s g t))

theorem dv_eq (s g t j0 j1) : dv s g t (ix2 j0 j1) = rdy (rows s j0) (rows g 0) (rows t j0) j1 := by
  unfold rdy
  pointwise [dv, ev_eq]

/-- The cotangent of the rows' squares. -/
def tv (s : FVec Ideal S8192x1024 .f32) (g : FVec Ideal S1x1024 .f32) (d : FVec Ideal S8192x1024 .f32) : FVec Ideal S8192x1024 .f32 :=
  broadcastInDim S8192x1024 ![0] bcast_S8192_S8192x1024_0 (Host.reduceAdd (Host.divf (mulf (shapeCast _ (Host.reduceAdd (mulf s (mulf d
    (broadcastInDim S8192x1024 ![0, 1] bcast_S1x1024_S8192x1024_0_1 g))) (constant S_ .f32 0x00000000#32) reducesTo_S8192x1024_S8192_d1 h_S_) shapeCasts_S8192_S8192x1)
    (mulf (broadcastInDim S8192x1 ![] bcast_S_S8192x1 (constant S_ .f32 0xBF000000#32)) (Host.divf (Host.rsqrt (vv s)) (vv s))))
    (broadcastInDim S8192x1 ![] bcast_S_S8192x1 (constant S_ .f32 0x44800000#32))) (constant S_ .f32 0x00000000#32) reducesTo_S8192x1_S8192_d1 h_S_)

theorem tv_eq (s g d j0 j1) : tv s g d (ix2 j0 j1) = ∑ _k : Fin 1, Norm.sq (rows s j0) (rows g 0) (rows d j0) := by
  unfold Norm.sq Norm.rs
  rw [← vv_eq s j0 0]
  unfold rows
  pointwise [tv]
  simp only [Fin.sum_univ_one]

/-- The reference's three results, with their operations. -/
def dxv (s : FVec Ideal S8192x1024 .f32) (g : FVec Ideal S1x1024 .f32) (d : FVec Ideal S8192x1024 .f32) : FVec Ideal S8192x1024 .bf16 :=
  truncf .bf16 (addf (addf (mulf (mulf d (broadcastInDim S8192x1024 ![0, 1] bcast_S1x1024_S8192x1024_0_1 g))
    (broadcastInDim S8192x1024 ![0, 1] bcast_S8192x1_S8192x1024_0_1 (Host.rsqrt (vv s)))) (mulf s (tv s g d))) (mulf (tv s g d) s)) bitsLt_bf16_f32

def lossv (e : FVec Ideal S8192x1024 .f32) : FVec Ideal S1x128 .f32 :=
  broadcastInDim S1x128 ![] bcast_S_S1x128 (mulf (constant S_ .f32 0x3F000000#32) (Host.reduceAdd (Host.divf (Host.reduceAdd (mulf e e)
    (constant S_ .f32 0x00000000#32) reducesTo_S8192x1024_S8192_d1 h_S_) (broadcastInDim S8192 ![] bcast_S_S8192 (constant S_ .f32 0x44800000#32)))
    (constant S_ .f32 0x00000000#32) reducesTo_S8192_S_d0 h_S_))

def dgv (s d : FVec Ideal S8192x1024 .f32) : FVec Ideal S1x1024 .f32 :=
  shapeCast _ (Host.reduceAdd (mulf (nv s) d) (constant S_ .f32 0x00000000#32) reducesTo_S8192x1024_S1024_d0 h_S_) shapeCasts_S1024_S1x1024

theorem dxv_eq (s g d j0 j1) : dxv s g d (ix2 j0 j1) = rows d j0 j1 * rows g 0 j1 * Norm.rs (rows s j0)
    + rows s j0 j1 * (∑ _k : Fin 1, Norm.sq (rows s j0) (rows g 0) (rows d j0))
    + (∑ _k : Fin 1, Norm.sq (rows s j0) (rows g 0) (rows d j0)) * rows s j0 j1 := by
  unfold Norm.rs
  rw [← vv_eq s j0 0]
  pointwise [dxv, tv_eq]
  rfl

theorem lossv_eq (e j0 j1) : lossv e (ix2 j0 j1) = Loss.half * ∑ n, Ideal.div (∑ j, rows e n j * rows e n j) Norm.len := by
  unfold rows
  pointwise [lossv]

theorem dgv_eq (s d j0 j1) : dgv s d (ix2 j0 j1) = ∑ n, rows s n j1 * Norm.rs (rows s n) * rows d n j1 := by
  pointwise [dgv, nv_eq]
  rfl

end Cert.LossRefIdeal.Val

namespace Cert.LossIdeal.Val

open Idealize.ShloMosaic Idealize.ShloMosaic.TcCoe Idealize.SL.Sem
open Cert.LossIdeal Cert.LossIdeal.Gen
open Cert.Row (IsReal)
open Cert.Norm (rows)
open Cert.Loss (stream err dy)

/-- The precondition: every argument is real numbers. -/
theorem real_of_pre (a0 a1 a2 a3 a4) : ((Cert.Pre_pre_mdl.fn (F := Ideal) a0 a1 a2 a3 a4).1 = (fun _ => 1#1) → ∀ n j, IsReal (rows a0 n j))
    ∧ ((Cert.Pre_pre_mdl.fn (F := Ideal) a0 a1 a2 a3 a4).2.1 = (fun _ => 1#1) → ∀ n j, IsReal (rows a1 n j))
    ∧ ((Cert.Pre_pre_mdl.fn (F := Ideal) a0 a1 a2 a3 a4).2.2.1 = (fun _ => 1#1) → ∀ n j, IsReal (rows a2 n j))
    ∧ ((Cert.Pre_pre_mdl.fn (F := Ideal) a0 a1 a2 a3 a4).2.2.2.1 = (fun _ => 1#1) → ∀ n j, IsReal (rows a3 n j))
    ∧ ((Cert.Pre_pre_mdl.fn (F := Ideal) a0 a1 a2 a3 a4).2.2.2.2 = (fun _ => 1#1) → ∀ n j, IsReal (rows a4 n j)) := by
  refine ⟨fun h n j => ?_, fun h n j => ?_, fun h n j => ?_, fun h n j => ?_, fun h n j => ?_⟩ <;>
  · have := congrFun h (ix2 n j)
    pointwise [Cert.Pre_pre_mdl.fn] at this
    exact Row.isReal_of_test this

open Cert.LossRefIdeal.Val in
/-- On arguments that are real numbers the call and the derivative of the forward lines end with equal results. -/
theorem algebraic : Cert.algebraic_LossIdeal_LossRefIdeal_pre_pre_mdl := by
  intro m ρ m' ρ' hP hA
  refine ⟨fun c => (dats m 0 c).arrAt 5 (cfgs 0).N, fun c => (dats m 0 c).arrAt 6 (cfgs 0).N, fun c => (dats m 0 c).arrAt 7 (cfgs 0).N,
    Cert.LossIdeal.Value.run_blocks (F := Ideal) m ρ,
    (θ_run _ _ _).mono (fun r h c => ?_) (Cert.LossRefIdeal.Value.run (F := Ideal) m' ρ')⟩
  obtain ⟨a0, a1, a2, a3, a4⟩ := hA c
  obtain ⟨h0, h1, h2, hk⟩ := h c
  obtain ⟨p0, p1, p2, p3, p4⟩ := hP c
  have hr := real_of_pre (x2 m c) (hid m c) (w m c) (g m c) (tgt m c)
  have e0 : LossRefIdeal.Val.x2 m' c = x2 m c := a0
  have e1 : LossRefIdeal.Val.hid m' c = hid m c := a1
  have e2 : LossRefIdeal.Val.w m' c = w m c := a2
  have e3 : LossRefIdeal.Val.g m' c = g m c := a3
  have e4 : LossRefIdeal.Val.tgt m' c = tgt m c := a4
  have hs : rows (sv (x2 m c) (hid m c) (w m c)) = x3 m c := by funext n j; exact sv_eq ..
  have hd : rows (dv (sv (x2 m c) (hid m c) (w m c)) (g m c) (tgt m c)) = fun n => dy (x3 m c n) (rows (g m c) 0) (rows (tgt m c) n) := by
    funext n j; rw [Loss.dy_eq, ← hs]; exact dv_eq ..
  have he : rows (ev (sv (x2 m c) (hid m c) (w m c)) (g m c) (tgt m c)) = fun n => err (x3 m c n) (rows (g m c) 0) (rows (tgt m c) n) := by
    funext n j; rw [← hs]; exact ev_eq ..
  have hx : ∀ n j, IsReal (x3 m c n j) := Loss.stream_real (hr.1 p0) (hr.2.1 p1) (hr.2.2.1 p2)
  have hg := hr.2.2.2.1 p3
  have ht := hr.2.2.2.2 p4
  refine ⟨?_, ?_, ?_, hk⟩
  · rw [h0]
    refine (show _ = dxv (sv (LossRefIdeal.Val.x2 m' c) (LossRefIdeal.Val.hid m' c) (LossRefIdeal.Val.w m' c)) (LossRefIdeal.Val.g m' c)
      (dv (sv (LossRefIdeal.Val.x2 m' c) (LossRefIdeal.Val.hid m' c) (LossRefIdeal.Val.w m' c)) (LossRefIdeal.Val.g m' c) (LossRefIdeal.Val.tgt m' c)) from rfl).trans ?_
    rw [e0, e1, e2, e3, e4]
    beta_reduce
    rw [final5]
    funext i
    idx_vars i
    rw [dxv_eq, hs, hd]
    refine Eq.trans ?_ (Norm.dx_eq (hx i0) (hg 0) (Loss.dy_real (hx i0) (hg 0) (ht i0)) i1).symm
    simp only [Fin.sum_univ_one]
    rw [add_assoc (G := EReal), mul_comm (Norm.sq _ _ _)]
  · rw [h1]
    refine (show _ = lossv (ev (sv (LossRefIdeal.Val.x2 m' c) (LossRefIdeal.Val.hid m' c) (LossRefIdeal.Val.w m' c)) (LossRefIdeal.Val.g m' c) (LossRefIdeal.Val.tgt m' c)) from rfl).trans ?_
    rw [e0, e1, e2, e3, e4]
    beta_reduce
    rw [final6 m c fun n => Loss.err_real (hx n) (hg 0) (ht n)]
    funext i
    idx_vars i
    rw [lossv_eq, he]
    exact (Loss.loss_eq fun n => Loss.err_real (hx n) (hg 0) (ht n)).symm
  · rw [h2]
    refine (show _ = dgv (sv (LossRefIdeal.Val.x2 m' c) (LossRefIdeal.Val.hid m' c) (LossRefIdeal.Val.w m' c))
      (dv (sv (LossRefIdeal.Val.x2 m' c) (LossRefIdeal.Val.hid m' c) (LossRefIdeal.Val.w m' c)) (LossRefIdeal.Val.g m' c) (LossRefIdeal.Val.tgt m' c)) from rfl).trans ?_
    rw [e0, e1, e2, e3, e4]
    beta_reduce
    rw [final7]
    funext i
    idx_vars i
    rw [dgv_eq, hs, hd]
    exact (show (_ : EReal) = _ from Finset.sum_congr rfl fun n _ => mul_comm (G := EReal) _ _)

end Cert.LossIdeal.Val

end
-- ==== Proof.LayerRow.lean ====
/-
  One row of a layer norm followed by silu, and its gradient, over the extended reals: the gradient as the call writes
  it equals the gradient as the derivative of the forward lines writes it, where the row, the norm's scale and shift
  and the cotangent are real numbers.
-/
module

public import proofs.«01_k».proof.Proof.NormRow

@[expose] public section

noncomputable section

namespace Cert.Layer

open Idealize.ShloMosaic
open Cert.Row (IsReal coe_sum)
open Cert.Norm (eps mhalf)

/-- The row's length. -/
abbrev K : ℕ := 768
/-- The same as a float. -/
abbrev len : EReal := Ideal.ofBits .f32 0x44400000#32
abbrev one : EReal := Ideal.ofBits .f32 0x3F800000#32
abbrev two : EReal := Ideal.ofBits .f32 0x40000000#32

/-- The row's mean, its distance from it, the mean square of that with the small constant added, the normed row, and
    the scaled and shifted one. -/
def mu (x : Fin K → EReal) : EReal := Ideal.div (∑ k, x k) len
def xc (x : Fin K → EReal) (j : Fin K) : EReal := x j - mu x
def var (x : Fin K → EReal) : EReal := Ideal.div (∑ k, xc x k * xc x k) len + eps
def xh (x : Fin K → EReal) (j : Fin K) : EReal := xc x j * Ideal.rsqrt (var x)
def c3 (x g b : Fin K → EReal) (j : Fin K) : EReal := xh x j * g j + b j

/-- The logistic function. -/
def sg (z : EReal) : EReal := Ideal.div one (one + Ideal.exp (-z))

/-- The cotangent before silu, as the call and as the derivative write it. -/
def d3 (d z : EReal) : EReal := d * sg z * (one + z * (one - sg z))
def rd3 (d z : EReal) : EReal := d * sg z + z * d * (sg z * (one - sg z))

/-- The row's cotangent as the call writes it, from `u`, the cotangent of the normed row. -/
def dx (x u : Fin K → EReal) (j : Fin K) : EReal :=
  Ideal.rsqrt (var x) * (u j - Ideal.div (∑ k, u k) len - xh x j * Ideal.div (∑ k, u k * xh x k) len)

/-- The cotangent of the squares, and the row's cotangent, as the derivative of mean, variance and root. -/
def sq (x u : Fin K → EReal) : EReal :=
  Ideal.div ((∑ k, xc x k * u k) * (mhalf * Ideal.div (Ideal.rsqrt (var x)) (var x))) len
def rdx (x u : Fin K → EReal) (j : Fin K) : EReal :=
  u j * Ideal.rsqrt (var x) + sq x u * (two * xc x j)
    + Ideal.div ((∑ k, -(u k * Ideal.rsqrt (var x))) + ∑ k, -(sq x u * (two * xc x k))) len

theorem len_eq : len = ((768 : ℝ) : EReal) := by
  have : (768 : ℝ) = 12582912 * (2 ^ 14 : ℝ)⁻¹ := by norm_num
  rw [this, EReal.coe_mul]
  simp [len, Ideal.ofBits, Ideal.ieee]

theorem one_eq : one = ((1 : ℝ) : EReal) := by
  have : (1 : ℝ) = 8388608 * (2 ^ 23 : ℝ)⁻¹ := by norm_num
  rw [this, EReal.coe_mul]
  simp [one, Ideal.ofBits, Ideal.ieee]

theorem two_eq : two = ((2 : ℝ) : EReal) := by
  have : (2 : ℝ) = 8388608 * (2 ^ 22 : ℝ)⁻¹ := by norm_num
  rw [this, EReal.coe_mul]
  simp [two, Ideal.ofBits, Ideal.ieee]

/-- The logistic function of a real number is real. -/
theorem sg_real (z : ℝ) : ∃ s : ℝ, sg z = s := by
  refine ⟨1 * (1 / (1 + Real.exp (-z))), ?_⟩
  unfold sg
  rw [one_eq, ← EReal.coe_neg, Ideal.exp_coe, ← EReal.coe_add, Ideal.div_coe (by positivity), EReal.coe_mul]

theorem d3_real {d z : EReal} (hd : IsReal d) (hz : IsReal z) : IsReal (d3 d z) := by
  obtain ⟨c, rfl⟩ := hz
  obtain ⟨s, hs⟩ := sg_real c
  unfold d3
  rw [hs]
  exact (hd.mul ⟨_, rfl⟩).mul (IsReal.add ⟨_, one_eq⟩ (IsReal.mul ⟨c, rfl⟩ (IsReal.sub ⟨_, one_eq⟩ ⟨_, rfl⟩)))

theorem d3_eq {d z : EReal} (hd : IsReal d) (hz : IsReal z) : d3 d z = rd3 d z := by
  obtain ⟨a, rfl⟩ := hd
  obtain ⟨c, rfl⟩ := hz
  obtain ⟨s, hs⟩ := sg_real c
  unfold d3 rd3
  rw [hs, one_eq]
  simp only [← EReal.coe_mul, ← EReal.coe_add, ← EReal.coe_sub]
  congr 1
  ring

/-- On a real row: the mean, the distances, which sum to nothing, and the reciprocal root are real. -/
theorem parts (x : Fin K → ℝ) : ∃ (c : Fin K → ℝ) (v : ℝ), 0 < v ∧ ∑ k, c k = 0 ∧ (∀ k, xc (fun k => (x k : EReal)) k = c k)
    ∧ var (fun k => (x k : EReal)) = v ∧ Ideal.rsqrt (var (fun k => (x k : EReal))) = ((Real.sqrt v)⁻¹ : ℝ) := by
  obtain ⟨e, he, hE⟩ := Norm.eps_eq
  have hm : mu (fun k => (x k : EReal)) = (((∑ k, x k) * (1 / 768) : ℝ) : EReal) := by
    unfold mu
    rw [len_eq, Ideal.div_coe (by norm_num), EReal.coe_mul, coe_sum]
  have hc : ∀ k, xc (fun k => (x k : EReal)) k = ((x k - (∑ k, x k) * (1 / 768) : ℝ) : EReal) := by
    intro k; unfold xc; rw [hm, EReal.coe_sub]
  have hv : var (fun k => (x k : EReal))
      = (((∑ k, (x k - (∑ k, x k) * (1 / 768)) * (x k - (∑ k, x k) * (1 / 768))) * (1 / 768) + e : ℝ) : EReal) := by
    unfold var
    simp only [hc]
    rw [hE, len_eq, Ideal.div_coe (by norm_num), EReal.coe_add, EReal.coe_mul, coe_sum]
    simp only [EReal.coe_mul]
  have hp : 0 < (∑ k, (x k - (∑ k, x k) * (1 / 768)) * (x k - (∑ k, x k) * (1 / 768))) * (1 / 768) + e := by
    have := Finset.sum_nonneg fun k (_ : k ∈ Finset.univ) => mul_self_nonneg (x k - (∑ k, x k) * (1 / 768))
    positivity
  refine ⟨_, _, hp, ?_, hc, hv, ?_⟩
  · rw [Finset.sum_sub_distrib, Finset.sum_const, Finset.card_univ, Fintype.card_fin, nsmul_eq_mul]
    norm_num
    ring
  · rw [hv, Ideal.rsqrt_coe, if_neg hp.not_gt, if_neg hp.ne']

theorem c3_real {x g b : Fin K → EReal} (hx : ∀ k, IsReal (x k)) (hg : ∀ k, IsReal (g k)) (hb : ∀ k, IsReal (b k)) (j : Fin K) :
    IsReal (c3 x g b j) := by
  choose a ha using hx
  obtain rfl : x = fun k => (a k : EReal) := funext ha
  obtain ⟨c, v, hp, h0, hc, hv, hr⟩ := parts a
  unfold c3 xh
  rw [hr, hc]
  exact ((IsReal.mul ⟨_, rfl⟩ ⟨_, rfl⟩).mul (hg j)).add (hb j)

/-- The two ways to write the row's cotangent agree on real numbers. -/
theorem dx_eq {x u : Fin K → EReal} (hx : ∀ k, IsReal (x k)) (hu : ∀ k, IsReal (u k)) (j : Fin K) : dx x u j = rdx x u j := by
  choose a ha using hx
  choose d hd using hu
  obtain rfl : x = fun k => (a k : EReal) := funext ha
  obtain rfl : u = fun k => (d k : EReal) := funext hd
  obtain ⟨c, v, hp, h0, hc, hv, hr⟩ := parts a
  have hs : (Real.sqrt v) * (Real.sqrt v) = v := Real.mul_self_sqrt hp.le
  have hs0 : Real.sqrt v ≠ 0 := (Real.sqrt_pos.mpr hp).ne'
  have hq : sq (fun k => (a k : EReal)) (fun k => (d k : EReal))
      = (((∑ k, c k * d k) * (-(1 / 2) * ((Real.sqrt v)⁻¹ * (1 / v))) * (1 / 768) : ℝ) : EReal) := by
    unfold sq
    simp only [hc]
    rw [hr, hv, len_eq, Norm.mhalf_eq, Ideal.div_coe hp.ne', Ideal.div_coe (by norm_num)]
    simp only [← EReal.coe_mul, ← coe_sum]
  unfold dx rdx xh
  rw [hq]
  simp only [hc, hr, len_eq, two_eq, Ideal.div_coe (show (768 : ℝ) ≠ 0 by norm_num), ← EReal.coe_mul, ← EReal.coe_neg, ← coe_sum,
    ← EReal.coe_sub, ← EReal.coe_add]
  congr 1
  have h1 : ∑ k, d k * (c k * (Real.sqrt v)⁻¹) = (∑ k, c k * d k) * (Real.sqrt v)⁻¹ := by
    rw [Finset.sum_mul]
    exact Finset.sum_congr rfl fun k _ => by ring
  rw [h1, Finset.sum_neg_distrib, Finset.sum_neg_distrib, ← Finset.sum_mul, ← Finset.mul_sum, ← Finset.mul_sum, h0]
  generalize ∑ k, c k * d k = S
  generalize ∑ k, d k = D
  generalize Real.sqrt v = s at *
  subst hs
  field_simp
  ring

end Cert.Layer

end
-- ==== Proof.ConvNormClaim.lean ====
/-
  The gradient of silu and of the layer norm, fused with the product with `w_conv_proj`: what each array of the call
  ends with as a plain formula of the arguments, the same of the reference's results, and their equality on arguments
  that are real numbers.
-/
module

public import proofs.«01_k».proof.Proof.Gen.ConvNormIdeal.Value
public import proofs.«01_k».proof.Proof.Gen.ConvNormRefIdeal.Run
public import proofs.«01_k».proof.Defs
public import proofs.«01_k».proof.Proof.Gen.ConvNormIdeal
public import proofs.«01_k».proof.Proof.Gen.ConvNormRefIdeal
public import proofs.«01_k».proof.Proof.Gen.Pre_pre_cpb
public import proofs.«01_k».proof.Proof.LayerRow
public import Idealize.ShloMosaic.Lib.Pipeline.ValueKit
public import Idealize.ShloMosaic.Lib.Pointwise
public import Idealize.ShloMosaic.Lib.Claim

@[expose] public section

set_option maxRecDepth 16384

noncomputable section

namespace Cert.Layer

open Cert.Norm (rows du)

/-- The cotangent of the norm's rows: the rows `x`, the scale, the shift, and the product's cotangent and weight. -/
def up {R J : ℕ} (x : Fin R → Fin K → EReal) (g b : Fin K → EReal) (d : Fin R → Fin J → EReal) (w : Fin K → Fin J → EReal) (n : Fin R)
    (j : Fin K) : EReal := d3 (du d w n j) (c3 (x n) g b j)

/-- The rows' cotangent. -/
def dxs {R J : ℕ} (x : Fin R → Fin K → EReal) (g b : Fin K → EReal) (d : Fin R → Fin J → EReal) (w : Fin K → Fin J → EReal) (n : Fin R)
    (j : Fin K) : EReal := dx (x n) (fun k => up x g b d w n k * g k) j

end Cert.Layer

namespace Cert.ConvNormIdeal.Val

open Idealize.ShloMosaic Idealize.ShloMosaic.TcCoe Idealize.SL.Sem
open Idealize.ShloMosaic.Pipeline (Dat)
open Cert.ConvNormIdeal Cert.ConvNormIdeal.Gen
open Cert.Row (IsReal)
open Cert.Norm (rows du)
open Cert.Layer (up dxs)

variable (m : (ℓ : Loc nD τ sig) → Buf (Elt Ideal) ℓ)

/-- The block of every operand at a grid point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![0, 0]
    ∧ win0_7.index t = ![0, 0] ∧ win0_8.index t = ![0, 0] :=
  (by decide +kernel : ∀ t : Fin grid0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![0, 0]
    ∧ win0_7.index t = ![0, 0] ∧ win0_8.index t = ![0, 0])

theorem pay3 (x j0 j1) : k0_pay3 (F := Ideal) x (ix2 j0 j1) = Layer.xc (rows x j0) j1 := by
  unfold Layer.xc Layer.mu rows
  pointwise [k0_pay3]

theorem pay4 (x j0 j1) : k0_pay4 (F := Ideal) x (ix2 j0 j1) = Ideal.rsqrt (Layer.var (rows x j0)) := by
  unfold Layer.var
  pointwise [k0_pay4, pay3]

theorem pay5 (x j0 j1) : k0_pay5 (F := Ideal) x (ix2 j0 j1) = Layer.xh (rows x j0) j1 := by
  unfold Layer.xh
  pointwise [k0_pay5, pay4, pay3]

theorem pay6 (x g b j0 j1) : k0_pay6 (F := Ideal) x g b (ix2 j0 j1) = Layer.c3 (rows x j0) (rows g 0) (rows b 0) j1 := by
  unfold Layer.c3
  pointwise [k0_pay6, pay5]
  rfl

theorem pay7 (x g b j0 j1) : k0_pay7 (F := Ideal) x g b (ix2 j0 j1) = Layer.sg (Layer.c3 (rows x j0) (rows g 0) (rows b 0) j1) := by
  unfold Layer.sg
  rw [← zero_sub]
  pointwise [k0_pay7, pay6]

theorem pay8 (d w x g b j0 j1) : k0_pay8 (F := Ideal) d w x g b (ix2 j0 j1)
    = du (rows d) (rows w) j0 j1 * Layer.sg (Layer.c3 (rows x j0) (rows g 0) (rows b 0) j1) := by
  unfold du rows
  pointwise [k0_pay8, pay7]
  rfl

theorem pay9 (v28 v35 v36 o j0 j1) : k0_pay9 (F := Ideal) v28 v35 v36 o (ix2 j0 j1)
    = v36 (ix2 j0 j1) * (Layer.one + v28 (ix2 j0 j1) * (o - v35 (ix2 j0 j1))) := by
  pointwise [k0_pay9]

/-- A block's cotangent of the norm's rows. -/
def bu (d : FVec Ideal S512x1024 .bf16) (w : FVec Ideal S768x1024 .bf16) (x : FVec Ideal S512x768 .f32) (g b : FVec Ideal S1x768 .f32) :
    FVec Ideal S512x768 .f32 := k0_pay9 (k0_pay6 x g b) (k0_pay7 x g b) (k0_pay8 d w x g b) (Scalar.ofBits .f32 0x3F800000#32)

theorem bu_eq (d w x g b j0 j1) : bu d w x g b (ix2 j0 j1) = up (rows x) (rows g 0) (rows b 0) (rows d) (rows w) j0 j1 := by
  unfold bu up Layer.d3
  rw [pay9, pay6, pay7, pay8]
  rfl

theorem pay10 (g r x v28 v35 v36 o j0 j1) : k0_pay10 (F := Ideal) g r x v28 v35 v36 o (ix2 j0 j1)
    = r (ix2 j0 0) * (k0_pay9 v28 v35 v36 o (ix2 j0 j1) * g (ix2 0 j1) - Ideal.div (∑ k, k0_pay9 v28 v35 v36 o (ix2 j0 k) * g (ix2 0 k)) Layer.len
        - x (ix2 j0 j1) * Ideal.div (∑ k, k0_pay9 v28 v35 v36 o (ix2 j0 k) * g (ix2 0 k) * x (ix2 j0 k)) Layer.len) := by
  pointwise [k0_pay10]

theorem pay11 (x v28 v35 v36 o j0 j1) : k0_pay11 (F := Ideal) x v28 v35 v36 o (ix2 j0 j1) = ∑ n, k0_pay9 v28 v35 v36 o (ix2 n j1) * x (ix2 n j1) := by
  pointwise [k0_pay11]

theorem pay12 (v28 v35 v36 o j0 j1) : k0_pay12 (F := Ideal) v28 v35 v36 o (ix2 j0 j1) = ∑ n, k0_pay9 v28 v35 v36 o (ix2 n j1) := by
  pointwise [k0_pay12]

theorem pay13 (g r x v28 v35 v36 o j0 j1) : k0_pay13 (F := Ideal) g r x v28 v35 v36 o (ix2 j0 j1) = ∑ n, k0_pay10 g r x v28 v35 v36 o (ix2 n j1) := by
  pointwise [k0_pay13]

theorem pay14 (x v28 v35 v36 o a j0 j1) : k0_pay14 (F := Ideal) x v28 v35 v36 o a (ix2 j0 j1) = a (ix2 j0 j1) + k0_pay11 x v28 v35 v36 o (ix2 j0 j1) := by
  pointwise [k0_pay14]

theorem pay1 (s a j0 j1) : k0_pay1 (F := Ideal) s a (ix2 j0 j1) = a (ix2 j0 j1) + s (ix2 j0 j1) := by pointwise [k0_pay1]

theorem pay2 (s a j0 j1) : k0_pay2 (F := Ideal) s a (ix2 j0 j1) = a (ix2 j0 j1) + s (ix2 j0 j1) := by pointwise [k0_pay2]

/-- A block's four results: the rows' cotangent, and its shares of the scale's, the shift's and the bias's gradient. -/
def b0 (d : FVec Ideal S512x1024 .bf16) (w : FVec Ideal S768x1024 .bf16) (x : FVec Ideal S512x768 .f32) (g b : FVec Ideal S1x768 .f32) :
    FVec Ideal S512x768 .f32 :=
  k0_pay10 g (k0_pay4 x) (k0_pay5 x) (k0_pay6 x g b) (k0_pay7 x g b) (k0_pay8 d w x g b) (Scalar.ofBits .f32 0x3F800000#32)
def b1 (d : FVec Ideal S512x1024 .bf16) (w : FVec Ideal S768x1024 .bf16) (x : FVec Ideal S512x768 .f32) (g b : FVec Ideal S1x768 .f32) :
    FVec Ideal S1x768 .f32 := k0_pay11 (k0_pay5 x) (k0_pay6 x g b) (k0_pay7 x g b) (k0_pay8 d w x g b) (Scalar.ofBits .f32 0x3F800000#32)
def b2 (d : FVec Ideal S512x1024 .bf16) (w : FVec Ideal S768x1024 .bf16) (x : FVec Ideal S512x768 .f32) (g b : FVec Ideal S1x768 .f32) :
    FVec Ideal S1x768 .f32 := k0_pay12 (k0_pay6 x g b) (k0_pay7 x g b) (k0_pay8 d w x g b) (Scalar.ofBits .f32 0x3F800000#32)
def b3 (d : FVec Ideal S512x1024 .bf16) (w : FVec Ideal S768x1024 .bf16) (x : FVec Ideal S512x768 .f32) (g b : FVec Ideal S1x768 .f32) :
    FVec Ideal S1x768 .f32 :=
  k0_pay13 g (k0_pay4 x) (k0_pay5 x) (k0_pay6 x g b) (k0_pay7 x g b) (k0_pay8 d w x g b) (Scalar.ofBits .f32 0x3F800000#32)

theorem b0_eq (d w x g b j0 j1) : b0 d w x g b (ix2 j0 j1) = dxs (rows x) (rows g 0) (rows b 0) (rows d) (rows w) j0 j1 := by
  have e : ∀ k, k0_pay9 (F := Ideal) (k0_pay6 x g b) (k0_pay7 x g b) (k0_pay8 d w x g b) (Scalar.ofBits .f32 0x3F800000#32) (ix2 j0 k)
      = up (rows x) (rows g 0) (rows b 0) (rows d) (rows w) j0 k := fun k => bu_eq d w x g b j0 k
  unfold b0
  rw [pay10]
  simp only [e, pay4, pay5]
  rfl

theorem b1_eq (d w x g b j0 j1) : b1 d w x g b (ix2 j0 j1)
    = ∑ n, up (rows x) (rows g 0) (rows b 0) (rows d) (rows w) n j1 * Layer.xh (rows x n) j1 := by
  have e : ∀ n k, k0_pay9 (F := Ideal) (k0_pay6 x g b) (k0_pay7 x g b) (k0_pay8 d w x g b) (Scalar.ofBits .f32 0x3F800000#32) (ix2 n k)
      = up (rows x) (rows g 0) (rows b 0) (rows d) (rows w) n k := fun n k => bu_eq d w x g b n k
  unfold b1
  rw [pay11]
  simp only [e, pay5]

theorem b2_eq (d w x g b j0 j1) : b2 d w x g b (ix2 j0 j1) = ∑ n, up (rows x) (rows g 0) (rows b 0) (rows d) (rows w) n j1 := by
  unfold b2
  rw [pay12]
  exact (show (_ : EReal) = _ from Finset.sum_congr rfl fun n _ => bu_eq d w x g b n j1)

theorem b3_eq (d w x g b j0 j1) : b3 d w x g b (ix2 j0 j1) = ∑ n, dxs (rows x) (rows g 0) (rows b 0) (rows d) (rows w) n j1 := by
  unfold b3
  rw [pay13]
  exact (show (_ : EReal) = _ from Finset.sum_congr rfl fun n _ => b0_eq d w x g b n j1)

theorem outsA (c : Dev nD) (t : Fin cfg0.N) (h : t.val % 16 = 0) :
    (∀ y, (outsAt0 m c t.val t.isLt).1 y = b0 (iblk m c 0 t) (iblk m c 1 t) (iblk m c 2 t) (iblk m c 3 t) (iblk m c 4 t) y)
    ∧ (∀ y, (outsAt0 m c t.val t.isLt).2.1 y = b1 (iblk m c 0 t) (iblk m c 1 t) (iblk m c 2 t) (iblk m c 3 t) (iblk m c 4 t) y)
    ∧ (∀ y, (outsAt0 m c t.val t.isLt).2.2.1 y = b2 (iblk m c 0 t) (iblk m c 1 t) (iblk m c 2 t) (iblk m c 3 t) (iblk m c 4 t) y)
    ∧ ∀ y, (outsAt0 m c t.val t.isLt).2.2.2 y = b3 (iblk m c 0 t) (iblk m c 1 t) (iblk m c 2 t) (iblk m c 3 t) (iblk m c 4 t) y := by
  have hN : t.val < 16 := lt_of_lt_of_eq t.isLt N_0
  rw [outsAt0_A m c t h (by omega) h (by omega) h (by omega)]
  refine ⟨fun y => ?_, fun y => ?_, fun y => ?_, fun y => ?_⟩
  · frame_out; rfl
  · frame_out; rfl
  · frame_out; rfl
  · frame_out; rfl

theorem outsB (c : Dev nD) (t : Fin cfg0.N) (h : ¬ t.val % 16 = 0) :
    (∀ y, (outsAt0 m c t.val t.isLt).1 y = b0 (iblk m c 0 t) (iblk m c 1 t) (iblk m c 2 t) (iblk m c 3 t) (iblk m c 4 t) y)
    ∧ (∀ y, (outsAt0 m c t.val t.isLt).2.1 y = (outsAt0 m c (t.val - 1) (by omega)).2.1 y
      + b1 (iblk m c 0 t) (iblk m c 1 t) (iblk m c 2 t) (iblk m c 3 t) (iblk m c 4 t) y)
    ∧ (∀ y, (outsAt0 m c t.val t.isLt).2.2.1 y = (outsAt0 m c (t.val - 1) (by omega)).2.2.1 y
      + b2 (iblk m c 0 t) (iblk m c 1 t) (iblk m c 2 t) (iblk m c 3 t) (iblk m c 4 t) y)
    ∧ ∀ y, (outsAt0 m c t.val t.isLt).2.2.2 y = (outsAt0 m c (t.val - 1) (by omega)).2.2.2 y
      + b3 (iblk m c 0 t) (iblk m c 1 t) (iblk m c 2 t) (iblk m c 3 t) (iblk m c 4 t) y := by
  have hN : t.val < 16 := lt_of_lt_of_eq t.isLt N_0
  rw [outsAt0_B m c t h (by omega) h (by omega) h (by omega)]
  refine ⟨fun y => ?_, fun y => ?_, fun y => ?_, fun y => ?_⟩
  · frame_out; rfl
  · frame_out; idx_vars y; exact pay14 ..
  · frame_out; idx_vars y; exact pay1 ..
  · frame_out; idx_vars y; exact pay2 ..

/-- The arguments of a launch, by the reference's names. -/
abbrev cv (c : Dev nD) : FVec Ideal S8192x768 .f32 := m ((c : Thread nD τ).loc main_arg0)
abbrev cb (c : Dev nD) : FVec Ideal S1x768 .f32 := m ((c : Thread nD τ).loc main_arg1)
abbrev g (c : Dev nD) : FVec Ideal S1x768 .f32 := m ((c : Thread nD τ).loc main_arg2)
abbrev b (c : Dev nD) : FVec Ideal S1x768 .f32 := m ((c : Thread nD τ).loc main_arg3)
abbrev w (c : Dev nD) : FVec Ideal S768x1024 .f32 := m ((c : Thread nD τ).loc main_arg4)
abbrev dy (c : Dev nD) : FVec Ideal S8192x1024 .f32 := m ((c : Thread nD τ).loc main_arg5)

/-- The norm's rows: the convolution's output with its bias. -/
def xs (c : FVec Ideal S8192x768 .f32) (b : FVec Ideal S1x768 .f32) (n : Fin 8192) (j : Fin 768) : EReal := c (ix2 n j) + b (ix2 0 j)

/-- A grid point's blocks hold its rows of the arguments. -/
theorem blk_rows (c : Dev nD) (p : Fin cfg0.N) (x : Fin 512) (n : Fin 8192) (hn : (n : ℕ) = p.val * 512 + x) :
    rows (a := 512) (b := 1024) (iblk m c 0 p) x = rows (dy m c) n ∧ rows (a := 512) (b := 768) (iblk m c 2 p) x = xs (cv m c) (cb m c) n := by
  refine ⟨?_, ?_⟩
  · funext j; unfold rows; blk_point [iblk, V, idx p]
  · funext j
    unfold rows xs
    have f : (win0_2.blk p).view.emb (ix2 x j) = (ix2 n j : S8192x768.Idx) := by blk_ext [idx p]
    refine Eq.trans (b := cv m c ((win0_2.blk p).view.emb (ix2 x j)) + cb m c (ix2 0 (((win0_2.blk p).view.emb (ix2 x j) : S8192x768.Idx) 1))) (by blk_point [iblk, V, idx p]) ?_
    rw [f]
    rfl

theorem blk_whole (c : Dev nD) (p : Fin cfg0.N) : rows (a := 768) (b := 1024) (iblk m c 1 p) = rows (w m c)
    ∧ rows (a := 1) (b := 768) (iblk m c 3 p) = rows (g m c) ∧ rows (a := 1) (b := 768) (iblk m c 4 p) = rows (b m c) := by
  refine ⟨?_, ?_, ?_⟩ <;> (funext i j; unfold rows; blk_point [iblk, V, idx p])

/-- The two cotangents of the launch's arguments. -/
abbrev ups (c : Dev nD) : Fin 8192 → Fin 768 → EReal := up (xs (cv m c) (cb m c)) (rows (g m c) 0) (rows (b m c) 0) (rows (dy m c)) (rows (w m c))
abbrev dxm (c : Dev nD) : Fin 8192 → Fin 768 → EReal := dxs (xs (cv m c) (cb m c)) (rows (g m c) 0) (rows (b m c) 0) (rows (dy m c)) (rows (w m c))

theorem blk_up (c : Dev nD) (p : Fin cfg0.N) (x : Fin 512) (n : Fin 8192) (hn : (n : ℕ) = p.val * 512 + x) :
    up (rows (a := 512) (b := 768) (iblk m c 2 p)) (rows (a := 1) (b := 768) (iblk m c 3 p) 0) (rows (a := 1) (b := 768) (iblk m c 4 p) 0)
      (rows (a := 512) (b := 1024) (iblk m c 0 p)) (rows (a := 768) (b := 1024) (iblk m c 1 p)) x = ups m c n
    ∧ dxs (rows (a := 512) (b := 768) (iblk m c 2 p)) (rows (a := 1) (b := 768) (iblk m c 3 p) 0) (rows (a := 1) (b := 768) (iblk m c 4 p) 0)
      (rows (a := 512) (b := 1024) (iblk m c 0 p)) (rows (a := 768) (b := 1024) (iblk m c 1 p)) x = dxm m c n := by
  obtain ⟨e0, e2⟩ := blk_rows m c p x n hn
  obtain ⟨e1, e3, e4⟩ := blk_whole m c p
  unfold ups dxm dxs up du
  rw [e0, e1, e2, e3, e4]
  exact ⟨rfl, rfl⟩

/-- The rows' cotangent, whole. -/
theorem final5 (c : Dev nD) : (dats m 0 c).arrAt 5 (cfgs 0).N = (fun i => dxm m c (i 0) (i 1) : FVec Ideal S8192x768 .f32) := by
  refine (dats m 0 c).arrAt_eq_of_covers 5 _ (by decide +kernel) fun t _ y => ?_
  blk_simp
  have o : (outsAt0 m c t.val t.isLt).1 y = b0 (iblk m c 0 t) (iblk m c 1 t) (iblk m c 2 t) (iblk m c 3 t) (iblk m c 4 t) y := by
    by_cases h : t.val % 16 = 0
    · exact (outsA m c t h).1 y
    · exact (outsB m c t h).1 y
  rw [after0_5, o]
  idx_vars y
  have hn : t.val * 512 + (y0 : ℕ) < 8192 := by have := lt_of_lt_of_eq t.isLt N_0; omega
  have f0 : (((View.whole main_v4_0).slice (win0_5.rect t)).emb (ix2 y0 y1) 0) = (⟨t.val * 512 + y0, hn⟩ : Fin 8192) := Fin.ext (by blk_simp [idx t])
  have f1 : (((View.whole main_v4_0).slice (win0_5.rect t)).emb (ix2 y0 y1) 1) = (y1 : Fin 768) := Fin.ext (by blk_simp [idx t])
  rw [f0, f1, b0_eq, (blk_up m c t y0 ⟨t.val * 512 + y0, hn⟩ rfl).2]

/-- The gradient of the norm's scale. -/
theorem final6 (c : Dev nD) : (dats m 0 c).arrAt 6 (cfgs 0).N
    = (fun i => ∑ n, ups m c n (i 1) * Layer.xh (xs (cv m c) (cb m c) n) (i 1) : FVec Ideal S1x768 .f32) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0)
    (fun p j => b1 (iblk m c 0 p) (iblk m c 1 p) (iblk m c 2 p) (iblk m c 3 p) (iblk m c 4 p) j)
    (fun t h j => by rw [(outsA m c t h).2.1, zero_add])
    (fun t h j => (outsB m c t h).2.1 j)
    (le_of_eq N_0) t0_15 rfl j, zero_add]
  idx_vars j
  simp only [b1_eq]
  refine Fin.sum_mul_add_congr fun p x hl => ?_
  rw [(blk_up m c p x ⟨_, hl⟩ rfl).1, (blk_rows m c p x ⟨_, hl⟩ rfl).2]

/-- The gradient of the norm's shift. -/
theorem final7 (c : Dev nD) : (dats m 0 c).arrAt 7 (cfgs 0).N = (fun i => ∑ n, ups m c n (i 1) : FVec Ideal S1x768 .f32) := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0)
    (fun p j => b2 (iblk m c 0 p) (iblk m c 1 p) (iblk m c 2 p) (iblk m c 3 p) (iblk m c 4 p) j)
    (fun t h j => by rw [(outsA m c t h).2.2.1, zero_add])
    (fun t h j => (outsB m c t h).2.2.1 j)
    (le_of_eq N_0) t0_15 rfl j, zero_add]
  idx_vars j
  simp only [b2_eq]
  exact Fin.sum_mul_add_congr fun p x hl => congrFun (blk_up m c p x ⟨_, hl⟩ rfl).1 _

/-- The gradient of the convolution's bias. -/
theorem final8 (c : Dev nD) : (dats m 0 c).arrAt 8 (cfgs 0).N = (fun i => ∑ n, dxm m c n (i 1) : FVec Ideal S1x768 .f32) := by
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => 0)
    (fun p j => b3 (iblk m c 0 p) (iblk m c 1 p) (iblk m c 2 p) (iblk m c 3 p) (iblk m c 4 p) j)
    (fun t h j => by rw [(outsA m c t h).2.2.2, zero_add])
    (fun t h j => (outsB m c t h).2.2.2 j)
    (le_of_eq N_0) t0_15 rfl j, zero_add]
  idx_vars j
  simp only [b3_eq]
  exact Fin.sum_mul_add_congr fun p x hl => congrFun (blk_up m c p x ⟨_, hl⟩ rfl).2 _

end Cert.ConvNormIdeal.Val

namespace Cert.ConvNormRefIdeal.Val

open Idealize.ShloMosaic Idealize.ShloMosaic.TcCoe Idealize.SL.Sem
open Cert.ConvNormRefIdeal Cert.ConvNormRefIdeal.Gen
open Cert.Norm (rows du)

variable (m : (ℓ : Loc nD τ sig) → Buf (Elt Ideal) ℓ)

/-- The reference's arguments. -/
abbrev cv (c : Dev nD) : FVec Ideal S8192x768 .f32 := m ((c : Thread nD τ).loc main_arg0)
abbrev cb (c : Dev nD) : FVec Ideal S1x768 .f32 := m ((c : Thread nD τ).loc main_arg1)
abbrev g (c : Dev nD) : FVec Ideal S1x768 .f32 := m ((c : Thread nD τ).loc main_arg2)
abbrev b (c : Dev nD) : FVec Ideal S1x768 .f32 := m ((c : Thread nD τ).loc main_arg3)
abbrev w (c : Dev nD) : FVec Ideal S768x1024 .f32 := m ((c : Thread nD τ).loc main_arg4)
abbrev dy (c : Dev nD) : FVec Ideal S8192x1024 .f32 := m ((c : Thread nD τ).loc main_arg5)

/-- The reference's repeated operations: a vector along the rows, a column along them, a row sum, and constants. -/
abbrev along (g : FVec Ideal S1x768 .f32) : FVec Ideal S8192x768 .f32 := broadcastInDim S8192x768 ![0, 1] bcast_S1x768_S8192x768_0_1 g
abbrev col (q : FVec Ideal S8192x1 .f32) : FVec Ideal S8192x768 .f32 := broadcastInDim S8192x768 ![0, 1] bcast_S8192x1_S8192x768_0_1 q
abbrev red (x : FVec Ideal S8192x768 .f32) : FVec Ideal S8192 .f32 := Host.reduceAdd x (constant S_ .f32 0x00000000#32) reducesTo_S8192x768_S8192_d1 h_S_
abbrev lens : FVec Ideal S8192x1 .f32 := broadcastInDim S8192x1 ![] bcast_S_S8192x1 (constant S_ .f32 0x44400000#32)
abbrev ones : FVec Ideal S8192x768 .f32 := broadcastInDim S8192x768 ![] bcast_S_S8192x768 (constant S_ .f32 0x3F800000#32)

/-- The rows with the bias, their distance from their mean, the mean squares, the normed and the scaled rows, and silu's factor. -/
def xv (c : FVec Ideal S8192x768 .f32) (b : FVec Ideal S1x768 .f32) : FVec Ideal S8192x768 .f32 := addf c (along b)
def xcv (x : FVec Ideal S8192x768 .f32) : FVec Ideal S8192x768 .f32 :=
  subf x (col (Host.divf (broadcastInDim S8192x1 ![0] bcast_S8192_S8192x1_0 (red x)) lens))
def vv (x : FVec Ideal S8192x768 .f32) : FVec Ideal S8192x1 .f32 :=
  addf (Host.divf (broadcastInDim S8192x1 ![0] bcast_S8192_S8192x1_0 (red (mulf (xcv x) (xcv x)))) lens)
    (broadcastInDim S8192x1 ![] bcast_S_S8192x1 (constant S_ .f32 0x358637BD#32))
def xhv (x : FVec Ideal S8192x768 .f32) : FVec Ideal S8192x768 .f32 := mulf (xcv x) (col (Host.rsqrt (vv x)))
def c3v (x : FVec Ideal S8192x768 .f32) (g b : FVec Ideal S1x768 .f32) : FVec Ideal S8192x768 .f32 := addf (mulf (xhv x) (along g)) (along b)
def sgv (z : FVec Ideal S8192x768 .f32) : FVec Ideal S8192x768 .f32 := Host.divf ones (addf ones (Host.exp (Host.negf z)))

/-- The cotangents of the normed rows' affine image, of the squares, and of the rows. -/
def upv (z : FVec Ideal S8192x768 .f32) (d : FVec Ideal S8192x1024 .f32) (w : FVec Ideal S768x1024 .f32) : FVec Ideal S8192x768 .f32 :=
  addf (mulf (Host.dotGeneral dot_S8192x1024_S768x1024_S8192x768_1_1_0_0_n_n none d w) (sgv z))
    (mulf (mulf z (Host.dotGeneral dot_S8192x1024_S768x1024_S8192x768_1_1_0_0_n_n none d w)) (mulf (sgv z) (subf ones (sgv z))))
def sqv (x u : FVec Ideal S8192x768 .f32) : FVec Ideal S8192x768 .f32 :=
  mulf (broadcastInDim S8192x768 ![0] bcast_S8192_S8192x768_0 (Host.reduceAdd (Host.divf (mulf (shapeCast _ (red (mulf (xcv x) u)) shapeCasts_S8192_S8192x1)
    (mulf (broadcastInDim S8192x1 ![] bcast_S_S8192x1 (constant S_ .f32 0xBF000000#32)) (Host.divf (Host.rsqrt (vv x)) (vv x)))) lens)
    (constant S_ .f32 0x00000000#32) reducesTo_S8192x1_S8192_d1 h_S_))
    (mulf (broadcastInDim S8192x768 ![] bcast_S_S8192x768 (constant S_ .f32 0x40000000#32)) (xcv x))
def rv (x u : FVec Ideal S8192x768 .f32) : FVec Ideal S8192x768 .f32 := mulf u (col (Host.rsqrt (vv x)))
def dxv (x u : FVec Ideal S8192x768 .f32) : FVec Ideal S8192x768 .f32 :=
  addf (addf (rv x u) (sqv x u)) (broadcastInDim S8192x768 ![0] bcast_S8192_S8192x768_0 (Host.reduceAdd (Host.divf
    (addf (shapeCast _ (red (Host.negf (rv x u))) shapeCasts_S8192_S8192x1) (shapeCast _ (red (Host.negf (sqv x u))) shapeCasts_S8192_S8192x1)) lens)
    (constant S_ .f32 0x00000000#32) reducesTo_S8192x1_S8192_d1 h_S_))

/-- The same, by way of the batch axis. -/
def batch (x : FVec Ideal S8192x768 .f32) : FVec Ideal S8192x768 .f32 :=
  shapeCast _ (broadcastInDim S1x8192x768 ![1, 2] bcast_S8192x768_S1x8192x768_1_2 x) shapeCasts_S1x8192x768_S8192x768

theorem batch_eq (x j0 j1) : batch x (ix2 j0 j1) = x (ix2 j0 j1) := by
  pointwise [batch]

/-- A sum over the rows. -/
def total (x : FVec Ideal S8192x768 .f32) : FVec Ideal S1x768 .f32 :=
  shapeCast _ (Host.reduceAdd x (constant S_ .f32 0x00000000#32) reducesTo_S8192x768_S768_d0 h_S_) shapeCasts_S768_S1x768

theorem xcv_eq (x j0 j1) : xcv x (ix2 j0 j1) = Layer.xc (rows x j0) j1 := by
  unfold Layer.xc Layer.mu rows
  pointwise [xcv]

theorem vv_eq (x j0 j1) : vv x (ix2 j0 j1) = Layer.var (rows x j0) := by
  unfold Layer.var
  pointwise [vv, xcv_eq]

theorem xhv_eq (x j0 j1) : xhv x (ix2 j0 j1) = Layer.xh (rows x j0) j1 := by
  unfold Layer.xh
  pointwise [xhv, xcv_eq, vv_eq]

theorem c3v_eq (x g b j0 j1) : c3v x g b (ix2 j0 j1) = Layer.c3 (rows x j0) (rows g 0) (rows b 0) j1 := by
  unfold Layer.c3
  pointwise [c3v, xhv_eq]
  rfl

theorem sgv_eq (z j0 j1) : sgv z (ix2 j0 j1) = Layer.sg (z (ix2 j0 j1)) := by
  unfold Layer.sg
  pointwise [sgv]

theorem upv_eq (z d w j0 j1) : upv z d w (ix2 j0 j1) = Layer.rd3 (du (rows d) (rows w) j0 j1) (z (ix2 j0 j1)) := by
  unfold Layer.rd3 du rows
  pointwise [upv, sgv_eq]

theorem sqv_eq (x u j0 j1) : sqv x u (ix2 j0 j1) = Layer.sq (rows x j0) (rows u j0) * (Layer.two * Layer.xc (rows x j0) j1) := by
  unfold Layer.sq
  pointwise [sqv, xcv_eq, vv_eq]
  simp only [Fin.sum_univ_one]
  rfl

theorem rv_eq (x u j0 j1) : rv x u (ix2 j0 j1) = rows u j0 j1 * Ideal.rsqrt (Layer.var (rows x j0)) := by
  pointwise [rv, vv_eq]
  rfl

theorem dxv_eq (x u j0 j1) : dxv x u (ix2 j0 j1) = Layer.rdx (rows x j0) (rows u j0) j1 := by
  unfold Layer.rdx
  pointwise [dxv, rv_eq, sqv_eq]
  simp only [Fin.sum_univ_one]

theorem total_eq (x j0 j1) : total x (ix2 j0 j1) = ∑ n, rows x n j1 := by
  unfold rows
  pointwise [total]

end Cert.ConvNormRefIdeal.Val

namespace Cert.ConvNormIdeal.Val

open Idealize.ShloMosaic Idealize.ShloMosaic.TcCoe Idealize.SL.Sem
open Cert.ConvNormIdeal Cert.ConvNormIdeal.Gen
open Cert.Row (IsReal)
open Cert.Norm (rows du)
open Cert.Layer (up dxs)

/-- The precondition: every argument is real numbers. -/
theorem real_of_pre (a0 a1 a2 a3 a4 a5) : ((Cert.Pre_pre_cpb.fn (F := Ideal) a0 a1 a2 a3 a4 a5).1 = (fun _ => 1#1) → ∀ n j, IsReal (rows a0 n j))
    ∧ ((Cert.Pre_pre_cpb.fn (F := Ideal) a0 a1 a2 a3 a4 a5).2.1 = (fun _ => 1#1) → ∀ n j, IsReal (rows a1 n j))
    ∧ ((Cert.Pre_pre_cpb.fn (F := Ideal) a0 a1 a2 a3 a4 a5).2.2.1 = (fun _ => 1#1) → ∀ n j, IsReal (rows a2 n j))
    ∧ ((Cert.Pre_pre_cpb.fn (F := Ideal) a0 a1 a2 a3 a4 a5).2.2.2.1 = (fun _ => 1#1) → ∀ n j, IsReal (rows a3 n j))
    ∧ ((Cert.Pre_pre_cpb.fn (F := Ideal) a0 a1 a2 a3 a4 a5).2.2.2.2.1 = (fun _ => 1#1) → ∀ n j, IsReal (rows a4 n j))
    ∧ ((Cert.Pre_pre_cpb.fn (F := Ideal) a0 a1 a2 a3 a4 a5).2.2.2.2.2 = (fun _ => 1#1) → ∀ n j, IsReal (rows a5 n j)) := by
  refine ⟨fun h n j => ?_, fun h n j => ?_, fun h n j => ?_, fun h n j => ?_, fun h n j => ?_, fun h n j => ?_⟩ <;>
  · have := congrFun h (ix2 n j)
    pointwise [Cert.Pre_pre_cpb.fn] at this
    exact Row.isReal_of_test this

open Cert.ConvNormRefIdeal.Val (xv xhv c3v upv dxv batch total along) in
/-- On arguments that are real numbers the call and the derivative of the forward lines end with equal results. -/
theorem algebraic : Cert.algebraic_ConvNormIdeal_ConvNormRefIdeal_pre_pre_cpb := by
  intro m ρ m' ρ' hP hA
  refine ⟨fun c => (dats m 0 c).arrAt 5 (cfgs 0).N, fun c => (dats m 0 c).arrAt 6 (cfgs 0).N, fun c => (dats m 0 c).arrAt 7 (cfgs 0).N,
    fun c => (dats m 0 c).arrAt 8 (cfgs 0).N,
    Cert.ConvNormIdeal.Value.run_blocks (F := Ideal) m ρ,
    (θ_run _ _ _).mono (fun r h c => ?_) (Cert.ConvNormRefIdeal.Value.run (F := Ideal) m' ρ')⟩
  obtain ⟨a0, a1, a2, a3, a4, a5⟩ := hA c
  obtain ⟨h0, h1, h2, h3, hk⟩ := h c
  obtain ⟨p0, p1, p2, p3, p4, p5⟩ := hP c
  have hr := real_of_pre (cv m c) (cb m c) (g m c) (b m c) (w m c) (dy m c)
  have e0 : ConvNormRefIdeal.Val.cv m' c = cv m c := a0
  have e1 : ConvNormRefIdeal.Val.cb m' c = cb m c := a1
  have e2 : ConvNormRefIdeal.Val.g m' c = g m c := a2
  have e3 : ConvNormRefIdeal.Val.b m' c = b m c := a3
  have e4 : ConvNormRefIdeal.Val.w m' c = w m c := a4
  have e5 : ConvNormRefIdeal.Val.dy m' c = dy m c := a5
  have hx : ∀ n j, IsReal (xs (cv m c) (cb m c) n j) := fun n j => (hr.1 p0 n j).add (hr.2.1 p1 0 j)
  have hg := hr.2.2.1 p2 0
  have hb := hr.2.2.2.1 p3 0
  have hd : ∀ n j, IsReal (du (rows (dy m c)) (rows (w m c)) n j) := Norm.du_real (hr.2.2.2.2.2 p5) (hr.2.2.2.2.1 p4)
  have hc : ∀ n j, IsReal (Layer.c3 (xs (cv m c) (cb m c) n) (rows (g m c) 0) (rows (b m c) 0) j) := fun n => Layer.c3_real (hx n) hg hb
  have sx : rows (xv (cv m c) (cb m c)) = xs (cv m c) (cb m c) := by
    funext n j; unfold xs rows; pointwise [xv]
  have su : rows (upv (c3v (xv (cv m c) (cb m c)) (g m c) (b m c)) (dy m c) (w m c)) = ups m c := by
    funext n j
    unfold ups up
    rw [Layer.d3_eq (hd n j) (hc n j)]
    refine (ConvNormRefIdeal.Val.upv_eq ..).trans ?_
    rw [ConvNormRefIdeal.Val.c3v_eq, sx]
  have sd : rows (dxv (xv (cv m c) (cb m c)) (mulf (upv (c3v (xv (cv m c) (cb m c)) (g m c) (b m c)) (dy m c) (w m c)) (along (g m c)))) = dxm m c := by
    funext n j
    unfold dxm dxs
    refine Eq.trans ?_ (Layer.dx_eq (hx n) (fun k => (Layer.d3_real (hd n k) (hc n k)).mul (hg k)) j).symm
    refine (ConvNormRefIdeal.Val.dxv_eq ..).trans ?_
    rw [sx]
    congr 1
    funext k
    refine Eq.trans ?_ (congrArg (· * _) (congrFun (congrFun su n) k))
    unfold rows
    pointwise
  refine ⟨?_, ?_, ?_, ?_, hk⟩
  · rw [h0]
    refine (show _ = batch (dxv (xv (ConvNormRefIdeal.Val.cv m' c) (ConvNormRefIdeal.Val.cb m' c)) (mulf (upv (c3v (xv (ConvNormRefIdeal.Val.cv m' c)
      (ConvNormRefIdeal.Val.cb m' c)) (ConvNormRefIdeal.Val.g m' c) (ConvNormRefIdeal.Val.b m' c)) (ConvNormRefIdeal.Val.dy m' c)
      (ConvNormRefIdeal.Val.w m' c)) (along (ConvNormRefIdeal.Val.g m' c)))) from rfl).trans ?_
    rw [e0, e1, e2, e3, e4, e5]
    beta_reduce
    rw [final5]
    funext i
    idx_vars i
    exact (ConvNormRefIdeal.Val.batch_eq ..).trans (congrFun (congrFun sd i0) i1)
  · rw [h1]
    refine (show _ = total (mulf (xhv (xv (ConvNormRefIdeal.Val.cv m' c) (ConvNormRefIdeal.Val.cb m' c))) (upv (c3v (xv (ConvNormRefIdeal.Val.cv m' c)
      (ConvNormRefIdeal.Val.cb m' c)) (ConvNormRefIdeal.Val.g m' c) (ConvNormRefIdeal.Val.b m' c)) (ConvNormRefIdeal.Val.dy m' c)
      (ConvNormRefIdeal.Val.w m' c))) from rfl).trans ?_
    rw [e0, e1, e2, e3, e4, e5]
    beta_reduce
    rw [final6]
    funext i
    idx_vars i
    rw [ConvNormRefIdeal.Val.total_eq]
    refine (show (_ : EReal) = _ from Finset.sum_congr rfl fun n _ => ?_)
    rw [mul_comm, ← sx, ← su]
    refine Eq.trans ?_ (congrArg (· * _) (ConvNormRefIdeal.Val.xhv_eq ..))
    unfold rows
    pointwise
  · rw [h2]
    refine (show _ = total (upv (c3v (xv (ConvNormRefIdeal.Val.cv m' c)
      (ConvNormRefIdeal.Val.cb m' c)) (ConvNormRefIdeal.Val.g m' c) (ConvNormRefIdeal.Val.b m' c)) (ConvNormRefIdeal.Val.dy m' c)
      (ConvNormRefIdeal.Val.w m' c)) from rfl).trans ?_
    rw [e0, e1, e2, e3, e4, e5]
    beta_reduce
    rw [final7]
    funext i
    idx_vars i
    rw [ConvNormRefIdeal.Val.total_eq, su]
  · rw [h3]
    refine (show _ = total (dxv (xv (ConvNormRefIdeal.Val.cv m' c) (ConvNormRefIdeal.Val.cb m' c)) (mulf (upv (c3v (xv (ConvNormRefIdeal.Val.cv m' c)
      (ConvNormRefIdeal.Val.cb m' c)) (ConvNormRefIdeal.Val.g m' c) (ConvNormRefIdeal.Val.b m' c)) (ConvNormRefIdeal.Val.dy m' c)
      (ConvNormRefIdeal.Val.w m' c)) (along (ConvNormRefIdeal.Val.g m' c)))) from rfl).trans ?_
    rw [e0, e1, e2, e3, e4, e5]
    beta_reduce
    rw [final8]
    funext i
    idx_vars i
    rw [ConvNormRefIdeal.Val.total_eq, sd]

end Cert.ConvNormIdeal.Val

end
-- ==== Proof.CrossFwdClaim.lean ====
/-
  The cross attention's forward call: on arguments that are real numbers the call and the forward lines end with equal
  results. The call divides the weighted sum of the values by the sum of the exponentials; the forward lines divide
  every exponential first.
-/
module

public import proofs.«01_k».proof.Proof.Gen.CrossFwdIdeal.Value
public import proofs.«01_k».proof.Proof.Gen.CrossFwdRefIdeal.Run
public import proofs.«01_k».proof.Defs
public import proofs.«01_k».proof.Proof.Gen.CrossFwdIdeal
public import proofs.«01_k».proof.Proof.Gen.CrossFwdRefIdeal
public import proofs.«01_k».proof.Proof.Gen.CrossRefIdeal
public import proofs.«01_k».proof.Proof.Gen.Pre_pre_cqf
public import proofs.«01_k».proof.Proof.CrossRef
public import Idealize.ShloMosaic.Lib.Pipeline.ValueKit
public import Idealize.ShloMosaic.Lib.Pointwise
public import Idealize.ShloMosaic.Lib.Claim

@[expose] public section

set_option maxRecDepth 16384

noncomputable section

namespace Cert.Row

open Idealize.ShloMosaic

variable {n : ℕ}

/-- A row of the attention: the weighted sum of the values over the exponentials' sum. -/
def mean (s v : Fin n → EReal) : EReal := Ideal.div (∑ i, ex s i * v i) (den s)

/-- On real scores and values the division may be done first. -/
theorem mean_eq (hn : 0 < n) {s v : Fin n → EReal} (hs : ∀ i, IsReal (s i)) (hv : ∀ i, IsReal (v i)) : mean s v = ∑ i, v i * pr s i := by
  obtain ⟨e, he, hp⟩ := ex_real hn hs
  obtain ⟨d, hde, hdp⟩ := den_real hn hs
  choose g hg using hv
  unfold mean pr
  rw [hde]
  have h1 : ∑ i, ex s i * v i = ((∑ i, e i * g i : ℝ) : EReal) := by
    rw [coe_sum]
    exact Finset.sum_congr rfl fun i _ => by rw [he, hg, ← EReal.coe_mul]
  rw [h1, Ideal.div_coe hdp.ne', ← EReal.coe_mul, Finset.sum_mul, coe_sum]
  refine Finset.sum_congr rfl fun i _ => ?_
  rw [he, hg, Ideal.div_coe hdp.ne', ← EReal.coe_mul, ← EReal.coe_mul]
  congr 1
  ring

end Cert.Row

namespace Cert.CrossFwdIdeal.Val

open Idealize.ShloMosaic Idealize.ShloMosaic.TcCoe Idealize.SL.Sem
open Idealize.ShloMosaic.Pipeline (Dat)
open Cert.CrossFwdIdeal Cert.CrossFwdIdeal.Gen
open Cert.CrossIdeal.Val (sc col hd fac rows by_head col0)
open Cert.Row (IsReal)

/-- The queries: the rows against the columns of `w_cq`. -/
def prj {R : ℕ} (u : Fin R → Fin 1024 → EReal) (w : Fin 1024 → Fin 1024 → EReal) (n : Fin R) (j : Fin 1024) : EReal := ∑ l, u n l * w l j

theorem pay3 (u w j0 j1) : k0_pay3 (F := Ideal) u w (ix2 j0 j1) = prj (rows u) (rows w) j0 j1 := by
  unfold prj rows
  pointwise [k0_pay3]

theorem ex0 (u w k j0 j1) : k0_pay4 (F := Ideal) u w k (ix2 j0 j1) = Row.ex (sc (prj (rows u) (rows w)) (rows k) 0 j0) j1 := by
  unfold Row.ex Row.mx sc
  simp only [col0]
  pointwise [k0_pay4, pay3, k0_pay1]
  rfl

theorem ex1 (u w k j0 j1) : k0_pay6 (F := Ideal) u w k (ix2 j0 j1) = Row.ex (sc (prj (rows u) (rows w)) (rows k) 1 j0) j1 := by
  unfold Row.ex Row.mx sc
  pointwise [k0_pay6, pay3, k0_pay1]
  rfl

/-- The attention of a block of rows. -/
def att (u : Vec Ideal S512x1024 .bf16) (w : Vec Ideal S1024x1024 .bf16) (k v : Vec Ideal S256x1024 .bf16) : Vec Ideal S512x1024 .bf16 :=
  k0_pay10 (k0_pay1 k) (k0_pay2 v) (k0_pay3 u w) (k0_pay4 u w k) (k0_pay5 u w k) (k0_pay6 u w k) (k0_pay7 u w k) (k0_pay8 u w k) k0_pay9

theorem att_eq (u w k v j0 j1) : att u w k v (ix2 j0 j1)
    = Row.mean (sc (prj (rows u) (rows w)) (rows k) (hd j1) j0) (fun i => rows v i j1) := by
  unfold att
  pointwise [k0_pay10, k0_pay5, k0_pay7, k0_pay8, k0_pay9, k0_pay1, k0_pay2, pay3, ex0, ex1]
  exact by_head (fun h j => Row.mean (sc (prj (rows u) (rows w)) (rows k) h j0) (fun i => rows v i j)) j1

variable (m : (ℓ : Loc nD τ sig) → Buf (Elt Ideal) ℓ)

/-- The block of every operand at a grid point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![t.val, 0] ∧ win0_5.index t = ![t.val, 0])

/-- The arguments of a launch, by the reference's names. -/
abbrev uq (c : Dev nD) : FVec Ideal S8192x1024 .f32 := m ((c : Thread nD τ).loc main_arg0)
abbrev wq (c : Dev nD) : FVec Ideal S1024x1024 .f32 := m ((c : Thread nD τ).loc main_arg1)
abbrev ck (c : Dev nD) : FVec Ideal S256x1024 .f32 := m ((c : Thread nD τ).loc main_arg2)
abbrev cv (c : Dev nD) : FVec Ideal S256x1024 .f32 := m ((c : Thread nD τ).loc main_arg3)

/-- A grid point's blocks hold its rows of the arguments. -/
theorem blk_rows (c : Dev nD) (p : Fin cfg0.N) (x : Fin 512) (n : Fin 8192) (hn : (n : ℕ) = p.val * 512 + x) :
    rows (a := 512) (b := 1024) (iblk m c 0 p) x = rows (uq m c) n := by
  funext j; unfold rows; blk_point [iblk, V, idx p]

theorem blk_whole (c : Dev nD) (p : Fin cfg0.N) : rows (a := 1024) (b := 1024) (iblk m c 1 p) = rows (wq m c)
    ∧ rows (a := 256) (b := 1024) (iblk m c 2 p) = rows (ck m c) ∧ rows (a := 256) (b := 1024) (iblk m c 3 p) = rows (cv m c) := by
  refine ⟨?_, ?_, ?_⟩
  · funext i j; unfold rows; blk_point [iblk, V, idx p]
  · funext i j; unfold rows; blk_point [iblk, V, idx p]
  · funext i j; unfold rows; blk_point [iblk, V, idx p]

/-- A row's queries and scores depend on that row alone. -/
theorem prj_congr {R R' : ℕ} {u : Fin R → Fin 1024 → EReal} {u' : Fin R' → Fin 1024 → EReal} {w} {n n'} (hu : u n = u' n') : prj u w n = prj u' w n' := by
  funext j
  unfold prj
  rw [hu]

theorem sc_congr {R R' : ℕ} {q : Fin R → Fin 1024 → EReal} {q' : Fin R' → Fin 1024 → EReal} {k} {n n'} (hq : q n = q' n') (h) : sc q k h n = sc q' k h n' := by
  unfold sc
  rw [hq]

/-- A block loaded whole. -/
theorem zero2 : (![0, 0] : Fin 2 → ℕ) = fun _ => 0 := funext (Fin.forall_fin_two.2 ⟨rfl, rfl⟩)

theorem ld0 (x : Vec Ideal S512x1024 .bf16) : View.ld x r0_0 = x := View.ld_unit_zero zero2 ..
theorem ld1 (x : Vec Ideal S1024x1024 .bf16) : View.ld x r0_1 = x := View.ld_unit_zero zero2 ..

theorem pay11 (u w k v) : k0_pay11 (F := Ideal) u w k v = k0_pay3 u w := by
  unfold k0_pay11
  rw [ld0, ld1]

theorem outs4 (u w k v y) : out0_4 (F := Ideal) u w k v y = k0_pay3 u w y := by
  frame_out
  rw [pay11]

theorem outs5 (u w k v y) : out0_5 (F := Ideal) u w k v y = att u w k v y := by
  unfold att
  frame_out
  rw [pay11]

/-- The queries, whole. -/
theorem final4 (c : Dev nD) : (dats m 0 c).arrAt 4 (cfgs 0).N
    = (fun i => prj (rows (uq m c)) (rows (wq m c)) (i 0) (i 1) : FVec Ideal S8192x1024 .bf16) := by
  refine (dats m 0 c).arrAt_eq_of_covers 4 _ (by decide +kernel) fun t _ y => ?_
  blk_simp
  rw [after0_4, outs4]
  idx_vars y
  refine (pay3 ..).trans ?_
  have hn : t.val * 512 + (y0 : ℕ) < 8192 := by have := lt_of_lt_of_eq t.isLt N_0; omega
  rw [(blk_whole m c t).1, prj_congr (blk_rows m c t y0 ⟨t.val * 512 + y0, hn⟩ rfl)]
  have f0 : (((View.whole main_v4_0).slice (win0_4.rect t)).emb (ix2 y0 y1) 0) = (⟨t.val * 512 + y0, hn⟩ : Fin 8192) := Fin.ext (by blk_simp [idx t])
  have f1 : (((View.whole main_v4_0).slice (win0_4.rect t)).emb (ix2 y0 y1) 1) = (y1 : Fin 1024) := Fin.ext (by blk_simp [idx t])
  rw [f0, f1]

/-- The attention, whole. -/
theorem final5 (c : Dev nD) : (dats m 0 c).arrAt 5 (cfgs 0).N
    = (fun i => Row.mean (sc (prj (rows (uq m c)) (rows (wq m c))) (rows (ck m c)) (hd (i 1)) (i 0)) (fun x => rows (cv m c) x (i 1)) : FVec Ideal S8192x1024 .bf16) := by
  refine (dats m 0 c).arrAt_eq_of_covers 5 _ (by decide +kernel) fun t _ y => ?_
  blk_simp
  rw [after0_5, outs5]
  idx_vars y
  refine (att_eq ..).trans ?_
  have hn : t.val * 512 + (y0 : ℕ) < 8192 := by have := lt_of_lt_of_eq t.isLt N_0; omega
  obtain ⟨e1, e2, e3⟩ := blk_whole m c t
  rw [e1, e2, e3, sc_congr (prj_congr (blk_rows m c t y0 ⟨t.val * 512 + y0, hn⟩ rfl))]
  have f0 : (((View.whole main_v4_1).slice (win0_5.rect t)).emb (ix2 y0 y1) 0) = (⟨t.val * 512 + y0, hn⟩ : Fin 8192) := Fin.ext (by blk_simp [idx t])
  have f1 : (((View.whole main_v4_1).slice (win0_5.rect t)).emb (ix2 y0 y1) 1) = (y1 : Fin 1024) := Fin.ext (by blk_simp [idx t])
  rw [f0, f1]

end Cert.CrossFwdIdeal.Val

namespace Cert.CrossFwdRefIdeal.Val

open Idealize.ShloMosaic Idealize.ShloMosaic.TcCoe Idealize.SL.Sem
open Cert.CrossFwdRefIdeal Cert.CrossFwdRefIdeal.Gen
open Cert.CrossRefIdeal.Val (rows tS tE tP)
open Cert.CrossIdeal.Val (sc hd)
open Cert.CrossFwdIdeal.Val (prj)

/-- The reference's queries. -/
def tQ (u : FVec Ideal S8192x1024 .f32) (w : FVec Ideal S1024x1024 .f32) : FVec Ideal S8192x1024 .f32 :=
  Host.dotGeneral dot_S8192x1024_S1024x1024_S8192x1024_1_0_0_1_n_n none u w

theorem tQ_eq (u w j0 j1) : tQ u w (ix2 j0 j1) = prj (rows u) (rows w) j0 j1 := by
  unfold prj rows
  pointwise [tQ]

/-- The reference's attention from the softmax. -/
def tO (v : FVec Ideal S256x1024 .f32) (P : FVec Ideal S4x8192x256 .f32) : FVec Ideal S8192x1024 .bf16 :=
  truncf .bf16 (shapeCast S8192x1024 (transpose S8192x4x256 [2, 0, 1] (Host.dotGeneral dot_S256x4x256_S4x8192x256_S4x256x8192_0_2_2_1_1_0 none
    (shapeCast S256x4x256 v shapeCasts_S256x1024_S256x4x256 : FVec Ideal S256x4x256 .f32) P) transposes_S4x256x8192_S8192x4x256_2_0_1) shapeCasts_S8192x4x256_S8192x1024) bitsLt_bf16_f32

theorem tO_eq (v P j0 j1) : tO v P (ix2 j0 j1) = ∑ i, rows v i j1 * P (ix3 (hd j1) j0 i) := by
  pointwise [tO]
  rfl

end Cert.CrossFwdRefIdeal.Val

namespace Cert.CrossFwdIdeal.Val

open Idealize.ShloMosaic Idealize.ShloMosaic.TcCoe Idealize.SL.Sem
open Cert.CrossFwdIdeal Cert.CrossFwdIdeal.Gen
open Cert.CrossIdeal.Val (sc col hd fac rows)
open Cert.Row (IsReal)

/-- The scores' factor is a real number. -/
theorem fac_real : IsReal fac := by
  refine ⟨8388608 * (2 ^ 27 : ℝ)⁻¹, ?_⟩
  rw [EReal.coe_mul]
  simp [fac, Ideal.ofBits, Ideal.ieee]

/-- The precondition: the rows, weights, keys and values are real numbers. -/
theorem real_of_pre (a0 a1 a2 a3) : ((Cert.Pre_pre_cqf.fn (F := Ideal) a0 a1 a2 a3).1 = (fun _ => 1#1) → ∀ n j, IsReal (rows a0 n j))
    ∧ ((Cert.Pre_pre_cqf.fn (F := Ideal) a0 a1 a2 a3).2.1 = (fun _ => 1#1) → ∀ n j, IsReal (rows a1 n j))
    ∧ ((Cert.Pre_pre_cqf.fn (F := Ideal) a0 a1 a2 a3).2.2.1 = (fun _ => 1#1) → ∀ n j, IsReal (rows a2 n j))
    ∧ ((Cert.Pre_pre_cqf.fn (F := Ideal) a0 a1 a2 a3).2.2.2 = (fun _ => 1#1) → ∀ n j, IsReal (rows a3 n j)) := by
  refine ⟨fun h n j => ?_, fun h n j => ?_, fun h n j => ?_, fun h n j => ?_⟩ <;>
  · have := congrFun h (ix2 n j)
    pointwise [Cert.Pre_pre_cqf.fn] at this
    exact Row.isReal_of_test this

theorem algebraic : Cert.algebraic_CrossFwdIdeal_CrossFwdRefIdeal_pre_pre_cqf := by
  intro m g m' g' hP hA
  refine ⟨fun c => (dats m 0 c).arrAt 4 (cfgs 0).N, fun c => (dats m 0 c).arrAt 5 (cfgs 0).N,
    Cert.CrossFwdIdeal.Value.run_blocks (F := Ideal) m g,
    (θ_run _ _ _).mono (fun r h c => ?_) (Cert.CrossFwdRefIdeal.Value.run (F := Ideal) m' g')⟩
  obtain ⟨a0, a1, a2, a3⟩ := hA c
  obtain ⟨h0, h1, hk⟩ := h c
  obtain ⟨p0, p1, p2, p3⟩ := hP c
  have hr := real_of_pre (uq m c) (wq m c) (ck m c) (cv m c)
  have q0 := hr.1 p0
  have q1 := hr.2.1 p1
  have q2 := hr.2.2.1 p2
  have q3 := hr.2.2.2 p3
  have e0 : m' ((c.tc : Thread CrossFwdRefIdeal.nD CrossFwdRefIdeal.τ).loc CrossFwdRefIdeal.main_arg0) = uq m c := a0
  have e1 : m' ((c.tc : Thread CrossFwdRefIdeal.nD CrossFwdRefIdeal.τ).loc CrossFwdRefIdeal.main_arg1) = wq m c := a1
  have e2 : m' ((c.tc : Thread CrossFwdRefIdeal.nD CrossFwdRefIdeal.τ).loc CrossFwdRefIdeal.main_arg2) = ck m c := a2
  have e3 : m' ((c.tc : Thread CrossFwdRefIdeal.nD CrossFwdRefIdeal.τ).loc CrossFwdRefIdeal.main_arg3) = cv m c := a3
  refine ⟨?_, ?_, hk⟩
  · rw [h0, e0, e1]
    beta_reduce
    rw [final4]
    funext i
    idx_vars i
    exact (CrossFwdRefIdeal.Val.tQ_eq (uq m c) (wq m c) i0 i1)
  · rw [h1, e0, e1, e2, e3]
    refine Eq.trans (b := CrossFwdRefIdeal.Val.tO (cv m c) (CrossRefIdeal.Val.tP (CrossRefIdeal.Val.tE (CrossRefIdeal.Val.tS (CrossFwdRefIdeal.Val.tQ (uq m c) (wq m c)) (ck m c))))) rfl ?_
    beta_reduce
    rw [final5]
    funext i
    idx_vars i
    rw [CrossFwdRefIdeal.Val.tO_eq]
    have hq : CrossRefIdeal.Val.rows (CrossFwdRefIdeal.Val.tQ (uq m c) (wq m c)) = prj (rows (uq m c)) (rows (wq m c)) := by
      funext n j
      exact CrossFwdRefIdeal.Val.tQ_eq ..
    refine Eq.trans ?_ (Row.mean_eq (by decide) (fun x => ?_) (fun x => q3 x i1)).symm
    · refine (show (_ : EReal) = _ from Finset.sum_congr rfl fun x _ => ?_)
      rw [CrossRefIdeal.Val.tP_eq]
      simp only [CrossRefIdeal.Val.tS_eq, hq]
      rfl
    · exact (IsReal.sum _ fun x => (IsReal.sum _ fun l => (q0 _ _).mul (q1 _ _)).mul (q2 _ _)).mul fac_real

end Cert.CrossFwdIdeal.Val

end
-- ==== Proof.MaskedRow.lean ====
/-
  One row of a masked softmax over the extended reals: scores that are real numbers or `-∞`, at least one of them real.
  The weighted sum divided once at the end equals the sum weighted by the exponentials less the row's log-sum-exp.
-/
module

public import proofs.«01_k».proof.Proof.SoftmaxRow

@[expose] public section

noncomputable section

namespace Cert.Row

open Idealize.ShloMosaic

variable {n : ℕ} {s v : Fin n → EReal}

/-- The row's largest score is a real number. -/
theorem mx_masked (hs : ∀ i, IsReal (s i) ∨ s i = ⊥) (h1 : ∃ i, IsReal (s i)) : IsReal (mx s) := by
  have e : mx s = Finset.univ.sup s := by
    unfold mx
    rw [ofBits_neg_inf]
    rfl
  obtain ⟨k, r, hk⟩ := h1
  obtain ⟨i, _, hi⟩ := Finset.exists_mem_eq_sup Finset.univ ⟨k, Finset.mem_univ _⟩ s
  rw [e, hi]
  refine (hs i).resolve_right fun hb => ?_
  have hle : s k ≤ Finset.univ.sup s := Finset.le_sup (Finset.mem_univ k)
  rw [hi, hb, hk] at hle
  exact absurd hle (by simp)

/-- The two ways to weigh the values agree. -/
theorem masked_row (hs : ∀ i, IsReal (s i) ∨ s i = ⊥) (h1 : ∃ i, IsReal (s i)) (hv : ∀ i, IsReal (v i)) :
    (∑ i, ex s i * v i) * Ideal.div 1 (den s) = ∑ i, Ideal.exp (s i - (mx s + Ideal.log (den s))) * v i := by
  obtain ⟨M, hM⟩ := mx_masked hs h1
  have hex : ∀ i, ∃ e : ℝ, ex s i = e ∧ 0 ≤ e ∧ (IsReal (s i) → 0 < e) ∧ ∀ b : ℝ, Ideal.exp (s i - ((M : EReal) + (b : EReal))) = ((e * Real.exp (-b) : ℝ) : EReal) := fun i => by
    rcases hs i with ⟨r, hr⟩ | hb
    · refine ⟨Real.exp (r - M), ?_, (Real.exp_pos _).le, fun _ => Real.exp_pos _, fun b => ?_⟩
      · unfold ex
        rw [hr, hM, ← EReal.coe_sub, Ideal.exp_coe]
      · rw [hr, ← EReal.coe_add, ← EReal.coe_sub, Ideal.exp_coe, ← Real.exp_add]
        congr 2
        ring
    · refine ⟨0, ?_, le_rfl, fun ⟨r, hr⟩ => ?_, fun b => ?_⟩
      · unfold ex
        rw [hb, hM, EReal.bot_sub, Ideal.exp_bot]
        rfl
      · rw [hb] at hr
        exact absurd hr (by simp)
      · rw [hb, EReal.bot_sub, Ideal.exp_bot, zero_mul]
        rfl
  choose e he h0 hp hb using hex
  choose w hw using hv
  obtain ⟨k, hk⟩ := h1
  have hd : den s = ((∑ i, e i : ℝ) : EReal) := by
    unfold den
    rw [coe_sum]
    exact Finset.sum_congr rfl fun i _ => he i
  have hpos : 0 < ∑ i, e i := Finset.sum_pos' (fun i _ => h0 i) ⟨k, Finset.mem_univ _, hp k hk⟩
  have hl : Ideal.log (den s) = ((Real.log (∑ i, e i) : ℝ) : EReal) := by
    rw [hd, Ideal.log_coe, if_neg (not_le.mpr hpos)]
  have h2 : ∑ i, ex s i * v i = ((∑ i, e i * w i : ℝ) : EReal) := by
    rw [coe_sum]
    exact Finset.sum_congr rfl fun i _ => by rw [he, hw, ← EReal.coe_mul]
  have h3 : ∑ i, Ideal.exp (s i - (mx s + Ideal.log (den s))) * v i = ((∑ i, e i * Real.exp (-Real.log (∑ i, e i)) * w i : ℝ) : EReal) := by
    rw [coe_sum, hl, hM]
    exact Finset.sum_congr rfl fun i _ => by rw [hb, hw, ← EReal.coe_mul]
  rw [h2, h3, hd, Ideal.div_coe hpos.ne', one_mul, ← EReal.coe_mul, Finset.sum_mul, Real.exp_neg, Real.exp_log hpos]
  congr 1
  exact Finset.sum_congr rfl fun i _ => by
    rw [one_div]
    ring

/-- The logarithm of the exponentials' sum is a real number. -/
theorem logden_masked (hs : ∀ i, IsReal (s i) ∨ s i = ⊥) (h1 : ∃ i, IsReal (s i)) : IsReal (Ideal.log (den s)) := by
  obtain ⟨M, hM⟩ := mx_masked hs h1
  have hex : ∀ i, ∃ e : ℝ, ex s i = e ∧ 0 ≤ e ∧ (IsReal (s i) → 0 < e) := fun i => by
    rcases hs i with ⟨r, hr⟩ | hb
    · refine ⟨Real.exp (r - M), ?_, (Real.exp_pos _).le, fun _ => Real.exp_pos _⟩
      unfold ex
      rw [hr, hM, ← EReal.coe_sub, Ideal.exp_coe]
    · refine ⟨0, ?_, le_rfl, fun ⟨r, hr⟩ => absurd (hb.symm.trans hr) (by simp)⟩
      unfold ex
      rw [hb, hM, EReal.bot_sub, Ideal.exp_bot]
      rfl
  choose e he h0 hp using hex
  obtain ⟨k, hk⟩ := h1
  have hpos : 0 < ∑ i, e i := Finset.sum_pos' (fun i _ => h0 i) ⟨k, Finset.mem_univ _, hp k hk⟩
  refine ⟨Real.log (∑ i, e i), ?_⟩
  have hd : den s = ((∑ i, e i : ℝ) : EReal) := by
    unfold den
    rw [coe_sum]
    exact Finset.sum_congr rfl fun i _ => he i
  rw [hd, Ideal.log_coe, if_neg (not_le.mpr hpos)]

end Cert.Row

end
-- ==== Proof.WindowRow.lean ====
/-
  The windowed attention of one residue class of the sequence, row by row: query `t` of block `n` sees, of the 256 keys of
  its own block and the block before, the 129 that end with its own position, and none before the first row.
-/
module

public import proofs.«01_k».proof.Proof.MaskedRow
public import Idealize.ShloMosaic.Lib.Pointwise
public import Idealize.ShloMosaic.Lib.WordCmp

@[expose] public section

noncomputable section

namespace Cert.Window

open Idealize.ShloMosaic Idealize.ShloMosaic.WordCmp
open Cert.Row (IsReal)

/-- Query `t` of block `n` sees the `k`-th of the 256 keys of the block before and its own. -/
abbrev Sees (n t k : ℕ) : Prop := t ≤ k ∧ k ≤ t + 128 ∧ (128 ≤ k ∨ 0 < n)

/-- The row of that key; before the first row, where no query sees it, a row of the first block. -/
def src (n k : ℕ) : ℕ := if n = 0 ∧ k < 128 then k else 128 * n + k - 128

/-- The scores' factor, as both programs write it. -/
abbrev fac : EReal := Ideal.ofBits .f32 0x3DB504F3#32

variable (Q K V : ℕ → ℕ → EReal)

/-- The scores of query `t` of block `n` in head `h`. -/
def score (n h t : ℕ) (k : Fin 256) : EReal :=
  if Sees n t k then (∑ d : Fin 128, Q (128 * n + t) (128 * h + d) * K (src n k) (128 * h + d)) * fac else ⊥

/-- The row's log-sum-exp. -/
def lse (n h t : ℕ) : EReal := Row.mx (score Q K n h t) + Ideal.log (Row.den (score Q K n h t))

/-- The attention, divided by the exponentials' sum at the end. -/
def att (n h t e : ℕ) : EReal :=
  (∑ k : Fin 256, Row.ex (score Q K n h t) k * V (src n k) (128 * h + e)) * Ideal.div 1 (Row.den (score Q K n h t))

/-- The attention, weighted by the exponentials less the log-sum-exp; keys before the first row hold zeros. -/
def attr (n h t e : ℕ) : EReal :=
  ∑ k : Fin 256, Ideal.exp (score Q K n h t k - lse Q K n h t) * (if n = 0 ∧ k.val < 128 then 0 else V (src n k) (128 * h + e))

theorem fac_real : IsReal fac := by
  refine ⟨11863283 * (2 ^ 27 : ℝ)⁻¹, ?_⟩
  rw [EReal.coe_mul]
  simp [fac, Ideal.ofBits, Ideal.ieee]

variable {Q K V}

/-- On real queries and keys every score is a real number or `-∞`, and the query's own is real. -/
theorem score_real (hQ : ∀ i j, IsReal (Q i j)) (hK : ∀ i j, IsReal (K i j)) (n h t : ℕ) (k : Fin 256) :
    (Sees n t k → IsReal (score Q K n h t k)) ∧ (¬ Sees n t k → score Q K n h t k = ⊥) := by
  unfold score
  refine ⟨fun hs => ?_, fun hs => if_neg hs⟩
  rw [if_pos hs]
  exact (IsReal.sum _ fun d => (hQ _ _).mul (hK _ _)).mul fac_real

theorem att_eq (hQ : ∀ i j, IsReal (Q i j)) (hK : ∀ i j, IsReal (K i j)) (hV : ∀ i j, IsReal (V i j)) (n h : ℕ) {t : ℕ} (ht : t < 128) (e : ℕ) :
    att Q K V n h t e = attr Q K V n h t e := by
  have hs := score_real hQ hK n h t
  have h0 : ∀ k, IsReal (score Q K n h t k) ∨ score Q K n h t k = ⊥ := fun k =>
    if g : Sees n t k then .inl ((hs k).1 g) else .inr ((hs k).2 g)
  have h1 : ∃ k, IsReal (score Q K n h t k) :=
    ⟨⟨t + 128, by omega⟩, (hs _).1 ⟨by dsimp only; omega, by dsimp only; omega, .inl (by dsimp only; omega)⟩⟩
  unfold att attr lse
  rw [Row.masked_row h0 h1 fun k => hV _ _]
  refine Finset.sum_congr rfl fun k _ => ?_
  by_cases g : n = 0 ∧ k.val < 128
  · rw [if_pos g, (hs k).2 (by omega)]
    obtain ⟨M, hM⟩ := Row.mx_masked h0 h1
    obtain ⟨b, hb⟩ := Row.logden_masked h0 h1
    rw [hM, hb, ← EReal.coe_add, EReal.bot_sub, Ideal.exp_bot, zero_mul, zero_mul]
  · rw [if_neg g]

/-- One-bit words that are one together are equal. -/
theorem and_one (a b : BitVec 1) : IntOp.andi a b = 1#1 ↔ a = 1#1 ∧ b = 1#1 := by revert a b; decide
theorem or_one (a b : BitVec 1) : IntOp.ori a b = 1#1 ↔ a = 1#1 ∨ b = 1#1 := by revert a b; decide
theorem not_one (a : BitVec 1) : (~~~ a) = 1#1 ↔ ¬ a = 1#1 := by revert a; decide

theorem select_iff {α : Type} {b : BitVec 1} {P : Prop} [Decidable P] (h : b = 1#1 ↔ P) (x y : α) : Scalar.select b x y = if P then x else y := by
  unfold Scalar.select
  exact if_congr h rfl rfl

/-- The programs' tests of the window. -/
theorem band_iff {t k : ℕ} (ht : t < 128) (hk : k < 256) :
    IntOp.andi (IntOp.cmpi .sge (BitVec.ofNat 32 k) (BitVec.ofNat 32 t)) (IntOp.cmpi .sle (BitVec.ofNat 32 k) (IntOp.addi (BitVec.ofNat 32 t) 128#32)) = 1#1
      ↔ t ≤ k ∧ k ≤ t + 128 := by
  rw [show (128#32 : BitVec 32) = BitVec.ofNat 32 128 from rfl, addi_ofNat, and_one, cmpi_sge_ofNat_eq_one_iff (by omega) (by omega),
    cmpi_sle_ofNat_eq_one_iff (by omega) (by omega)]

theorem after_iff {k T : ℕ} (hk : k < 256) (hT : T < 2 ^ 20) :
    IntOp.ori (IntOp.cmpi .sge (BitVec.ofNat 32 k) 128#32) (IntOp.cmpi .sgt (BitVec.ofNat 32 T) 0#32) = 1#1 ↔ 128 ≤ k ∨ 0 < T := by
  rw [show (128#32 : BitVec 32) = BitVec.ofNat 32 128 from rfl, show (0#32 : BitVec 32) = BitVec.ofNat 32 0 from rfl, or_one,
    cmpi_sge_ofNat_eq_one_iff (by omega) (by omega), cmpi_sgt_ofNat_eq_one_iff (by omega) (by omega)]

theorem before_iff {k n : ℕ} (hk : k < 256) (hn : n < 64) :
    (~~~ IntOp.andi (IntOp.cmpi .eq (BitVec.ofNat 32 n) 0#32) (IntOp.cmpi .slt (BitVec.ofNat 32 k) 128#32)) = 1#1 ↔ 128 ≤ k ∨ 0 < n := by
  rw [show (128#32 : BitVec 32) = BitVec.ofNat 32 128 from rfl, show (0#32 : BitVec 32) = BitVec.ofNat 32 0 from rfl, not_one, and_one,
    cmpi_eq_ofNat_eq_one_iff (by omega) (by omega), cmpi_slt_ofNat_eq_one_iff (by omega) (by omega)]
  omega

/-- The four heads' values on the first four lanes, zero on the others. -/
theorem lanes (f : ℕ → EReal) {j : ℕ} (hj : j < 128) :
    Scalar.select (IntOp.cmpi .eq (BitVec.ofNat 32 j) 3#32) (f 3) (Scalar.select (IntOp.cmpi .eq (BitVec.ofNat 32 j) 2#32) (f 2)
      (Scalar.select (IntOp.cmpi .eq (BitVec.ofNat 32 j) 1#32) (f 1) (Scalar.select (IntOp.cmpi .eq (BitVec.ofNat 32 j) 0#32) (f 0) 0)))
      = if j < 4 then f j else 0 := by
  rw [select_iff (cmpi_eq_ofNat_eq_one_iff (a := j) (b := 3) (w := 32) (by omega) (by omega)),
    select_iff (cmpi_eq_ofNat_eq_one_iff (a := j) (b := 2) (w := 32) (by omega) (by omega)),
    select_iff (cmpi_eq_ofNat_eq_one_iff (a := j) (b := 1) (w := 32) (by omega) (by omega)),
    select_iff (cmpi_eq_ofNat_eq_one_iff (a := j) (b := 0) (w := 32) (by omega) (by omega))]
  rcases (by omega : j = 0 ∨ j = 1 ∨ j = 2 ∨ j = 3 ∨ 4 ≤ j) with rfl | rfl | rfl | rfl | h
  · rfl
  · rfl
  · rfl
  · rfl
  · rw [if_neg (by omega), if_neg (by omega), if_neg (by omega), if_neg (by omega), if_neg (by omega)]

end Cert.Window

end
-- ==== Proof.WindowBlock.lean ====
/-
  One block of 512 queries of the windowed attention in its four heads, of the blocks of rows it reads.
-/
module

public import proofs.«01_k».proof.Proof.WindowRow

@[expose] public section

noncomputable section

namespace Cert.Window

open Idealize.ShloMosaic Idealize.ShloMosaic.WordCmp

/-! ## A block of four times 128 queries in four heads -/

/-- A block's entry by natural numbers. -/
abbrev at3 {a b : ℕ} [NeZero a] [NeZero b] (x : (⟨3, ![1, a, b]⟩ : Shape).Idx → EReal) (i j : ℕ) : EReal :=
  x (ix3 0 (Fin.ofNat a i) (Fin.ofNat b j))

theorem at_eq {a b : ℕ} [NeZero a] [NeZero b] (x : (⟨3, ![1, a, b]⟩ : Shape).Idx → EReal) (p : Fin a) (q : Fin b) {i j : ℕ}
    (hi : p.val = i) (hj : q.val = j) : x (ix3 0 p q) = at3 x i j := by
  subst hi hj
  unfold at3
  rw [Fin.ofNat_val_eq_self, Fin.ofNat_val_eq_self]

/-- The blocks of 512 rows and of the 128 rows before. -/
abbrev Blk : Type := (⟨3, ![1, 512, 512]⟩ : Shape).Idx → EReal
abbrev Prv : Type := (⟨3, ![1, 128, 512]⟩ : Shape).Idx → EReal

/-- The keys (or values) of a block: the 128 rows before it, then the block's own. -/
def kall (x1 : Blk) (x3 : Prv) (k e : ℕ) : EReal :=
  if k < 128 then at3 (a := 128) (b := 512) x3 k e else at3 (a := 512) (b := 512) x1 (k - 128) e

/-- Tile `u`'s scores: its 128 queries against its 256 keys, on its head's columns; `-∞` outside the window. -/
def sco (T : ℕ) (x0 x1 : Blk) (x3 : Prv) (u t : ℕ) (k : Fin 256) : EReal :=
  if Sees (4 * T + u / 4) t k then
    (∑ d : Fin 128, at3 (a := 512) (b := 512) x0 (128 * (u / 4) + t) (128 * (u % 4) + d) * kall x1 x3 (128 * (u / 4) + k) (128 * (u % 4) + d)) * fac
  else ⊥

theorem first_iff {T u t k : ℕ} (hT : T < 2 ^ 20) (hu : u < 4) (ht : t < 128) (hk : k < 256) :
    IntOp.andi (IntOp.andi (IntOp.cmpi .sge (BitVec.ofNat 32 k) (BitVec.ofNat 32 t)) (IntOp.cmpi .sle (BitVec.ofNat 32 k) (IntOp.addi (BitVec.ofNat 32 t) 128#32)))
      (IntOp.ori (IntOp.cmpi .sge (BitVec.ofNat 32 k) 128#32) (IntOp.cmpi .sgt (BitVec.ofNat 32 T) 0#32)) = 1#1 ↔ Sees (4 * T + u / 4) t k := by
  rw [and_one, band_iff ht hk, after_iff hk hT]
  omega

theorem later_iff (T : ℕ) {u t k : ℕ} (hu : 4 ≤ u) (ht : t < 128) (hk : k < 256) :
    IntOp.andi (IntOp.cmpi .sge (BitVec.ofNat 32 k) (BitVec.ofNat 32 t)) (IntOp.cmpi .sle (BitVec.ofNat 32 k) (IntOp.addi (BitVec.ofNat 32 t) 128#32)) = 1#1 ↔ Sees (4 * T + u / 4) t k := by
  rw [band_iff ht hk]
  omega

/-- The attention of a block at its row and column, of the exponentials, the values and the divisors. -/
def attb (E : ℕ → ℕ → Fin 256 → EReal) (K : ℕ → ℕ → EReal) (D : ℕ → ℕ → EReal) (r j : ℕ) : EReal :=
  (∑ κ : Fin 256, E (4 * (r / 128) + j / 128) (r % 128) κ * K (128 * (r / 128) + κ) j) * D (4 * (r / 128) + j / 128) (r % 128)

theorem attb_tile (E K D) {r j u s t v : ℕ} (hv : j = v) (hu : 4 * (r / 128) + j / 128 = u) (ht : r % 128 = t) (hs : 128 * (r / 128) = s) :
    attb E K D r j = (∑ κ : Fin 256, E u t κ * K (s + κ) v) * D u t := by
  subst hu ht hs hv
  rfl

theorem attb_at (E K D) {r j u s t v : ℕ} {x : EReal} (hx : x = (∑ κ : Fin 256, E u t κ * K (s + κ) v) * D u t) (hv : j = v)
    (hu : 4 * (r / 128) + j / 128 = u) (ht : r % 128 = t) (hs : 128 * (r / 128) = s) : x = attb E K D r j :=
  hx.trans (attb_tile E K D hv hu ht hs).symm

theorem attb_at0 (E K D) {r j u t v : ℕ} {x : EReal} (hx : x = (∑ κ : Fin 256, E u t κ * K κ v) * D u t) (hv : j = v)
    (hu : 4 * (r / 128) + j / 128 = u) (ht : r % 128 = t) (hs : 128 * (r / 128) = 0) : x = attb E K D r j := by
  rw [attb_tile E K D hv hu ht hs, hx]
  simp only [Nat.zero_add]

/-- A row's log-sum-exp. -/
def lser (s : Fin 256 → EReal) : EReal := Row.mx s + Ideal.log (Row.den s)

/-- The four heads' log-sum-exps on the first four lanes. -/
def lseb (S : ℕ → ℕ → Fin 256 → EReal) (r j : ℕ) : EReal := if j < 4 then lser (S (4 * (r / 128) + j) (r % 128)) else 0

theorem lseb_tile (S) (n : ℕ) {r j t z : ℕ} (hz : j = z) (hj : z < 128) (ht : t < 128) (hr : r = 128 * n + t) :
    Scalar.select (IntOp.cmpi .eq (BitVec.ofNat 32 z) 3#32) (lser (S (4 * n + 3) t)) (Scalar.select (IntOp.cmpi .eq (BitVec.ofNat 32 z) 2#32) (lser (S (4 * n + 2) t))
      (Scalar.select (IntOp.cmpi .eq (BitVec.ofNat 32 z) 1#32) (lser (S (4 * n + 1) t)) (Scalar.select (IntOp.cmpi .eq (BitVec.ofNat 32 z) 0#32) (lser (S (4 * n + 0) t)) 0)))
      = lseb S r j := by
  subst hz hr
  refine (lanes (fun l => lser (S (4 * n + l) t)) hj).trans ?_
  unfold lseb
  rw [show (128 * n + t) / 128 = n by omega, show (128 * n + t) % 128 = t by omega]

/-- A tile's keys are the rows of its window. -/
theorem kall_eq {T : ℕ} {K : ℕ → ℕ → EReal} {x1 : Blk} {x3 : Prv} (hk : ∀ (a b : Fin 512), x1 (ix3 0 a b) = K (512 * T + a) b)
    (hp : ∀ (a : Fin 128) (b : Fin 512), x3 (ix3 0 a b) = K (128 * (4 * T - 1) + a) b) {s k e : ℕ} (hs : s < 4) (hκ : k < 256) (he : e < 512) :
    kall x1 x3 (128 * s + k) e = K (src (4 * T + s) k) e := by
  unfold kall src at3
  by_cases h : 128 * s + k < 128
  · rw [if_pos h, hp]
    refine congrArg₂ K ?_ ?_
    · simp only [Fin.val_ofNat]
      by_cases h0 : 4 * T + s = 0 ∧ k < 128
      · rw [if_pos h0]
        omega
      · rw [if_neg h0]
        omega
    · simp only [Fin.val_ofNat]
      omega
  · rw [if_neg h, hk, if_neg (by omega)]
    refine congrArg₂ K ?_ ?_
    · simp only [Fin.val_ofNat]
      omega
    · simp only [Fin.val_ofNat]
      omega

/-- Where the blocks hold rows of the arrays, a tile's scores are the window's. -/
theorem sco_eq {T : ℕ} {Q K : ℕ → ℕ → EReal} {x0 x1 : Blk} {x3 : Prv} (hq : ∀ (a b : Fin 512), x0 (ix3 0 a b) = Q (512 * T + a) b)
    (hk : ∀ (a b : Fin 512), x1 (ix3 0 a b) = K (512 * T + a) b) (hp : ∀ (a : Fin 128) (b : Fin 512), x3 (ix3 0 a b) = K (128 * (4 * T - 1) + a) b)
    {u t : ℕ} (hu : u < 16) (ht : t < 128) : sco T x0 x1 x3 u t = score Q K (4 * T + u / 4) (u % 4) t := by
  funext k
  unfold sco score
  refine if_congr Iff.rfl (congrArg (· * fac) (Finset.sum_congr rfl fun d _ => ?_)) rfl
  rw [kall_eq hk hp (by omega) k.isLt (by omega)]
  unfold at3
  rw [hq]
  refine congrArg₂ (· * ·) (congrArg₂ Q ?_ ?_) rfl
  · simp only [Fin.val_ofNat]
    omega
  · simp only [Fin.val_ofNat]
    omega

/-- … and the block's results are the window's. -/
theorem attb_eq {T : ℕ} {Q K V : ℕ → ℕ → EReal} {x0 x1 x2 : Blk} {x3 x4 : Prv} (hq : ∀ (a b : Fin 512), x0 (ix3 0 a b) = Q (512 * T + a) b)
    (hk : ∀ (a b : Fin 512), x1 (ix3 0 a b) = K (512 * T + a) b) (hp : ∀ (a : Fin 128) (b : Fin 512), x3 (ix3 0 a b) = K (128 * (4 * T - 1) + a) b)
    (hv : ∀ (a b : Fin 512), x2 (ix3 0 a b) = V (512 * T + a) b) (hw : ∀ (a : Fin 128) (b : Fin 512), x4 (ix3 0 a b) = V (128 * (4 * T - 1) + a) b)
    {r j : ℕ} (hr : r < 512) (hj : j < 512) :
    attb (fun u t => Row.ex (sco T x0 x1 x3 u t)) (kall x2 x4) (fun u t => Ideal.div 1 (Row.den (sco T x0 x1 x3 u t))) r j
      = att Q K V ((512 * T + r) / 128) (j / 128) ((512 * T + r) % 128) (j % 128) := by
  unfold attb att
  beta_reduce
  rw [sco_eq hq hk hp (by omega) (by omega), show (4 * (r / 128) + j / 128) / 4 = r / 128 by omega, show (4 * (r / 128) + j / 128) % 4 = j / 128 by omega,
    show (512 * T + r) / 128 = 4 * T + r / 128 by omega, show (512 * T + r) % 128 = r % 128 by omega, show 128 * (j / 128) + j % 128 = j by omega]
  refine congrArg (· * _) (Finset.sum_congr rfl fun k _ => ?_)
  rw [kall_eq hv hw (by omega) k.isLt hj]

theorem lseb_eq {T : ℕ} {Q K : ℕ → ℕ → EReal} {x0 x1 : Blk} {x3 : Prv} (hq : ∀ (a b : Fin 512), x0 (ix3 0 a b) = Q (512 * T + a) b)
    (hk : ∀ (a b : Fin 512), x1 (ix3 0 a b) = K (512 * T + a) b) (hp : ∀ (a : Fin 128) (b : Fin 512), x3 (ix3 0 a b) = K (128 * (4 * T - 1) + a) b)
    {r j : ℕ} (hr : r < 512) : lseb (sco T x0 x1 x3) r j = if j < 4 then lse Q K ((512 * T + r) / 128) j ((512 * T + r) % 128) else 0 := by
  unfold lseb
  by_cases h : j < 4
  · rw [if_pos h, if_pos h, sco_eq hq hk hp (by omega) (by omega), show (4 * (r / 128) + j) / 4 = r / 128 by omega, show (4 * (r / 128) + j) % 4 = j by omega,
      show (512 * T + r) / 128 = 4 * T + r / 128 by omega, show (512 * T + r) % 128 = r % 128 by omega]
    rfl
  · rw [if_neg h, if_neg h]

/-- One residue class of an argument's rows, by row and column. -/
def cls (d ρ : ℕ) (x : (⟨2, ![8192, 512]⟩ : Shape).Idx → EReal) (i j : ℕ) : EReal := x (ix2 (Fin.ofNat 8192 (i * d + ρ)) (Fin.ofNat 512 j))

theorem cls_eq {d ρ : ℕ} (x : (⟨2, ![8192, 512]⟩ : Shape).Idx → EReal) (p : Fin 8192) (q : Fin 512) {i j : ℕ} (hi : p.val = i * d + ρ) (hj : q.val = j) :
    x (ix2 p q) = cls d ρ x i j := by
  unfold cls
  rw [← hi, ← hj, Fin.ofNat_val_eq_self, Fin.ofNat_val_eq_self]

/-- Three arguments side by side, by class, row and column. -/
def sides (d : ℕ) (x y z : (⟨2, ![8192, 512]⟩ : Shape).Idx → EReal) (ρ i j : ℕ) : EReal :=
  if j < 512 then cls d ρ x i j else if j < 1024 then cls d ρ y i (j - 512) else cls d ρ z i (j - 1024)

theorem sides0 (d : ℕ) (x y z) {ρ ρ' i i' j j' : ℕ} (hρ : ρ = ρ') (hi : i = i') (hj : j = j') (h : j' < 512) : sides d x y z ρ i j = cls d ρ' x i' j' := by
  subst hρ hi hj
  exact if_pos h

theorem sides1 (d : ℕ) (x y z) {ρ ρ' i i' j j' : ℕ} (hρ : ρ = ρ') (hi : i = i') (hj : j = 512 + j') (h : j' < 512) : sides d x y z ρ i j = cls d ρ' y i' j' := by
  subst hρ hi hj
  unfold sides
  rw [if_neg (by omega), if_pos (by omega), show 512 + j' - 512 = j' by omega]

theorem sides2 (d : ℕ) (x y z) {ρ ρ' i i' j j' : ℕ} (hρ : ρ = ρ') (hi : i = i') (hj : j = 1024 + j') (h : j' < 512) : sides d x y z ρ i j = cls d ρ' z i' j' := by
  subst hρ hi hj
  unfold sides
  rw [if_neg (by omega), if_neg (by omega), show 1024 + j' - 1024 = j' by omega]

end Cert.Window

end
-- ==== Proof.AttnFwdA.lean ====
/-
  One block of queries of the windowed attention: what every scratch of the body holds once its sixteen tiles are written,
  and what the block stores, as plain formulas of the blocks staged in.
-/
module

public import proofs.«01_k».proof.Proof.Gen.AttnFwdAIdeal.Value
public import proofs.«01_k».proof.Proof.WindowBlock
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.AttnFwdAIdeal.Val

open Idealize.ShloMosaic Idealize.ShloMosaic.TcCoe Idealize.SL.Sem
open Idealize.ShloMosaic.Pipeline (Dat)
open Cert.AttnFwdAIdeal Cert.AttnFwdAIdeal.Gen
open Cert.Window (Sees fac kall sco at_eq select_iff first_iff later_iff attb lseb attb_at attb_at0 lseb_tile)

/-- A load of a staged block is the block at the rectangle. -/
theorem rd {s : Shape} {e : EltTy} {sp : Space} (a : Memref sig .tc sp s e) (h : a.IsWhole) (x : s.Idx → Elt Ideal e) (r : Rect s) :
    a.view.readAt (Elt Ideal) r.toLoadRect (h.unread x) = fun j => x (r.emb j) := by
  rw [View.readAt_rect]
  funext j
  exact congrFun (h.read_unread x) (r.emb j)

variable (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x512x512 .bf16) (harg7 : arg7.IsWhole) (arg8 : Memref sig .tc .vmem S1x512x128 .f32) (harg8 : arg8.IsWhole) (arg9 : Memref sig .tc .vmem S640x512 .bf16) (harg9 : arg9.IsWhole) (arg10 : Memref sig .tc .vmem S640x512 .bf16) (harg10 : arg10.IsWhole) (arg11 : Memref sig .tc .vmem S16x128x256 .f32) (harg11 : arg11.IsWhole) (arg12 : Memref sig .tc .vmem S16x128x256 .bf16) (harg12 : arg12.IsWhole) (arg13 : Memref sig .tc .vmem S16x128x128 .f32) (harg13 : arg13.IsWhole)
  (x0 : Vec Ideal S1x512x512 .bf16) (x1 : Vec Ideal S1x512x512 .bf16) (x2 : Vec Ideal S1x512x512 .bf16) (x3 : Vec Ideal S1x128x512 .bf16) (x4 : Vec Ideal S1x128x512 .bf16)

open kernelRun0_A.sl in
theorem canon0 : View.canon (HS0_2 (F := Ideal) c arg3 harg3 arg5 harg5 x1 x3) = fun y => kall x1 x3 (y 0) (y 1) := by
  funext y
  unfold HS0_2 kall
  canon_tiles x h using (View.cover_of_tiledBy _ ![128, 512] (by sl_kernel_rfl) y)
  all_goals
    idx_vars x
    pointwise [k0_pay3, k0_pay2, rd]
    first | rw [if_neg (by omega)] | rw [if_pos (by omega)]
    refine (congrArg _ (by blk_ext : _ = ix3 0 x0 x1)).trans (at_eq _ _ _ (by omega) (by omega))

open kernelRun0_A.sl in
theorem canon1 : View.canon (HS1_2 (F := Ideal) c arg4 harg4 arg6 harg6 x2 x4) = fun y => kall x2 x4 (y 0) (y 1) := by
  funext y
  unfold HS1_2 kall
  canon_tiles x h using (View.cover_of_tiledBy _ ![128, 512] (by sl_kernel_rfl) y)
  all_goals
    idx_vars x
    pointwise [k0_pay5, k0_pay4, rd]
    first | rw [if_neg (by omega)] | rw [if_pos (by omega)]
    refine (congrArg _ (by blk_ext : _ = ix3 0 x0 x1)).trans (at_eq _ _ _ (by omega) (by omega))

/-- The mask's value, as the program names it. -/
abbrev msk : EReal := Named.named (F := Ideal) (φ := .f32) Cert.AttnFwdAIdeal.κ "mask" 0xF149F2CA#32

theorem msk_eq : msk = ⊥ := rfl

open kernelRun0_A.sl in
theorem canon2 : View.canon (HS2_16 (F := Ideal) c i arg2 harg2 arg3 harg3 arg5 harg5 arg9 x0 x1 x3) = fun y => sco (i 1).val x0 x1 x3 (y 0) (y 1) (y 2) := by
  funext y
  unfold HS2_16
  canon_tiles x h
  all_goals
    idx_vars x
    obtain rfl : x0 = 0 := Subsingleton.elim _ _
    unfold sco
    simp only [r_5, v200, v189, v178, r_4, v167, v156, r_3, v145, v134, v123, r_2, v112, v101, v90, v79, r, v68, r_1, v57, v46, v35, View.readCov_eq_canon', canon0]
    open_payloads
    pointwise [Memref.IsWhole.read_unread]
    rw [h0, h1, h2]
    first
    | refine (select_iff (first_iff (lt_of_lt_of_le (i 1).isLt (by decide)) (by omega) x1.isLt x2.isLt) _ _).trans (if_congr Iff.rfl ?_ msk_eq)
    | refine (select_iff (later_iff _ (by omega) x1.isLt x2.isLt) _ _).trans (if_congr Iff.rfl ?_ msk_eq)
    refine congrArg (· * fac) (Finset.sum_congr rfl fun d _ => ?_)
    exact congrArg₂ _ (at_eq _ _ _ (by dsimp only; omega) (by dsimp only; omega)) (congrArg₂ (kall _ _) (by omega) (by omega))

open kernelRun0_A.sl in
theorem canon3 : View.canon (HS3_16 (F := Ideal) c i arg2 harg2 arg3 harg3 arg5 harg5 arg9 arg11 x0 x1 x3)
    = fun y => Row.ex (sco (i 1).val x0 x1 x3 (y 0) (y 1)) (y 2) := by
  funext y
  unfold HS3_16
  canon_tiles x h
  all_goals
    idx_vars x
    obtain rfl : x0 = 0 := Subsingleton.elim _ _
    simp only [r_38, v616, v589, v562, v535, r_29, v508, v481, v454, r_23, v427, v400, v373, r_17, v346, v319, v292, v265, r_7, v238, v211, View.readCov_eq_canon', canon2]
    open_payloads
    pointwise []
    rw [h0, h1]
    exact (congrArg (Row.ex _) (Fin.ext h2 : y 2 = x2)).symm

open kernelRun0_A.sl in
theorem canon4 : View.canon (HS4_16 (F := Ideal) c i arg2 harg2 arg3 harg3 arg5 harg5 arg9 arg11 x0 x1 x3)
    = fun y => Ideal.div 1 (Row.den (sco (i 1).val x0 x1 x3 (y 0) (y 1))) := by
  funext y
  unfold HS4_16
  canon_tiles x h
  all_goals
    idx_vars x
    obtain rfl : x0 = 0 := Subsingleton.elim _ _
    simp only [r_37, v616, v589, v562, r_32, v535, cst_211, r_29, v508, v481, r_27, v454, r_23, v427, v400, v373, r_16, v346, v319, v292, r_10, v265, r_7, v238, v211, View.readCov_eq_canon', canon2]
    open_payloads
    pointwise []
    rw [h0, h1]
    rfl

section

variable {E : ℕ → ℕ → Fin 256 → EReal} {K : ℕ → ℕ → EReal} {D : ℕ → ℕ → EReal} {S : ℕ → ℕ → Fin 256 → EReal}

open kernelRun0_A.sl in
theorem outA (e1 : View.canon (HS1_2 (F := Ideal) c arg4 harg4 arg6 harg6 x2 x4) = fun y => K (y 0) (y 1))
    (e3 : View.canon (HS3_16 (F := Ideal) c i arg2 harg2 arg3 harg3 arg5 harg5 arg9 arg11 x0 x1 x3) = fun y => E (y 0) (y 1) (y 2))
    (e4 : View.canon (HS4_16 (F := Ideal) c i arg2 harg2 arg3 harg3 arg5 harg5 arg9 arg11 x0 x1 x3) = fun y => D (y 0) (y 1)) :
    View.canon (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4).1 = fun y => attb E K D (y 1) (y 2) := by
  funext y
  unfold kernelRun0_A
  dsimp only
  canon_tiles z h using (View.cover_of_tiledBy _ ![1, 128, 128] (by sl_kernel_rfl) y)
  all_goals
    idx_vars z
    simp only [r_45, v822, v824, v809, v811, v813, v798, v800, v802, r_44, v776, v778, v780, r_43, v767, v769, v754, v756, v758, v743, v745, v747, r_42, v721, v723, v725, r_41, v712, v714, v699, v701, v703, v688, v690, v692, r_40, v666, v668, v670, r_39, v657, v659, v209, v820, v787, v789, v791, v765, v732, v734, v736, v710, v677, v679, v681, v655, View.readCov_eq_canon', e1, e3, e4]
    open_payloads
    pointwise []
    first
    | exact attb_at E K D rfl h2 (by omega) (by omega) (by omega)
    | exact attb_at0 E K D rfl h2 (by omega) (by omega) (by omega)

open kernelRun0_A.sl in
theorem outL (e2 : View.canon (HS2_16 (F := Ideal) c i arg2 harg2 arg3 harg3 arg5 harg5 arg9 x0 x1 x3) = fun y => S (y 0) (y 1) (y 2)) :
    View.canon (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4).2.1 = fun y => lseb S (y 1) (y 2) := by
  funext y
  unfold kernelRun0_A
  dsimp only
  canon_tiles z h using (View.cover_of_tiledBy _ ![1, 128, 128] (by sl_kernel_rfl) y)
  all_goals
    idx_vars z
    simp only [v209, r_6, r_8, r_9, r_14, r_15, r_22, r_24, r_25, r_26, r_31, r_35, r_36, r_37, r_30, r_21, r_13, r_33, r_34, r_28, r_18, r_19, r_20, r_11, r_12, r_38, v616, v589, v562, r_32, v535, cst_211, r_29, v508, v481, r_27, v454, r_23, v427, v400, v373, r_16, r_17, v346, v319, v292, r_10, v265, r_7, v238, v211, View.readCov_eq_canon', e2]
    open_payloads
    pointwise []
    first
    | exact lseb_tile S 3 h2 z2_lt z1_lt h1
    | exact lseb_tile S 2 h2 z2_lt z1_lt h1
    | exact lseb_tile S 1 h2 z2_lt z1_lt h1
    | exact lseb_tile S 0 h2 z2_lt z1_lt (h1.trans (Nat.zero_add _).symm)

end

end Cert.AttnFwdAIdeal.Val
-- ==== Proof.AttnFwdRefA.lean ====
/-
  The reference of the attention's forward call on the first group, stage by stage.
-/
module

public import proofs.«01_k».proof.Proof.Gen.AttnFwdARefIdeal.Run
public import proofs.«01_k».proof.Proof.WindowBlock

@[expose] public section

set_option maxRecDepth 16384

noncomputable section

namespace Cert.AttnFwdARefIdeal.Val

open Idealize.ShloMosaic Idealize.ShloMosaic.TcCoe Idealize.SL.Sem
open Cert.AttnFwdARefIdeal Cert.AttnFwdARefIdeal.Gen
open Cert.Window

/-- The reference's heads and blocks of an argument. -/
def tB (x : FVec Ideal S8192x512 .f32) : FVec Ideal S4x1x64x128x128 .f32 :=
  shapeCast S4x1x64x128x128 (transpose S4x1x8192x128 [2, 1, 0, 3] (shapeCast S8192x1x4x128 x shapeCasts_S8192x512_S8192x1x4x128)
    transposes_S8192x1x4x128_S4x1x8192x128_2_1_0_3) shapeCasts_S4x1x8192x128_S4x1x64x128x128

theorem tB_eq (x : FVec Ideal S8192x512 .f32) (h r n q e) : tB x (ix5 h r n q e) = cls 1 r x (128 * n + q) (128 * h + e) := by
  pointwise [tB]
  refine cls_eq _ _ _ ?_ ?_ <;> first | omega | (dsimp only; omega)

/-- The reference's windows: a block after the block before it, zeros before the first. -/
def tW (b : FVec Ideal S4x1x64x128x128 .f32) : FVec Ideal S4x1x64x256x128 .f32 :=
  concatenate S4x1x64x256x128 3 [⟨S4x1x64x128x128, concatenate S4x1x64x128x128 2
    [⟨S4x1x1x128x128, broadcastInDim S4x1x1x128x128 ![] bcast_S_S4x1x1x128x128 (constant S_ .f32 0x00000000#32)⟩,
     ⟨S4x1x63x128x128, extractStridedSlice S4x1x63x128x128 ![0, 0, 0, 0, 0] b slices_S4x1x64x128x128_S4x1x63x128x128_0_0_0_0_0⟩]
    concatenates_S4x1x1x128x128_S4x1x63x128x128_S4x1x64x128x128_d2⟩, ⟨S4x1x64x128x128, b⟩] concatenates_S4x1x64x128x128_S4x1x64x128x128_S4x1x64x256x128_d3

theorem tW_eq (x : FVec Ideal S8192x512 .f32) (h r n k e) : tW (tB x) (ix5 h r n k e)
    = if n.val = 0 ∧ k.val < 128 then 0 else cls 1 r x (src n k) (128 * h + e) := by
  generalize hb : tB x = b
  have hB : ∀ h r n q e, b (ix5 h r n q e) = cls 1 r x (128 * n + q) (128 * h + e) := fun _ _ _ _ _ => by rw [← hb]; exact tB_eq ..
  unfold src
  pointwise [tW]
  simp only [hB]
  obtain rfl : r = 0 := Subsingleton.elim _ _
  split_ifs <;> first | omega | rfl | exact congrArg₂ _ (by omega) rfl

/-- The reference's scores, `-∞` outside the window. -/
def tS (q : FVec Ideal S4x1x64x128x128 .f32) (w : FVec Ideal S4x1x64x256x128 .f32) : FVec Ideal S4x1x64x128x256 .f32 :=
  select (broadcastInDim S4x1x64x128x256 ![2, 3, 4] bcast_S64x128x256_S4x1x64x128x256_2_3_4
    (andi (andi (cmpi .sge (iotaInDim S64x128x256 32 2) (iotaInDim S64x128x256 32 1))
      (cmpi .sle (iotaInDim S64x128x256 32 2) (addi (iotaInDim S64x128x256 32 1) (broadcastInDim S64x128x256 ![] bcast_S_S64x128x256 (constantI S_ 32 128#32)))))
      (noti (andi (cmpi .eq (iotaInDim S64x128x256 32 0) (broadcastInDim S64x128x256 ![] bcast_S_S64x128x256 (constantI S_ 32 0#32)))
        (cmpi .slt (iotaInDim S64x128x256 32 2) (broadcastInDim S64x128x256 ![] bcast_S_S64x128x256 (constantI S_ 32 128#32)))))))
    (mulf (Host.dotGeneral dot_S4x1x64x128x128_S4x1x64x256x128_S4x1x64x128x256_4_4_3_3_012_012 none q w)
      (broadcastInDim S4x1x64x128x256 ![] bcast_S_S4x1x64x128x256 (constant S_ .f32 0x3DB504F3#32)))
    (broadcastInDim S4x1x64x128x256 ![] bcast_S_S4x1x64x128x256 (id (constant S_ .f32 0xFF800000#32)))

theorem tS_eq (x y : FVec Ideal S8192x512 .f32) (h r n t k) : tS (tB x) (tW (tB y)) (ix5 h r n t k) = score (cls 1 r x) (cls 1 r y) n h t k := by
  generalize hq : tB x = q
  generalize hw : tW (tB y) = w
  have hQ : ∀ h r n q' e, q (ix5 h r n q' e) = cls 1 r x (128 * n + q') (128 * h + e) := fun _ _ _ _ _ => by rw [← hq]; exact tB_eq ..
  have hW : ∀ h r n k e, w (ix5 h r n k e) = if n.val = 0 ∧ k.val < 128 then 0 else cls 1 r y (src n k) (128 * h + e) := fun _ _ _ _ _ => by
    rw [← hw]; exact tW_eq ..
  unfold score
  pointwise [tS]
  simp only [hQ, hW]
  refine (select_iff ((and_one _ _).trans ((band_iff t.isLt k.isLt).and (before_iff k.isLt (by omega)))) _ _).trans ?_
  obtain rfl : r = 0 := Subsingleton.elim _ _
  by_cases g : Sees n t k
  · rw [if_pos g, if_pos ⟨⟨g.1, g.2.1⟩, g.2.2⟩]
    simp only [if_neg (show ¬ (n.val = 0 ∧ k.val < 128) by have := g.2.2; omega)]
    rfl
  · rw [if_neg g, if_neg fun h => g ⟨h.1.1, h.1.2, h.2⟩]
    exact Row.ofBits_neg_inf

/-- The reference's row maxima. -/
def tM (s : FVec Ideal S4x1x64x128x256 .f32) : FVec Ideal S4x1x64x128 .f32 :=
  Host.reduce FloatOps.maximumf s (constant S_ .f32 0xFF800000#32) reducesTo_S4x1x64x128x256_S4x1x64x128_d4 h_S_

theorem tM_eq (s h r n t) : tM s (ix4 h r n t) = Row.mx fun k => s (ix5 h r n t k) := by
  obtain rfl : r = 0 := Subsingleton.elim _ _
  unfold Row.mx
  pointwise [tM]

/-- The exponentials of the scores less a row's value. -/
def tP (s : FVec Ideal S4x1x64x128x256 .f32) (l : FVec Ideal S4x1x64x128 .f32) : FVec Ideal S4x1x64x128x256 .f32 :=
  Host.exp (subf s (broadcastInDim S4x1x64x128x256 ![0, 1, 2, 3, 4] bcast_S4x1x64x128x1_S4x1x64x128x256_0_1_2_3_4
    (broadcastInDim S4x1x64x128x1 ![0, 1, 2, 3] bcast_S4x1x64x128_S4x1x64x128x1_0_1_2_3 l)))

theorem tP_eq (s l h r n t k) : tP s l (ix5 h r n t k) = Ideal.exp (s (ix5 h r n t k) - l (ix4 h r n t)) := by
  obtain rfl : r = 0 := Subsingleton.elim _ _
  pointwise [tP]

/-- A row's value and the logarithm of its exponentials' sum. -/
def tL (M : FVec Ideal S4x1x64x128 .f32) (p : FVec Ideal S4x1x64x128x256 .f32) : FVec Ideal S4x1x64x128 .f32 :=
  addf M (Host.log (Host.reduceAdd p (constant S_ .f32 0x00000000#32) reducesTo_S4x1x64x128x256_S4x1x64x128_d4 h_S_))

theorem tL_eq (M p h r n t) : tL M p (ix4 h r n t) = M (ix4 h r n t) + Ideal.log (∑ k, p (ix5 h r n t k)) := by
  obtain rfl : r = 0 := Subsingleton.elim _ _
  pointwise [tL]

/-- The scores from the arguments. -/
abbrev tC (x y : FVec Ideal S8192x512 .f32) : FVec Ideal S4x1x64x128x256 .f32 := tS (tB x) (tW (tB y))

/-- The reference's log-sum-exps. -/
abbrev tD (x y : FVec Ideal S8192x512 .f32) : FVec Ideal S4x1x64x128 .f32 := tL (tM (tC x y)) (tP (tC x y) (tM (tC x y)))

theorem lse_eq (x y : FVec Ideal S8192x512 .f32) (h r n t) : tD x y (ix4 h r n t) = lse (cls 1 r x) (cls 1 r y) n h t := by
  unfold lse Row.den Row.ex
  simp only [tL_eq, tP_eq, tM_eq, tS_eq]

/-- The reference's attention from the softmax and the windows of values. -/
def tO (p : FVec Ideal S4x1x64x128x256 .f32) (w : FVec Ideal S4x1x64x256x128 .f32) : FVec Ideal S1x8192x512 .bf16 :=
  truncf .bf16 (shapeCast S1x8192x512 (transpose S1x64x128x4x128 [1, 2, 3, 0, 4]
    (Host.dotGeneral dot_S4x1x64x128x256_S4x1x64x256x128_S4x1x64x128x128_4_3_3_4_012_012 none p w)
    transposes_S4x1x64x128x128_S1x64x128x4x128_1_2_3_0_4) shapeCasts_S1x64x128x4x128_S1x8192x512) bitsLt_bf16_f32

theorem tO_eq (p w) (r : Fin 1) (i : Fin 8192) (j : Fin 512) : tO p w (ix3 r i j)
    = ∑ k, p (ix5 ⟨j.val / 128, by omega⟩ r ⟨i.val / 128, by omega⟩ ⟨i.val % 128, by omega⟩ k)
        * w (ix5 ⟨j.val / 128, by omega⟩ r ⟨i.val / 128, by omega⟩ k ⟨j.val % 128, by omega⟩) := by
  obtain rfl : r = 0 := Subsingleton.elim _ _
  pointwise [tO]

/-- The reference's log-sum-exps by row, the heads on the first four lanes. -/
def tE (l : FVec Ideal S4x1x64x128 .f32) : FVec Ideal S1x8192x128 .f32 :=
  concatenate S1x8192x128 2 [⟨S1x8192x4, shapeCast S1x8192x4 (transpose S1x64x128x4 [1, 2, 3, 0] l
    transposes_S4x1x64x128_S1x64x128x4_1_2_3_0) shapeCasts_S1x64x128x4_S1x8192x4⟩,
    ⟨S1x8192x124, broadcastInDim S1x8192x124 ![] bcast_S_S1x8192x124 (constant S_ .f32 0x00000000#32)⟩] concatenates_S1x8192x4_S1x8192x124_S1x8192x128_d2

theorem tE_eq (l) (r : Fin 1) (i : Fin 8192) (j : Fin 128) : tE l (ix3 r i j)
    = if g : j.val < 4 then l (ix4 ⟨j.val, g⟩ r ⟨i.val / 128, by omega⟩ ⟨i.val % 128, by omega⟩) else 0 := by
  obtain rfl : r = 0 := Subsingleton.elim _ _
  pointwise [tE]

end Cert.AttnFwdARefIdeal.Val

end
-- ==== Proof.AttnFwdClaimA.lean ====
/-
  The attention's forward call on the first group: on arguments that are real numbers the call and the forward lines end
  with equal results.
-/
module

public import proofs.«01_k».proof.Proof.AttnFwdA
public import proofs.«01_k».proof.Proof.AttnFwdRefA
public import proofs.«01_k».proof.Proof.Gen.AttnFwdARefIdeal.Run
public import proofs.«01_k».proof.Defs
public import proofs.«01_k».proof.Proof.Gen.AttnFwdAIdeal
public import proofs.«01_k».proof.Proof.Gen.AttnFwdARefIdeal
public import proofs.«01_k».proof.Proof.Gen.Pre_pre_af0

@[expose] public section

set_option maxRecDepth 16384

noncomputable section

namespace Cert.AttnFwdAIdeal.Val

open Idealize.ShloMosaic Idealize.ShloMosaic.TcCoe Idealize.SL.Sem
open Idealize.ShloMosaic.Pipeline (Dat)
open Cert.AttnFwdAIdeal Cert.AttnFwdAIdeal.Gen
open Cert.Window
open Cert.Row (IsReal)

/-- The block of every operand at a grid point: its class, and its rows there. -/
theorem idx : ∀ t : Fin cfg0.N, win0_0.index t = ![t.val / 16, t.val % 16, 0] ∧ win0_1.index t = ![t.val / 16, t.val % 16, 1]
    ∧ win0_2.index t = ![t.val / 16, t.val % 16, 2] ∧ win0_3.index t = ![t.val / 16, 4 * (t.val % 16) - 1, 1]
    ∧ win0_4.index t = ![t.val / 16, 4 * (t.val % 16) - 1, 2] ∧ win0_5.index t = ![t.val / 16, t.val % 16, 0]
    ∧ win0_6.index t = ![t.val / 16, t.val % 16, 0] ∧ (grid0.coords t 1).val = t.val % 16 :=
  (by decide +kernel : ∀ t : Fin grid0.N, win0_0.index t = ![t.val / 16, t.val % 16, 0] ∧ win0_1.index t = ![t.val / 16, t.val % 16, 1]
    ∧ win0_2.index t = ![t.val / 16, t.val % 16, 2] ∧ win0_3.index t = ![t.val / 16, 4 * (t.val % 16) - 1, 1]
    ∧ win0_4.index t = ![t.val / 16, 4 * (t.val % 16) - 1, 2] ∧ win0_5.index t = ![t.val / 16, t.val % 16, 0]
    ∧ win0_6.index t = ![t.val / 16, t.val % 16, 0] ∧ (grid0.coords t 1).val = t.val % 16)

variable (m : (ℓ : Loc nD τ sig) → Buf (Elt Ideal) ℓ)

/-- The arguments of a launch. -/
abbrev aq (c : Dev nD) : FVec Ideal S8192x512 .f32 := m ((c : Thread nD τ).loc main_arg0)
abbrev ak (c : Dev nD) : FVec Ideal S8192x512 .f32 := m ((c : Thread nD τ).loc main_arg1)
abbrev av (c : Dev nD) : FVec Ideal S8192x512 .f32 := m ((c : Thread nD τ).loc main_arg2)

/-- The call's operand: the three arguments side by side, by class. -/
def arr (x y z : FVec Ideal S8192x512 .f32) : FVec Ideal S1x8192x1536 .bf16 := fun i => sides 1 x y z (i 0).val (i 1).val (i 2).val

/-- That operand as the host makes it. -/
def tr (x y z : FVec Ideal S8192x512 .f32) : FVec Ideal S1x8192x1536 .bf16 :=
  transpose S1x8192x1536 [1, 0, 2] (shapeCast S8192x1x1536 (truncf .bf16 (concatenate S8192x1536 1 [⟨S8192x512, x⟩, ⟨S8192x512, y⟩, ⟨S8192x512, z⟩]
    concatenates_S8192x512_S8192x512_S8192x512_S8192x1536_d1) bitsLt_bf16_f32) shapeCasts_S8192x1536_S8192x1x1536) transposes_S8192x1x1536_S1x8192x1536_1_0_2

theorem tr_eq (x y z) : tr x y z = arr x y z := by
  funext i
  idx_vars i
  unfold arr sides
  pointwise [tr]
  split_ifs
  all_goals first
    | exact absurd rfl ‹¬ _ = _›
    | (refine Eq.trans ?_ (if_pos (show i2.val < 1024 by omega)).symm
       refine cls_eq _ _ _ ?_ ?_ <;> first | omega | rfl | (dsimp only; omega))
    | (refine Eq.trans ?_ (if_neg (show ¬ i2.val < 1024 by omega)).symm
       refine cls_eq _ _ _ ?_ ?_ <;> first | omega | rfl | (dsimp only; omega))
    | (refine cls_eq _ _ _ ?_ ?_ <;> first | omega | rfl | (dsimp only; omega))

theorem V_eq (c : Dev nD) : V m c main_v3 = arr (aq m c) (ak m c) (av m c) :=
  (show _ = tr (aq m c) (ak m c) (av m c) from rfl).trans (tr_eq ..)

/-! A grid point's blocks hold its class's rows of the arguments. -/

theorem blk0 (c : Dev nD) (t : Fin cfg0.N) (a : Fin 512) (b : Fin 512) : (iblk m c 0 t : Blk) (ix3 0 a b) = cls 1 (t.val / 16) (aq m c) (512 * (t.val % 16) + a) b := by
  have e : (iblk m c 0 t : Blk) (ix3 0 a b) = arr (aq m c) (ak m c) (av m c) ((win0_0.blk t).view.emb (ix3 0 a b)) := by rw [← V_eq]; rfl
  rw [e]
  exact sides0 1 _ _ _ (by blk_simp [idx t] <;> omega) (by blk_simp [idx t] <;> omega) (by blk_simp [idx t] <;> omega) b.isLt

theorem blk1 (c : Dev nD) (t : Fin cfg0.N) (a : Fin 512) (b : Fin 512) : (iblk m c 1 t : Blk) (ix3 0 a b) = cls 1 (t.val / 16) (ak m c) (512 * (t.val % 16) + a) b := by
  have e : (iblk m c 1 t : Blk) (ix3 0 a b) = arr (aq m c) (ak m c) (av m c) ((win0_1.blk t).view.emb (ix3 0 a b)) := by rw [← V_eq]; rfl
  rw [e]
  exact sides1 1 _ _ _ (by blk_simp [idx t] <;> omega) (by blk_simp [idx t] <;> omega) (by blk_simp [idx t] <;> omega) b.isLt

theorem blk2 (c : Dev nD) (t : Fin cfg0.N) (a : Fin 512) (b : Fin 512) : (iblk m c 2 t : Blk) (ix3 0 a b) = cls 1 (t.val / 16) (av m c) (512 * (t.val % 16) + a) b := by
  have e : (iblk m c 2 t : Blk) (ix3 0 a b) = arr (aq m c) (ak m c) (av m c) ((win0_2.blk t).view.emb (ix3 0 a b)) := by rw [← V_eq]; rfl
  rw [e]
  exact sides2 1 _ _ _ (by blk_simp [idx t] <;> omega) (by blk_simp [idx t] <;> omega) (by blk_simp [idx t] <;> omega) b.isLt

theorem blk3 (c : Dev nD) (t : Fin cfg0.N) (a : Fin 128) (b : Fin 512) : (iblk m c 3 t : Prv) (ix3 0 a b) = cls 1 (t.val / 16) (ak m c) (128 * (4 * (t.val % 16) - 1) + a) b := by
  have e : (iblk m c 3 t : Prv) (ix3 0 a b) = arr (aq m c) (ak m c) (av m c) ((win0_3.blk t).view.emb (ix3 0 a b)) := by rw [← V_eq]; rfl
  rw [e]
  exact sides1 1 _ _ _ (by blk_simp [idx t] <;> omega) (by blk_simp [idx t] <;> omega) (by blk_simp [idx t] <;> omega) b.isLt

theorem blk4 (c : Dev nD) (t : Fin cfg0.N) (a : Fin 128) (b : Fin 512) : (iblk m c 4 t : Prv) (ix3 0 a b) = cls 1 (t.val / 16) (av m c) (128 * (4 * (t.val % 16) - 1) + a) b := by
  have e : (iblk m c 4 t : Prv) (ix3 0 a b) = arr (aq m c) (ak m c) (av m c) ((win0_4.blk t).view.emb (ix3 0 a b)) := by rw [← V_eq]; rfl
  rw [e]
  exact sides2 1 _ _ _ (by blk_simp [idx t] <;> omega) (by blk_simp [idx t] <;> omega) (by blk_simp [idx t] <;> omega) b.isLt

/-- What a grid point stores: the window's attention and log-sum-exps of its rows. -/
theorem outs5 (c : Dev nD) (t : Fin cfg0.N) (y0 : Fin 1) (y1 y2 : Fin 512) : (outsAt0 m c t).1 (ix3 y0 y1 y2)
    = att (cls 1 (t.val / 16) (aq m c)) (cls 1 (t.val / 16) (ak m c)) (cls 1 (t.val / 16) (av m c))
        ((512 * (t.val % 16) + y1) / 128) (y2.val / 128) ((512 * (t.val % 16) + y1) % 128) (y2.val % 128) := by
  unfold outsAt0 out0_A_5
  dsimp only
  rw [View.read_writes_junk_eq_canon, outA (E := fun u r => Row.ex (sco (grid0.coords t 1).val (iblk m c 0 t) (iblk m c 1 t) (iblk m c 3 t) u r)) (K := kall (iblk m c 2 t) (iblk m c 4 t))
    (D := fun u r => Ideal.div 1 (Row.den (sco (grid0.coords t 1).val (iblk m c 0 t) (iblk m c 1 t) (iblk m c 3 t) u r))) (e1 := canon1 ..) (e3 := canon3 ..) (e4 := canon4 ..)]
  refine Eq.trans ?_ (attb_eq (blk0 m c t) (blk1 m c t) (blk3 m c t) (blk2 m c t) (blk4 m c t) y1.isLt y2.isLt)
  rw [← (idx t).2.2.2.2.2.2.2]
  rfl

theorem outs6 (c : Dev nD) (t : Fin cfg0.N) (y0 : Fin 1) (y1 : Fin 512) (y2 : Fin 128) : (outsAt0 m c t).2 (ix3 y0 y1 y2)
    = if y2.val < 4 then lse (cls 1 (t.val / 16) (aq m c)) (cls 1 (t.val / 16) (ak m c))
        ((512 * (t.val % 16) + y1) / 128) y2 ((512 * (t.val % 16) + y1) % 128) else 0 := by
  unfold outsAt0 out0_A_6
  dsimp only
  rw [View.read_writes_junk_eq_canon, outL (S := sco (grid0.coords t 1).val (iblk m c 0 t) (iblk m c 1 t) (iblk m c 3 t)) (e2 := canon2 ..)]
  refine Eq.trans ?_ (lseb_eq (blk0 m c t) (blk1 m c t) (blk3 m c t) y1.isLt)
  rw [← (idx t).2.2.2.2.2.2.2]
  rfl

/-- The attention, whole. -/
def attw (x y z : FVec Ideal S8192x512 .f32) : FVec Ideal S1x8192x512 .bf16 := fun i =>
  att (cls 1 (i 0).val x) (cls 1 (i 0).val y) (cls 1 (i 0).val z) ((i 1).val / 128) ((i 2).val / 128) ((i 1).val % 128) ((i 2).val % 128)

/-- The log-sum-exps, whole. -/
def lsew (x y : FVec Ideal S8192x512 .f32) : FVec Ideal S1x8192x128 .f32 := fun i =>
  if (i 2).val < 4 then lse (cls 1 (i 0).val x) (cls 1 (i 0).val y) ((i 1).val / 128) (i 2).val ((i 1).val % 128) else 0

theorem final5 (c : Dev nD) : (dats m 0 c).arrAt 5 (cfgs 0).N = attw (aq m c) (ak m c) (av m c) := by
  refine (dats m 0 c).arrAt_eq_of_covers 5 _ (by decide +kernel) fun t _ y => ?_
  blk_simp
  rw [after0_5]
  idx_vars y
  refine (outs5 ..).trans ?_
  unfold attw
  have f0 : (((View.whole main_v4_0).slice (win0_5.rect t)).emb (ix3 y0 y1 y2) 0).val = t.val / 16 := by blk_simp [idx t] <;> omega
  have f1 : (((View.whole main_v4_0).slice (win0_5.rect t)).emb (ix3 y0 y1 y2) 1).val = 512 * (t.val % 16) + y1 := by blk_simp [idx t] <;> omega
  have f2 : (((View.whole main_v4_0).slice (win0_5.rect t)).emb (ix3 y0 y1 y2) 2).val = y2 := by blk_simp [idx t] <;> omega
  rw [f0, f1, f2]

theorem final6 (c : Dev nD) : (dats m 0 c).arrAt 6 (cfgs 0).N = lsew (aq m c) (ak m c) := by
  refine (dats m 0 c).arrAt_eq_of_covers 6 _ (by decide +kernel) fun t _ y => ?_
  blk_simp
  rw [after0_6]
  idx_vars y
  refine (outs6 ..).trans ?_
  unfold lsew
  have f0 : (((View.whole main_v4_1).slice (win0_6.rect t)).emb (ix3 y0 y1 y2) 0).val = t.val / 16 := by blk_simp [idx t] <;> omega
  have f1 : (((View.whole main_v4_1).slice (win0_6.rect t)).emb (ix3 y0 y1 y2) 1).val = 512 * (t.val % 16) + y1 := by blk_simp [idx t] <;> omega
  have f2 : (((View.whole main_v4_1).slice (win0_6.rect t)).emb (ix3 y0 y1 y2) 2).val = y2 := by blk_simp [idx t] <;> omega
  rw [f0, f1, f2]

open Cert.Row (IsReal)

/-- The precondition: the queries, keys and values are real numbers. -/
theorem real_of_pre (a0 a1 a2) : ((Cert.Pre_pre_af0.fn (F := Ideal) a0 a1 a2).1 = (fun _ => 1#1) → ∀ ρ i j, IsReal (cls 1 ρ a0 i j))
    ∧ ((Cert.Pre_pre_af0.fn (F := Ideal) a0 a1 a2).2.1 = (fun _ => 1#1) → ∀ ρ i j, IsReal (cls 1 ρ a1 i j))
    ∧ ((Cert.Pre_pre_af0.fn (F := Ideal) a0 a1 a2).2.2 = (fun _ => 1#1) → ∀ ρ i j, IsReal (cls 1 ρ a2 i j)) := by
  refine ⟨fun h ρ i j => ?_, fun h ρ i j => ?_, fun h ρ i j => ?_⟩ <;>
  · have := congrFun h (ix2 (Fin.ofNat 8192 (i * 1 + ρ)) (Fin.ofNat 512 j))
    unfold cls
    generalize Fin.ofNat 8192 (i * 1 + ρ) = p at *
    generalize Fin.ofNat 512 j = q at *
    pointwise [Cert.Pre_pre_af0.fn] at this
    exact Row.isReal_of_test this

open Cert.AttnFwdARefIdeal.Val in
theorem algebraic : Cert.algebraic_AttnFwdAIdeal_AttnFwdARefIdeal_pre_pre_af0 := by
  intro m g m' g' hP hA
  refine ⟨fun c => (dats m 0 c).arrAt 5 (cfgs 0).N, fun c => (dats m 0 c).arrAt 6 (cfgs 0).N,
    Cert.AttnFwdAIdeal.Value.run_blocks (F := Ideal) m g,
    (θ_run _ _ _).mono (fun r h c => ?_) (Cert.AttnFwdARefIdeal.Value.run (F := Ideal) m' g')⟩
  obtain ⟨a0, a1, a2⟩ := hA c
  obtain ⟨h0, h1, hk⟩ := h c
  obtain ⟨p0, p1, p2⟩ := hP c
  have hr := real_of_pre (aq m c) (ak m c) (av m c)
  have q0 := hr.1 p0
  have q1 := hr.2.1 p1
  have q2 := hr.2.2 p2
  have e0 : m' ((c.tc : Thread AttnFwdARefIdeal.nD AttnFwdARefIdeal.τ).loc AttnFwdARefIdeal.main_arg0) = aq m c := a0
  have e1 : m' ((c.tc : Thread AttnFwdARefIdeal.nD AttnFwdARefIdeal.τ).loc AttnFwdARefIdeal.main_arg1) = ak m c := a1
  have e2 : m' ((c.tc : Thread AttnFwdARefIdeal.nD AttnFwdARefIdeal.τ).loc AttnFwdARefIdeal.main_arg2) = av m c := a2
  refine ⟨?_, ?_, hk⟩
  · refine h0.trans (Eq.trans (b := tO (tP (tC (m' ((c.tc : Thread AttnFwdARefIdeal.nD AttnFwdARefIdeal.τ).loc AttnFwdARefIdeal.main_arg0)) (m' ((c.tc : Thread AttnFwdARefIdeal.nD AttnFwdARefIdeal.τ).loc AttnFwdARefIdeal.main_arg1))) (tD (m' ((c.tc : Thread AttnFwdARefIdeal.nD AttnFwdARefIdeal.τ).loc AttnFwdARefIdeal.main_arg0)) (m' ((c.tc : Thread AttnFwdARefIdeal.nD AttnFwdARefIdeal.τ).loc AttnFwdARefIdeal.main_arg1)))) (tW (tB (m' ((c.tc : Thread AttnFwdARefIdeal.nD AttnFwdARefIdeal.τ).loc AttnFwdARefIdeal.main_arg2))))) rfl ?_)
    rw [e0, e1, e2]
    beta_reduce
    rw [final5]
    funext i
    idx_vars i
    unfold attw
    refine Eq.trans ?_ (att_eq (q0 _) (q1 _) (q2 _) _ _ (Nat.mod_lt _ (by decide)) _).symm
    rw [tO_eq]
    unfold attr
    simp only [tP_eq, lse_eq, tS_eq, tW_eq]
    rfl
  · refine h1.trans (Eq.trans (b := tE (tD (m' ((c.tc : Thread AttnFwdARefIdeal.nD AttnFwdARefIdeal.τ).loc AttnFwdARefIdeal.main_arg0)) (m' ((c.tc : Thread AttnFwdARefIdeal.nD AttnFwdARefIdeal.τ).loc AttnFwdARefIdeal.main_arg1)))) rfl ?_)
    rw [e0, e1]
    beta_reduce
    rw [final6]
    funext i
    idx_vars i
    rw [tE_eq]
    unfold lsew
    simp only [lse_eq]
    rfl

end Cert.AttnFwdAIdeal.Val

end
-- ==== Proof.AttnFwdB.lean ====
/-
  One block of queries of the windowed attention: what every scratch of the body holds once its sixteen tiles are written,
  and what the block stores, as plain formulas of the blocks staged in.
-/
module

public import proofs.«01_k».proof.Proof.Gen.AttnFwdBIdeal.Value
public import proofs.«01_k».proof.Proof.WindowBlock
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.AttnFwdBIdeal.Val

open Idealize.ShloMosaic Idealize.ShloMosaic.TcCoe Idealize.SL.Sem
open Idealize.ShloMosaic.Pipeline (Dat)
open Cert.AttnFwdBIdeal Cert.AttnFwdBIdeal.Gen
open Cert.Window (Sees fac kall sco at_eq select_iff first_iff later_iff attb lseb attb_at attb_at0 lseb_tile)

/-- A load of a staged block is the block at the rectangle. -/
theorem rd {s : Shape} {e : EltTy} {sp : Space} (a : Memref sig .tc sp s e) (h : a.IsWhole) (x : s.Idx → Elt Ideal e) (r : Rect s) :
    a.view.readAt (Elt Ideal) r.toLoadRect (h.unread x) = fun j => x (r.emb j) := by
  rw [View.readAt_rect]
  funext j
  exact congrFun (h.read_unread x) (r.emb j)

variable (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x512x512 .bf16) (harg7 : arg7.IsWhole) (arg8 : Memref sig .tc .vmem S1x512x128 .f32) (harg8 : arg8.IsWhole) (arg9 : Memref sig .tc .vmem S640x512 .bf16) (harg9 : arg9.IsWhole) (arg10 : Memref sig .tc .vmem S640x512 .bf16) (harg10 : arg10.IsWhole) (arg11 : Memref sig .tc .vmem S16x128x256 .f32) (harg11 : arg11.IsWhole) (arg12 : Memref sig .tc .vmem S16x128x256 .bf16) (harg12 : arg12.IsWhole) (arg13 : Memref sig .tc .vmem S16x128x128 .f32) (harg13 : arg13.IsWhole)
  (x0 : Vec Ideal S1x512x512 .bf16) (x1 : Vec Ideal S1x512x512 .bf16) (x2 : Vec Ideal S1x512x512 .bf16) (x3 : Vec Ideal S1x128x512 .bf16) (x4 : Vec Ideal S1x128x512 .bf16)

open kernelRun0_A.sl in
theorem canon0 : View.canon (HS0_2 (F := Ideal) c arg3 harg3 arg5 harg5 x1 x3) = fun y => kall x1 x3 (y 0) (y 1) := by
  funext y
  unfold HS0_2 kall
  canon_tiles x h using (View.cover_of_tiledBy _ ![128, 512] (by sl_kernel_rfl) y)
  all_goals
    idx_vars x
    pointwise [k0_pay3, k0_pay2, rd]
    first | rw [if_neg (by omega)] | rw [if_pos (by omega)]
    refine (congrArg _ (by blk_ext : _ = ix3 0 x0 x1)).trans (at_eq _ _ _ (by omega) (by omega))

open kernelRun0_A.sl in
theorem canon1 : View.canon (HS1_2 (F := Ideal) c arg4 harg4 arg6 harg6 x2 x4) = fun y => kall x2 x4 (y 0) (y 1) := by
  funext y
  unfold HS1_2 kall
  canon_tiles x h using (View.cover_of_tiledBy _ ![128, 512] (by sl_kernel_rfl) y)
  all_goals
    idx_vars x
    pointwise [k0_pay5, k0_pay4, rd]
    first | rw [if_neg (by omega)] | rw [if_pos (by omega)]
    refine (congrArg _ (by blk_ext : _ = ix3 0 x0 x1)).trans (at_eq _ _ _ (by omega) (by omega))

/-- The mask's value, as the program names it. -/
abbrev msk : EReal := Named.named (F := Ideal) (φ := .f32) Cert.AttnFwdBIdeal.κ "mask" 0xF149F2CA#32

theorem msk_eq : msk = ⊥ := rfl

open kernelRun0_A.sl in
theorem canon2 : View.canon (HS2_16 (F := Ideal) c i arg2 harg2 arg3 harg3 arg5 harg5 arg9 x0 x1 x3) = fun y => sco (i 1).val x0 x1 x3 (y 0) (y 1) (y 2) := by
  funext y
  unfold HS2_16
  canon_tiles x h
  all_goals
    idx_vars x
    obtain rfl : x0 = 0 := Subsingleton.elim _ _
    unfold sco
    simp only [r_5, v200, v189, v178, r_4, v167, v156, r_3, v145, v134, v123, r_2, v112, v101, v90, v79, r, v68, r_1, v57, v46, v35, View.readCov_eq_canon', canon0]
    open_payloads
    pointwise [Memref.IsWhole.read_unread]
    rw [h0, h1, h2]
    first
    | refine (select_iff (first_iff (lt_of_lt_of_le (i 1).isLt (by decide)) (by omega) x1.isLt x2.isLt) _ _).trans (if_congr Iff.rfl ?_ msk_eq)
    | refine (select_iff (later_iff _ (by omega) x1.isLt x2.isLt) _ _).trans (if_congr Iff.rfl ?_ msk_eq)
    refine congrArg (· * fac) (Finset.sum_congr rfl fun d _ => ?_)
    exact congrArg₂ _ (at_eq _ _ _ (by dsimp only; omega) (by dsimp only; omega)) (congrArg₂ (kall _ _) (by omega) (by omega))

open kernelRun0_A.sl in
theorem canon3 : View.canon (HS3_16 (F := Ideal) c i arg2 harg2 arg3 harg3 arg5 harg5 arg9 arg11 x0 x1 x3)
    = fun y => Row.ex (sco (i 1).val x0 x1 x3 (y 0) (y 1)) (y 2) := by
  funext y
  unfold HS3_16
  canon_tiles x h
  all_goals
    idx_vars x
    obtain rfl : x0 = 0 := Subsingleton.elim _ _
    simp only [r_38, v616, v589, v562, v535, r_29, v508, v481, v454, r_23, v427, v400, v373, r_17, v346, v319, v292, v265, r_7, v238, v211, View.readCov_eq_canon', canon2]
    open_payloads
    pointwise []
    rw [h0, h1]
    exact (congrArg (Row.ex _) (Fin.ext h2 : y 2 = x2)).symm

open kernelRun0_A.sl in
theorem canon4 : View.canon (HS4_16 (F := Ideal) c i arg2 harg2 arg3 harg3 arg5 harg5 arg9 arg11 x0 x1 x3)
    = fun y => Ideal.div 1 (Row.den (sco (i 1).val x0 x1 x3 (y 0) (y 1))) := by
  funext y
  unfold HS4_16
  canon_tiles x h
  all_goals
    idx_vars x
    obtain rfl : x0 = 0 := Subsingleton.elim _ _
    simp only [r_37, v616, v589, v562, r_32, v535, cst_211, r_29, v508, v481, r_27, v454, r_23, v427, v400, v373, r_16, v346, v319, v292, r_10, v265, r_7, v238, v211, View.readCov_eq_canon', canon2]
    open_payloads
    pointwise []
    rw [h0, h1]
    rfl

section

variable {E : ℕ → ℕ → Fin 256 → EReal} {K : ℕ → ℕ → EReal} {D : ℕ → ℕ → EReal} {S : ℕ → ℕ → Fin 256 → EReal}

open kernelRun0_A.sl in
theorem outA (e1 : View.canon (HS1_2 (F := Ideal) c arg4 harg4 arg6 harg6 x2 x4) = fun y => K (y 0) (y 1))
    (e3 : View.canon (HS3_16 (F := Ideal) c i arg2 harg2 arg3 harg3 arg5 harg5 arg9 arg11 x0 x1 x3) = fun y => E (y 0) (y 1) (y 2))
    (e4 : View.canon (HS4_16 (F := Ideal) c i arg2 harg2 arg3 harg3 arg5 harg5 arg9 arg11 x0 x1 x3) = fun y => D (y 0) (y 1)) :
    View.canon (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4).1 = fun y => attb E K D (y 1) (y 2) := by
  funext y
  unfold kernelRun0_A
  dsimp only
  canon_tiles z h using (View.cover_of_tiledBy _ ![1, 128, 128] (by sl_kernel_rfl) y)
  all_goals
    idx_vars z
    simp only [r_45, v822, v824, v809, v811, v813, v798, v800, v802, r_44, v776, v778, v780, r_43, v767, v769, v754, v756, v758, v743, v745, v747, r_42, v721, v723, v725, r_41, v712, v714, v699, v701, v703, v688, v690, v692, r_40, v666, v668, v670, r_39, v657, v659, v209, v820, v787, v789, v791, v765, v732, v734, v736, v710, v677, v679, v681, v655, View.readCov_eq_canon', e1, e3, e4]
    open_payloads
    pointwise []
    first
    | exact attb_at E K D rfl h2 (by omega) (by omega) (by omega)
    | exact attb_at0 E K D rfl h2 (by omega) (by omega) (by omega)

open kernelRun0_A.sl in
theorem outL (e2 : View.canon (HS2_16 (F := Ideal) c i arg2 harg2 arg3 harg3 arg5 harg5 arg9 x0 x1 x3) = fun y => S (y 0) (y 1) (y 2)) :
    View.canon (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4).2.1 = fun y => lseb S (y 1) (y 2) := by
  funext y
  unfold kernelRun0_A
  dsimp only
  canon_tiles z h using (View.cover_of_tiledBy _ ![1, 128, 128] (by sl_kernel_rfl) y)
  all_goals
    idx_vars z
    simp only [v209, r_6, r_8, r_9, r_14, r_15, r_22, r_24, r_25, r_26, r_31, r_35, r_36, r_37, r_30, r_21, r_13, r_33, r_34, r_28, r_18, r_19, r_20, r_11, r_12, r_38, v616, v589, v562, r_32, v535, cst_211, r_29, v508, v481, r_27, v454, r_23, v427, v400, v373, r_16, r_17, v346, v319, v292, r_10, v265, r_7, v238, v211, View.readCov_eq_canon', e2]
    open_payloads
    pointwise []
    first
    | exact lseb_tile S 3 h2 z2_lt z1_lt h1
    | exact lseb_tile S 2 h2 z2_lt z1_lt h1
    | exact lseb_tile S 1 h2 z2_lt z1_lt h1
    | exact lseb_tile S 0 h2 z2_lt z1_lt (h1.trans (Nat.zero_add _).symm)

end

end Cert.AttnFwdBIdeal.Val
-- ==== Proof.AttnFwdRefB.lean ====
/-
  The reference of the attention's forward call on the second group, stage by stage.
-/
module

public import proofs.«01_k».proof.Proof.Gen.AttnFwdBRefIdeal.Run
public import proofs.«01_k».proof.Proof.WindowBlock

@[expose] public section

set_option maxRecDepth 16384

noncomputable section

namespace Cert.AttnFwdBRefIdeal.Val

open Idealize.ShloMosaic Idealize.ShloMosaic.TcCoe Idealize.SL.Sem
open Cert.AttnFwdBRefIdeal Cert.AttnFwdBRefIdeal.Gen
open Cert.Window

/-- The reference's heads and blocks of an argument. -/
def tB (x : FVec Ideal S8192x512 .f32) : FVec Ideal S4x4x16x128x128 .f32 :=
  shapeCast S4x4x16x128x128 (transpose S4x4x2048x128 [2, 1, 0, 3] (shapeCast S2048x4x4x128 x shapeCasts_S8192x512_S2048x4x4x128)
    transposes_S2048x4x4x128_S4x4x2048x128_2_1_0_3) shapeCasts_S4x4x2048x128_S4x4x16x128x128

theorem tB_eq (x : FVec Ideal S8192x512 .f32) (h r n q e) : tB x (ix5 h r n q e) = cls 4 r x (128 * n + q) (128 * h + e) := by
  pointwise [tB]
  refine cls_eq _ _ _ ?_ ?_ <;> first | omega | (dsimp only; omega)

/-- The reference's windows: a block after the block before it, zeros before the first. -/
def tW (b : FVec Ideal S4x4x16x128x128 .f32) : FVec Ideal S4x4x16x256x128 .f32 :=
  concatenate S4x4x16x256x128 3 [⟨S4x4x16x128x128, concatenate S4x4x16x128x128 2
    [⟨S4x4x1x128x128, broadcastInDim S4x4x1x128x128 ![] bcast_S_S4x4x1x128x128 (constant S_ .f32 0x00000000#32)⟩,
     ⟨S4x4x15x128x128, extractStridedSlice S4x4x15x128x128 ![0, 0, 0, 0, 0] b slices_S4x4x16x128x128_S4x4x15x128x128_0_0_0_0_0⟩]
    concatenates_S4x4x1x128x128_S4x4x15x128x128_S4x4x16x128x128_d2⟩, ⟨S4x4x16x128x128, b⟩] concatenates_S4x4x16x128x128_S4x4x16x128x128_S4x4x16x256x128_d3

theorem tW_eq (x : FVec Ideal S8192x512 .f32) (h r n k e) : tW (tB x) (ix5 h r n k e)
    = if n.val = 0 ∧ k.val < 128 then 0 else cls 4 r x (src n k) (128 * h + e) := by
  generalize hb : tB x = b
  have hB : ∀ h r n q e, b (ix5 h r n q e) = cls 4 r x (128 * n + q) (128 * h + e) := fun _ _ _ _ _ => by rw [← hb]; exact tB_eq ..
  unfold src
  pointwise [tW]
  simp only [hB]
  split_ifs <;> first | omega | rfl | exact congrArg₂ _ (by omega) rfl

/-- The reference's scores, `-∞` outside the window. -/
def tS (q : FVec Ideal S4x4x16x128x128 .f32) (w : FVec Ideal S4x4x16x256x128 .f32) : FVec Ideal S4x4x16x128x256 .f32 :=
  select (broadcastInDim S4x4x16x128x256 ![2, 3, 4] bcast_S16x128x256_S4x4x16x128x256_2_3_4
    (andi (andi (cmpi .sge (iotaInDim S16x128x256 32 2) (iotaInDim S16x128x256 32 1))
      (cmpi .sle (iotaInDim S16x128x256 32 2) (addi (iotaInDim S16x128x256 32 1) (broadcastInDim S16x128x256 ![] bcast_S_S16x128x256 (constantI S_ 32 128#32)))))
      (noti (andi (cmpi .eq (iotaInDim S16x128x256 32 0) (broadcastInDim S16x128x256 ![] bcast_S_S16x128x256 (constantI S_ 32 0#32)))
        (cmpi .slt (iotaInDim S16x128x256 32 2) (broadcastInDim S16x128x256 ![] bcast_S_S16x128x256 (constantI S_ 32 128#32)))))))
    (mulf (Host.dotGeneral dot_S4x4x16x128x128_S4x4x16x256x128_S4x4x16x128x256_4_4_3_3_012_012 none q w)
      (broadcastInDim S4x4x16x128x256 ![] bcast_S_S4x4x16x128x256 (constant S_ .f32 0x3DB504F3#32)))
    (broadcastInDim S4x4x16x128x256 ![] bcast_S_S4x4x16x128x256 (id (constant S_ .f32 0xFF800000#32)))

theorem tS_eq (x y : FVec Ideal S8192x512 .f32) (h r n t k) : tS (tB x) (tW (tB y)) (ix5 h r n t k) = score (cls 4 r x) (cls 4 r y) n h t k := by
  generalize hq : tB x = q
  generalize hw : tW (tB y) = w
  have hQ : ∀ h r n q' e, q (ix5 h r n q' e) = cls 4 r x (128 * n + q') (128 * h + e) := fun _ _ _ _ _ => by rw [← hq]; exact tB_eq ..
  have hW : ∀ h r n k e, w (ix5 h r n k e) = if n.val = 0 ∧ k.val < 128 then 0 else cls 4 r y (src n k) (128 * h + e) := fun _ _ _ _ _ => by
    rw [← hw]; exact tW_eq ..
  unfold score
  pointwise [tS]
  simp only [hQ, hW]
  refine (select_iff ((and_one _ _).trans ((band_iff t.isLt k.isLt).and (before_iff k.isLt (by omega)))) _ _).trans ?_
  by_cases g : Sees n t k
  · rw [if_pos g, if_pos ⟨⟨g.1, g.2.1⟩, g.2.2⟩]
    simp only [if_neg (show ¬ (n.val = 0 ∧ k.val < 128) by have := g.2.2; omega)]
  · rw [if_neg g, if_neg fun h => g ⟨h.1.1, h.1.2, h.2⟩]
    exact Row.ofBits_neg_inf

/-- The reference's row maxima. -/
def tM (s : FVec Ideal S4x4x16x128x256 .f32) : FVec Ideal S4x4x16x128 .f32 :=
  Host.reduce FloatOps.maximumf s (constant S_ .f32 0xFF800000#32) reducesTo_S4x4x16x128x256_S4x4x16x128_d4 h_S_

theorem tM_eq (s h r n t) : tM s (ix4 h r n t) = Row.mx fun k => s (ix5 h r n t k) := by
  unfold Row.mx
  pointwise [tM]

/-- The exponentials of the scores less a row's value. -/
def tP (s : FVec Ideal S4x4x16x128x256 .f32) (l : FVec Ideal S4x4x16x128 .f32) : FVec Ideal S4x4x16x128x256 .f32 :=
  Host.exp (subf s (broadcastInDim S4x4x16x128x256 ![0, 1, 2, 3, 4] bcast_S4x4x16x128x1_S4x4x16x128x256_0_1_2_3_4
    (broadcastInDim S4x4x16x128x1 ![0, 1, 2, 3] bcast_S4x4x16x128_S4x4x16x128x1_0_1_2_3 l)))

theorem tP_eq (s l h r n t k) : tP s l (ix5 h r n t k) = Ideal.exp (s (ix5 h r n t k) - l (ix4 h r n t)) := by
  pointwise [tP]

/-- A row's value and the logarithm of its exponentials' sum. -/
def tL (M : FVec Ideal S4x4x16x128 .f32) (p : FVec Ideal S4x4x16x128x256 .f32) : FVec Ideal S4x4x16x128 .f32 :=
  addf M (Host.log (Host.reduceAdd p (constant S_ .f32 0x00000000#32) reducesTo_S4x4x16x128x256_S4x4x16x128_d4 h_S_))

theorem tL_eq (M p h r n t) : tL M p (ix4 h r n t) = M (ix4 h r n t) + Ideal.log (∑ k, p (ix5 h r n t k)) := by
  pointwise [tL]

/-- The scores from the arguments. -/
abbrev tC (x y : FVec Ideal S8192x512 .f32) : FVec Ideal S4x4x16x128x256 .f32 := tS (tB x) (tW (tB y))

/-- The reference's log-sum-exps. -/
abbrev tD (x y : FVec Ideal S8192x512 .f32) : FVec Ideal S4x4x16x128 .f32 := tL (tM (tC x y)) (tP (tC x y) (tM (tC x y)))

theorem lse_eq (x y : FVec Ideal S8192x512 .f32) (h r n t) : tD x y (ix4 h r n t) = lse (cls 4 r x) (cls 4 r y) n h t := by
  unfold lse Row.den Row.ex
  simp only [tL_eq, tP_eq, tM_eq, tS_eq]

/-- The reference's attention from the softmax and the windows of values. -/
def tO (p : FVec Ideal S4x4x16x128x256 .f32) (w : FVec Ideal S4x4x16x256x128 .f32) : FVec Ideal S4x2048x512 .bf16 :=
  truncf .bf16 (shapeCast S4x2048x512 (transpose S4x16x128x4x128 [1, 2, 3, 0, 4]
    (Host.dotGeneral dot_S4x4x16x128x256_S4x4x16x256x128_S4x4x16x128x128_4_3_3_4_012_012 none p w)
    transposes_S4x4x16x128x128_S4x16x128x4x128_1_2_3_0_4) shapeCasts_S4x16x128x4x128_S4x2048x512) bitsLt_bf16_f32

theorem tO_eq (p w) (r : Fin 4) (i : Fin 2048) (j : Fin 512) : tO p w (ix3 r i j)
    = ∑ k, p (ix5 ⟨j.val / 128, by omega⟩ r ⟨i.val / 128, by omega⟩ ⟨i.val % 128, by omega⟩ k)
        * w (ix5 ⟨j.val / 128, by omega⟩ r ⟨i.val / 128, by omega⟩ k ⟨j.val % 128, by omega⟩) := by
  pointwise [tO]

/-- The reference's log-sum-exps by row, the heads on the first four lanes. -/
def tE (l : FVec Ideal S4x4x16x128 .f32) : FVec Ideal S4x2048x128 .f32 :=
  concatenate S4x2048x128 2 [⟨S4x2048x4, shapeCast S4x2048x4 (transpose S4x16x128x4 [1, 2, 3, 0] l
    transposes_S4x4x16x128_S4x16x128x4_1_2_3_0) shapeCasts_S4x16x128x4_S4x2048x4⟩,
    ⟨S4x2048x124, broadcastInDim S4x2048x124 ![] bcast_S_S4x2048x124 (constant S_ .f32 0x00000000#32)⟩] concatenates_S4x2048x4_S4x2048x124_S4x2048x128_d2

theorem tE_eq (l) (r : Fin 4) (i : Fin 2048) (j : Fin 128) : tE l (ix3 r i j)
    = if g : j.val < 4 then l (ix4 ⟨j.val, g⟩ r ⟨i.val / 128, by omega⟩ ⟨i.val % 128, by omega⟩) else 0 := by
  pointwise [tE]

end Cert.AttnFwdBRefIdeal.Val

end
-- ==== Proof.AttnFwdClaimB.lean ====
/-
  The attention's forward call on the second group: on arguments that are real numbers the call and the forward lines end
  with equal results.
-/
module

public import proofs.«01_k».proof.Proof.AttnFwdB
public import proofs.«01_k».proof.Proof.AttnFwdRefB
public import proofs.«01_k».proof.Proof.Gen.AttnFwdBRefIdeal.Run
public import proofs.«01_k».proof.Defs
public import proofs.«01_k».proof.Proof.Gen.AttnFwdBIdeal
public import proofs.«01_k».proof.Proof.Gen.AttnFwdBRefIdeal
public import proofs.«01_k».proof.Proof.Gen.Pre_pre_af1

@[expose] public section

set_option maxRecDepth 16384

noncomputable section

namespace Cert.AttnFwdBIdeal.Val

open Idealize.ShloMosaic Idealize.ShloMosaic.TcCoe Idealize.SL.Sem
open Idealize.ShloMosaic.Pipeline (Dat)
open Cert.AttnFwdBIdeal Cert.AttnFwdBIdeal.Gen
open Cert.Window
open Cert.Row (IsReal)

/-- The block of every operand at a grid point: its class, and its rows there. -/
theorem idx : ∀ t : Fin cfg0.N, win0_0.index t = ![t.val / 4, t.val % 4, 0] ∧ win0_1.index t = ![t.val / 4, t.val % 4, 1]
    ∧ win0_2.index t = ![t.val / 4, t.val % 4, 2] ∧ win0_3.index t = ![t.val / 4, 4 * (t.val % 4) - 1, 1]
    ∧ win0_4.index t = ![t.val / 4, 4 * (t.val % 4) - 1, 2] ∧ win0_5.index t = ![t.val / 4, t.val % 4, 0]
    ∧ win0_6.index t = ![t.val / 4, t.val % 4, 0] ∧ (grid0.coords t 1).val = t.val % 4 :=
  (by decide +kernel : ∀ t : Fin grid0.N, win0_0.index t = ![t.val / 4, t.val % 4, 0] ∧ win0_1.index t = ![t.val / 4, t.val % 4, 1]
    ∧ win0_2.index t = ![t.val / 4, t.val % 4, 2] ∧ win0_3.index t = ![t.val / 4, 4 * (t.val % 4) - 1, 1]
    ∧ win0_4.index t = ![t.val / 4, 4 * (t.val % 4) - 1, 2] ∧ win0_5.index t = ![t.val / 4, t.val % 4, 0]
    ∧ win0_6.index t = ![t.val / 4, t.val % 4, 0] ∧ (grid0.coords t 1).val = t.val % 4)

variable (m : (ℓ : Loc nD τ sig) → Buf (Elt Ideal) ℓ)

/-- The arguments of a launch. -/
abbrev aq (c : Dev nD) : FVec Ideal S8192x512 .f32 := m ((c : Thread nD τ).loc main_arg0)
abbrev ak (c : Dev nD) : FVec Ideal S8192x512 .f32 := m ((c : Thread nD τ).loc main_arg1)
abbrev av (c : Dev nD) : FVec Ideal S8192x512 .f32 := m ((c : Thread nD τ).loc main_arg2)

/-- The call's operand: the three arguments side by side, by class. -/
def arr (x y z : FVec Ideal S8192x512 .f32) : FVec Ideal S4x2048x1536 .bf16 := fun i => sides 4 x y z (i 0).val (i 1).val (i 2).val

/-- That operand as the host makes it. -/
def tr (x y z : FVec Ideal S8192x512 .f32) : FVec Ideal S4x2048x1536 .bf16 :=
  transpose S4x2048x1536 [1, 0, 2] (shapeCast S2048x4x1536 (truncf .bf16 (concatenate S8192x1536 1 [⟨S8192x512, x⟩, ⟨S8192x512, y⟩, ⟨S8192x512, z⟩]
    concatenates_S8192x512_S8192x512_S8192x512_S8192x1536_d1) bitsLt_bf16_f32) shapeCasts_S8192x1536_S2048x4x1536) transposes_S2048x4x1536_S4x2048x1536_1_0_2

theorem tr_eq (x y z) : tr x y z = arr x y z := by
  funext i
  idx_vars i
  unfold arr sides
  pointwise [tr]
  split_ifs
  all_goals first
    | exact absurd rfl ‹¬ _ = _›
    | (refine Eq.trans ?_ (if_pos (show i2.val < 1024 by omega)).symm
       refine cls_eq _ _ _ ?_ ?_ <;> first | omega | rfl | (dsimp only; omega))
    | (refine Eq.trans ?_ (if_neg (show ¬ i2.val < 1024 by omega)).symm
       refine cls_eq _ _ _ ?_ ?_ <;> first | omega | rfl | (dsimp only; omega))
    | (refine cls_eq _ _ _ ?_ ?_ <;> first | omega | rfl | (dsimp only; omega))

theorem V_eq (c : Dev nD) : V m c main_v3 = arr (aq m c) (ak m c) (av m c) :=
  (show _ = tr (aq m c) (ak m c) (av m c) from rfl).trans (tr_eq ..)

/-! A grid point's blocks hold its class's rows of the arguments. -/

theorem blk0 (c : Dev nD) (t : Fin cfg0.N) (a : Fin 512) (b : Fin 512) : (iblk m c 0 t : Blk) (ix3 0 a b) = cls 4 (t.val / 4) (aq m c) (512 * (t.val % 4) + a) b := by
  have e : (iblk m c 0 t : Blk) (ix3 0 a b) = arr (aq m c) (ak m c) (av m c) ((win0_0.blk t).view.emb (ix3 0 a b)) := by rw [← V_eq]; rfl
  rw [e]
  exact sides0 4 _ _ _ (by blk_simp [idx t] <;> omega) (by blk_simp [idx t] <;> omega) (by blk_simp [idx t] <;> omega) b.isLt

theorem blk1 (c : Dev nD) (t : Fin cfg0.N) (a : Fin 512) (b : Fin 512) : (iblk m c 1 t : Blk) (ix3 0 a b) = cls 4 (t.val / 4) (ak m c) (512 * (t.val % 4) + a) b := by
  have e : (iblk m c 1 t : Blk) (ix3 0 a b) = arr (aq m c) (ak m c) (av m c) ((win0_1.blk t).view.emb (ix3 0 a b)) := by rw [← V_eq]; rfl
  rw [e]
  exact sides1 4 _ _ _ (by blk_simp [idx t] <;> omega) (by blk_simp [idx t] <;> omega) (by blk_simp [idx t] <;> omega) b.isLt

theorem blk2 (c : Dev nD) (t : Fin cfg0.N) (a : Fin 512) (b : Fin 512) : (iblk m c 2 t : Blk) (ix3 0 a b) = cls 4 (t.val / 4) (av m c) (512 * (t.val % 4) + a) b := by
  have e : (iblk m c 2 t : Blk) (ix3 0 a b) = arr (aq m c) (ak m c) (av m c) ((win0_2.blk t).view.emb (ix3 0 a b)) := by rw [← V_eq]; rfl
  rw [e]
  exact sides2 4 _ _ _ (by blk_simp [idx t] <;> omega) (by blk_simp [idx t] <;> omega) (by blk_simp [idx t] <;> omega) b.isLt

theorem blk3 (c : Dev nD) (t : Fin cfg0.N) (a : Fin 128) (b : Fin 512) : (iblk m c 3 t : Prv) (ix3 0 a b) = cls 4 (t.val / 4) (ak m c) (128 * (4 * (t.val % 4) - 1) + a) b := by
  have e : (iblk m c 3 t : Prv) (ix3 0 a b) = arr (aq m c) (ak m c) (av m c) ((win0_3.blk t).view.emb (ix3 0 a b)) := by rw [← V_eq]; rfl
  rw [e]
  exact sides1 4 _ _ _ (by blk_simp [idx t] <;> omega) (by blk_simp [idx t] <;> omega) (by blk_simp [idx t] <;> omega) b.isLt

theorem blk4 (c : Dev nD) (t : Fin cfg0.N) (a : Fin 128) (b : Fin 512) : (iblk m c 4 t : Prv) (ix3 0 a b) = cls 4 (t.val / 4) (av m c) (128 * (4 * (t.val % 4) - 1) + a) b := by
  have e : (iblk m c 4 t : Prv) (ix3 0 a b) = arr (aq m c) (ak m c) (av m c) ((win0_4.blk t).view.emb (ix3 0 a b)) := by rw [← V_eq]; rfl
  rw [e]
  exact sides2 4 _ _ _ (by blk_simp [idx t] <;> omega) (by blk_simp [idx t] <;> omega) (by blk_simp [idx t] <;> omega) b.isLt

/-- What a grid point stores: the window's attention and log-sum-exps of its rows. -/
theorem outs5 (c : Dev nD) (t : Fin cfg0.N) (y0 : Fin 1) (y1 y2 : Fin 512) : (outsAt0 m c t).1 (ix3 y0 y1 y2)
    = att (cls 4 (t.val / 4) (aq m c)) (cls 4 (t.val / 4) (ak m c)) (cls 4 (t.val / 4) (av m c))
        ((512 * (t.val % 4) + y1) / 128) (y2.val / 128) ((512 * (t.val % 4) + y1) % 128) (y2.val % 128) := by
  unfold outsAt0 out0_A_5
  dsimp only
  rw [View.read_writes_junk_eq_canon, outA (E := fun u r => Row.ex (sco (grid0.coords t 1).val (iblk m c 0 t) (iblk m c 1 t) (iblk m c 3 t) u r)) (K := kall (iblk m c 2 t) (iblk m c 4 t))
    (D := fun u r => Ideal.div 1 (Row.den (sco (grid0.coords t 1).val (iblk m c 0 t) (iblk m c 1 t) (iblk m c 3 t) u r))) (e1 := canon1 ..) (e3 := canon3 ..) (e4 := canon4 ..)]
  refine Eq.trans ?_ (attb_eq (blk0 m c t) (blk1 m c t) (blk3 m c t) (blk2 m c t) (blk4 m c t) y1.isLt y2.isLt)
  rw [← (idx t).2.2.2.2.2.2.2]
  rfl

theorem outs6 (c : Dev nD) (t : Fin cfg0.N) (y0 : Fin 1) (y1 : Fin 512) (y2 : Fin 128) : (outsAt0 m c t).2 (ix3 y0 y1 y2)
    = if y2.val < 4 then lse (cls 4 (t.val / 4) (aq m c)) (cls 4 (t.val / 4) (ak m c))
        ((512 * (t.val % 4) + y1) / 128) y2 ((512 * (t.val % 4) + y1) % 128) else 0 := by
  unfold outsAt0 out0_A_6
  dsimp only
  rw [View.read_writes_junk_eq_canon, outL (S := sco (grid0.coords t 1).val (iblk m c 0 t) (iblk m c 1 t) (iblk m c 3 t)) (e2 := canon2 ..)]
  refine Eq.trans ?_ (lseb_eq (blk0 m c t) (blk1 m c t) (blk3 m c t) y1.isLt)
  rw [← (idx t).2.2.2.2.2.2.2]
  rfl

/-- The attention, whole. -/
def attw (x y z : FVec Ideal S8192x512 .f32) : FVec Ideal S4x2048x512 .bf16 := fun i =>
  att (cls 4 (i 0).val x) (cls 4 (i 0).val y) (cls 4 (i 0).val z) ((i 1).val / 128) ((i 2).val / 128) ((i 1).val % 128) ((i 2).val % 128)

/-- The log-sum-exps, whole. -/
def lsew (x y : FVec Ideal S8192x512 .f32) : FVec Ideal S4x2048x128 .f32 := fun i =>
  if (i 2).val < 4 then lse (cls 4 (i 0).val x) (cls 4 (i 0).val y) ((i 1).val / 128) (i 2).val ((i 1).val % 128) else 0

theorem final5 (c : Dev nD) : (dats m 0 c).arrAt 5 (cfgs 0).N = attw (aq m c) (ak m c) (av m c) := by
  refine (dats m 0 c).arrAt_eq_of_covers 5 _ (by decide +kernel) fun t _ y => ?_
  blk_simp
  rw [after0_5]
  idx_vars y
  refine (outs5 ..).trans ?_
  unfold attw
  have f0 : (((View.whole main_v4_0).slice (win0_5.rect t)).emb (ix3 y0 y1 y2) 0).val = t.val / 4 := by blk_simp [idx t] <;> omega
  have f1 : (((View.whole main_v4_0).slice (win0_5.rect t)).emb (ix3 y0 y1 y2) 1).val = 512 * (t.val % 4) + y1 := by blk_simp [idx t] <;> omega
  have f2 : (((View.whole main_v4_0).slice (win0_5.rect t)).emb (ix3 y0 y1 y2) 2).val = y2 := by blk_simp [idx t] <;> omega
  rw [f0, f1, f2]

theorem final6 (c : Dev nD) : (dats m 0 c).arrAt 6 (cfgs 0).N = lsew (aq m c) (ak m c) := by
  refine (dats m 0 c).arrAt_eq_of_covers 6 _ (by decide +kernel) fun t _ y => ?_
  blk_simp
  rw [after0_6]
  idx_vars y
  refine (outs6 ..).trans ?_
  unfold lsew
  have f0 : (((View.whole main_v4_1).slice (win0_6.rect t)).emb (ix3 y0 y1 y2) 0).val = t.val / 4 := by blk_simp [idx t] <;> omega
  have f1 : (((View.whole main_v4_1).slice (win0_6.rect t)).emb (ix3 y0 y1 y2) 1).val = 512 * (t.val % 4) + y1 := by blk_simp [idx t] <;> omega
  have f2 : (((View.whole main_v4_1).slice (win0_6.rect t)).emb (ix3 y0 y1 y2) 2).val = y2 := by blk_simp [idx t] <;> omega
  rw [f0, f1, f2]

open Cert.Row (IsReal)

/-- The precondition: the queries, keys and values are real numbers. -/
theorem real_of_pre (a0 a1 a2) : ((Cert.Pre_pre_af1.fn (F := Ideal) a0 a1 a2).1 = (fun _ => 1#1) → ∀ ρ i j, IsReal (cls 4 ρ a0 i j))
    ∧ ((Cert.Pre_pre_af1.fn (F := Ideal) a0 a1 a2).2.1 = (fun _ => 1#1) → ∀ ρ i j, IsReal (cls 4 ρ a1 i j))
    ∧ ((Cert.Pre_pre_af1.fn (F := Ideal) a0 a1 a2).2.2 = (fun _ => 1#1) → ∀ ρ i j, IsReal (cls 4 ρ a2 i j)) := by
  refine ⟨fun h ρ i j => ?_, fun h ρ i j => ?_, fun h ρ i j => ?_⟩ <;>
  · have := congrFun h (ix2 (Fin.ofNat 8192 (i * 4 + ρ)) (Fin.ofNat 512 j))
    unfold cls
    generalize Fin.ofNat 8192 (i * 4 + ρ) = p at *
    generalize Fin.ofNat 512 j = q at *
    pointwise [Cert.Pre_pre_af1.fn] at this
    exact Row.isReal_of_test this

open Cert.AttnFwdBRefIdeal.Val in
theorem algebraic : Cert.algebraic_AttnFwdBIdeal_AttnFwdBRefIdeal_pre_pre_af1 := by
  intro m g m' g' hP hA
  refine ⟨fun c => (dats m 0 c).arrAt 5 (cfgs 0).N, fun c => (dats m 0 c).arrAt 6 (cfgs 0).N,
    Cert.AttnFwdBIdeal.Value.run_blocks (F := Ideal) m g,
    (θ_run _ _ _).mono (fun r h c => ?_) (Cert.AttnFwdBRefIdeal.Value.run (F := Ideal) m' g')⟩
  obtain ⟨a0, a1, a2⟩ := hA c
  obtain ⟨h0, h1, hk⟩ := h c
  obtain ⟨p0, p1, p2⟩ := hP c
  have hr := real_of_pre (aq m c) (ak m c) (av m c)
  have q0 := hr.1 p0
  have q1 := hr.2.1 p1
  have q2 := hr.2.2 p2
  have e0 : m' ((c.tc : Thread AttnFwdBRefIdeal.nD AttnFwdBRefIdeal.τ).loc AttnFwdBRefIdeal.main_arg0) = aq m c := a0
  have e1 : m' ((c.tc : Thread AttnFwdBRefIdeal.nD AttnFwdBRefIdeal.τ).loc AttnFwdBRefIdeal.main_arg1) = ak m c := a1
  have e2 : m' ((c.tc : Thread AttnFwdBRefIdeal.nD AttnFwdBRefIdeal.τ).loc AttnFwdBRefIdeal.main_arg2) = av m c := a2
  refine ⟨?_, ?_, hk⟩
  · refine h0.trans (Eq.trans (b := tO (tP (tC (m' ((c.tc : Thread AttnFwdBRefIdeal.nD AttnFwdBRefIdeal.τ).loc AttnFwdBRefIdeal.main_arg0)) (m' ((c.tc : Thread AttnFwdBRefIdeal.nD AttnFwdBRefIdeal.τ).loc AttnFwdBRefIdeal.main_arg1))) (tD (m' ((c.tc : Thread AttnFwdBRefIdeal.nD AttnFwdBRefIdeal.τ).loc AttnFwdBRefIdeal.main_arg0)) (m' ((c.tc : Thread AttnFwdBRefIdeal.nD AttnFwdBRefIdeal.τ).loc AttnFwdBRefIdeal.main_arg1)))) (tW (tB (m' ((c.tc : Thread AttnFwdBRefIdeal.nD AttnFwdBRefIdeal.τ).loc AttnFwdBRefIdeal.main_arg2))))) rfl ?_)
    rw [e0, e1, e2]
    beta_reduce
    rw [final5]
    funext i
    idx_vars i
    unfold attw
    refine Eq.trans ?_ (att_eq (q0 _) (q1 _) (q2 _) _ _ (Nat.mod_lt _ (by decide)) _).symm
    rw [tO_eq]
    unfold attr
    simp only [tP_eq, lse_eq, tS_eq, tW_eq]
    rfl
  · refine h1.trans (Eq.trans (b := tE (tD (m' ((c.tc : Thread AttnFwdBRefIdeal.nD AttnFwdBRefIdeal.τ).loc AttnFwdBRefIdeal.main_arg0)) (m' ((c.tc : Thread AttnFwdBRefIdeal.nD AttnFwdBRefIdeal.τ).loc AttnFwdBRefIdeal.main_arg1)))) rfl ?_)
    rw [e0, e1]
    beta_reduce
    rw [final6]
    funext i
    idx_vars i
    rw [tE_eq]
    unfold lsew
    simp only [lse_eq]
    rfl

end Cert.AttnFwdBIdeal.Val

end
-- ==== Proof.AttnFwdC.lean ====
/-
  One block of queries of the windowed attention: what every scratch of the body holds once its sixteen tiles are written,
  and what the block stores, as plain formulas of the blocks staged in.
-/
module

public import proofs.«01_k».proof.Proof.Gen.AttnFwdCIdeal.Value
public import proofs.«01_k».proof.Proof.WindowBlock
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.AttnFwdCIdeal.Val

open Idealize.ShloMosaic Idealize.ShloMosaic.TcCoe Idealize.SL.Sem
open Idealize.ShloMosaic.Pipeline (Dat)
open Cert.AttnFwdCIdeal Cert.AttnFwdCIdeal.Gen
open Cert.Window (Sees fac kall sco at_eq select_iff first_iff later_iff attb lseb attb_at attb_at0 lseb_tile)

/-- A load of a staged block is the block at the rectangle. -/
theorem rd {s : Shape} {e : EltTy} {sp : Space} (a : Memref sig .tc sp s e) (h : a.IsWhole) (x : s.Idx → Elt Ideal e) (r : Rect s) :
    a.view.readAt (Elt Ideal) r.toLoadRect (h.unread x) = fun j => x (r.emb j) := by
  rw [View.readAt_rect]
  funext j
  exact congrFun (h.read_unread x) (r.emb j)

variable (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x512x512 .bf16) (harg7 : arg7.IsWhole) (arg8 : Memref sig .tc .vmem S1x512x128 .f32) (harg8 : arg8.IsWhole) (arg9 : Memref sig .tc .vmem S640x512 .bf16) (harg9 : arg9.IsWhole) (arg10 : Memref sig .tc .vmem S640x512 .bf16) (harg10 : arg10.IsWhole) (arg11 : Memref sig .tc .vmem S16x128x256 .f32) (harg11 : arg11.IsWhole) (arg12 : Memref sig .tc .vmem S16x128x256 .bf16) (harg12 : arg12.IsWhole) (arg13 : Memref sig .tc .vmem S16x128x128 .f32) (harg13 : arg13.IsWhole)
  (x0 : Vec Ideal S1x512x512 .bf16) (x1 : Vec Ideal S1x512x512 .bf16) (x2 : Vec Ideal S1x512x512 .bf16) (x3 : Vec Ideal S1x128x512 .bf16) (x4 : Vec Ideal S1x128x512 .bf16)

open kernelRun0_A.sl in
theorem canon0 : View.canon (HS0_2 (F := Ideal) c arg3 harg3 arg5 harg5 x1 x3) = fun y => kall x1 x3 (y 0) (y 1) := by
  funext y
  unfold HS0_2 kall
  canon_tiles x h using (View.cover_of_tiledBy _ ![128, 512] (by sl_kernel_rfl) y)
  all_goals
    idx_vars x
    pointwise [k0_pay3, k0_pay2, rd]
    first | rw [if_neg (by omega)] | rw [if_pos (by omega)]
    refine (congrArg _ (by blk_ext : _ = ix3 0 x0 x1)).trans (at_eq _ _ _ (by omega) (by omega))

open kernelRun0_A.sl in
theorem canon1 : View.canon (HS1_2 (F := Ideal) c arg4 harg4 arg6 harg6 x2 x4) = fun y => kall x2 x4 (y 0) (y 1) := by
  funext y
  unfold HS1_2 kall
  canon_tiles x h using (View.cover_of_tiledBy _ ![128, 512] (by sl_kernel_rfl) y)
  all_goals
    idx_vars x
    pointwise [k0_pay5, k0_pay4, rd]
    first | rw [if_neg (by omega)] | rw [if_pos (by omega)]
    refine (congrArg _ (by blk_ext : _ = ix3 0 x0 x1)).trans (at_eq _ _ _ (by omega) (by omega))

/-- The mask's value, as the program names it. -/
abbrev msk : EReal := Named.named (F := Ideal) (φ := .f32) Cert.AttnFwdCIdeal.κ "mask" 0xF149F2CA#32

theorem msk_eq : msk = ⊥ := rfl

open kernelRun0_A.sl in
theorem canon2 : View.canon (HS2_16 (F := Ideal) c i arg2 harg2 arg3 harg3 arg5 harg5 arg9 x0 x1 x3) = fun y => sco (i 1).val x0 x1 x3 (y 0) (y 1) (y 2) := by
  funext y
  unfold HS2_16
  canon_tiles x h
  all_goals
    idx_vars x
    obtain rfl : x0 = 0 := Subsingleton.elim _ _
    unfold sco
    simp only [r_5, v200, v189, v178, r_4, v167, v156, r_3, v145, v134, v123, r_2, v112, v101, v90, v79, r, v68, r_1, v57, v46, v35, View.readCov_eq_canon', canon0]
    open_payloads
    generalize hT : (i 1).val = T at *
    pointwise [Memref.IsWhole.read_unread]
    rw [h0, h1, h2]
    first
    | refine (select_iff (first_iff (hT ▸ lt_of_lt_of_le (i 1).isLt (by decide)) (by omega) x1.isLt x2.isLt) _ _).trans (if_congr Iff.rfl ?_ msk_eq)
    | refine (select_iff (later_iff _ (by omega) x1.isLt x2.isLt) _ _).trans (if_congr Iff.rfl ?_ msk_eq)
    refine congrArg (· * fac) (Finset.sum_congr rfl fun d _ => ?_)
    exact congrArg₂ _ (at_eq _ _ _ (by dsimp only; omega) (by dsimp only; omega)) (congrArg₂ (kall _ _) (by omega) (by omega))

open kernelRun0_A.sl in
theorem canon3 : View.canon (HS3_16 (F := Ideal) c i arg2 harg2 arg3 harg3 arg5 harg5 arg9 arg11 x0 x1 x3)
    = fun y => Row.ex (sco (i 1).val x0 x1 x3 (y 0) (y 1)) (y 2) := by
  funext y
  unfold HS3_16
  canon_tiles x h
  all_goals
    idx_vars x
    obtain rfl : x0 = 0 := Subsingleton.elim _ _
    simp only [r_38, v616, v589, v562, v535, r_29, v508, v481, v454, r_23, v427, v400, v373, r_17, v346, v319, v292, v265, r_7, v238, v211, View.readCov_eq_canon', canon2]
    open_payloads
    pointwise []
    rw [h0, h1]
    exact (congrArg (Row.ex _) (Fin.ext h2 : y 2 = x2)).symm

open kernelRun0_A.sl in
theorem canon4 : View.canon (HS4_16 (F := Ideal) c i arg2 harg2 arg3 harg3 arg5 harg5 arg9 arg11 x0 x1 x3)
    = fun y => Ideal.div 1 (Row.den (sco (i 1).val x0 x1 x3 (y 0) (y 1))) := by
  funext y
  unfold HS4_16
  canon_tiles x h
  all_goals
    idx_vars x
    obtain rfl : x0 = 0 := Subsingleton.elim _ _
    simp only [r_37, v616, v589, v562, r_32, v535, cst_211, r_29, v508, v481, r_27, v454, r_23, v427, v400, v373, r_16, v346, v319, v292, r_10, v265, r_7, v238, v211, View.readCov_eq_canon', canon2]
    open_payloads
    pointwise []
    rw [h0, h1]
    rfl

section

variable {E : ℕ → ℕ → Fin 256 → EReal} {K : ℕ → ℕ → EReal} {D : ℕ → ℕ → EReal} {S : ℕ → ℕ → Fin 256 → EReal}

open kernelRun0_A.sl in
theorem outA (e1 : View.canon (HS1_2 (F := Ideal) c arg4 harg4 arg6 harg6 x2 x4) = fun y => K (y 0) (y 1))
    (e3 : View.canon (HS3_16 (F := Ideal) c i arg2 harg2 arg3 harg3 arg5 harg5 arg9 arg11 x0 x1 x3) = fun y => E (y 0) (y 1) (y 2))
    (e4 : View.canon (HS4_16 (F := Ideal) c i arg2 harg2 arg3 harg3 arg5 harg5 arg9 arg11 x0 x1 x3) = fun y => D (y 0) (y 1)) :
    View.canon (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4).1 = fun y => attb E K D (y 1) (y 2) := by
  funext y
  unfold kernelRun0_A
  dsimp only
  canon_tiles z h using (View.cover_of_tiledBy _ ![1, 128, 128] (by sl_kernel_rfl) y)
  all_goals
    idx_vars z
    simp only [r_45, v822, v824, v809, v811, v813, v798, v800, v802, r_44, v776, v778, v780, r_43, v767, v769, v754, v756, v758, v743, v745, v747, r_42, v721, v723, v725, r_41, v712, v714, v699, v701, v703, v688, v690, v692, r_40, v666, v668, v670, r_39, v657, v659, v209, v820, v787, v789, v791, v765, v732, v734, v736, v710, v677, v679, v681, v655, View.readCov_eq_canon', e1, e3, e4]
    open_payloads
    pointwise []
    first
    | exact attb_at E K D rfl h2 (by omega) (by omega) (by omega)
    | exact attb_at0 E K D rfl h2 (by omega) (by omega) (by omega)

open kernelRun0_A.sl in
theorem outL (e2 : View.canon (HS2_16 (F := Ideal) c i arg2 harg2 arg3 harg3 arg5 harg5 arg9 x0 x1 x3) = fun y => S (y 0) (y 1) (y 2)) :
    View.canon (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4).2.1 = fun y => lseb S (y 1) (y 2) := by
  funext y
  unfold kernelRun0_A
  dsimp only
  canon_tiles z h using (View.cover_of_tiledBy _ ![1, 128, 128] (by sl_kernel_rfl) y)
  all_goals
    idx_vars z
    simp only [v209, r_6, r_8, r_9, r_14, r_15, r_22, r_24, r_25, r_26, r_31, r_35, r_36, r_37, r_30, r_21, r_13, r_33, r_34, r_28, r_18, r_19, r_20, r_11, r_12, r_38, v616, v589, v562, r_32, v535, cst_211, r_29, v508, v481, r_27, v454, r_23, v427, v400, v373, r_16, r_17, v346, v319, v292, r_10, v265, r_7, v238, v211, View.readCov_eq_canon', e2]
    open_payloads
    pointwise []
    first
    | exact lseb_tile S 3 h2 z2_lt z1_lt h1
    | exact lseb_tile S 2 h2 z2_lt z1_lt h1
    | exact lseb_tile S 1 h2 z2_lt z1_lt h1
    | exact lseb_tile S 0 h2 z2_lt z1_lt (h1.trans (Nat.zero_add _).symm)

end

end Cert.AttnFwdCIdeal.Val
-- ==== Proof.AttnFwdRefC.lean ====
/-
  The reference of the attention's forward call on the third group, stage by stage.
-/
module

public import proofs.«01_k».proof.Proof.Gen.AttnFwdCRefIdeal.Run
public import proofs.«01_k».proof.Proof.WindowBlock

@[expose] public section

set_option maxRecDepth 16384

noncomputable section

namespace Cert.AttnFwdCRefIdeal.Val

open Idealize.ShloMosaic Idealize.ShloMosaic.TcCoe Idealize.SL.Sem
open Cert.AttnFwdCRefIdeal Cert.AttnFwdCRefIdeal.Gen
open Cert.Window

/-- The reference's heads and blocks of an argument. -/
def tB (x : FVec Ideal S8192x512 .f32) : FVec Ideal S4x16x4x128x128 .f32 :=
  shapeCast S4x16x4x128x128 (transpose S4x16x512x128 [2, 1, 0, 3] (shapeCast S512x16x4x128 x shapeCasts_S8192x512_S512x16x4x128)
    transposes_S512x16x4x128_S4x16x512x128_2_1_0_3) shapeCasts_S4x16x512x128_S4x16x4x128x128

theorem tB_eq (x : FVec Ideal S8192x512 .f32) (h r n q e) : tB x (ix5 h r n q e) = cls 16 r x (128 * n + q) (128 * h + e) := by
  pointwise [tB]
  refine cls_eq _ _ _ ?_ ?_ <;> first | omega | (dsimp only; omega)

/-- The reference's windows: a block after the block before it, zeros before the first. -/
def tW (b : FVec Ideal S4x16x4x128x128 .f32) : FVec Ideal S4x16x4x256x128 .f32 :=
  concatenate S4x16x4x256x128 3 [⟨S4x16x4x128x128, concatenate S4x16x4x128x128 2
    [⟨S4x16x1x128x128, broadcastInDim S4x16x1x128x128 ![] bcast_S_S4x16x1x128x128 (constant S_ .f32 0x00000000#32)⟩,
     ⟨S4x16x3x128x128, extractStridedSlice S4x16x3x128x128 ![0, 0, 0, 0, 0] b slices_S4x16x4x128x128_S4x16x3x128x128_0_0_0_0_0⟩]
    concatenates_S4x16x1x128x128_S4x16x3x128x128_S4x16x4x128x128_d2⟩, ⟨S4x16x4x128x128, b⟩] concatenates_S4x16x4x128x128_S4x16x4x128x128_S4x16x4x256x128_d3

theorem tW_eq (x : FVec Ideal S8192x512 .f32) (h r n k e) : tW (tB x) (ix5 h r n k e)
    = if n.val = 0 ∧ k.val < 128 then 0 else cls 16 r x (src n k) (128 * h + e) := by
  generalize hb : tB x = b
  have hB : ∀ h r n q e, b (ix5 h r n q e) = cls 16 r x (128 * n + q) (128 * h + e) := fun _ _ _ _ _ => by rw [← hb]; exact tB_eq ..
  unfold src
  pointwise [tW]
  simp only [hB]
  split_ifs <;> first | omega | rfl | exact congrArg₂ _ (by omega) rfl

/-- The reference's scores, `-∞` outside the window. -/
def tS (q : FVec Ideal S4x16x4x128x128 .f32) (w : FVec Ideal S4x16x4x256x128 .f32) : FVec Ideal S4x16x4x128x256 .f32 :=
  select (broadcastInDim S4x16x4x128x256 ![2, 3, 4] bcast_S4x128x256_S4x16x4x128x256_2_3_4
    (andi (andi (cmpi .sge (iotaInDim S4x128x256 32 2) (iotaInDim S4x128x256 32 1))
      (cmpi .sle (iotaInDim S4x128x256 32 2) (addi (iotaInDim S4x128x256 32 1) (broadcastInDim S4x128x256 ![] bcast_S_S4x128x256 (constantI S_ 32 128#32)))))
      (noti (andi (cmpi .eq (iotaInDim S4x128x256 32 0) (broadcastInDim S4x128x256 ![] bcast_S_S4x128x256 (constantI S_ 32 0#32)))
        (cmpi .slt (iotaInDim S4x128x256 32 2) (broadcastInDim S4x128x256 ![] bcast_S_S4x128x256 (constantI S_ 32 128#32)))))))
    (mulf (Host.dotGeneral dot_S4x16x4x128x128_S4x16x4x256x128_S4x16x4x128x256_4_4_3_3_012_012 none q w)
      (broadcastInDim S4x16x4x128x256 ![] bcast_S_S4x16x4x128x256 (constant S_ .f32 0x3DB504F3#32)))
    (broadcastInDim S4x16x4x128x256 ![] bcast_S_S4x16x4x128x256 (id (constant S_ .f32 0xFF800000#32)))

theorem tS_eq (x y : FVec Ideal S8192x512 .f32) (h r n t k) : tS (tB x) (tW (tB y)) (ix5 h r n t k) = score (cls 16 r x) (cls 16 r y) n h t k := by
  generalize hq : tB x = q
  generalize hw : tW (tB y) = w
  have hQ : ∀ h r n q' e, q (ix5 h r n q' e) = cls 16 r x (128 * n + q') (128 * h + e) := fun _ _ _ _ _ => by rw [← hq]; exact tB_eq ..
  have hW : ∀ h r n k e, w (ix5 h r n k e) = if n.val = 0 ∧ k.val < 128 then 0 else cls 16 r y (src n k) (128 * h + e) := fun _ _ _ _ _ => by
    rw [← hw]; exact tW_eq ..
  unfold score
  pointwise [tS]
  simp only [hQ, hW]
  refine (select_iff ((and_one _ _).trans ((band_iff t.isLt k.isLt).and (before_iff k.isLt (by omega)))) _ _).trans ?_
  by_cases g : Sees n t k
  · rw [if_pos g, if_pos ⟨⟨g.1, g.2.1⟩, g.2.2⟩]
    simp only [if_neg (show ¬ (n.val = 0 ∧ k.val < 128) by have := g.2.2; omega)]
  · rw [if_neg g, if_neg fun h => g ⟨h.1.1, h.1.2, h.2⟩]
    exact Row.ofBits_neg_inf

/-- The reference's row maxima. -/
def tM (s : FVec Ideal S4x16x4x128x256 .f32) : FVec Ideal S4x16x4x128 .f32 :=
  Host.reduce FloatOps.maximumf s (constant S_ .f32 0xFF800000#32) reducesTo_S4x16x4x128x256_S4x16x4x128_d4 h_S_

theorem tM_eq (s h r n t) : tM s (ix4 h r n t) = Row.mx fun k => s (ix5 h r n t k) := by
  unfold Row.mx
  pointwise [tM]

/-- The exponentials of the scores less a row's value. -/
def tP (s : FVec Ideal S4x16x4x128x256 .f32) (l : FVec Ideal S4x16x4x128 .f32) : FVec Ideal S4x16x4x128x256 .f32 :=
  Host.exp (subf s (broadcastInDim S4x16x4x128x256 ![0, 1, 2, 3, 4] bcast_S4x16x4x128x1_S4x16x4x128x256_0_1_2_3_4
    (broadcastInDim S4x16x4x128x1 ![0, 1, 2, 3] bcast_S4x16x4x128_S4x16x4x128x1_0_1_2_3 l)))

theorem tP_eq (s l h r n t k) : tP s l (ix5 h r n t k) = Ideal.exp (s (ix5 h r n t k) - l (ix4 h r n t)) := by
  pointwise [tP]

/-- A row's value and the logarithm of its exponentials' sum. -/
def tL (M : FVec Ideal S4x16x4x128 .f32) (p : FVec Ideal S4x16x4x128x256 .f32) : FVec Ideal S4x16x4x128 .f32 :=
  addf M (Host.log (Host.reduceAdd p (constant S_ .f32 0x00000000#32) reducesTo_S4x16x4x128x256_S4x16x4x128_d4 h_S_))

theorem tL_eq (M p h r n t) : tL M p (ix4 h r n t) = M (ix4 h r n t) + Ideal.log (∑ k, p (ix5 h r n t k)) := by
  pointwise [tL]

/-- The scores from the arguments. -/
abbrev tC (x y : FVec Ideal S8192x512 .f32) : FVec Ideal S4x16x4x128x256 .f32 := tS (tB x) (tW (tB y))

/-- The reference's log-sum-exps. -/
abbrev tD (x y : FVec Ideal S8192x512 .f32) : FVec Ideal S4x16x4x128 .f32 := tL (tM (tC x y)) (tP (tC x y) (tM (tC x y)))

theorem lse_eq (x y : FVec Ideal S8192x512 .f32) (h r n t) : tD x y (ix4 h r n t) = lse (cls 16 r x) (cls 16 r y) n h t := by
  unfold lse Row.den Row.ex
  simp only [tL_eq, tP_eq, tM_eq, tS_eq]

/-- The reference's attention from the softmax and the windows of values. -/
def tO (p : FVec Ideal S4x16x4x128x256 .f32) (w : FVec Ideal S4x16x4x256x128 .f32) : FVec Ideal S16x512x512 .bf16 :=
  truncf .bf16 (shapeCast S16x512x512 (transpose S16x4x128x4x128 [1, 2, 3, 0, 4]
    (Host.dotGeneral dot_S4x16x4x128x256_S4x16x4x256x128_S4x16x4x128x128_4_3_3_4_012_012 none p w)
    transposes_S4x16x4x128x128_S16x4x128x4x128_1_2_3_0_4) shapeCasts_S16x4x128x4x128_S16x512x512) bitsLt_bf16_f32

theorem tO_eq (p w) (r : Fin 16) (i : Fin 512) (j : Fin 512) : tO p w (ix3 r i j)
    = ∑ k, p (ix5 ⟨j.val / 128, by omega⟩ r ⟨i.val / 128, by omega⟩ ⟨i.val % 128, by omega⟩ k)
        * w (ix5 ⟨j.val / 128, by omega⟩ r ⟨i.val / 128, by omega⟩ k ⟨j.val % 128, by omega⟩) := by
  pointwise [tO]

/-- The reference's log-sum-exps by row, the heads on the first four lanes. -/
def tE (l : FVec Ideal S4x16x4x128 .f32) : FVec Ideal S16x512x128 .f32 :=
  concatenate S16x512x128 2 [⟨S16x512x4, shapeCast S16x512x4 (transpose S16x4x128x4 [1, 2, 3, 0] l
    transposes_S4x16x4x128_S16x4x128x4_1_2_3_0) shapeCasts_S16x4x128x4_S16x512x4⟩,
    ⟨S16x512x124, broadcastInDim S16x512x124 ![] bcast_S_S16x512x124 (constant S_ .f32 0x00000000#32)⟩] concatenates_S16x512x4_S16x512x124_S16x512x128_d2

theorem tE_eq (l) (r : Fin 16) (i : Fin 512) (j : Fin 128) : tE l (ix3 r i j)
    = if g : j.val < 4 then l (ix4 ⟨j.val, g⟩ r ⟨i.val / 128, by omega⟩ ⟨i.val % 128, by omega⟩) else 0 := by
  pointwise [tE]

end Cert.AttnFwdCRefIdeal.Val

end
-- ==== Proof.AttnFwdClaimC.lean ====
/-
  The attention's forward call on the third group: on arguments that are real numbers the call and the forward lines end
  with equal results.
-/
module

public import proofs.«01_k».proof.Proof.AttnFwdC
public import proofs.«01_k».proof.Proof.AttnFwdRefC
public import proofs.«01_k».proof.Proof.Gen.AttnFwdCRefIdeal.Run
public import proofs.«01_k».proof.Defs
public import proofs.«01_k».proof.Proof.Gen.AttnFwdCIdeal
public import proofs.«01_k».proof.Proof.Gen.AttnFwdCRefIdeal
public import proofs.«01_k».proof.Proof.Gen.Pre_pre_af2

@[expose] public section

set_option maxRecDepth 16384

noncomputable section

namespace Cert.AttnFwdCIdeal.Val

open Idealize.ShloMosaic Idealize.ShloMosaic.TcCoe Idealize.SL.Sem
open Idealize.ShloMosaic.Pipeline (Dat)
open Cert.AttnFwdCIdeal Cert.AttnFwdCIdeal.Gen
open Cert.Window
open Cert.Row (IsReal)

/-- The block of every operand at a grid point: its class, and its rows there. -/
theorem idx : ∀ t : Fin cfg0.N, win0_0.index t = ![t.val / 1, t.val % 1, 0] ∧ win0_1.index t = ![t.val / 1, t.val % 1, 1]
    ∧ win0_2.index t = ![t.val / 1, t.val % 1, 2] ∧ win0_3.index t = ![t.val / 1, 4 * (t.val % 1) - 1, 1]
    ∧ win0_4.index t = ![t.val / 1, 4 * (t.val % 1) - 1, 2] ∧ win0_5.index t = ![t.val / 1, t.val % 1, 0]
    ∧ win0_6.index t = ![t.val / 1, t.val % 1, 0] ∧ (grid0.coords t 1).val = t.val % 1 :=
  (by decide +kernel : ∀ t : Fin grid0.N, win0_0.index t = ![t.val / 1, t.val % 1, 0] ∧ win0_1.index t = ![t.val / 1, t.val % 1, 1]
    ∧ win0_2.index t = ![t.val / 1, t.val % 1, 2] ∧ win0_3.index t = ![t.val / 1, 4 * (t.val % 1) - 1, 1]
    ∧ win0_4.index t = ![t.val / 1, 4 * (t.val % 1) - 1, 2] ∧ win0_5.index t = ![t.val / 1, t.val % 1, 0]
    ∧ win0_6.index t = ![t.val / 1, t.val % 1, 0] ∧ (grid0.coords t 1).val = t.val % 1)

variable (m : (ℓ : Loc nD τ sig) → Buf (Elt Ideal) ℓ)

/-- The arguments of a launch. -/
abbrev aq (c : Dev nD) : FVec Ideal S8192x512 .f32 := m ((c : Thread nD τ).loc main_arg0)
abbrev ak (c : Dev nD) : FVec Ideal S8192x512 .f32 := m ((c : Thread nD τ).loc main_arg1)
abbrev av (c : Dev nD) : FVec Ideal S8192x512 .f32 := m ((c : Thread nD τ).loc main_arg2)

/-- The call's operand: the three arguments side by side, by class. -/
def arr (x y z : FVec Ideal S8192x512 .f32) : FVec Ideal S16x512x1536 .bf16 := fun i => sides 16 x y z (i 0).val (i 1).val (i 2).val

/-- That operand as the host makes it. -/
def tr (x y z : FVec Ideal S8192x512 .f32) : FVec Ideal S16x512x1536 .bf16 :=
  transpose S16x512x1536 [1, 0, 2] (shapeCast S512x16x1536 (truncf .bf16 (concatenate S8192x1536 1 [⟨S8192x512, x⟩, ⟨S8192x512, y⟩, ⟨S8192x512, z⟩]
    concatenates_S8192x512_S8192x512_S8192x512_S8192x1536_d1) bitsLt_bf16_f32) shapeCasts_S8192x1536_S512x16x1536) transposes_S512x16x1536_S16x512x1536_1_0_2

theorem tr_eq (x y z) : tr x y z = arr x y z := by
  funext i
  idx_vars i
  unfold arr sides
  pointwise [tr]
  split_ifs
  all_goals first
    | exact absurd rfl ‹¬ _ = _›
    | (refine Eq.trans ?_ (if_pos (show i2.val < 1024 by omega)).symm
       refine cls_eq _ _ _ ?_ ?_ <;> first | omega | rfl | (dsimp only; omega))
    | (refine Eq.trans ?_ (if_neg (show ¬ i2.val < 1024 by omega)).symm
       refine cls_eq _ _ _ ?_ ?_ <;> first | omega | rfl | (dsimp only; omega))
    | (refine cls_eq _ _ _ ?_ ?_ <;> first | omega | rfl | (dsimp only; omega))

theorem V_eq (c : Dev nD) : V m c main_v3 = arr (aq m c) (ak m c) (av m c) :=
  (show _ = tr (aq m c) (ak m c) (av m c) from rfl).trans (tr_eq ..)

/-! A grid point's blocks hold its class's rows of the arguments. -/

theorem blk0 (c : Dev nD) (t : Fin cfg0.N) (a : Fin 512) (b : Fin 512) : (iblk m c 0 t : Blk) (ix3 0 a b) = cls 16 (t.val / 1) (aq m c) (512 * (t.val % 1) + a) b := by
  have e : (iblk m c 0 t : Blk) (ix3 0 a b) = arr (aq m c) (ak m c) (av m c) ((win0_0.blk t).view.emb (ix3 0 a b)) := by rw [← V_eq]; rfl
  rw [e]
  exact sides0 16 _ _ _ (by blk_simp [idx t] <;> omega) (by blk_simp [idx t] <;> omega) (by blk_simp [idx t] <;> omega) b.isLt

theorem blk1 (c : Dev nD) (t : Fin cfg0.N) (a : Fin 512) (b : Fin 512) : (iblk m c 1 t : Blk) (ix3 0 a b) = cls 16 (t.val / 1) (ak m c) (512 * (t.val % 1) + a) b := by
  have e : (iblk m c 1 t : Blk) (ix3 0 a b) = arr (aq m c) (ak m c) (av m c) ((win0_1.blk t).view.emb (ix3 0 a b)) := by rw [← V_eq]; rfl
  rw [e]
  exact sides1 16 _ _ _ (by blk_simp [idx t] <;> omega) (by blk_simp [idx t] <;> omega) (by blk_simp [idx t] <;> omega) b.isLt

theorem blk2 (c : Dev nD) (t : Fin cfg0.N) (a : Fin 512) (b : Fin 512) : (iblk m c 2 t : Blk) (ix3 0 a b) = cls 16 (t.val / 1) (av m c) (512 * (t.val % 1) + a) b := by
  have e : (iblk m c 2 t : Blk) (ix3 0 a b) = arr (aq m c) (ak m c) (av m c) ((win0_2.blk t).view.emb (ix3 0 a b)) := by rw [← V_eq]; rfl
  rw [e]
  exact sides2 16 _ _ _ (by blk_simp [idx t] <;> omega) (by blk_simp [idx t] <;> omega) (by blk_simp [idx t] <;> omega) b.isLt

theorem blk3 (c : Dev nD) (t : Fin cfg0.N) (a : Fin 128) (b : Fin 512) : (iblk m c 3 t : Prv) (ix3 0 a b) = cls 16 (t.val / 1) (ak m c) (128 * (4 * (t.val % 1) - 1) + a) b := by
  have e : (iblk m c 3 t : Prv) (ix3 0 a b) = arr (aq m c) (ak m c) (av m c) ((win0_3.blk t).view.emb (ix3 0 a b)) := by rw [← V_eq]; rfl
  rw [e]
  exact sides1 16 _ _ _ (by blk_simp [idx t] <;> omega) (by blk_simp [idx t] <;> omega) (by blk_simp [idx t] <;> omega) b.isLt

theorem blk4 (c : Dev nD) (t : Fin cfg0.N) (a : Fin 128) (b : Fin 512) : (iblk m c 4 t : Prv) (ix3 0 a b) = cls 16 (t.val / 1) (av m c) (128 * (4 * (t.val % 1) - 1) + a) b := by
  have e : (iblk m c 4 t : Prv) (ix3 0 a b) = arr (aq m c) (ak m c) (av m c) ((win0_4.blk t).view.emb (ix3 0 a b)) := by rw [← V_eq]; rfl
  rw [e]
  exact sides2 16 _ _ _ (by blk_simp [idx t] <;> omega) (by blk_simp [idx t] <;> omega) (by blk_simp [idx t] <;> omega) b.isLt

/-- What a grid point stores: the window's attention and log-sum-exps of its rows. -/
theorem outs5 (c : Dev nD) (t : Fin cfg0.N) (y0 : Fin 1) (y1 y2 : Fin 512) : (outsAt0 m c t).1 (ix3 y0 y1 y2)
    = att (cls 16 (t.val / 1) (aq m c)) (cls 16 (t.val / 1) (ak m c)) (cls 16 (t.val / 1) (av m c))
        ((512 * (t.val % 1) + y1) / 128) (y2.val / 128) ((512 * (t.val % 1) + y1) % 128) (y2.val % 128) := by
  unfold outsAt0 out0_A_5
  dsimp only
  rw [View.read_writes_junk_eq_canon, outA (E := fun u r => Row.ex (sco (grid0.coords t 1).val (iblk m c 0 t) (iblk m c 1 t) (iblk m c 3 t) u r)) (K := kall (iblk m c 2 t) (iblk m c 4 t))
    (D := fun u r => Ideal.div 1 (Row.den (sco (grid0.coords t 1).val (iblk m c 0 t) (iblk m c 1 t) (iblk m c 3 t) u r))) (e1 := canon1 ..) (e3 := canon3 ..) (e4 := canon4 ..)]
  refine Eq.trans ?_ (attb_eq (blk0 m c t) (blk1 m c t) (blk3 m c t) (blk2 m c t) (blk4 m c t) y1.isLt y2.isLt)
  rw [← (idx t).2.2.2.2.2.2.2]
  rfl

theorem outs6 (c : Dev nD) (t : Fin cfg0.N) (y0 : Fin 1) (y1 : Fin 512) (y2 : Fin 128) : (outsAt0 m c t).2 (ix3 y0 y1 y2)
    = if y2.val < 4 then lse (cls 16 (t.val / 1) (aq m c)) (cls 16 (t.val / 1) (ak m c))
        ((512 * (t.val % 1) + y1) / 128) y2 ((512 * (t.val % 1) + y1) % 128) else 0 := by
  unfold outsAt0 out0_A_6
  dsimp only
  rw [View.read_writes_junk_eq_canon, outL (S := sco (grid0.coords t 1).val (iblk m c 0 t) (iblk m c 1 t) (iblk m c 3 t)) (e2 := canon2 ..)]
  refine Eq.trans ?_ (lseb_eq (blk0 m c t) (blk1 m c t) (blk3 m c t) y1.isLt)
  rw [← (idx t).2.2.2.2.2.2.2]
  rfl

/-- The attention, whole. -/
def attw (x y z : FVec Ideal S8192x512 .f32) : FVec Ideal S16x512x512 .bf16 := fun i =>
  att (cls 16 (i 0).val x) (cls 16 (i 0).val y) (cls 16 (i 0).val z) ((i 1).val / 128) ((i 2).val / 128) ((i 1).val % 128) ((i 2).val % 128)

/-- The log-sum-exps, whole. -/
def lsew (x y : FVec Ideal S8192x512 .f32) : FVec Ideal S16x512x128 .f32 := fun i =>
  if (i 2).val < 4 then lse (cls 16 (i 0).val x) (cls 16 (i 0).val y) ((i 1).val / 128) (i 2).val ((i 1).val % 128) else 0

theorem final5 (c : Dev nD) : (dats m 0 c).arrAt 5 (cfgs 0).N = attw (aq m c) (ak m c) (av m c) := by
  refine (dats m 0 c).arrAt_eq_of_covers 5 _ (by decide +kernel) fun t _ y => ?_
  blk_simp
  rw [after0_5]
  idx_vars y
  refine (outs5 ..).trans ?_
  unfold attw
  have f0 : (((View.whole main_v4_0).slice (win0_5.rect t)).emb (ix3 y0 y1 y2) 0).val = t.val / 1 := by blk_simp [idx t] <;> omega
  have f1 : (((View.whole main_v4_0).slice (win0_5.rect t)).emb (ix3 y0 y1 y2) 1).val = 512 * (t.val % 1) + y1 := by blk_simp [idx t] <;> omega
  have f2 : (((View.whole main_v4_0).slice (win0_5.rect t)).emb (ix3 y0 y1 y2) 2).val = y2 := by blk_simp [idx t] <;> omega
  rw [f0, f1, f2]

theorem final6 (c : Dev nD) : (dats m 0 c).arrAt 6 (cfgs 0).N = lsew (aq m c) (ak m c) := by
  refine (dats m 0 c).arrAt_eq_of_covers 6 _ (by decide +kernel) fun t _ y => ?_
  blk_simp
  rw [after0_6]
  idx_vars y
  refine (outs6 ..).trans ?_
  unfold lsew
  have f0 : (((View.whole main_v4_1).slice (win0_6.rect t)).emb (ix3 y0 y1 y2) 0).val = t.val / 1 := by blk_simp [idx t] <;> omega
  have f1 : (((View.whole main_v4_1).slice (win0_6.rect t)).emb (ix3 y0 y1 y2) 1).val = 512 * (t.val % 1) + y1 := by blk_simp [idx t] <;> omega
  have f2 : (((View.whole main_v4_1).slice (win0_6.rect t)).emb (ix3 y0 y1 y2) 2).val = y2 := by blk_simp [idx t] <;> omega
  rw [f0, f1, f2]

open Cert.Row (IsReal)

/-- The precondition: the queries, keys and values are real numbers. -/
theorem real_of_pre (a0 a1 a2) : ((Cert.Pre_pre_af2.fn (F := Ideal) a0 a1 a2).1 = (fun _ => 1#1) → ∀ ρ i j, IsReal (cls 16 ρ a0 i j))
    ∧ ((Cert.Pre_pre_af2.fn (F := Ideal) a0 a1 a2).2.1 = (fun _ => 1#1) → ∀ ρ i j, IsReal (cls 16 ρ a1 i j))
    ∧ ((Cert.Pre_pre_af2.fn (F := Ideal) a0 a1 a2).2.2 = (fun _ => 1#1) → ∀ ρ i j, IsReal (cls 16 ρ a2 i j)) := by
  refine ⟨fun h ρ i j => ?_, fun h ρ i j => ?_, fun h ρ i j => ?_⟩ <;>
  · have := congrFun h (ix2 (Fin.ofNat 8192 (i * 16 + ρ)) (Fin.ofNat 512 j))
    unfold cls
    generalize Fin.ofNat 8192 (i * 16 + ρ) = p at *
    generalize Fin.ofNat 512 j = q at *
    pointwise [Cert.Pre_pre_af2.fn] at this
    exact Row.isReal_of_test this

open Cert.AttnFwdCRefIdeal.Val in
theorem algebraic : Cert.algebraic_AttnFwdCIdeal_AttnFwdCRefIdeal_pre_pre_af2 := by
  intro m g m' g' hP hA
  refine ⟨fun c => (dats m 0 c).arrAt 5 (cfgs 0).N, fun c => (dats m 0 c).arrAt 6 (cfgs 0).N,
    Cert.AttnFwdCIdeal.Value.run_blocks (F := Ideal) m g,
    (θ_run _ _ _).mono (fun r h c => ?_) (Cert.AttnFwdCRefIdeal.Value.run (F := Ideal) m' g')⟩
  obtain ⟨a0, a1, a2⟩ := hA c
  obtain ⟨h0, h1, hk⟩ := h c
  obtain ⟨p0, p1, p2⟩ := hP c
  have hr := real_of_pre (aq m c) (ak m c) (av m c)
  have q0 := hr.1 p0
  have q1 := hr.2.1 p1
  have q2 := hr.2.2 p2
  have e0 : m' ((c.tc : Thread AttnFwdCRefIdeal.nD AttnFwdCRefIdeal.τ).loc AttnFwdCRefIdeal.main_arg0) = aq m c := a0
  have e1 : m' ((c.tc : Thread AttnFwdCRefIdeal.nD AttnFwdCRefIdeal.τ).loc AttnFwdCRefIdeal.main_arg1) = ak m c := a1
  have e2 : m' ((c.tc : Thread AttnFwdCRefIdeal.nD AttnFwdCRefIdeal.τ).loc AttnFwdCRefIdeal.main_arg2) = av m c := a2
  refine ⟨?_, ?_, hk⟩
  · refine h0.trans (Eq.trans (b := tO (tP (tC (m' ((c.tc : Thread AttnFwdCRefIdeal.nD AttnFwdCRefIdeal.τ).loc AttnFwdCRefIdeal.main_arg0)) (m' ((c.tc : Thread AttnFwdCRefIdeal.nD AttnFwdCRefIdeal.τ).loc AttnFwdCRefIdeal.main_arg1))) (tD (m' ((c.tc : Thread AttnFwdCRefIdeal.nD AttnFwdCRefIdeal.τ).loc AttnFwdCRefIdeal.main_arg0)) (m' ((c.tc : Thread AttnFwdCRefIdeal.nD AttnFwdCRefIdeal.τ).loc AttnFwdCRefIdeal.main_arg1)))) (tW (tB (m' ((c.tc : Thread AttnFwdCRefIdeal.nD AttnFwdCRefIdeal.τ).loc AttnFwdCRefIdeal.main_arg2))))) rfl ?_)
    rw [e0, e1, e2]
    beta_reduce
    rw [final5]
    funext i
    idx_vars i
    unfold attw
    refine Eq.trans ?_ (att_eq (q0 _) (q1 _) (q2 _) _ _ (Nat.mod_lt _ (by decide)) _).symm
    rw [tO_eq]
    unfold attr
    simp only [tP_eq, lse_eq, tS_eq, tW_eq]
    rfl
  · refine h1.trans (Eq.trans (b := tE (tD (m' ((c.tc : Thread AttnFwdCRefIdeal.nD AttnFwdCRefIdeal.τ).loc AttnFwdCRefIdeal.main_arg0)) (m' ((c.tc : Thread AttnFwdCRefIdeal.nD AttnFwdCRefIdeal.τ).loc AttnFwdCRefIdeal.main_arg1)))) rfl ?_)
    rw [e0, e1]
    beta_reduce
    rw [final6]
    funext i
    idx_vars i
    rw [tE_eq]
    unfold lsew
    simp only [lse_eq]
    rfl

end Cert.AttnFwdCIdeal.Val

end
-- ==== Proof.MlpHidden.lean ====
/-
  The MLP's hidden layer and its squared relu, fused with the product with `w_up`: the call computes eight chunks of the
  columns, one product each; the arrays it leaves are the reference's.
-/
module

public import proofs.«01_k».proof.Proof.NormRow
public import proofs.«01_k».proof.Proof.Gen.MlpUpFwdIdeal.Value
public import proofs.«01_k».proof.Proof.Gen.MlpUpFwdRefIdeal.Run
public import proofs.«01_k».proof.Proof.Gen.MlpUpFwdIdeal
public import proofs.«01_k».proof.Proof.Gen.MlpUpFwdRefIdeal
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.MlpUpFwdIdeal.Val

open Idealize.ShloMosaic Idealize.ShloMosaic.TcCoe Idealize.SL.Sem
open Idealize.ShloMosaic.Pipeline (Dat)
open Cert.MlpUpFwdIdeal Cert.MlpUpFwdIdeal.Gen

variable (m : (ℓ : Loc nD τ sig) → Buf (Elt Ideal) ℓ)

/-- The rows and the weight of a launch. -/
abbrev um (c : Dev nD) : FVec Ideal S8192x1024 .f32 := m ((c : Thread nD τ).loc main_arg0)
abbrev wu (c : Dev nD) : FVec Ideal S1024x4096 .f32 := m ((c : Thread nD τ).loc main_arg1)

/-- The hidden layer before the relu, and after it. -/
def hid (u : FVec Ideal S8192x1024 .f32) (w : FVec Ideal S1024x4096 .f32) : FVec Ideal S8192x4096 .bf16 :=
  fun i => ∑ l : Fin 1024, (u (ix2 (i 0) l) : EReal) * w (ix2 l (i 1))

def act (u : FVec Ideal S8192x1024 .f32) (w : FVec Ideal S1024x4096 .f32) : FVec Ideal S8192x4096 .bf16 :=
  fun i => (max (hid u w i) 0 * max (hid u w i) 0 : EReal)

theorem idx : ∀ t : Fin cfg0.N, win0_0.index t = ![t.val, 0] ∧ win0_1.index t = ![0, 0, 0] ∧ win0_2.index t = ![t.val, 0]
    ∧ win0_3.index t = ![t.val, 0] :=
  (by decide +kernel : ∀ t : Fin grid0.N, win0_0.index t = ![t.val, 0] ∧ win0_1.index t = ![0, 0, 0] ∧ win0_2.index t = ![t.val, 0]
    ∧ win0_3.index t = ![t.val, 0])

theorem final2 (c : Dev nD) : (dats m 0 c).arrAt 2 (cfgs 0).N = hid (um m c) (wu m c) := by
  refine (dats m 0 c).arrAt_eq_of_covers 2 _ (by decide +kernel) fun t _ y => ?_
  blk_simp
  rw [after0_2]
  unfold out0_2
  canon_tiles x h
  all_goals
    open_payloads
    pointwise [hid]
    blk_point [iblk, V, idx t]

theorem final3 (c : Dev nD) : (dats m 0 c).arrAt 3 (cfgs 0).N = act (um m c) (wu m c) := by
  refine (dats m 0 c).arrAt_eq_of_covers 3 _ (by decide +kernel) fun t _ y => ?_
  blk_simp
  rw [after0_3]
  unfold out0_3
  canon_tiles x h
  all_goals
    open_payloads
    pointwise [act, hid]
    blk_point [iblk, V, idx t]

theorem algebraic : Cert.algebraic_MlpUpFwdIdeal_MlpUpFwdRefIdeal := by
  intro m g m' g' _ hA
  refine ⟨fun c => (dats m 0 c).arrAt 2 (cfgs 0).N, fun c => (dats m 0 c).arrAt 3 (cfgs 0).N,
    Cert.MlpUpFwdIdeal.Value.run_blocks (F := Ideal) m g,
    (θ_run _ _ _).mono (fun r h c => ?_) (Cert.MlpUpFwdRefIdeal.Value.run (F := Ideal) m' g')⟩
  obtain ⟨a0, a1⟩ := hA c
  obtain ⟨h0, h1, hk⟩ := h c
  have e0 : m' ((c.tc : Thread MlpUpFwdRefIdeal.nD MlpUpFwdRefIdeal.τ).loc MlpUpFwdRefIdeal.main_arg0) = um m c := a0
  have e1 : m' ((c.tc : Thread MlpUpFwdRefIdeal.nD MlpUpFwdRefIdeal.τ).loc MlpUpFwdRefIdeal.main_arg1) = wu m c := a1
  refine ⟨?_, ?_, hk⟩
  · rw [h0, e0, e1]
    beta_reduce
    rw [final2]
    funext i
    idx_vars i
    pointwise [hid]
  · rw [h1, e0, e1]
    beta_reduce
    rw [final3]
    funext i
    idx_vars i
    pointwise [act, hid]

end Cert.MlpUpFwdIdeal.Val

end
-- ==== Proof.MixClaim.lean ====
/-
  The two gates' forward call, fused with the products of the attention and of the convolution: the arrays the call
  leaves are the reference's.
-/
module

public import proofs.«01_k».proof.Proof.NormRow
public import proofs.«01_k».proof.Proof.Gen.MixIdeal.Frame
public import proofs.«01_k».proof.Proof.Gen.MixRefIdeal.Run
public import proofs.«01_k».proof.Proof.Gen.MixIdeal
public import proofs.«01_k».proof.Proof.Gen.MixRefIdeal
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.MixIdeal.Val

open Idealize.ShloMosaic Idealize.ShloMosaic.TcCoe Idealize.SL.Sem
open Idealize.ShloMosaic.Pipeline (Dat)
open Cert.MixIdeal Cert.MixIdeal.Gen
open Cert.Norm (rows)

/-- Row `n` of a product. -/
def prod {R K : ℕ} (u : Fin R → Fin K → EReal) (w : Fin K → Fin 1024 → EReal) (n : Fin R) (j : Fin 1024) : EReal := ∑ l, u n l * w l j

/-- The logistic function as both programs write it. -/
def sg (x : EReal) : EReal := Ideal.div 1 (1 + Ideal.exp (-x))

/-- The mixed row from the gates' rows, their bias and the two products. -/
def mixed (z b : Fin 2048 → EReal) (ya yc : Fin 1024 → EReal) (j : Fin 1024) : EReal :=
  sg (z ⟨j, by omega⟩ + b ⟨j, by omega⟩) * ya j + sg (z ⟨1024 + j, by omega⟩ + b ⟨1024 + j, by omega⟩) * yc j

theorem pay1 (u w j0 j1) : k0_pay1 (F := Ideal) u w (ix2 j0 j1) = prod (rows u) (rows w) j0 j1 := by
  unfold prod rows
  pointwise [k0_pay1]

theorem pay2 (u w j0 j1) : k0_pay2 (F := Ideal) u w (ix2 j0 j1) = prod (rows u) (rows w) j0 j1 := by
  unfold prod rows
  pointwise [k0_pay2]

theorem pay3 (a wa c wc z b j0 j1) : k0_pay3 (F := Ideal) a wa c wc z b (ix2 j0 j1)
    = mixed (rows z j0) (rows b 0) (prod (rows a) (rows wa) j0) (prod (rows c) (rows wc) j0) j1 := by
  unfold mixed sg
  pointwise [k0_pay3, pay1, pay2]
  unfold rows
  simp only [zero_sub]

variable (m : (ℓ : Loc nD τ sig) → Buf (Elt Ideal) ℓ)

/-- The arguments of a launch, by the reference's names. -/
abbrev at' (c : Dev nD) : FVec Ideal S8192x512 .f32 := m ((c : Thread nD τ).loc main_arg0)
abbrev wa (c : Dev nD) : FVec Ideal S512x1024 .f32 := m ((c : Thread nD τ).loc main_arg1)
abbrev cv (c : Dev nD) : FVec Ideal S8192x768 .f32 := m ((c : Thread nD τ).loc main_arg2)
abbrev wc (c : Dev nD) : FVec Ideal S768x1024 .f32 := m ((c : Thread nD τ).loc main_arg3)
abbrev zz (c : Dev nD) : FVec Ideal S8192x8192 .f32 := m ((c : Thread nD τ).loc main_arg4)
abbrev bg (c : Dev nD) : FVec Ideal S1x2048 .f32 := m ((c : Thread nD τ).loc main_arg5)

/-- The gates' columns of row `n` of `z`. -/
def gates (z : FVec Ideal S8192x8192 .f32) (n : Fin 8192) (j : Fin 2048) : EReal := z (ix2 n ⟨6144 + j, by omega⟩)

theorem idx : ∀ t : Fin cfg0.N, win0_0.index t = ![t.val, 0] ∧ win0_1.index t = ![0, 0] ∧ win0_2.index t = ![t.val, 0]
    ∧ win0_3.index t = ![0, 0] ∧ win0_4.index t = ![t.val, 3] ∧ win0_5.index t = ![0, 0] ∧ win0_6.index t = ![t.val, 0]
    ∧ win0_7.index t = ![t.val, 0] ∧ win0_8.index t = ![t.val, 0] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 3] ∧ win0_5.index t = ![0, 0] ∧ win0_6.index t = ![t.val, 0]
    ∧ win0_7.index t = ![t.val, 0] ∧ win0_8.index t = ![t.val, 0])

/-- A grid point's blocks hold its rows of the arguments. -/
theorem blk_a (c : Dev nD) (p : Fin cfg0.N) (x : Fin 512) (n : Fin 8192) (hn : (n : ℕ) = p.val * 512 + x) :
    prod (rows (a := 512) (b := 512) (iblk m c 0 p)) (rows (a := 512) (b := 1024) (iblk m c 1 p)) x = prod (rows (at' m c)) (rows (wa m c)) n := by
  have h0 : rows (a := 512) (b := 512) (iblk m c 0 p) x = rows (at' m c) n := by funext j; unfold rows; blk_point [iblk, V, idx p]
  have h1 : rows (a := 512) (b := 1024) (iblk m c 1 p) = rows (wa m c) := by funext i j; unfold rows; blk_point [iblk, V, idx p]
  unfold prod
  rw [h0, h1]

theorem blk_c (c : Dev nD) (p : Fin cfg0.N) (x : Fin 512) (n : Fin 8192) (hn : (n : ℕ) = p.val * 512 + x) :
    prod (rows (a := 512) (b := 768) (iblk m c 2 p)) (rows (a := 768) (b := 1024) (iblk m c 3 p)) x = prod (rows (cv m c)) (rows (wc m c)) n := by
  have h0 : rows (a := 512) (b := 768) (iblk m c 2 p) x = rows (cv m c) n := by funext j; unfold rows; blk_point [iblk, V, idx p]
  have h1 : rows (a := 768) (b := 1024) (iblk m c 3 p) = rows (wc m c) := by funext i j; unfold rows; blk_point [iblk, V, idx p]
  unfold prod
  rw [h0, h1]

theorem blk_z (c : Dev nD) (p : Fin cfg0.N) (x : Fin 512) (n : Fin 8192) (hn : (n : ℕ) = p.val * 512 + x) :
    rows (a := 512) (b := 2048) (iblk m c 4 p) x = gates (zz m c) n := by
  funext j; unfold rows gates; blk_point [iblk, V, idx p]

theorem blk_b (c : Dev nD) (p : Fin cfg0.N) : rows (a := 1) (b := 2048) (iblk m c 5 p) = rows (bg m c) := by
  funext i j; obtain rfl : i = 0 := Subsingleton.elim _ _; unfold rows; blk_point [iblk, V, idx p]

theorem outs6 (a wa c wc z b y) : out0_6 (F := Ideal) a wa c wc z b y = k0_pay3 a wa c wc z b y := by
  frame_out

theorem outs7 (a wa c wc z b y) : out0_7 (F := Ideal) a wa c wc z b y = k0_pay1 a wa y := by
  frame_out
  rfl

theorem outs8 (a wa c wc z b y) : out0_8 (F := Ideal) a wa c wc z b y = k0_pay2 c wc y := by
  frame_out
  rfl

/-- The mixed rows, whole. -/
theorem final6 (c : Dev nD) : (dats m 0 c).arrAt 6 (cfgs 0).N
    = (fun i => mixed (gates (zz m c) (i 0)) (rows (bg m c) 0) (prod (rows (at' m c)) (rows (wa m c)) (i 0)) (prod (rows (cv m c)) (rows (wc m c)) (i 0)) (i 1) :
        FVec Ideal S8192x1024 .bf16) := by
  refine (dats m 0 c).arrAt_eq_of_covers 6 _ (by decide +kernel) fun t _ y => ?_
  blk_simp
  rw [after0_6, outs6]
  idx_vars y
  have hn : t.val * 512 + (y0 : ℕ) < 8192 := by have := lt_of_lt_of_eq t.isLt N_0; omega
  refine (pay3 ..).trans ?_
  rw [blk_a m c t y0 ⟨t.val * 512 + y0, hn⟩ rfl, blk_c m c t y0 ⟨t.val * 512 + y0, hn⟩ rfl, blk_z m c t y0 ⟨t.val * 512 + y0, hn⟩ rfl, blk_b]
  have f0 : (((View.whole main_v5_0).slice (win0_6.rect t)).emb (ix2 y0 y1) 0) = (⟨t.val * 512 + y0, hn⟩ : Fin 8192) := Fin.ext (by blk_simp [idx t])
  have f1 : (((View.whole main_v5_0).slice (win0_6.rect t)).emb (ix2 y0 y1) 1) = (y1 : Fin 1024) := Fin.ext (by blk_simp [idx t])
  rw [f0, f1]

/-- The attention's product, whole. -/
theorem final7 (c : Dev nD) : (dats m 0 c).arrAt 7 (cfgs 0).N
    = (fun i => prod (rows (at' m c)) (rows (wa m c)) (i 0) (i 1) : FVec Ideal S8192x1024 .bf16) := by
  refine (dats m 0 c).arrAt_eq_of_covers 7 _ (by decide +kernel) fun t _ y => ?_
  blk_simp
  rw [after0_7, outs7]
  idx_vars y
  have hn : t.val * 512 + (y0 : ℕ) < 8192 := by have := lt_of_lt_of_eq t.isLt N_0; omega
  refine (pay1 ..).trans ?_
  rw [blk_a m c t y0 ⟨t.val * 512 + y0, hn⟩ rfl]
  have f0 : (((View.whole main_v5_1).slice (win0_7.rect t)).emb (ix2 y0 y1) 0) = (⟨t.val * 512 + y0, hn⟩ : Fin 8192) := Fin.ext (by blk_simp [idx t])
  have f1 : (((View.whole main_v5_1).slice (win0_7.rect t)).emb (ix2 y0 y1) 1) = (y1 : Fin 1024) := Fin.ext (by blk_simp [idx t])
  rw [f0, f1]

/-- The convolution's product, whole. -/
theorem final8 (c : Dev nD) : (dats m 0 c).arrAt 8 (cfgs 0).N
    = (fun i => prod (rows (cv m c)) (rows (wc m c)) (i 0) (i 1) : FVec Ideal S8192x1024 .bf16) := by
  refine (dats m 0 c).arrAt_eq_of_covers 8 _ (by decide +kernel) fun t _ y => ?_
  blk_simp
  rw [after0_8, outs8]
  idx_vars y
  have hn : t.val * 512 + (y0 : ℕ) < 8192 := by have := lt_of_lt_of_eq t.isLt N_0; omega
  refine (pay2 ..).trans ?_
  rw [blk_c m c t y0 ⟨t.val * 512 + y0, hn⟩ rfl]
  have f0 : (((View.whole main_v5_2).slice (win0_8.rect t)).emb (ix2 y0 y1) 0) = (⟨t.val * 512 + y0, hn⟩ : Fin 8192) := Fin.ext (by blk_simp [idx t])
  have f1 : (((View.whole main_v5_2).slice (win0_8.rect t)).emb (ix2 y0 y1) 1) = (y1 : Fin 1024) := Fin.ext (by blk_simp [idx t])
  rw [f0, f1]

theorem algebraic : Cert.algebraic_MixIdeal_MixRefIdeal := by
  intro m g m' g' _ hA
  refine ⟨fun c => (dats m 0 c).arrAt 6 (cfgs 0).N, fun c => (dats m 0 c).arrAt 7 (cfgs 0).N, fun c => (dats m 0 c).arrAt 8 (cfgs 0).N,
    by run_from Cert.MixIdeal.Gen.run_main (F := Ideal) m g,
    (θ_run _ _ _).mono (fun r h c => ?_) (Cert.MixRefIdeal.Value.run (F := Ideal) m' g')⟩
  obtain ⟨a0, a1, a2, a3, a4, a5⟩ := hA c
  obtain ⟨h0, h1, h2, hk⟩ := h c
  have e0 : m' ((c.tc : Thread MixRefIdeal.nD MixRefIdeal.τ).loc MixRefIdeal.main_arg0) = at' m c := a0
  have e1 : m' ((c.tc : Thread MixRefIdeal.nD MixRefIdeal.τ).loc MixRefIdeal.main_arg1) = wa m c := a1
  have e2 : m' ((c.tc : Thread MixRefIdeal.nD MixRefIdeal.τ).loc MixRefIdeal.main_arg2) = cv m c := a2
  have e3 : m' ((c.tc : Thread MixRefIdeal.nD MixRefIdeal.τ).loc MixRefIdeal.main_arg3) = wc m c := a3
  have e4 : m' ((c.tc : Thread MixRefIdeal.nD MixRefIdeal.τ).loc MixRefIdeal.main_arg4) = zz m c := a4
  have e5 : m' ((c.tc : Thread MixRefIdeal.nD MixRefIdeal.τ).loc MixRefIdeal.main_arg5) = bg m c := a5
  refine ⟨?_, ?_, ?_, hk⟩
  · rw [h0, e0, e1, e2, e3, e4, e5]
    beta_reduce
    rw [final6]
    funext i
    idx_vars i
    unfold mixed sg gates prod rows
    pointwise
  · rw [h1, e0, e1]
    beta_reduce
    rw [final7]
    funext i
    idx_vars i
    unfold prod rows
    pointwise
  · rw [h2, e2, e3]
    beta_reduce
    rw [final8]
    funext i
    idx_vars i
    unfold prod rows
    pointwise

end Cert.MixIdeal.Val

end
-- ==== Proof.NormForward.lean ====
/-
  The forward calls of the norms: a row times its reciprocal root mean square times the weight, alone (the memory's
  norm) and with the residual and the product in front (the MLP's norm).
-/
module

public import proofs.«01_k».proof.Proof.NormRow
public import proofs.«01_k».proof.Proof.Gen.MemNormIdeal.Value
public import proofs.«01_k».proof.Proof.Gen.MemNormRefIdeal.Run
public import proofs.«01_k».proof.Proof.Gen.MemNormIdeal
public import proofs.«01_k».proof.Proof.Gen.MemNormRefIdeal
public import proofs.«01_k».proof.Proof.Gen.ResidualNormIdeal.Value
public import proofs.«01_k».proof.Proof.Gen.ResidualNormRefIdeal.Run
public import proofs.«01_k».proof.Proof.Gen.ResidualNormIdeal
public import proofs.«01_k».proof.Proof.Gen.ResidualNormRefIdeal
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Norm

open Idealize.ShloMosaic

/-- The normed row. -/
def nrm {K : ℕ} (x g : Fin K → EReal) (j : Fin K) : EReal := x j * rs x * g j

end Cert.Norm

namespace Cert.MemNormIdeal.Val

open Idealize.ShloMosaic Idealize.ShloMosaic.TcCoe Idealize.SL.Sem
open Idealize.ShloMosaic.Pipeline (Dat)
open Cert.MemNormIdeal Cert.MemNormIdeal.Gen
open Cert.Norm (rows nrm rs var)

variable (m : (ℓ : Loc nD τ sig) → Buf (Elt Ideal) ℓ)

/-- The memory and the weight of a launch. -/
abbrev mem (c : Dev nD) : FVec Ideal S256x1024 .f32 := m ((c : Thread nD τ).loc main_arg0)
abbrev gm (c : Dev nD) : FVec Ideal S1x1024 .f32 := m ((c : Thread nD τ).loc main_arg1)

theorem idx : ∀ t : Fin cfg0.N, win0_0.index t = ![0, 0] ∧ win0_1.index t = ![0, 0] ∧ win0_2.index t = ![0, 0] :=
  (by decide +kernel : ∀ t : Fin grid0.N, win0_0.index t = ![0, 0] ∧ win0_1.index t = ![0, 0] ∧ win0_2.index t = ![0, 0])

/-- The call's result, whole: every row normed. -/
theorem final (c : Dev nD) : (dats m 0 c).arrAt 2 (cfgs 0).N
    = (fun i => nrm (rows (mem m c) (i 0)) (rows (gm m c) 0) (i 1) : FVec Ideal S256x1024 .bf16) := by
  refine (dats m 0 c).arrAt_eq_of_covers 2 _ (by decide +kernel) fun t _ y => ?_
  blk_simp
  rw [after0_2]
  unfold out0_2
  canon_tiles x h
  all_goals
    open_payloads
    unfold nrm rs var rows
    pointwise
    blk_point [iblk, V, idx t]

theorem algebraic : Cert.algebraic_MemNormIdeal_MemNormRefIdeal := by
  intro m g m' g' _ hA
  refine ⟨fun c => (dats m 0 c).arrAt 2 (cfgs 0).N, Cert.MemNormIdeal.Value.run_blocks (F := Ideal) m g,
    (θ_run _ _ _).mono (fun r h c => ?_) (Cert.MemNormRefIdeal.Value.run (F := Ideal) m' g')⟩
  obtain ⟨a0, a1⟩ := hA c
  obtain ⟨h0, hk⟩ := h c
  refine ⟨?_, hk⟩
  have e0 : m' ((c.tc : Thread MemNormRefIdeal.nD MemNormRefIdeal.τ).loc MemNormRefIdeal.main_arg0) = mem m c := a0
  have e1 : m' ((c.tc : Thread MemNormRefIdeal.nD MemNormRefIdeal.τ).loc MemNormRefIdeal.main_arg1) = gm m c := a1
  rw [h0, e0, e1]
  beta_reduce
  rw [final]
  funext i
  idx_vars i
  unfold nrm rs var rows
  pointwise

end Cert.MemNormIdeal.Val

namespace Cert.ResidualNormIdeal.Val

open Idealize.ShloMosaic Idealize.ShloMosaic.TcCoe Idealize.SL.Sem
open Idealize.ShloMosaic.Pipeline (Dat)
open Cert.ResidualNormIdeal Cert.ResidualNormIdeal.Gen
open Cert.Norm (rows nrm rs var)

/-- The residual, the product of row `n` with the weight added. -/
def res {R : ℕ} (x u : Fin R → Fin 1024 → EReal) (w : Fin 1024 → Fin 1024 → EReal) (n : Fin R) (j : Fin 1024) : EReal :=
  x n j + ∑ l, u n l * w l j

theorem pay1 (u w x j0 j1) : k0_pay1 (F := Ideal) u w x (ix2 j0 j1) = res (rows x) (rows u) (rows w) j0 j1 := by
  unfold res rows
  pointwise [k0_pay1]

theorem pay2 (u w x g j0 j1) : k0_pay2 (F := Ideal) u w x g (ix2 j0 j1) = nrm (res (rows x) (rows u) (rows w) j0) (rows g 0) j1 := by
  unfold nrm rs var
  pointwise [k0_pay2, pay1]
  rfl

variable (m : (ℓ : Loc nD τ sig) → Buf (Elt Ideal) ℓ)

/-- The arguments of a launch, by the reference's names. -/
abbrev xr (c : Dev nD) : FVec Ideal S8192x1024 .f32 := m ((c : Thread nD τ).loc main_arg0)
abbrev co (c : Dev nD) : FVec Ideal S8192x1024 .f32 := m ((c : Thread nD τ).loc main_arg1)
abbrev wc (c : Dev nD) : FVec Ideal S1024x1024 .f32 := m ((c : Thread nD τ).loc main_arg2)
abbrev gr (c : Dev nD) : FVec Ideal S1x1024 .f32 := m ((c : Thread nD τ).loc main_arg3)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0])

/-- A grid point's blocks hold its rows of the arguments. -/
theorem blk_res (c : Dev nD) (p : Fin cfg0.N) (x : Fin 512) (n : Fin 8192) (hn : (n : ℕ) = p.val * 512 + x) :
    res (rows (a := 512) (b := 1024) (iblk m c 2 p)) (rows (a := 512) (b := 1024) (iblk m c 0 p)) (rows (a := 1024) (b := 1024) (iblk m c 1 p)) x
      = res (rows (xr m c)) (rows (co m c)) (rows (wc m c)) n := by
  have h0 : rows (a := 512) (b := 1024) (iblk m c 0 p) x = rows (co m c) n := by
    funext j; unfold rows; blk_point [iblk, V, idx p]
  have h2 : rows (a := 512) (b := 1024) (iblk m c 2 p) x = rows (xr m c) n := by
    funext j; unfold rows; blk_point [iblk, V, idx p]
  have h1 : rows (a := 1024) (b := 1024) (iblk m c 1 p) = rows (wc m c) := by
    funext i j; unfold rows; blk_point [iblk, V, idx p]
  unfold res
  rw [h0, h1, h2]

theorem blk_g (c : Dev nD) (p : Fin cfg0.N) : rows (a := 1) (b := 1024) (iblk m c 3 p) = rows (gr m c) := by
  funext i j; obtain rfl : i = 0 := Subsingleton.elim _ _; unfold rows; blk_point [iblk, V, idx p]

/-- A block loaded whole. -/
theorem zero2 : (![0, 0] : Fin 2 → ℕ) = fun _ => 0 := funext (Fin.forall_fin_two.2 ⟨rfl, rfl⟩)

theorem outs4 (u w x g y) : out0_4 (F := Ideal) u w x g y = k0_pay1 u w x y := by
  frame_out

theorem outs5 (u w x g y) : out0_5 (F := Ideal) u w x g y = k0_pay2 u w x g y := by
  frame_out

/-- The residual, whole. -/
theorem final4 (c : Dev nD) : (dats m 0 c).arrAt 4 (cfgs 0).N
    = (fun i => res (rows (xr m c)) (rows (co m c)) (rows (wc m c)) (i 0) (i 1) : FVec Ideal S8192x1024 .f32) := by
  refine (dats m 0 c).arrAt_eq_of_covers 4 _ (by decide +kernel) fun t _ y => ?_
  blk_simp
  rw [after0_4, outs4]
  idx_vars y
  have hn : t.val * 512 + (y0 : ℕ) < 8192 := by have := lt_of_lt_of_eq t.isLt N_0; omega
  refine (pay1 ..).trans ?_
  rw [blk_res m c t y0 ⟨t.val * 512 + y0, hn⟩ rfl]
  have f0 : (((View.whole main_v2_0).slice (win0_4.rect t)).emb (ix2 y0 y1) 0) = (⟨t.val * 512 + y0, hn⟩ : Fin 8192) := Fin.ext (by blk_simp [idx t])
  have f1 : (((View.whole main_v2_0).slice (win0_4.rect t)).emb (ix2 y0 y1) 1) = (y1 : Fin 1024) := Fin.ext (by blk_simp [idx t])
  rw [f0, f1]

/-- The normed residual, whole. -/
theorem final5 (c : Dev nD) : (dats m 0 c).arrAt 5 (cfgs 0).N
    = (fun i => nrm (res (rows (xr m c)) (rows (co m c)) (rows (wc m c)) (i 0)) (rows (gr m c) 0) (i 1) : FVec Ideal S8192x1024 .bf16) := by
  refine (dats m 0 c).arrAt_eq_of_covers 5 _ (by decide +kernel) fun t _ y => ?_
  blk_simp
  rw [after0_5, outs5]
  idx_vars y
  have hn : t.val * 512 + (y0 : ℕ) < 8192 := by have := lt_of_lt_of_eq t.isLt N_0; omega
  refine (pay2 ..).trans ?_
  rw [blk_res m c t y0 ⟨t.val * 512 + y0, hn⟩ rfl, blk_g]
  have f0 : (((View.whole main_v2_1).slice (win0_5.rect t)).emb (ix2 y0 y1) 0) = (⟨t.val * 512 + y0, hn⟩ : Fin 8192) := Fin.ext (by blk_simp [idx t])
  have f1 : (((View.whole main_v2_1).slice (win0_5.rect t)).emb (ix2 y0 y1) 1) = (y1 : Fin 1024) := Fin.ext (by blk_simp [idx t])
  rw [f0, f1]

/-- The reference's residual. -/
def tX (x u : FVec Ideal S8192x1024 .f32) (w : FVec Ideal S1024x1024 .f32) : FVec Ideal S8192x1024 .f32 :=
  addf x (Host.dotGeneral Cert.ResidualNormRefIdeal.dot_S8192x1024_S1024x1024_S8192x1024_1_0_0_1_n_n none u w)

theorem tX_eq (x u w j0 j1) : tX x u w (ix2 j0 j1) = res (rows x) (rows u) (rows w) j0 j1 := by
  unfold res rows
  pointwise [tX]

open Cert.ResidualNormRefIdeal Cert.ResidualNormRefIdeal.Gen in
/-- Its norm. -/
def tN (x : FVec Ideal Cert.ResidualNormRefIdeal.S8192x1024 .f32) (g : FVec Ideal Cert.ResidualNormRefIdeal.S1x1024 .f32) : FVec Ideal Cert.ResidualNormRefIdeal.S8192x1024 .bf16 :=
  truncf .bf16 (mulf (mulf x (broadcastInDim Cert.ResidualNormRefIdeal.S8192x1024 ![0, 1] bcast_S8192x1_S8192x1024_0_1 (Host.rsqrt (addf (Host.divf (broadcastInDim S8192x1 ![0] bcast_S8192_S8192x1_0
    (Host.reduceAdd (mulf x x) (constant S_ .f32 0x00000000#32) reducesTo_S8192x1024_S8192_d1 h_S_)) (broadcastInDim S8192x1 ![] bcast_S_S8192x1 (constant S_ .f32 0x44800000#32)))
    (broadcastInDim S8192x1 ![] bcast_S_S8192x1 (constant S_ .f32 0x358637BD#32)))))) (broadcastInDim Cert.ResidualNormRefIdeal.S8192x1024 ![0, 1] bcast_S1x1024_S8192x1024_0_1 g)) Cert.ResidualNormRefIdeal.Gen.bitsLt_bf16_f32

theorem tN_eq (x g j0 j1) : tN x g (ix2 j0 j1) = nrm (rows x j0) (rows g 0) j1 := by
  unfold nrm rs var rows
  pointwise [tN]

theorem algebraic : Cert.algebraic_ResidualNormIdeal_ResidualNormRefIdeal := by
  intro m g m' g' _ hA
  refine ⟨fun c => (dats m 0 c).arrAt 4 (cfgs 0).N, fun c => (dats m 0 c).arrAt 5 (cfgs 0).N,
    Cert.ResidualNormIdeal.Value.run_blocks (F := Ideal) m g,
    (θ_run _ _ _).mono (fun r h c => ?_) (Cert.ResidualNormRefIdeal.Value.run (F := Ideal) m' g')⟩
  obtain ⟨a0, a1, a2, a3⟩ := hA c
  obtain ⟨h0, h1, hk⟩ := h c
  have e0 : m' ((c.tc : Thread ResidualNormRefIdeal.nD ResidualNormRefIdeal.τ).loc ResidualNormRefIdeal.main_arg0) = xr m c := a0
  have e1 : m' ((c.tc : Thread ResidualNormRefIdeal.nD ResidualNormRefIdeal.τ).loc ResidualNormRefIdeal.main_arg1) = co m c := a1
  have e2 : m' ((c.tc : Thread ResidualNormRefIdeal.nD ResidualNormRefIdeal.τ).loc ResidualNormRefIdeal.main_arg2) = wc m c := a2
  have e3 : m' ((c.tc : Thread ResidualNormRefIdeal.nD ResidualNormRefIdeal.τ).loc ResidualNormRefIdeal.main_arg3) = gr m c := a3
  refine ⟨?_, ?_, hk⟩
  · rw [h0, e0, e1, e2]
    beta_reduce
    rw [final4]
    funext i
    idx_vars i
    exact tX_eq (xr m c) (co m c) (wc m c) i0 i1
  · rw [h1, e0, e1, e2, e3]
    refine Eq.trans (b := tN (tX (xr m c) (co m c) (wc m c)) (gr m c)) rfl ?_
    beta_reduce
    rw [final5]
    funext i
    idx_vars i
    rw [tN_eq]
    have hx : rows (tX (xr m c) (co m c) (wc m c)) i0 = res (rows (xr m c)) (rows (co m c)) (rows (wc m c)) i0 := by
      funext j
      exact tX_eq ..
    rw [hx]

end Cert.ResidualNormIdeal.Val

end
-- ==== Proof.lean ====
/-
  The proof of `Cert.Claim` (proofs.«01_k».proof.Defs), call by call.
-/
module

public import proofs.«01_k».proof.Proof.Gen.MlpDownIdeal.Value
public import proofs.«01_k».proof.Proof.Gen.MlpDownRefIdeal.Run
public import proofs.«01_k».proof.Proof.Gen.GateIdeal.Value
public import proofs.«01_k».proof.Proof.Gen.GateRefIdeal.Run
public import proofs.«01_k».proof.Proof.Gen.CrossIdeal.Value
public import proofs.«01_k».proof.Proof.Gen.CrossRefIdeal.Run
public import proofs.«01_k».proof.Proof.Gen.CqProjIdeal.Value
public import proofs.«01_k».proof.Proof.Gen.CqProjRefIdeal.Run
public import proofs.«01_k».proof.Proof.Gen.MlpUpIdeal.Value
public import proofs.«01_k».proof.Proof.Gen.MlpUpRefIdeal.Run
public import proofs.«01_k».proof.Proof.Gen.InProjIdeal.Value
public import proofs.«01_k».proof.Proof.Gen.InProjRefIdeal.Run
public import proofs.«01_k».proof.Proof.Gen.CkvProjIdeal.Value
public import proofs.«01_k».proof.Proof.Gen.CkvProjRefIdeal.Run
public import proofs.«01_k».proof.Proof.Gen.LossIdeal.Value
public import proofs.«01_k».proof.Proof.Gen.LossRefIdeal.Run
public import proofs.«01_k».proof.Proof.Gen.ConvNormIdeal.Value
public import proofs.«01_k».proof.Proof.Gen.ConvNormRefIdeal.Run
public import proofs.«01_k».proof.Proof.Gen.CrossFwdIdeal.Value
public import proofs.«01_k».proof.Proof.Gen.CrossFwdRefIdeal.Run
public import proofs.«01_k».proof.Proof.Gen.AttnFwdAIdeal.Value
public import proofs.«01_k».proof.Proof.Gen.AttnFwdARefIdeal.Run
public import proofs.«01_k».proof.Proof.Gen.AttnFwdBIdeal.Value
public import proofs.«01_k».proof.Proof.Gen.AttnFwdBRefIdeal.Run
public import proofs.«01_k».proof.Proof.Gen.AttnFwdCIdeal.Value
public import proofs.«01_k».proof.Proof.Gen.AttnFwdCRefIdeal.Run
public import proofs.«01_k».proof.Proof.Gen.MlpUpFwdIdeal.Value
public import proofs.«01_k».proof.Proof.Gen.MlpUpFwdRefIdeal.Run
public import proofs.«01_k».proof.Proof.Gen.MixRefIdeal.Run
public import proofs.«01_k».proof.Proof.Gen.ResidualNormIdeal.Value
public import proofs.«01_k».proof.Proof.Gen.ResidualNormRefIdeal.Run
public import proofs.«01_k».proof.Proof.Gen.MemNormIdeal.Value
public import proofs.«01_k».proof.Proof.Gen.MemNormRefIdeal.Run
public import proofs.«01_k».proof.Defs
public import proofs.«01_k».proof.Proof.Gen.MlpDown
public import proofs.«01_k».proof.Proof.Gen.MlpDown.Frame
public import proofs.«01_k».proof.Proof.Gen.MlpDownIdeal
public import proofs.«01_k».proof.Proof.Gen.MlpDownIdeal.Frame
public import proofs.«01_k».proof.Proof.Gen.MlpDownRefIdeal
public import proofs.«01_k».proof.Proof.ReluValue
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateRefIdeal
public import proofs.«01_k».proof.Proof.Gen.On_gate_columns
public import proofs.«01_k».proof.Proof.GateClaim
public import proofs.«01_k».proof.Proof.Gen.Cross
public import proofs.«01_k».proof.Proof.Gen.Cross.Frame
public import proofs.«01_k».proof.Proof.Gen.CrossIdeal
public import proofs.«01_k».proof.Proof.Gen.CrossIdeal.Frame
public import proofs.«01_k».proof.Proof.Gen.CrossRefIdeal
public import proofs.«01_k».proof.Proof.Gen.Pre_pre_cob
public import proofs.«01_k».proof.Proof.CrossClaim
public import proofs.«01_k».proof.Proof.Gen.CqProj
public import proofs.«01_k».proof.Proof.Gen.CqProj.Frame
public import proofs.«01_k».proof.Proof.Gen.CqProjIdeal
public import proofs.«01_k».proof.Proof.Gen.CqProjIdeal.Frame
public import proofs.«01_k».proof.Proof.Gen.CqProjRefIdeal
public import proofs.«01_k».proof.Proof.Gen.Pre_pre_cqb
public import proofs.«01_k».proof.Proof.CqClaim
public import proofs.«01_k».proof.Proof.Gen.MlpUp
public import proofs.«01_k».proof.Proof.Gen.MlpUp.Frame
public import proofs.«01_k».proof.Proof.Gen.MlpUpIdeal
public import proofs.«01_k».proof.Proof.Gen.MlpUpIdeal.Frame
public import proofs.«01_k».proof.Proof.Gen.MlpUpRefIdeal
public import proofs.«01_k».proof.Proof.Gen.Pre_pre_mub
public import proofs.«01_k».proof.Proof.MlpNormClaim
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.Pre_pre_ipb
public import proofs.«01_k».proof.Proof.InClaim
public import proofs.«01_k».proof.Proof.Gen.CkvProj
public import proofs.«01_k».proof.Proof.Gen.CkvProj.Frame
public import proofs.«01_k».proof.Proof.Gen.CkvProjIdeal
public import proofs.«01_k».proof.Proof.Gen.CkvProjIdeal.Frame
public import proofs.«01_k».proof.Proof.Gen.CkvProjRefIdeal
public import proofs.«01_k».proof.Proof.CkvClaim
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossRefIdeal
public import proofs.«01_k».proof.Proof.Gen.Pre_pre_mdl
public import proofs.«01_k».proof.Proof.LossClaim
public import proofs.«01_k».proof.Proof.Gen.ConvNorm
public import proofs.«01_k».proof.Proof.Gen.ConvNorm.Frame
public import proofs.«01_k».proof.Proof.Gen.ConvNormIdeal
public import proofs.«01_k».proof.Proof.Gen.ConvNormIdeal.Frame
public import proofs.«01_k».proof.Proof.Gen.ConvNormRefIdeal
public import proofs.«01_k».proof.Proof.Gen.Pre_pre_cpb
public import proofs.«01_k».proof.Proof.ConvNormClaim
public import proofs.«01_k».proof.Proof.Gen.CrossFwd
public import proofs.«01_k».proof.Proof.Gen.CrossFwd.Frame
public import proofs.«01_k».proof.Proof.Gen.CrossFwdIdeal
public import proofs.«01_k».proof.Proof.Gen.CrossFwdIdeal.Frame
public import proofs.«01_k».proof.Proof.Gen.CrossFwdRefIdeal
public import proofs.«01_k».proof.Proof.Gen.Pre_pre_cqf
public import proofs.«01_k».proof.Proof.CrossFwdClaim
public import proofs.«01_k».proof.Proof.Gen.AttnFwdA
public import proofs.«01_k».proof.Proof.Gen.AttnFwdA.Frame
public import proofs.«01_k».proof.Proof.Gen.AttnFwdAIdeal
public import proofs.«01_k».proof.Proof.Gen.AttnFwdAIdeal.Frame
public import proofs.«01_k».proof.Proof.Gen.AttnFwdARefIdeal
public import proofs.«01_k».proof.Proof.Gen.Pre_pre_af0
public import proofs.«01_k».proof.Proof.AttnFwdClaimA
public import proofs.«01_k».proof.Proof.Gen.AttnFwdB
public import proofs.«01_k».proof.Proof.Gen.AttnFwdB.Frame
public import proofs.«01_k».proof.Proof.Gen.AttnFwdBIdeal
public import proofs.«01_k».proof.Proof.Gen.AttnFwdBIdeal.Frame
public import proofs.«01_k».proof.Proof.Gen.AttnFwdBRefIdeal
public import proofs.«01_k».proof.Proof.Gen.Pre_pre_af1
public import proofs.«01_k».proof.Proof.AttnFwdClaimB
public import proofs.«01_k».proof.Proof.Gen.AttnFwdC
public import proofs.«01_k».proof.Proof.Gen.AttnFwdC.Frame
public import proofs.«01_k».proof.Proof.Gen.AttnFwdCIdeal
public import proofs.«01_k».proof.Proof.Gen.AttnFwdCIdeal.Frame
public import proofs.«01_k».proof.Proof.Gen.AttnFwdCRefIdeal
public import proofs.«01_k».proof.Proof.Gen.Pre_pre_af2
public import proofs.«01_k».proof.Proof.AttnFwdClaimC
public import proofs.«01_k».proof.Proof.Gen.MlpUpFwd
public import proofs.«01_k».proof.Proof.Gen.MlpUpFwd.Frame
public import proofs.«01_k».proof.Proof.Gen.MlpUpFwdIdeal
public import proofs.«01_k».proof.Proof.Gen.MlpUpFwdIdeal.Frame
public import proofs.«01_k».proof.Proof.Gen.MlpUpFwdRefIdeal
public import proofs.«01_k».proof.Proof.MlpHidden
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal
public import proofs.«01_k».proof.Proof.MixClaim
public import proofs.«01_k».proof.Proof.Gen.ResidualNorm
public import proofs.«01_k».proof.Proof.Gen.ResidualNorm.Frame
public import proofs.«01_k».proof.Proof.Gen.ResidualNormIdeal
public import proofs.«01_k».proof.Proof.Gen.ResidualNormIdeal.Frame
public import proofs.«01_k».proof.Proof.Gen.ResidualNormRefIdeal
public import proofs.«01_k».proof.Proof.NormForward
public import proofs.«01_k».proof.Proof.Gen.MemNorm
public import proofs.«01_k».proof.Proof.Gen.MemNorm.Frame
public import proofs.«01_k».proof.Proof.Gen.MemNormIdeal
public import proofs.«01_k».proof.Proof.Gen.MemNormIdeal.Frame
public import proofs.«01_k».proof.Proof.Gen.MemNormRefIdeal
public import Idealize.ShloMosaic.Lib.Claim
public import Idealize.ShloMosaic.Adequacy
public import Idealize.ShloMosaic.Init

@[expose] public section

noncomputable section

namespace Cert.Proof

open Idealize.ShloMosaic Idealize.SL.Sem

/-- The reference of the squared relu's gradient keeps its arguments and declares no semaphore. -/
theorem frame_MlpDownRef : @Cert.quiescent_MlpDownRefIdeal Cert.MlpDownRefIdeal.Gen.facts := fun m ρ _ =>
  (θ_run _ _ _).mono (fun _ h => ⟨fun c => (h c).2, funext fun s => nomatch s⟩) (Cert.MlpDownRefIdeal.Value.run (F := Ideal) m ρ)

/-- The reference of the gates' gradients keeps its arguments and declares no semaphore. -/
theorem frame_GateRef : @Cert.quiescent_GateRefIdeal Cert.GateRefIdeal.Gen.facts := fun m ρ _ =>
  (θ_run _ _ _).mono (fun _ h => ⟨fun c => (h c).2.2.2.2, funext fun s => nomatch s⟩) (Cert.GateRefIdeal.Value.run (F := Ideal) m ρ)

/-- The reference of the cross attention's gradients keeps its arguments and declares no semaphore. -/
theorem frame_CrossRef : @Cert.quiescent_CrossRefIdeal Cert.CrossRefIdeal.Gen.facts := fun m ρ _ =>
  (θ_run _ _ _).mono (fun _ h => ⟨fun c => (h c).2.2.2, funext fun s => nomatch s⟩) (Cert.CrossRefIdeal.Value.run (F := Ideal) m ρ)

/-- The reference of the norm in front of the cross attention keeps its arguments and declares no semaphore. -/
theorem frame_CqProjRef : @Cert.quiescent_CqProjRefIdeal Cert.CqProjRefIdeal.Gen.facts := fun m ρ _ =>
  (θ_run _ _ _).mono (fun _ h => ⟨fun c => (h c).2.2, funext fun s => nomatch s⟩) (Cert.CqProjRefIdeal.Value.run (F := Ideal) m ρ)

/-- The reference of the norm in front of the MLP keeps its arguments and declares no semaphore. -/
theorem frame_MlpUpRef : @Cert.quiescent_MlpUpRefIdeal Cert.MlpUpRefIdeal.Gen.facts := fun m ρ _ =>
  (θ_run _ _ _).mono (fun _ h => ⟨fun c => (h c).2.2, funext fun s => nomatch s⟩) (Cert.MlpUpRefIdeal.Value.run (F := Ideal) m ρ)

/-- The reference of the first norm keeps its arguments and declares no semaphore. -/
theorem frame_InProjRef : @Cert.quiescent_InProjRefIdeal Cert.InProjRefIdeal.Gen.facts := fun m ρ _ =>
  (θ_run _ _ _).mono (fun _ h => ⟨fun c => (h c).2.2, funext fun s => nomatch s⟩) (Cert.InProjRefIdeal.Value.run (F := Ideal) m ρ)

/-- The reference of the memory's norm keeps its arguments and declares no semaphore. -/
theorem frame_CkvProjRef : @Cert.quiescent_CkvProjRefIdeal Cert.CkvProjRefIdeal.Gen.facts := fun m ρ _ =>
  (θ_run _ _ _).mono (fun _ h => ⟨fun c => (h c).2, funext fun s => nomatch s⟩) (Cert.CkvProjRefIdeal.Value.run (F := Ideal) m ρ)

/-- The reference of the loss and the last norm keeps its arguments and declares no semaphore. -/
theorem frame_LossRef : @Cert.quiescent_LossRefIdeal Cert.LossRefIdeal.Gen.facts := fun m ρ _ =>
  (θ_run _ _ _).mono (fun _ h => ⟨fun c => (h c).2.2.2, funext fun s => nomatch s⟩) (Cert.LossRefIdeal.Value.run (F := Ideal) m ρ)

/-- The reference of the layer norm and silu keeps its arguments and declares no semaphore. -/
theorem frame_ConvNormRef : @Cert.quiescent_ConvNormRefIdeal Cert.ConvNormRefIdeal.Gen.facts := fun m ρ _ =>
  (θ_run _ _ _).mono (fun _ h => ⟨fun c => (h c).2.2.2.2, funext fun s => nomatch s⟩) (Cert.ConvNormRefIdeal.Value.run (F := Ideal) m ρ)

/-- The reference of the cross attention keeps its arguments and declares no semaphore. -/
theorem frame_CrossFwdRef : @Cert.quiescent_CrossFwdRefIdeal Cert.CrossFwdRefIdeal.Gen.facts := fun m ρ _ =>
  (θ_run _ _ _).mono (fun _ h => ⟨fun c => (h c).2.2, funext fun s => nomatch s⟩) (Cert.CrossFwdRefIdeal.Value.run (F := Ideal) m ρ)

/-- The reference of the attention's forward call on the first group keeps its arguments and declares no semaphore. -/
theorem frame_AttnFwdARef : @Cert.quiescent_AttnFwdARefIdeal Cert.AttnFwdARefIdeal.Gen.facts := fun m ρ _ =>
  (θ_run _ _ _).mono (fun _ h => ⟨fun c => (h c).2.2, funext fun s => nomatch s⟩) (Cert.AttnFwdARefIdeal.Value.run (F := Ideal) m ρ)

/-- The reference of the attention's forward call on the second group keeps its arguments and declares no semaphore. -/
theorem frame_AttnFwdBRef : @Cert.quiescent_AttnFwdBRefIdeal Cert.AttnFwdBRefIdeal.Gen.facts := fun m ρ _ =>
  (θ_run _ _ _).mono (fun _ h => ⟨fun c => (h c).2.2, funext fun s => nomatch s⟩) (Cert.AttnFwdBRefIdeal.Value.run (F := Ideal) m ρ)

/-- The reference of the attention's forward call on the third group keeps its arguments and declares no semaphore. -/
theorem frame_AttnFwdCRef : @Cert.quiescent_AttnFwdCRefIdeal Cert.AttnFwdCRefIdeal.Gen.facts := fun m ρ _ =>
  (θ_run _ _ _).mono (fun _ h => ⟨fun c => (h c).2.2, funext fun s => nomatch s⟩) (Cert.AttnFwdCRefIdeal.Value.run (F := Ideal) m ρ)

/-- The reference of the MLP's hidden layer keeps its arguments and declares no semaphore. -/
theorem frame_MlpUpFwdRef : @Cert.quiescent_MlpUpFwdRefIdeal Cert.MlpUpFwdRefIdeal.Gen.facts := fun m ρ _ =>
  (θ_run _ _ _).mono (fun _ h => ⟨fun c => (h c).2.2, funext fun s => nomatch s⟩) (Cert.MlpUpFwdRefIdeal.Value.run (F := Ideal) m ρ)

/-- The reference of the two gates' forward call keeps its arguments and declares no semaphore. -/
theorem frame_MixRef : @Cert.quiescent_MixRefIdeal Cert.MixRefIdeal.Gen.facts := fun m ρ _ =>
  (θ_run _ _ _).mono (fun _ h => ⟨fun c => (h c).2.2.2, funext fun s => nomatch s⟩) (Cert.MixRefIdeal.Value.run (F := Ideal) m ρ)

/-- The reference of the residual and the norm in front of the MLP keeps its arguments and declares no semaphore. -/
theorem frame_ResidualNormRef : @Cert.quiescent_ResidualNormRefIdeal Cert.ResidualNormRefIdeal.Gen.facts := fun m ρ _ =>
  (θ_run _ _ _).mono (fun _ h => ⟨fun c => (h c).2.2, funext fun s => nomatch s⟩) (Cert.ResidualNormRefIdeal.Value.run (F := Ideal) m ρ)

/-- The reference of the memory's norm, forward keeps its arguments and declares no semaphore. -/
theorem frame_MemNormRef : @Cert.quiescent_MemNormRefIdeal Cert.MemNormRefIdeal.Gen.facts := fun m ρ _ =>
  (θ_run _ _ _).mono (fun _ h => ⟨fun c => (h c).2, funext fun s => nomatch s⟩) (Cert.MemNormRefIdeal.Value.run (F := Ideal) m ρ)

/-- The squared relu's gradient: the call and the derivative of the forward line end with equal results. -/
theorem algebraic_MlpDown : Cert.algebraic_MlpDownIdeal_MlpDownRefIdeal := by
  pair_intro
  · run_from Cert.MlpDownIdeal.Gen.run_main m g
  · hlo_run
    exact (Cert.MlpDownIdeal.Relu.final m c).symm

theorem claim : Cert.Claim := ⟨Cert.MlpDown.Gen.facts,
  Cert.MlpDownIdeal.Gen.facts,
  Cert.MlpDownRefIdeal.Gen.facts,
  Cert.Gate.Gen.facts,
  Cert.GateIdeal.Gen.facts,
  Cert.GateRefIdeal.Gen.facts,
  Cert.Cross.Gen.facts,
  Cert.CrossIdeal.Gen.facts,
  Cert.CrossRefIdeal.Gen.facts,
  Cert.CqProj.Gen.facts,
  Cert.CqProjIdeal.Gen.facts,
  Cert.CqProjRefIdeal.Gen.facts,
  Cert.MlpUp.Gen.facts,
  Cert.MlpUpIdeal.Gen.facts,
  Cert.MlpUpRefIdeal.Gen.facts,
  Cert.InProj.Gen.facts,
  Cert.InProjIdeal.Gen.facts,
  Cert.InProjRefIdeal.Gen.facts,
  Cert.CkvProj.Gen.facts,
  Cert.CkvProjIdeal.Gen.facts,
  Cert.CkvProjRefIdeal.Gen.facts,
  Cert.Loss.Gen.facts,
  Cert.LossIdeal.Gen.facts,
  Cert.LossRefIdeal.Gen.facts,
  Cert.ConvNorm.Gen.facts,
  Cert.ConvNormIdeal.Gen.facts,
  Cert.ConvNormRefIdeal.Gen.facts,
  Cert.CrossFwd.Gen.facts,
  Cert.CrossFwdIdeal.Gen.facts,
  Cert.CrossFwdRefIdeal.Gen.facts,
  Cert.AttnFwdA.Gen.facts,
  Cert.AttnFwdAIdeal.Gen.facts,
  Cert.AttnFwdARefIdeal.Gen.facts,
  Cert.AttnFwdB.Gen.facts,
  Cert.AttnFwdBIdeal.Gen.facts,
  Cert.AttnFwdBRefIdeal.Gen.facts,
  Cert.AttnFwdC.Gen.facts,
  Cert.AttnFwdCIdeal.Gen.facts,
  Cert.AttnFwdCRefIdeal.Gen.facts,
  Cert.MlpUpFwd.Gen.facts,
  Cert.MlpUpFwdIdeal.Gen.facts,
  Cert.MlpUpFwdRefIdeal.Gen.facts,
  Cert.Mix.Gen.facts,
  Cert.MixIdeal.Gen.facts,
  Cert.MixRefIdeal.Gen.facts,
  Cert.ResidualNorm.Gen.facts,
  Cert.ResidualNormIdeal.Gen.facts,
  Cert.ResidualNormRefIdeal.Gen.facts,
  Cert.MemNorm.Gen.facts,
  Cert.MemNormIdeal.Gen.facts,
  Cert.MemNormRefIdeal.Gen.facts,
  Cert.Pre_pre_cob.Gen.facts,
  Cert.Pre_pre_cqb.Gen.facts,
  Cert.Pre_pre_mub.Gen.facts,
  Cert.Pre_pre_ipb.Gen.facts,
  Cert.Pre_pre_mdl.Gen.facts,
  Cert.Pre_pre_cpb.Gen.facts,
  Cert.Pre_pre_cqf.Gen.facts,
  Cert.Pre_pre_af0.Gen.facts,
  Cert.Pre_pre_af1.Gen.facts,
  Cert.Pre_pre_af2.Gen.facts,
  Cert.On_gate_columns.Gen.facts,
  fun m ρ _ => Cert.MlpDown.Gen.frame m ρ, fun m ρ _ => Cert.MlpDownIdeal.Gen.frame m ρ, frame_MlpDownRef,
  fun m ρ _ => Cert.Gate.Gen.frame m ρ, fun m ρ _ => Cert.GateIdeal.Gen.frame m ρ, frame_GateRef,
  fun m ρ _ => Cert.Cross.Gen.frame m ρ, fun m ρ _ => Cert.CrossIdeal.Gen.frame m ρ, fun m ρ _ => Cert.CrossIdeal.Gen.frame m ρ, frame_CrossRef, fun m ρ _ => frame_CrossRef m ρ trivial,
  fun m ρ _ => Cert.CqProj.Gen.frame m ρ, fun m ρ _ => Cert.CqProjIdeal.Gen.frame m ρ, fun m ρ _ => Cert.CqProjIdeal.Gen.frame m ρ, frame_CqProjRef, fun m ρ _ => frame_CqProjRef m ρ trivial,
  fun m ρ _ => Cert.MlpUp.Gen.frame m ρ, fun m ρ _ => Cert.MlpUpIdeal.Gen.frame m ρ, fun m ρ _ => Cert.MlpUpIdeal.Gen.frame m ρ, frame_MlpUpRef, fun m ρ _ => frame_MlpUpRef m ρ trivial,
  fun m ρ _ => Cert.InProj.Gen.frame m ρ, fun m ρ _ => Cert.InProjIdeal.Gen.frame m ρ, fun m ρ _ => Cert.InProjIdeal.Gen.frame m ρ, frame_InProjRef, fun m ρ _ => frame_InProjRef m ρ trivial,
  fun m ρ _ => Cert.CkvProj.Gen.frame m ρ, fun m ρ _ => Cert.CkvProjIdeal.Gen.frame m ρ, frame_CkvProjRef,
  fun m ρ _ => Cert.Loss.Gen.frame m ρ, fun m ρ _ => Cert.LossIdeal.Gen.frame m ρ, fun m ρ _ => Cert.LossIdeal.Gen.frame m ρ, frame_LossRef, fun m ρ _ => frame_LossRef m ρ trivial,
  fun m ρ _ => Cert.ConvNorm.Gen.frame m ρ, fun m ρ _ => Cert.ConvNormIdeal.Gen.frame m ρ, fun m ρ _ => Cert.ConvNormIdeal.Gen.frame m ρ, frame_ConvNormRef, fun m ρ _ => frame_ConvNormRef m ρ trivial,
  fun m ρ _ => Cert.CrossFwd.Gen.frame m ρ, fun m ρ _ => Cert.CrossFwdIdeal.Gen.frame m ρ, fun m ρ _ => Cert.CrossFwdIdeal.Gen.frame m ρ, frame_CrossFwdRef, fun m ρ _ => frame_CrossFwdRef m ρ trivial,
  fun m ρ _ => Cert.AttnFwdA.Gen.frame m ρ, fun m ρ _ => Cert.AttnFwdAIdeal.Gen.frame m ρ, fun m ρ _ => Cert.AttnFwdAIdeal.Gen.frame m ρ, frame_AttnFwdARef, fun m ρ _ => frame_AttnFwdARef m ρ trivial,
  fun m ρ _ => Cert.AttnFwdB.Gen.frame m ρ, fun m ρ _ => Cert.AttnFwdBIdeal.Gen.frame m ρ, fun m ρ _ => Cert.AttnFwdBIdeal.Gen.frame m ρ, frame_AttnFwdBRef, fun m ρ _ => frame_AttnFwdBRef m ρ trivial,
  fun m ρ _ => Cert.AttnFwdC.Gen.frame m ρ, fun m ρ _ => Cert.AttnFwdCIdeal.Gen.frame m ρ, fun m ρ _ => Cert.AttnFwdCIdeal.Gen.frame m ρ, frame_AttnFwdCRef, fun m ρ _ => frame_AttnFwdCRef m ρ trivial,
  fun m ρ _ => Cert.MlpUpFwd.Gen.frame m ρ, fun m ρ _ => Cert.MlpUpFwdIdeal.Gen.frame m ρ, frame_MlpUpFwdRef,
  fun m ρ _ => Cert.Mix.Gen.frame m ρ, fun m ρ _ => Cert.MixIdeal.Gen.frame m ρ, frame_MixRef,
  fun m ρ _ => Cert.ResidualNorm.Gen.frame m ρ, fun m ρ _ => Cert.ResidualNormIdeal.Gen.frame m ρ, frame_ResidualNormRef,
  fun m ρ _ => Cert.MemNorm.Gen.frame m ρ, fun m ρ _ => Cert.MemNormIdeal.Gen.frame m ρ, frame_MemNormRef,
  trivial, algebraic_MlpDown,
  trivial, Cert.GateIdeal.Val.algebraic,
  trivial, Cert.CrossIdeal.Val.algebraic,
  trivial, Cert.CqProjIdeal.Val.algebraic,
  trivial, Cert.MlpUpIdeal.Val.algebraic,
  trivial, Cert.InProjIdeal.Val.algebraic,
  trivial, Cert.CkvProjIdeal.Val.algebraic,
  trivial, Cert.LossIdeal.Val.algebraic,
  trivial, Cert.ConvNormIdeal.Val.algebraic,
  trivial, Cert.CrossFwdIdeal.Val.algebraic,
  IdealRules.named_const.statement Cert.AttnFwdAIdeal.κ "mask" .f32 0xF149F2CA#32 ⊥ rfl, Cert.AttnFwdAIdeal.Val.algebraic,
  IdealRules.named_const.statement Cert.AttnFwdBIdeal.κ "mask" .f32 0xF149F2CA#32 ⊥ rfl, Cert.AttnFwdBIdeal.Val.algebraic,
  IdealRules.named_const.statement Cert.AttnFwdCIdeal.κ "mask" .f32 0xF149F2CA#32 ⊥ rfl, Cert.AttnFwdCIdeal.Val.algebraic,
  trivial, Cert.MlpUpFwdIdeal.Val.algebraic,
  trivial, Cert.MixIdeal.Val.algebraic,
  trivial, Cert.ResidualNormIdeal.Val.algebraic,
  trivial, Cert.MemNormIdeal.Val.algebraic⟩

end Cert.Proof

end
